-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Up [hPre_routed_up : Cert.Pre_routed_up.Facts] (m : (ℓ : Loc Cert.Up.nD Cert.Up.τ Cert.Up.sig) → Buf (Elt Bits) ℓ) : Prop :=
  ∀ c : Dev Cert.Up.nD,
    (Cert.Pre_routed_up.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3))).1 = (fun _ => 1#1)
    ∧ (Cert.Pre_routed_up.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3))).2 = (fun _ => 1#1)

def Pre_UpIdeal [hPre_routed_up : Cert.Pre_routed_up.Facts] (m : (ℓ : Loc Cert.UpIdeal.nD Cert.UpIdeal.τ Cert.UpIdeal.sig) → Buf (Elt Ideal) ℓ) : Prop :=
  ∀ c : Dev Cert.UpIdeal.nD,
    (Cert.Pre_routed_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3))).1 = (fun _ => 1#1)
    ∧ (Cert.Pre_routed_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3))).2 = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_routed_up [hPre_routed_up : Cert.Pre_routed_up.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_routed_up.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3))).1 = (fun _ => 1#1)
    ∧ (Cert.Pre_routed_up.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3))).2 = (fun _ => 1#1)

def Pre_Down [hPre_routed_down : Cert.Pre_routed_down.Facts] (m : (ℓ : Loc Cert.Down.nD Cert.Down.τ Cert.Down.sig) → Buf (Elt Bits) ℓ) : Prop :=
  ∀ c : Dev Cert.Down.nD,
    (Cert.Pre_routed_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))).1 = (fun _ => 1#1)
    ∧ (Cert.Pre_routed_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))).2 = (fun _ => 1#1)

def Pre_DownIdeal [hPre_routed_down : Cert.Pre_routed_down.Facts] (m : (ℓ : Loc Cert.DownIdeal.nD Cert.DownIdeal.τ Cert.DownIdeal.sig) → Buf (Elt Ideal) ℓ) : Prop :=
  ∀ c : Dev Cert.DownIdeal.nD,
    (Cert.Pre_routed_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).1 = (fun _ => 1#1)
    ∧ (Cert.Pre_routed_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).2 = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_routed_down [hPre_routed_down : Cert.Pre_routed_down.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_routed_down.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3))).1 = (fun _ => 1#1)
    ∧ (Cert.Pre_routed_down.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3))).2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_Added (m : (ℓ : Loc Cert.Added.nD Cert.Added.τ Cert.Added.sig) → Buf (Elt Bits) ℓ) : Prop :=
  True

def Pre_AddedIdeal (m : (ℓ : Loc Cert.AddedIdeal.nD Cert.AddedIdeal.τ Cert.AddedIdeal.sig) → Buf (Elt Ideal) ℓ) : Prop :=
  True

def Pre_AddedReferenceIdeal (m : (ℓ : Loc Cert.AddedReferenceIdeal.nD Cert.AddedReferenceIdeal.τ Cert.AddedReferenceIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedReferenceIdeal (m : (ℓ : Loc Cert.SharedReferenceIdeal.nD Cert.SharedReferenceIdeal.τ Cert.SharedReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] [hPre_routed_up : Cert.Pre_routed_up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] [hPre_routed_up : Cert.Pre_routed_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_UpReferenceIdeal_pre_routed_up [hUpReferenceIdeal : Cert.UpReferenceIdeal.Facts] [hPre_routed_up : Cert.Pre_routed_up.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_routed_up m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_Down [hDown : Cert.Down.Facts] [hPre_routed_down : Cert.Pre_routed_down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_routed_down : Cert.Pre_routed_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_DownReferenceIdeal_pre_routed_down [hDownReferenceIdeal : Cert.DownReferenceIdeal.Facts] [hPre_routed_down : Cert.Pre_routed_down.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_routed_down m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1))
      ∧ r.2.sem = fun _ => 0)

def quiescent_Added [hAdded : Cert.Added.Facts] : Prop :=
  ∀ (m : (ℓ : Loc Cert.Added.nD Cert.Added.τ Cert.Added.sig) → Buf (Elt Bits) ℓ) (g : Dev Cert.Added.nD → PrngReg), Pre_Added m →
    θ_run (Cert.Added.defs (F := Bits)) (onTc (τ := Cert.Added.τ) (Cert.Added.main (F := Bits))) ⟨m, fun _ => 0, g⟩ (fun r => (∀ c : Dev Cert.Added.nD,
      r.2.mem ((c.tc : Thread Cert.Added.nD Cert.Added.τ).loc Cert.Added.main_arg0) = m ((c.tc : Thread Cert.Added.nD Cert.Added.τ).loc Cert.Added.main_arg0)
      ∧ r.2.mem ((c.tc : Thread Cert.Added.nD Cert.Added.τ).loc Cert.Added.main_arg1) = m ((c.tc : Thread Cert.Added.nD Cert.Added.τ).loc Cert.Added.main_arg1)
      ∧ r.2.mem ((c.tc : Thread Cert.Added.nD Cert.Added.τ).loc Cert.Added.main_arg2) = m ((c.tc : Thread Cert.Added.nD Cert.Added.τ).loc Cert.Added.main_arg2))
      ∧ r.2.sem = fun _ => 0)

def quiescent_AddedIdeal [hAddedIdeal : Cert.AddedIdeal.Facts] : Prop :=
  ∀ (m : (ℓ : Loc Cert.AddedIdeal.nD Cert.AddedIdeal.τ Cert.AddedIdeal.sig) → Buf (Elt Ideal) ℓ) (g : Dev Cert.AddedIdeal.nD → PrngReg), Pre_AddedIdeal m →
    θ_run (Cert.AddedIdeal.defs (F := Ideal)) (onTc (τ := Cert.AddedIdeal.τ) (Cert.AddedIdeal.main (F := Ideal))) ⟨m, fun _ => 0, g⟩ (fun r => (∀ c : Dev Cert.AddedIdeal.nD,
      r.2.mem ((c.tc : Thread Cert.AddedIdeal.nD Cert.AddedIdeal.τ).loc Cert.AddedIdeal.main_arg0) = m ((c.tc : Thread Cert.AddedIdeal.nD Cert.AddedIdeal.τ).loc Cert.AddedIdeal.main_arg0)
      ∧ r.2.mem ((c.tc : Thread Cert.AddedIdeal.nD Cert.AddedIdeal.τ).loc Cert.AddedIdeal.main_arg1) = m ((c.tc : Thread Cert.AddedIdeal.nD Cert.AddedIdeal.τ).loc Cert.AddedIdeal.main_arg1)
      ∧ r.2.mem ((c.tc : Thread Cert.AddedIdeal.nD Cert.AddedIdeal.τ).loc Cert.AddedIdeal.main_arg2) = m ((c.tc : Thread Cert.AddedIdeal.nD Cert.AddedIdeal.τ).loc Cert.AddedIdeal.main_arg2))
      ∧ r.2.sem = fun _ => 0)

def quiescent_AddedReferenceIdeal [hAddedReferenceIdeal : Cert.AddedReferenceIdeal.Facts] : Prop :=
  ∀ (m : (ℓ : Loc Cert.AddedReferenceIdeal.nD Cert.AddedReferenceIdeal.τ Cert.AddedReferenceIdeal.sig) → Buf (Elt Ideal) ℓ) (g : Dev Cert.AddedReferenceIdeal.nD → PrngReg), Pre_AddedReferenceIdeal m →
    θ_run (Cert.AddedReferenceIdeal.defs (F := Ideal)) (onTc (τ := Cert.AddedReferenceIdeal.τ) (Cert.AddedReferenceIdeal.main (F := Ideal))) ⟨m, fun _ => 0, g⟩ (fun r => (∀ c : Dev Cert.AddedReferenceIdeal.nD,
      r.2.mem ((c.tc : Thread Cert.AddedReferenceIdeal.nD Cert.AddedReferenceIdeal.τ).loc Cert.AddedReferenceIdeal.main_arg0) = m ((c.tc : Thread Cert.AddedReferenceIdeal.nD Cert.AddedReferenceIdeal.τ).loc Cert.AddedReferenceIdeal.main_arg0)
      ∧ r.2.mem ((c.tc : Thread Cert.AddedReferenceIdeal.nD Cert.AddedReferenceIdeal.τ).loc Cert.AddedReferenceIdeal.main_arg1) = m ((c.tc : Thread Cert.AddedReferenceIdeal.nD Cert.AddedReferenceIdeal.τ).loc Cert.AddedReferenceIdeal.main_arg1)
      ∧ r.2.mem ((c.tc : Thread Cert.AddedReferenceIdeal.nD Cert.AddedReferenceIdeal.τ).loc Cert.AddedReferenceIdeal.main_arg2) = m ((c.tc : Thread Cert.AddedReferenceIdeal.nD Cert.AddedReferenceIdeal.τ).loc Cert.AddedReferenceIdeal.main_arg2))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2))
      ∧ r.2.sem = fun _ => 0)

def quiescent_SharedReferenceIdeal [hSharedReferenceIdeal : Cert.SharedReferenceIdeal.Facts] : Prop :=
  ∀ (m : (ℓ : Loc Cert.SharedReferenceIdeal.nD Cert.SharedReferenceIdeal.τ Cert.SharedReferenceIdeal.sig) → Buf (Elt Ideal) ℓ) (g : Dev Cert.SharedReferenceIdeal.nD → PrngReg), Pre_SharedReferenceIdeal m →
    θ_run (Cert.SharedReferenceIdeal.defs (F := Ideal)) (onTc (τ := Cert.SharedReferenceIdeal.τ) (Cert.SharedReferenceIdeal.main (F := Ideal))) ⟨m, fun _ => 0, g⟩ (fun r => (∀ c : Dev Cert.SharedReferenceIdeal.nD,
      r.2.mem ((c.tc : Thread Cert.SharedReferenceIdeal.nD Cert.SharedReferenceIdeal.τ).loc Cert.SharedReferenceIdeal.main_arg0) = m ((c.tc : Thread Cert.SharedReferenceIdeal.nD Cert.SharedReferenceIdeal.τ).loc Cert.SharedReferenceIdeal.main_arg0)
      ∧ r.2.mem ((c.tc : Thread Cert.SharedReferenceIdeal.nD Cert.SharedReferenceIdeal.τ).loc Cert.SharedReferenceIdeal.main_arg1) = m ((c.tc : Thread Cert.SharedReferenceIdeal.nD Cert.SharedReferenceIdeal.τ).loc Cert.SharedReferenceIdeal.main_arg1)
      ∧ r.2.mem ((c.tc : Thread Cert.SharedReferenceIdeal.nD Cert.SharedReferenceIdeal.τ).loc Cert.SharedReferenceIdeal.main_arg2) = m ((c.tc : Thread Cert.SharedReferenceIdeal.nD Cert.SharedReferenceIdeal.τ).loc Cert.SharedReferenceIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  IdealRules.bf16_pair.Statement Cert.UpIdeal.S256x2x128 Cert.UpIdeal.S256x1x128
  ∧ IdealRules.bf16_pair.Statement Cert.UpIdeal.S512x128 Cert.UpIdeal.S256x128

def algebraic_UpIdeal_UpReferenceIdeal [hUpIdeal : Cert.UpIdeal.Facts] [hUpReferenceIdeal : Cert.UpReferenceIdeal.Facts] [hPre_routed_up : Cert.Pre_routed_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v26) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_Down_DownIdeal : Prop :=
  IdealRules.bf16_pair.Statement Cert.DownIdeal.S256x2x128 Cert.DownIdeal.S256x1x128
  ∧ IdealRules.bf16_pack.Statement Cert.DownIdeal.S256x128

def algebraic_DownIdeal_DownReferenceIdeal [hDownIdeal : Cert.DownIdeal.Facts] [hDownReferenceIdeal : Cert.DownReferenceIdeal.Facts] [hPre_routed_down : Cert.Pre_routed_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v22) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v4) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v2)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v2) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v3) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1))

def preserves_Added_AddedIdeal : Prop :=
  True

def algebraic_AddedIdeal_AddedReferenceIdeal [hAddedIdeal : Cert.AddedIdeal.Facts] [hAddedReferenceIdeal : Cert.AddedReferenceIdeal.Facts] : Prop :=
  ∀ (m : (ℓ : Loc Cert.AddedIdeal.nD Cert.AddedIdeal.τ Cert.AddedIdeal.sig) → Buf (Elt Ideal) ℓ) (g : Dev Cert.AddedIdeal.nD → PrngReg)
    (m' : (ℓ : Loc Cert.AddedReferenceIdeal.nD Cert.AddedReferenceIdeal.τ Cert.AddedReferenceIdeal.sig) → Buf (Elt Ideal) ℓ) (g' : Dev Cert.AddedReferenceIdeal.nD → PrngReg), Pre_AddedIdeal m →
    (∀ c : Dev Cert.AddedIdeal.nD,
      m' ((c.tc : Thread Cert.AddedReferenceIdeal.nD Cert.AddedReferenceIdeal.τ).loc Cert.AddedReferenceIdeal.main_arg0) = m ((c.tc : Thread Cert.AddedIdeal.nD Cert.AddedIdeal.τ).loc Cert.AddedIdeal.main_arg0)
      ∧ m' ((c.tc : Thread Cert.AddedReferenceIdeal.nD Cert.AddedReferenceIdeal.τ).loc Cert.AddedReferenceIdeal.main_arg1) = m ((c.tc : Thread Cert.AddedIdeal.nD Cert.AddedIdeal.τ).loc Cert.AddedIdeal.main_arg1)
      ∧ m' ((c.tc : Thread Cert.AddedReferenceIdeal.nD Cert.AddedReferenceIdeal.τ).loc Cert.AddedReferenceIdeal.main_arg2) = m ((c.tc : Thread Cert.AddedIdeal.nD Cert.AddedIdeal.τ).loc Cert.AddedIdeal.main_arg2)) →
    ∃ (v0 : (c : Dev Cert.AddedIdeal.nD) → Buf (Elt Ideal) ((c.tc : Thread Cert.AddedIdeal.nD Cert.AddedIdeal.τ).loc Cert.AddedIdeal.main_v2)),
      θ_run (Cert.AddedIdeal.defs (F := Ideal)) (onTc (τ := Cert.AddedIdeal.τ) (Cert.AddedIdeal.main (F := Ideal))) ⟨m, fun _ => 0, g⟩ (fun r => ∀ c : Dev Cert.AddedIdeal.nD,
          r.2.mem ((c.tc : Thread Cert.AddedIdeal.nD Cert.AddedIdeal.τ).loc Cert.AddedIdeal.main_v2) = v0 c
          ∧ r.2.mem ((c.tc : Thread Cert.AddedIdeal.nD Cert.AddedIdeal.τ).loc Cert.AddedIdeal.main_arg0) = m ((c.tc : Thread Cert.AddedIdeal.nD Cert.AddedIdeal.τ).loc Cert.AddedIdeal.main_arg0)
          ∧ r.2.mem ((c.tc : Thread Cert.AddedIdeal.nD Cert.AddedIdeal.τ).loc Cert.AddedIdeal.main_arg1) = m ((c.tc : Thread Cert.AddedIdeal.nD Cert.AddedIdeal.τ).loc Cert.AddedIdeal.main_arg1)
          ∧ r.2.mem ((c.tc : Thread Cert.AddedIdeal.nD Cert.AddedIdeal.τ).loc Cert.AddedIdeal.main_arg2) = m ((c.tc : Thread Cert.AddedIdeal.nD Cert.AddedIdeal.τ).loc Cert.AddedIdeal.main_arg2))
      ∧ θ_run (Cert.AddedReferenceIdeal.defs (F := Ideal)) (onTc (τ := Cert.AddedReferenceIdeal.τ) (Cert.AddedReferenceIdeal.main (F := Ideal))) ⟨m', fun _ => 0, g'⟩ (fun r => ∀ c : Dev Cert.AddedReferenceIdeal.nD,
          r.2.mem ((c.tc : Thread Cert.AddedReferenceIdeal.nD Cert.AddedReferenceIdeal.τ).loc Cert.AddedReferenceIdeal.main_v3) = v0 c
          ∧ r.2.mem ((c.tc : Thread Cert.AddedReferenceIdeal.nD Cert.AddedReferenceIdeal.τ).loc Cert.AddedReferenceIdeal.main_arg0) = m' ((c.tc : Thread Cert.AddedReferenceIdeal.nD Cert.AddedReferenceIdeal.τ).loc Cert.AddedReferenceIdeal.main_arg0)
          ∧ r.2.mem ((c.tc : Thread Cert.AddedReferenceIdeal.nD Cert.AddedReferenceIdeal.τ).loc Cert.AddedReferenceIdeal.main_arg1) = m' ((c.tc : Thread Cert.AddedReferenceIdeal.nD Cert.AddedReferenceIdeal.τ).loc Cert.AddedReferenceIdeal.main_arg1)
          ∧ r.2.mem ((c.tc : Thread Cert.AddedReferenceIdeal.nD Cert.AddedReferenceIdeal.τ).loc Cert.AddedReferenceIdeal.main_arg2) = m' ((c.tc : Thread Cert.AddedReferenceIdeal.nD Cert.AddedReferenceIdeal.τ).loc Cert.AddedReferenceIdeal.main_arg2))

def preserves_Shared_SharedIdeal : Prop :=
  True

def algebraic_SharedIdeal_SharedReferenceIdeal [hSharedIdeal : Cert.SharedIdeal.Facts] [hSharedReferenceIdeal : Cert.SharedReferenceIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedReferenceIdeal.nD Cert.SharedReferenceIdeal.τ Cert.SharedReferenceIdeal.sig) → Buf (Elt Ideal) ℓ) (g' : Dev Cert.SharedReferenceIdeal.nD → PrngReg), Pre_SharedIdeal m →
    (∀ c : Dev Cert.SharedIdeal.nD,
      m' ((c.tc : Thread Cert.SharedReferenceIdeal.nD Cert.SharedReferenceIdeal.τ).loc Cert.SharedReferenceIdeal.main_arg0) = m ((c.tc : Thread Cert.SharedIdeal.nD Cert.SharedIdeal.τ).loc Cert.SharedIdeal.main_arg0)
      ∧ m' ((c.tc : Thread Cert.SharedReferenceIdeal.nD Cert.SharedReferenceIdeal.τ).loc Cert.SharedReferenceIdeal.main_arg1) = m ((c.tc : Thread Cert.SharedIdeal.nD Cert.SharedIdeal.τ).loc Cert.SharedIdeal.main_arg1)
      ∧ m' ((c.tc : Thread Cert.SharedReferenceIdeal.nD Cert.SharedReferenceIdeal.τ).loc Cert.SharedReferenceIdeal.main_arg2) = m ((c.tc : Thread Cert.SharedIdeal.nD Cert.SharedIdeal.τ).loc Cert.SharedIdeal.main_arg2)) →
    ∃ (v0 : (c : Dev Cert.SharedIdeal.nD) → Buf (Elt Ideal) ((c.tc : Thread Cert.SharedIdeal.nD Cert.SharedIdeal.τ).loc Cert.SharedIdeal.main_v5)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v5) = v0 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2))
      ∧ θ_run (Cert.SharedReferenceIdeal.defs (F := Ideal)) (onTc (τ := Cert.SharedReferenceIdeal.τ) (Cert.SharedReferenceIdeal.main (F := Ideal))) ⟨m', fun _ => 0, g'⟩ (fun r => ∀ c : Dev Cert.SharedReferenceIdeal.nD,
          r.2.mem ((c.tc : Thread Cert.SharedReferenceIdeal.nD Cert.SharedReferenceIdeal.τ).loc Cert.SharedReferenceIdeal.main_v22) = v0 c
          ∧ r.2.mem ((c.tc : Thread Cert.SharedReferenceIdeal.nD Cert.SharedReferenceIdeal.τ).loc Cert.SharedReferenceIdeal.main_arg0) = m' ((c.tc : Thread Cert.SharedReferenceIdeal.nD Cert.SharedReferenceIdeal.τ).loc Cert.SharedReferenceIdeal.main_arg0)
          ∧ r.2.mem ((c.tc : Thread Cert.SharedReferenceIdeal.nD Cert.SharedReferenceIdeal.τ).loc Cert.SharedReferenceIdeal.main_arg1) = m' ((c.tc : Thread Cert.SharedReferenceIdeal.nD Cert.SharedReferenceIdeal.τ).loc Cert.SharedReferenceIdeal.main_arg1)
          ∧ r.2.mem ((c.tc : Thread Cert.SharedReferenceIdeal.nD Cert.SharedReferenceIdeal.τ).loc Cert.SharedReferenceIdeal.main_arg2) = m' ((c.tc : Thread Cert.SharedReferenceIdeal.nD Cert.SharedReferenceIdeal.τ).loc Cert.SharedReferenceIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hProj : Cert.Proj.Facts) (hProjIdeal : Cert.ProjIdeal.Facts) (hProjReferenceIdeal : Cert.ProjReferenceIdeal.Facts) (hQuery : Cert.Query.Facts) (hQueryIdeal : Cert.QueryIdeal.Facts) (hQueryReferenceIdeal : Cert.QueryReferenceIdeal.Facts) (hAdded : Cert.Added.Facts) (hAddedIdeal : Cert.AddedIdeal.Facts) (hAddedReferenceIdeal : Cert.AddedReferenceIdeal.Facts) (hShared : Cert.Shared.Facts) (hSharedIdeal : Cert.SharedIdeal.Facts) (hSharedReferenceIdeal : Cert.SharedReferenceIdeal.Facts) (hPre_finite_scores : Cert.Pre_finite_scores.Facts) (hPre_routed_up : Cert.Pre_routed_up.Facts) (hPre_routed_down : Cert.Pre_routed_down.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Up (hUp := hUp) (hPre_routed_up := hPre_routed_up)
    ∧ quiescent_UpIdeal (hUpIdeal := hUpIdeal) (hPre_routed_up := hPre_routed_up)
    ∧ quiescent_UpReferenceIdeal (hUpReferenceIdeal := hUpReferenceIdeal)
    ∧ quiescent_UpReferenceIdeal_pre_routed_up (hUpReferenceIdeal := hUpReferenceIdeal) (hPre_routed_up := hPre_routed_up)
    ∧ quiescent_Down (hDown := hDown) (hPre_routed_down := hPre_routed_down)
    ∧ quiescent_DownIdeal (hDownIdeal := hDownIdeal) (hPre_routed_down := hPre_routed_down)
    ∧ quiescent_DownReferenceIdeal (hDownReferenceIdeal := hDownReferenceIdeal)
    ∧ quiescent_DownReferenceIdeal_pre_routed_down (hDownReferenceIdeal := hDownReferenceIdeal) (hPre_routed_down := hPre_routed_down)
    ∧ quiescent_Proj (hProj := hProj)
    ∧ quiescent_ProjIdeal (hProjIdeal := hProjIdeal)
    ∧ quiescent_ProjReferenceIdeal (hProjReferenceIdeal := hProjReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_Added (hAdded := hAdded)
    ∧ quiescent_AddedIdeal (hAddedIdeal := hAddedIdeal)
    ∧ quiescent_AddedReferenceIdeal (hAddedReferenceIdeal := hAddedReferenceIdeal)
    ∧ quiescent_Shared (hShared := hShared)
    ∧ quiescent_SharedIdeal (hSharedIdeal := hSharedIdeal)
    ∧ quiescent_SharedReferenceIdeal (hSharedReferenceIdeal := hSharedReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Up_UpIdeal
    ∧ algebraic_UpIdeal_UpReferenceIdeal (hUpIdeal := hUpIdeal) (hUpReferenceIdeal := hUpReferenceIdeal) (hPre_routed_up := hPre_routed_up)
    ∧ preserves_Down_DownIdeal
    ∧ algebraic_DownIdeal_DownReferenceIdeal (hDownIdeal := hDownIdeal) (hDownReferenceIdeal := hDownReferenceIdeal) (hPre_routed_down := hPre_routed_down)
    ∧ preserves_Proj_ProjIdeal
    ∧ algebraic_ProjIdeal_ProjReferenceIdeal (hProjIdeal := hProjIdeal) (hProjReferenceIdeal := hProjReferenceIdeal)
    ∧ preserves_Query_QueryIdeal
    ∧ algebraic_QueryIdeal_QueryReferenceIdeal (hQueryIdeal := hQueryIdeal) (hQueryReferenceIdeal := hQueryReferenceIdeal)
    ∧ preserves_Added_AddedIdeal
    ∧ algebraic_AddedIdeal_AddedReferenceIdeal (hAddedIdeal := hAddedIdeal) (hAddedReferenceIdeal := hAddedReferenceIdeal)
    ∧ preserves_Shared_SharedIdeal
    ∧ algebraic_SharedIdeal_SharedReferenceIdeal (hSharedIdeal := hSharedIdeal) (hSharedReferenceIdeal := hSharedReferenceIdeal)
-- ==== Pre_finite_scores.lean ====
abbrev S16384x4096 : Shape := ⟨2, ![16384, 4096]⟩
abbrev S16x16384x64 : Shape := ⟨3, ![16, 16384, 64]⟩
abbrev S64 : Shape := ⟨1, ![64]⟩
abbrev S8x16384x64 : Shape := ⟨3, ![8, 16384, 64]⟩
abbrev S_ : Shape := ⟨0, ![]⟩

class Facts : Prop where
  slices_S16x16384x64_S8x16384x64_0_0_0 : S16x16384x64.Slices ![0, 0, 0] S8x16384x64
  bitsLt_bf16_f32 : FTy.bits .bf16 < FTy.bits .f32
  bcast_S_S8x16384x64 : S_.BroadcastsInDim S8x16384x64 (![] : Fin 0 → Fin S8x16384x64.rank)
  bcast_S_S64 : S_.BroadcastsInDim S64 (![] : Fin 0 → Fin S64.rank)

variable [Facts]

def fn {F : FTy → Type} [FloatOps F] (main_arg0 : FVec F S16384x4096 .bf16) (main_arg1 : FVec F S16x16384x64 .bf16) (main_arg2 : FVec F S64 .f32) (main_arg3 : FVec F S64 .f32) : IVec S8x16384x64 1 × IVec S64 1 × IVec S64 1 :=
  let main_v0 : FVec F S8x16384x64 .bf16 := (extractStridedSlice S8x16384x64 ![0, 0, 0] · slices_S16x16384x64_S8x16384x64_0_0_0) main_arg1
  let main_v1 : FVec F S8x16384x64 .f32 := (extf .f32 · bitsLt_bf16_f32) main_v0
  let main_v2 : FVec F S8x16384x64 .f32 := Host.absf main_v1
  let main_cst : FVec F S_ .f32 := constant S_ .f32 0x7F800000#32
  let main_v3 : FVec F S8x16384x64 .f32 := broadcastInDim S8x16384x64 ![] bcast_S_S8x16384x64 main_cst
  let main_v4 : IVec S8x16384x64 1 := cmpf .olt main_v2 main_v3
  let main_v5 : FVec F S64 .f32 := Host.absf main_arg2
  let main_cst_0 : FVec F S_ .f32 := constant S_ .f32 0x7F800000#32
  let main_v6 : FVec F S64 .f32 := broadcastInDim S64 ![] bcast_S_S64 main_cst_0
  let main_v7 : IVec S64 1 := cmpf .olt main_v5 main_v6
  let main_v8 : FVec F S64 .f32 := Host.absf main_arg3
  let main_cst_1 : FVec F S_ .f32 := constant S_ .f32 0x7F800000#32
  let main_v9 : FVec F S64 .f32 := broadcastInDim S64 ![] bcast_S_S64 main_cst_1
  let main_v10 : IVec S64 1 := cmpf .olt main_v8 main_v9
  (main_v4, main_v7, main_v10)
-- ==== Pre_routed_down.lean ====
abbrev S40704x512 : Shape := ⟨2, ![40704, 512]⟩
abbrev S159 : Shape := ⟨1, ![159]⟩
abbrev S1 : Shape := ⟨1, ![1]⟩
abbrev S2x32x512x4096 : Shape := ⟨4, ![2, 32, 512, 4096]⟩
abbrev S_ : Shape := ⟨0, ![]⟩

class Facts : Prop where
  bcast_S_S159 : S_.BroadcastsInDim S159 (![] : Fin 0 → Fin S159.rank)
  bcast_S_S1 : S_.BroadcastsInDim S1 (![] : Fin 0 → Fin S1.rank)

variable [Facts]

def fn {F : FTy → Type} [FloatOps F] (main_arg0 : FVec F S40704x512 .bf16) (main_arg1 : IVec S159 32) (main_arg2 : IVec S1 32) (main_arg3 : FVec F S2x32x512x4096 .f32) : IVec S159 1 × IVec S1 1 :=
  let main_c : IVec S_ 32 := constantI S_ 32 0#32
  let main_v0 : IVec S159 32 := broadcastInDim S159 ![] bcast_S_S159 main_c
  let main_v1 : IVec S159 1 := cmpi .sge main_arg1 main_v0
  let main_c_0 : IVec S_ 32 := constantI S_ 32 32#32
  let main_v2 : IVec S159 32 := broadcastInDim S159 ![] bcast_S_S159 main_c_0
  let main_v3 : IVec S159 1 := cmpi .slt main_arg1 main_v2
  let main_v4 : IVec S159 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  (main_v4, main_v6)
-- ==== Pre_routed_up.lean ====
abbrev S1302528x128 : Shape := ⟨2, ![1302528, 128]⟩
abbrev S159 : Shape := ⟨1, ![159]⟩
abbrev S1 : Shape := ⟨1, ![1]⟩
abbrev S2x32x4096x1024 : Shape := ⟨4, ![2, 32, 4096, 1024]⟩
abbrev S_ : Shape := ⟨0, ![]⟩

class Facts : Prop where
  bcast_S_S159 : S_.BroadcastsInDim S159 (![] : Fin 0 → Fin S159.rank)
  bcast_S_S1 : S_.BroadcastsInDim S1 (![] : Fin 0 → Fin S1.rank)

variable [Facts]

def fn {F : FTy → Type} [FloatOps F] (main_arg0 : FVec F S1302528x128 .bf16) (main_arg1 : IVec S159 32) (main_arg2 : IVec S1 32) (main_arg3 : FVec F S2x32x4096x1024 .f32) : IVec S159 1 × IVec S1 1 :=
  let main_c : IVec S_ 32 := constantI S_ 32 0#32
  let main_v0 : IVec S159 32 := broadcastInDim S159 ![] bcast_S_S159 main_c
  let main_v1 : IVec S159 1 := cmpi .sge main_arg1 main_v0
  let main_c_0 : IVec S_ 32 := constantI S_ 32 32#32
  let main_v2 : IVec S159 32 := broadcastInDim S159 ![] bcast_S_S159 main_c_0
  let main_v3 : IVec S159 1 := cmpi .slt main_arg1 main_v2
  let main_v4 : IVec S159 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  (main_v4, main_v6)
-- ==== Kernel.lean ====
abbrev S16384x4096 : Shape := ⟨2, ![16384, 4096]⟩
abbrev S16x16384x64 : Shape := ⟨3, ![16, 16384, 64]⟩
abbrev S64 : Shape := ⟨1, ![64]⟩
abbrev S_ : Shape := ⟨0, ![]⟩
abbrev S256x1024 : Shape := ⟨2, ![256, 1024]⟩
abbrev S1x256x1024 : Shape := ⟨3, ![1, 256, 1024]⟩
abbrev S2x256x1024 : Shape := ⟨3, ![2, 256, 1024]⟩
abbrev S8x8 : Shape := ⟨2, ![8, 8]⟩
abbrev S8x8x128 : Shape := ⟨3, ![8, 8, 128]⟩
abbrev S8x1024 : Shape := ⟨2, ![8, 1024]⟩
abbrev S8x1x1024 : Shape := ⟨3, ![8, 1, 1024]⟩
abbrev S1x64 : Shape := ⟨2, ![1, 64]⟩
abbrev S128x4096 : Shape := ⟨2, ![128, 4096]⟩
abbrev S8x128x64 : Shape := ⟨3, ![8, 128, 64]⟩
abbrev S8x64 : Shape := ⟨2, ![8, 64]⟩
abbrev S128x512 : Shape := ⟨2, ![128, 512]⟩
abbrev S128x64 : Shape := ⟨2, ![128, 64]⟩
abbrev S1024x64 : Shape := ⟨2, ![1024, 64]⟩
abbrev S1x1024 : Shape := ⟨2, ![1, 1024]⟩
abbrev S1x128x64 : Shape := ⟨3, ![1, 128, 64]⟩
abbrev S256x64 : Shape := ⟨2, ![256, 64]⟩
abbrev S1x1x1024 : Shape := ⟨3, ![1, 1, 1024]⟩
abbrev S1024 : Shape := ⟨1, ![1024]⟩
abbrev S64x1024 : Shape := ⟨2, ![64, 1024]⟩
abbrev S64x128 : Shape := ⟨2, ![64, 128]⟩

abbrev nBuf : Space → Nat
  | .hbm => 47
  | .vmem => 16
  | .smem => 0
  | _ => 0

abbrev bufTy : (tb : Table) → Fin (tcTables nBuf tb) → BufTy
  | .hbm, ⟨0, _⟩ => ⟨S16384x4096, .bf16⟩
  | .hbm, ⟨1, _⟩ => ⟨S16x16384x64, .bf16⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S256x1024, .i32⟩
  | .hbm, ⟨8, _⟩ => ⟨S256x1024, .i32⟩
  | .hbm, ⟨9, _⟩ => ⟨S_, .i32⟩
  | .hbm, ⟨10, _⟩ => ⟨S256x1024, .i32⟩
  | .hbm, ⟨11, _⟩ => ⟨S256x1024, .i32⟩
  | .hbm, ⟨12, _⟩ => ⟨S_, .i32⟩
  | .hbm, ⟨13, _⟩ => ⟨S256x1024, .i32⟩
  | .hbm, ⟨14, _⟩ => ⟨S256x1024, .i32⟩
  | .hbm, ⟨15, _⟩ => ⟨S256x1024, .i32⟩
  | .hbm, ⟨16, _⟩ => ⟨S_, .i32⟩
  | .hbm, ⟨17, _⟩ => ⟨S256x1024, .i32⟩
  | .hbm, ⟨18, _⟩ => ⟨S256x1024, .i1⟩
  | .hbm, ⟨19, _⟩ => ⟨S_, .i32⟩
  | .hbm, ⟨20, _⟩ => ⟨S256x1024, .i32⟩
  | .hbm, ⟨21, _⟩ => ⟨S256x1024, .i1⟩
  | .hbm, ⟨22, _⟩ => ⟨S256x1024, .i1⟩
  | .hbm, ⟨23, _⟩ => ⟨S_, .i32⟩
  | .hbm, ⟨24, _⟩ => ⟨S256x1024, .i32⟩
  | .hbm, ⟨25, _⟩ => ⟨S256x1024, .i1⟩
  | .hbm, ⟨26, _⟩ => ⟨S256x1024, .i1⟩
  | .hbm, ⟨27, _⟩ => ⟨S_, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S1x256x1024, .f32⟩
  | .hbm, ⟨38, _⟩ => ⟨S1x256x1024, .f32⟩
  | .hbm, ⟨39, _⟩ => ⟨S2x256x1024, .f32⟩
  | .hbm, ⟨40, _⟩ => ⟨S8x8, .f32⟩
  | .hbm, ⟨41, _⟩ => ⟨S8x8x128, .f32⟩
  | .hbm, ⟨42, _⟩ => ⟨S8x1024, .f32⟩
  | .hbm, ⟨43, _⟩ => ⟨S8x1x1024, .f32⟩
  | .hbm, ⟨44, _⟩ => ⟨S2x256x1024, .f32⟩
  | .hbm, ⟨45, _⟩ => ⟨S1x64, .f32⟩
  | .hbm, ⟨46, _⟩ => ⟨S16384x4096, .bf16⟩
  | .local _ .vmem, ⟨0, _⟩ => ⟨S128x4096, .bf16⟩
  | .local _ .vmem, ⟨1, _⟩ => ⟨S128x4096, .bf16⟩
  | .local _ .vmem, ⟨2, _⟩ => ⟨S8x128x64, .bf16⟩
  | .local _ .vmem, ⟨3, _⟩ => ⟨S8x128x64, .bf16⟩
  | .local _ .vmem, ⟨4, _⟩ => ⟨S8x128x64, .bf16⟩
  | .local _ .vmem, ⟨5, _⟩ => ⟨S8x128x64, .bf16⟩
  | .local _ .vmem, ⟨6, _⟩ => ⟨S8x128x64, .bf16⟩
  | .local _ .vmem, ⟨7, _⟩ => ⟨S8x128x64, .bf16⟩
  | .local _ .vmem, ⟨8, _⟩ => ⟨S8x128x64, .bf16⟩
  | .local _ .vmem, ⟨9, _⟩ => ⟨S8x128x64, .bf16⟩
  | .local _ .vmem, ⟨10, _⟩ => ⟨S8x1x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x64, .f32⟩
  | .local _ .vmem, ⟨14, _⟩ => ⟨S128x4096, .bf16⟩
  | .local _ .vmem, ⟨15, _⟩ => ⟨S128x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_cst_6 : Ref sig .tc := ⟨.hbm, 32, rfl⟩
abbrev main_cst_7 : Ref sig .tc := ⟨.hbm, 33, rfl⟩
abbrev main_call1_v0 : Ref sig .tc := ⟨.hbm, 34, rfl⟩
abbrev main_call1_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  let c0_i32_2 : BitVec 32 := 0#32
  ![c0_i32_0.toNat, v3.toNat, c0_i32_1.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  let c0_i32_2 : BitVec 32 := 0#32
  ![c1_i32_0.toNat, v3.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x4096 : Shape := ⟨2, ![16384, 4096]⟩
abbrev S16x16384x64 : Shape := ⟨3, ![16, 16384, 64]⟩
abbrev S64 : Shape := ⟨1, ![64]⟩
abbrev S2x64x128x8x8x64 : Shape := ⟨6, ![2, 64, 128, 8, 8, 64]⟩
abbrev S2x8x2x64x128x64 : Shape := ⟨6, ![2, 8, 2, 64, 128, 64]⟩
abbrev S2x2x64x128x8x64 : Shape := ⟨6, ![2, 2, 64, 128, 8, 64]⟩
abbrev S1x2x64x128x8x64 : Shape := ⟨6, ![1, 2, 64, 128, 8, 64]⟩
abbrev S2x64x128x8x64 : Shape := ⟨5, ![2, 64, 128, 8, 64]⟩
abbrev S_ : Shape := ⟨0, ![]⟩
abbrev S2x64x128x8x8 : Shape := ⟨5, ![2, 64, 128, 8, 8]⟩
abbrev S2x64x128x8x8x1 : Shape := ⟨6, ![2, 64, 128, 8, 8, 1]⟩
abbrev S1x1x1x1x1x64 : Shape := ⟨6, ![1, 1, 1, 1, 1, 64]⟩
abbrev S2x65x128x8x64 : Shape := ⟨5, ![2, 65, 128, 8, 64]⟩
abbrev S2x64x256x8x64 : Shape := ⟨5, ![2, 64, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S8x8 : Shape := ⟨2, ![8, 8]⟩
abbrev S1x1x8x8x1x1 : Shape := ⟨6, ![1, 1, 8, 8, 1, 1]⟩
abbrev S2x64x8x256x128x8 : Shape := ⟨6, ![2, 64, 8, 256, 128, 8]⟩
abbrev S2x64x8x8x128x256 : Shape := ⟨6, ![2, 64, 8, 8, 128, 256]⟩
abbrev S1x64x1x1x128x256 : Shape := ⟨6, ![1, 64, 1, 1, 128, 256]⟩
abbrev S2x64x8x8x128 : Shape := ⟨5, ![2, 64, 8, 8, 128]⟩
abbrev S2x64x8x8x128x1 : Shape := ⟨6, ![2, 64, 8, 8, 128, 1]⟩
abbrev S2x64x8x64x8x128 : Shape := ⟨6, ![2, 64, 8, 64, 8, 128]⟩

abbrev nBuf : Space → Nat
  | .hbm => 106
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16x16384x64, .bf16⟩
  | .hbm, ⟨2, _⟩ => ⟨S64, .f32⟩
  | .hbm, ⟨3, _⟩ => ⟨S64, .f32⟩
  | .hbm, ⟨4, _⟩ => ⟨S16384x4096, .f32⟩
  | .hbm, ⟨5, _⟩ => ⟨S2x64x128x8x8x64, .f32⟩
  | .hbm, ⟨6, _⟩ => ⟨S16x16384x64, .f32⟩
  | .hbm, ⟨7, _⟩ => ⟨S2x8x2x64x128x64, .f32⟩
  | .hbm, ⟨8, _⟩ => ⟨S2x2x64x128x8x64, .f32⟩
  | .hbm, ⟨9, _⟩ => ⟨S1x2x64x128x8x64, .f32⟩
  | .hbm, ⟨10, _⟩ => ⟨S2x64x128x8x64, .f32⟩
  | .hbm, ⟨11, _⟩ => ⟨S1x2x64x128x8x64, .f32⟩
  | .hbm, ⟨12, _⟩ => ⟨S2x64x128x8x64, .f32⟩
  | .hbm, ⟨13, _⟩ => ⟨S2x64x128x8x8x64, .f32⟩
  | .hbm, ⟨14, _⟩ => ⟨S_, .f32⟩
  | .hbm, ⟨15, _⟩ => ⟨S2x64x128x8x8, .f32⟩
  | .hbm, ⟨16, _⟩ => ⟨S2x64x128x8x8x1, .f32⟩
  | .hbm, ⟨17, _⟩ => ⟨S_, .f32⟩
  | .hbm, ⟨18, _⟩ => ⟨S2x64x128x8x8x1, .f32⟩
  | .hbm, ⟨19, _⟩ => ⟨S2x64x128x8x8x1, .f32⟩
  | .hbm, ⟨20, _⟩ => ⟨S_, .f32⟩
  | .hbm, ⟨21, _⟩ => ⟨S2x64x128x8x8x1, .f32⟩
  | .hbm, ⟨22, _⟩ => ⟨S2x64x128x8x8x1, .f32⟩
  | .hbm, ⟨23, _⟩ => ⟨S2x64x128x8x8x1, .f32⟩
  | .hbm, ⟨24, _⟩ => ⟨S2x64x128x8x8x64, .f32⟩
  | .hbm, ⟨25, _⟩ => ⟨S2x64x128x8x8x64, .f32⟩
  | .hbm, ⟨26, _⟩ => ⟨S1x1x1x1x1x64, .f32⟩
  | .hbm, ⟨27, _⟩ => ⟨S2x64x128x8x8x64, .f32⟩
  | .hbm, ⟨28, _⟩ => ⟨S2x64x128x8x8x64, .f32⟩
  | .hbm, ⟨29, _⟩ => ⟨S_, .f32⟩
  | .hbm, ⟨30, _⟩ => ⟨S2x64x128x8x8x64, .f32⟩
  | .hbm, ⟨31, _⟩ => ⟨S2x64x128x8x8x64, .f32⟩
  | .hbm, ⟨32, _⟩ => ⟨S_, .i32⟩
  | .hbm, ⟨33, _⟩ => ⟨S_, .f32⟩
  | .hbm, ⟨34, _⟩ => ⟨S2x65x128x8x64, .f32⟩
  | .hbm, ⟨35, _⟩ => ⟨S2x64x128x8x64, .f32⟩
  | .hbm, ⟨36, _⟩ => ⟨S2x64x256x8x64, .f32⟩
  | .hbm, ⟨37, _⟩ => ⟨S_, .i32⟩
  | .hbm, ⟨38, _⟩ => ⟨S_, .f32⟩
  | .hbm, ⟨39, _⟩ => ⟨S2x65x128x8x64, .f32⟩
  | .hbm, ⟨40, _⟩ => ⟨S2x64x128x8x64, .f32⟩
  | .hbm, ⟨41, _⟩ => ⟨S2x64x256x8x64, .f32⟩
  | .hbm, ⟨42, _⟩ => ⟨S128, .i32⟩
  | .hbm, ⟨43, _⟩ => ⟨S128x1, .i32⟩
  | .hbm, ⟨44, _⟩ => ⟨S256, .i32⟩
  | .hbm, ⟨45, _⟩ => ⟨S1x256, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S128x256, .i32⟩
  | .hbm, ⟨50, _⟩ => ⟨S128x256, .i32⟩
  | .hbm, ⟨51, _⟩ => ⟨S128x256, .i32⟩
  | .hbm, ⟨52, _⟩ => ⟨S_, .i32⟩
  | .hbm, ⟨53, _⟩ => ⟨S128x256, .i32⟩
  | .hbm, ⟨54, _⟩ => ⟨S128x256, .i1⟩
  | .hbm, ⟨55, _⟩ => ⟨S_, .i32⟩
  | .hbm, ⟨56, _⟩ => ⟨S128x256, .i32⟩
  | .hbm, ⟨57, _⟩ => ⟨S128x256, .i1⟩
  | .hbm, ⟨58, _⟩ => ⟨S128x256, .i1⟩
  | .hbm, ⟨59, _⟩ => ⟨S64, .i32⟩
  | .hbm, ⟨60, _⟩ => ⟨S64x1x1, .i32⟩
  | .hbm, ⟨61, _⟩ => ⟨S1x128x256, .i1⟩
  | .hbm, ⟨62, _⟩ => ⟨S1x1x256, .i32⟩
  | .hbm, ⟨63, _⟩ => ⟨S_, .i32⟩
  | .hbm, ⟨64, _⟩ => ⟨S1x1x256, .i32⟩
  | .hbm, ⟨65, _⟩ => ⟨S1x1x256, .i1⟩
  | .hbm, ⟨66, _⟩ => ⟨S_, .i32⟩
  | .hbm, ⟨67, _⟩ => ⟨S64x1x1, .i32⟩
  | .hbm, ⟨68, _⟩ => ⟨S64x1x1, .i1⟩
  | .hbm, ⟨69, _⟩ => ⟨S64x1x256, .i1⟩
  | .hbm, ⟨70, _⟩ => ⟨S64x1x256, .i1⟩
  | .hbm, ⟨71, _⟩ => ⟨S64x1x256, .i1⟩
  | .hbm, ⟨72, _⟩ => ⟨S64x128x256, .i1⟩
  | .hbm, ⟨73, _⟩ => ⟨S64x128x256, .i1⟩
  | .hbm, ⟨74, _⟩ => ⟨S64x128x256, .i1⟩
  | .hbm, ⟨75, _⟩ => ⟨S8x8, .f32⟩
  | .hbm, ⟨76, _⟩ => ⟨S1x1x8x8x1x1, .f32⟩
  | .hbm, ⟨77, _⟩ => ⟨S2x64x8x256x128x8, .f32⟩
  | .hbm, ⟨78, _⟩ => ⟨S2x64x8x8x128x256, .f32⟩
  | .hbm, ⟨79, _⟩ => ⟨S1x64x1x1x128x256, .i1⟩
  | .hbm, ⟨80, _⟩ => ⟨S_, .f32⟩
  | .hbm, ⟨81, _⟩ => ⟨S_, .f32⟩
  | .hbm, ⟨82, _⟩ => ⟨S2x64x8x8x128x256, .i1⟩
  | .hbm, ⟨83, _⟩ => ⟨S2x64x8x8x128x256, .f32⟩
  | .hbm, ⟨84, _⟩ => ⟨S2x64x8x8x128x256, .f32⟩
  | .hbm, ⟨85, _⟩ => ⟨S_, .f32⟩
  | .hbm, ⟨86, _⟩ => ⟨S2x64x8x8x128, .f32⟩
  | .hbm, ⟨87, _⟩ => ⟨S2x64x8x8x128x1, .f32⟩
  | .hbm, ⟨88, _⟩ => ⟨S2x64x8x8x128x1, .f32⟩
  | .hbm, ⟨89, _⟩ => ⟨S2x64x8x8x128x1, .f32⟩
  | .hbm, ⟨90, _⟩ => ⟨S2x64x8x8x128x256, .f32⟩
  | .hbm, ⟨91, _⟩ => ⟨S2x64x8x8x128x256, .f32⟩
  | .hbm, ⟨92, _⟩ => ⟨S2x64x8x8x128x256, .f32⟩
  | .hbm, ⟨93, _⟩ => ⟨S_, .f32⟩
  | .hbm, ⟨94, _⟩ => ⟨S2x64x8x8x128, .f32⟩
  | .hbm, ⟨95, _⟩ => ⟨S2x64x8x8x128x1, .f32⟩
  | .hbm, ⟨96, _⟩ => ⟨S2x64x8x8x128x1, .f32⟩
  | .hbm, ⟨97, _⟩ => ⟨S2x64x8x8x128x1, .f32⟩
  | .hbm, ⟨98, _⟩ => ⟨S2x64x8x8x128x1, .f32⟩
  | .hbm, ⟨99, _⟩ => ⟨S2x64x8x8x128x1, .f32⟩
  | .hbm, ⟨100, _⟩ => ⟨S2x64x8x8x128x256, .f32⟩
  | .hbm, ⟨101, _⟩ => ⟨S2x64x8x8x128x256, .f32⟩
  | .hbm, ⟨102, _⟩ => ⟨S2x64x8x64x8x128, .f32⟩
  | .hbm, ⟨103, _⟩ => ⟨S2x64x128x8x8x64, .f32⟩
  | .hbm, ⟨104, _⟩ => ⟨S16384x4096, .f32⟩
  | .hbm, ⟨105, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_call0_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_call1_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_5 : Ref sig .tc := ⟨.hbm, 52, rfl⟩
abbrev main_v39 : Ref sig .tc := ⟨.hbm, 53, rfl⟩
abbrev main_v40 : Ref sig .tc := ⟨.hbm, 54, rfl⟩
abbrev main_c_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_7 : Ref sig .tc := ⟨.hbm, 63, rfl⟩
abbrev main_v48 : Ref sig .tc := ⟨.hbm, 64, rfl⟩
abbrev main_v49 : Ref sig .tc := ⟨.hbm, 65, rfl⟩
abbrev main_c_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]
-- ==== Up.lean ====
abbrev S1302528x128 : Shape := ⟨2, ![1302528, 128]⟩
abbrev S159 : Shape := ⟨1, ![159]⟩
abbrev S1 : Shape := ⟨1, ![1]⟩
abbrev S2x32x4096x1024 : Shape := ⟨4, ![2, 32, 4096, 1024]⟩
abbrev S40704x512 : Shape := ⟨2, ![40704, 512]⟩
abbrev S8192x128 : Shape := ⟨2, ![8192, 128]⟩
abbrev S1x1x4096x512 : Shape := ⟨4, ![1, 1, 4096, 512]⟩
abbrev S256x512 : Shape := ⟨2, ![256, 512]⟩
abbrev S4096x512 : Shape := ⟨2, ![4096, 512]⟩
abbrev S4096x128 : Shape := ⟨2, ![4096, 128]⟩
abbrev S256x128 : Shape := ⟨2, ![256, 128]⟩
abbrev S4096x2x128 : Shape := ⟨3, ![4096, 2, 128]⟩
abbrev S256x2x128 : Shape := ⟨3, ![256, 2, 128]⟩
abbrev S256x1x128 : Shape := ⟨3, ![256, 1, 128]⟩
abbrev S256x256 : Shape := ⟨2, ![256, 256]⟩

abbrev nBuf : Space → Nat
  | .hbm => 3
  | .vmem => 10
  | .smem => 2
  | _ => 0

abbrev bufTy : (tb : Table) → Fin (tcTables nBuf tb) → BufTy
  | .hbm, ⟨0, _⟩ => ⟨S1302528x128, .bf16⟩
  | .hbm, ⟨1, _⟩ => ⟨S2x32x4096x1024, .f32⟩
  | .hbm, ⟨2, _⟩ => ⟨S40704x512, .bf16⟩
  | .local _ .vmem, ⟨0, _⟩ => ⟨S8192x128, .bf16⟩
  | .local _ .vmem, ⟨1, _⟩ => ⟨S8192x128, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S256x512, .bf16⟩
  | .local _ .vmem, ⟨7, _⟩ => ⟨S256x512, .bf16⟩
  | .local _ .vmem, ⟨8, _⟩ => ⟨S4096x512, .bf16⟩
  | .local _ .vmem, ⟨9, _⟩ => ⟨S4096x512, .bf16⟩
  | .local _ .smem, ⟨0, _⟩ => ⟨S159, .i32⟩
  | .local _ .smem, ⟨1, _⟩ => ⟨S1, .i32⟩
  | _, _ => ⟨S1302528x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨2, ![1, 159], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v2 : BitVec 32 := Scalar.subi arg1 c1_i32
  let c0_i32 : BitVec 32 := 0#32
  let v3 : BitVec 32 := Scalar.maxsi v2 c0_i32
  let v4 : Index := Scalar.indexCast v3
  ![v4.toNat]
def k0_cond2 (i : grid0.Coords) (v14 : BitVec 32) : BitVec 1 :=
  let arg1 : BitVec 32 := BitVec.ofNat 32 (i 1).val
  let v15 : BitVec 1 := Scalar.cmpi .slt arg1 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg1 : BitVec 32 := BitVec.ofNat 32 (i 1).val
  let v19 : BitVec 1 := Scalar.cmpi .sge arg1 v18
  let v20 : BitVec 32 := Scalar.extui v19
  let c0_i32_5 : BitVec 32 := 0#32
  let v21 : BitVec 1 := Scalar.cmpi .ne v20 c0_i32_5
  v21

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S159.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S159) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S159.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S159) ![v0.toNat] S1.size (k0_off1_inb i)) numel1_S1
  let c1_i32 : BitVec 32 := 1#32
  let v2 : BitVec 32 := Scalar.addi c1_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpIdeal.lean ====
abbrev S512x128 : Shape := ⟨2, ![512, 128]⟩
variable {F : FTy → Type} [FloatOps F]
-- ==== UpReferenceIdeal.lean ====
abbrev S1302528x128 : Shape := ⟨2, ![1302528, 128]⟩
abbrev S159 : Shape := ⟨1, ![159]⟩
abbrev S1 : Shape := ⟨1, ![1]⟩
abbrev S2x32x4096x1024 : Shape := ⟨4, ![2, 32, 4096, 1024]⟩
abbrev S159x256 : Shape := ⟨2, ![159, 256]⟩
abbrev S40704 : Shape := ⟨1, ![40704]⟩
abbrev S40704x4096 : Shape := ⟨2, ![40704, 4096]⟩
abbrev S1x32x4096x1024 : Shape := ⟨4, ![1, 32, 4096, 1024]⟩
abbrev S32x4096x1024 : Shape := ⟨3, ![32, 4096, 1024]⟩
abbrev S_ : Shape := ⟨0, ![]⟩
abbrev S40704x1 : Shape := ⟨2, ![40704, 1]⟩
abbrev S40704x4096x1024 : Shape := ⟨3, ![40704, 4096, 1024]⟩
abbrev S40704x1024 : Shape := ⟨2, ![40704, 1024]⟩
abbrev S40704x512 : Shape := ⟨2, ![40704, 512]⟩

abbrev nBuf : Space → Nat
  | .hbm => 45
  | .vmem => 0
  | .smem => 0
  | _ => 0

abbrev bufTy : (tb : Table) → Fin (tcTables nBuf tb) → BufTy
  | .hbm, ⟨0, _⟩ => ⟨S1302528x128, .bf16⟩
  | .hbm, ⟨1, _⟩ => ⟨S159, .i32⟩
  | .hbm, ⟨2, _⟩ => ⟨S1, .i32⟩
  | .hbm, ⟨3, _⟩ => ⟨S2x32x4096x1024, .f32⟩
  | .hbm, ⟨4, _⟩ => ⟨S159x256, .i32⟩
  | .hbm, ⟨5, _⟩ => ⟨S40704, .i32⟩
  | .hbm, ⟨6, _⟩ => ⟨S40704x4096, .bf16⟩
  | .hbm, ⟨7, _⟩ => ⟨S40704x4096, .f32⟩
  | .hbm, ⟨8, _⟩ => ⟨S1x32x4096x1024, .f32⟩
  | .hbm, ⟨9, _⟩ => ⟨S32x4096x1024, .f32⟩
  | .hbm, ⟨10, _⟩ => ⟨S_, .i32⟩
  | .hbm, ⟨11, _⟩ => ⟨S40704, .i32⟩
  | .hbm, ⟨12, _⟩ => ⟨S40704, .i1⟩
  | .hbm, ⟨13, _⟩ => ⟨S_, .i32⟩
  | .hbm, ⟨14, _⟩ => ⟨S40704, .i32⟩
  | .hbm, ⟨15, _⟩ => ⟨S40704, .i32⟩
  | .hbm, ⟨16, _⟩ => ⟨S40704, .i32⟩
  | .hbm, ⟨17, _⟩ => ⟨S40704x1, .i32⟩
  | .hbm, ⟨18, _⟩ => ⟨S40704x4096x1024, .f32⟩
  | .hbm, ⟨19, _⟩ => ⟨S40704x1024, .f32⟩
  | .hbm, ⟨20, _⟩ => ⟨S40704x512, .f32⟩
  | .hbm, ⟨21, _⟩ => ⟨S40704x512, .f32⟩
  | .hbm, ⟨22, _⟩ => ⟨S159, .i32⟩
  | .hbm, ⟨23, _⟩ => ⟨S_, .i32⟩
  | .hbm, ⟨24, _⟩ => ⟨S159, .i32⟩
  | .hbm, ⟨25, _⟩ => ⟨S159, .i1⟩
  | .hbm, ⟨26, _⟩ => ⟨S159x256, .i1⟩
  | .hbm, ⟨27, _⟩ => ⟨S40704, .i1⟩
  | .hbm, ⟨28, _⟩ => ⟨S40704x1, .i1⟩
  | .hbm, ⟨29, _⟩ => ⟨S40704x512, .f32⟩
  | .hbm, ⟨30, _⟩ => ⟨S40704x512, .f32⟩
  | .hbm, ⟨31, _⟩ => ⟨S_, .f32⟩
  | .hbm, ⟨32, _⟩ => ⟨S40704x512, .f32⟩
  | .hbm, ⟨33, _⟩ => ⟨S40704x512, .f32⟩
  | .hbm, ⟨34, _⟩ => ⟨S_, .f32⟩
  | .hbm, ⟨35, _⟩ => ⟨S40704x512, .f32⟩
  | .hbm, ⟨36, _⟩ => ⟨S40704x512, .f32⟩
  | .hbm, ⟨37, _⟩ => ⟨S40704x512, .f32⟩
  | .hbm, ⟨38, _⟩ => ⟨S40704x512, .f32⟩
  | .hbm, ⟨39, _⟩ => ⟨S_, .f32⟩
  | .hbm, ⟨40, _⟩ => ⟨S_, .f32⟩
  | .hbm, ⟨41, _⟩ => ⟨S40704x512, .i1⟩
  | .hbm, ⟨42, _⟩ => ⟨S40704x512, .f32⟩
  | .hbm, ⟨43, _⟩ => ⟨S40704x512, .f32⟩
  | .hbm, ⟨44, _⟩ => ⟨S40704x512, .bf16⟩
  | _, _ => ⟨S1302528x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Down.lean ====
abbrev S40704x512 : Shape := ⟨2, ![40704, 512]⟩
abbrev S159 : Shape := ⟨1, ![159]⟩
abbrev S1 : Shape := ⟨1, ![1]⟩
abbrev S2x32x512x4096 : Shape := ⟨4, ![2, 32, 512, 4096]⟩
abbrev S1302528x128 : Shape := ⟨2, ![1302528, 128]⟩
abbrev S256x512 : Shape := ⟨2, ![256, 512]⟩
abbrev S1x1x512x4096 : Shape := ⟨4, ![1, 1, 512, 4096]⟩
abbrev S8192x128 : Shape := ⟨2, ![8192, 128]⟩
abbrev S512x4096 : Shape := ⟨2, ![512, 4096]⟩
abbrev S256x4096 : Shape := ⟨2, ![256, 4096]⟩
abbrev S256x128 : Shape := ⟨2, ![256, 128]⟩
abbrev S4096x128 : Shape := ⟨2, ![4096, 128]⟩
abbrev S4096x2x128 : Shape := ⟨3, ![4096, 2, 128]⟩
abbrev S256x2x128 : Shape := ⟨3, ![256, 2, 128]⟩
abbrev S256x1x128 : Shape := ⟨3, ![256, 1, 128]⟩

abbrev nBuf : Space → Nat
  | .hbm => 3
  | .vmem => 7
  | .smem => 2
  | _ => 0

abbrev bufTy : (tb : Table) → Fin (tcTables nBuf tb) → BufTy
  | .hbm, ⟨0, _⟩ => ⟨S40704x512, .bf16⟩
  | .hbm, ⟨1, _⟩ => ⟨S2x32x512x4096, .f32⟩
  | .hbm, ⟨2, _⟩ => ⟨S1302528x128, .bf16⟩
  | .local _ .vmem, ⟨0, _⟩ => ⟨S256x512, .bf16⟩
  | .local _ .vmem, ⟨1, _⟩ => ⟨S256x512, .bf16⟩
  | .local _ .vmem, ⟨2, _⟩ => ⟨S1x1x512x4096, .f32⟩
  | .local _ .vmem, ⟨3, _⟩ => ⟨S1x1x512x4096, .f32⟩
  | .local _ .vmem, ⟨4, _⟩ => ⟨S8192x128, .bf16⟩
  | .local _ .vmem, ⟨5, _⟩ => ⟨S8192x128, .bf16⟩
  | .local _ .vmem, ⟨6, _⟩ => ⟨S512x4096, .bf16⟩
  | .local _ .smem, ⟨0, _⟩ => ⟨S159, .i32⟩
  | .local _ .smem, ⟨1, _⟩ => ⟨S1, .i32⟩
  | _, _ => ⟨S40704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![159], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_5 : BitVec 32 := 0#32
  let v21 : BitVec 1 := Scalar.cmpi .ne v20 c0_i32_5
  v21

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S159.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S159) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownIdeal.lean ====
variable {F : FTy → Type} [FloatOps F]
-- ==== DownReferenceIdeal.lean ====
abbrev S40704x512 : Shape := ⟨2, ![40704, 512]⟩
abbrev S159 : Shape := ⟨1, ![159]⟩
abbrev S1 : Shape := ⟨1, ![1]⟩
abbrev S2x32x512x4096 : Shape := ⟨4, ![2, 32, 512, 4096]⟩
abbrev S159x256 : Shape := ⟨2, ![159, 256]⟩
abbrev S40704 : Shape := ⟨1, ![40704]⟩
abbrev S1x32x512x4096 : Shape := ⟨4, ![1, 32, 512, 4096]⟩
abbrev S32x512x4096 : Shape := ⟨3, ![32, 512, 4096]⟩
abbrev S_ : Shape := ⟨0, ![]⟩
abbrev S40704x1 : Shape := ⟨2, ![40704, 1]⟩
abbrev S40704x512x4096 : Shape := ⟨3, ![40704, 512, 4096]⟩
abbrev S40704x4096 : Shape := ⟨2, ![40704, 4096]⟩
abbrev S1302528x128 : Shape := ⟨2, ![1302528, 128]⟩

abbrev nBuf : Space → Nat
  | .hbm => 33
  | .vmem => 0
  | .smem => 0
  | _ => 0

abbrev bufTy : (tb : Table) → Fin (tcTables nBuf tb) → BufTy
  | .hbm, ⟨0, _⟩ => ⟨S40704x512, .bf16⟩
  | .hbm, ⟨1, _⟩ => ⟨S159, .i32⟩
  | .hbm, ⟨2, _⟩ => ⟨S1, .i32⟩
  | .hbm, ⟨3, _⟩ => ⟨S2x32x512x4096, .f32⟩
  | .hbm, ⟨4, _⟩ => ⟨S159x256, .i32⟩
  | .hbm, ⟨5, _⟩ => ⟨S40704, .i32⟩
  | .hbm, ⟨6, _⟩ => ⟨S40704x512, .f32⟩
  | .hbm, ⟨7, _⟩ => ⟨S1x32x512x4096, .f32⟩
  | .hbm, ⟨8, _⟩ => ⟨S32x512x4096, .f32⟩
  | .hbm, ⟨9, _⟩ => ⟨S_, .i32⟩
  | .hbm, ⟨10, _⟩ => ⟨S40704, .i32⟩
  | .hbm, ⟨11, _⟩ => ⟨S40704, .i1⟩
  | .hbm, ⟨12, _⟩ => ⟨S_, .i32⟩
  | .hbm, ⟨13, _⟩ => ⟨S40704, .i32⟩
  | .hbm, ⟨14, _⟩ => ⟨S40704, .i32⟩
  | .hbm, ⟨15, _⟩ => ⟨S40704, .i32⟩
  | .hbm, ⟨16, _⟩ => ⟨S40704x1, .i32⟩
  | .hbm, ⟨17, _⟩ => ⟨S40704x512x4096, .f32⟩
  | .hbm, ⟨18, _⟩ => ⟨S40704x4096, .f32⟩
  | .hbm, ⟨19, _⟩ => ⟨S159, .i32⟩
  | .hbm, ⟨20, _⟩ => ⟨S_, .i32⟩
  | .hbm, ⟨21, _⟩ => ⟨S159, .i32⟩
  | .hbm, ⟨22, _⟩ => ⟨S159, .i1⟩
  | .hbm, ⟨23, _⟩ => ⟨S159x256, .i1⟩
  | .hbm, ⟨24, _⟩ => ⟨S40704, .i1⟩
  | .hbm, ⟨25, _⟩ => ⟨S40704x1, .i1⟩
  | .hbm, ⟨26, _⟩ => ⟨S_, .f32⟩
  | .hbm, ⟨27, _⟩ => ⟨S_, .f32⟩
  | .hbm, ⟨28, _⟩ => ⟨S40704x4096, .i1⟩
  | .hbm, ⟨29, _⟩ => ⟨S40704x4096, .f32⟩
  | .hbm, ⟨30, _⟩ => ⟨S40704x4096, .f32⟩
  | .hbm, ⟨31, _⟩ => ⟨S40704x4096, .bf16⟩
  | .hbm, ⟨32, _⟩ => ⟨S1302528x128, .bf16⟩
  | _, _ => ⟨S40704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proj.lean ====
abbrev S16384x4096 : Shape := ⟨2, ![16384, 4096]⟩
abbrev S1x4096x12304 : Shape := ⟨3, ![1, 4096, 12304]⟩
abbrev S4096x12304 : Shape := ⟨2, ![4096, 12304]⟩
abbrev S16384x12288 : Shape := ⟨2, ![16384, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x12304, .f32⟩
  | .hbm, ⟨2, _⟩ => ⟨S4096x12304, .f32⟩
  | .hbm, ⟨3, _⟩ => ⟨S4096x12304, .bf16⟩
  | .hbm, ⟨4, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S16384x4096 : Shape := ⟨2, ![16384, 4096]⟩
abbrev S1x4096x12304 : Shape := ⟨3, ![1, 4096, 12304]⟩
abbrev S4096x12304 : Shape := ⟨2, ![4096, 12304]⟩
abbrev S16384x12304 : Shape := ⟨2, ![16384, 12304]⟩
abbrev S16384x12288 : Shape := ⟨2, ![16384, 12288]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x12304, .f32⟩
  | .hbm, ⟨2, _⟩ => ⟨S16384x4096, .f32⟩
  | .hbm, ⟨3, _⟩ => ⟨S4096x12304, .f32⟩
  | .hbm, ⟨4, _⟩ => ⟨S16384x12304, .f32⟩
  | .hbm, ⟨5, _⟩ => ⟨S16384x12288, .f32⟩
  | .hbm, ⟨6, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Query.lean ====
abbrev S16384x4096 : Shape := ⟨2, ![16384, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S4096x4096, .f32⟩
  | .hbm, ⟨3, _⟩ => ⟨S4096x4096, .bf16⟩
  | .hbm, ⟨4, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryReferenceIdeal.lean ====
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S4096x4096, .f32⟩
  | .hbm, ⟨4, _⟩ => ⟨S16384x4096, .f32⟩
  | .hbm, ⟨5, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Added.lean ====
abbrev S16384x4096 : Shape := ⟨2, ![16384, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S4096x4096, .f32⟩
  | .hbm, ⟨4, _⟩ => ⟨S4096x4096, .bf16⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AddedReferenceIdeal.lean ====
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S16384x4096, .f32⟩
  | .hbm, ⟨4, _⟩ => ⟨S4096x4096, .f32⟩
  | .hbm, ⟨5, _⟩ => ⟨S16384x4096, .f32⟩
  | .hbm, ⟨6, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Shared.lean ====
abbrev S16384x4096 : Shape := ⟨2, ![16384, 4096]⟩
abbrev S4096x1024 : Shape := ⟨2, ![4096, 1024]⟩
abbrev S64 : Shape := ⟨1, ![64]⟩
abbrev S512x128 : Shape := ⟨2, ![512, 128]⟩
abbrev S128x512 : Shape := ⟨2, ![128, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S16x16384x64 : Shape := ⟨3, ![16, 16384, 64]⟩
abbrev S1024x4096 : Shape := ⟨2, ![1024, 4096]⟩
abbrev S16x1024x64 : Shape := ⟨3, ![16, 1024, 64]⟩
abbrev S1024x1024 : Shape := ⟨2, ![1024, 1024]⟩
abbrev S1024x512 : Shape := ⟨2, ![1024, 512]⟩
abbrev S1024x128 : Shape := ⟨2, ![1024, 128]⟩
abbrev S1024x64 : Shape := ⟨2, ![1024, 64]⟩
abbrev S1x1024x64 : Shape := ⟨3, ![1, 1024, 64]⟩

abbrev nBuf : Space → Nat
  | .hbm => 11
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S64, .f32⟩
  | .hbm, ⟨3, _⟩ => ⟨S512x128, .bf16⟩
  | .hbm, ⟨4, _⟩ => ⟨S128x512, .bf16⟩
  | .hbm, ⟨5, _⟩ => ⟨S4096x1024, .bf16⟩
  | .hbm, ⟨6, _⟩ => ⟨S1x64, .f32⟩
  | .hbm, ⟨7, _⟩ => ⟨S8x64, .f32⟩
  | .hbm, ⟨8, _⟩ => ⟨S512, .f32⟩
  | .hbm, ⟨9, _⟩ => ⟨S1x512, .f32⟩
  | .hbm, ⟨10, _⟩ => ⟨S16x16384x64, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1x512, .f32⟩
  | .local _ .vmem, ⟨4, _⟩ => ⟨S512x128, .bf16⟩
  | .local _ .vmem, ⟨5, _⟩ => ⟨S128x512, .bf16⟩
  | .local _ .vmem, ⟨6, _⟩ => ⟨S16x1024x64, .bf16⟩
  | .local _ .vmem, ⟨7, _⟩ => ⟨S16x1024x64, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SharedReferenceIdeal.lean ====
abbrev S16384x4096 : Shape := ⟨2, ![16384, 4096]⟩
abbrev S4096x1024 : Shape := ⟨2, ![4096, 1024]⟩
abbrev S64 : Shape := ⟨1, ![64]⟩
abbrev S16384x1024 : Shape := ⟨2, ![16384, 1024]⟩
abbrev S16384x2x8x64 : Shape := ⟨4, ![16384, 2, 8, 64]⟩
abbrev S16384x1x8x64 : Shape := ⟨4, ![16384, 1, 8, 64]⟩
abbrev S16384x8x64 : Shape := ⟨3, ![16384, 8, 64]⟩
abbrev S_ : Shape := ⟨0, ![]⟩
abbrev S16384x8 : Shape := ⟨2, ![16384, 8]⟩
abbrev S16384x8x1 : Shape := ⟨3, ![16384, 8, 1]⟩
abbrev S1x1x64 : Shape := ⟨3, ![1, 1, 64]⟩
abbrev S16384x16x64 : Shape := ⟨3, ![16384, 16, 64]⟩
abbrev S16x16384x64 : Shape := ⟨3, ![16, 16384, 64]⟩

abbrev nBuf : Space → Nat
  | .hbm => 29
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S64, .f32⟩
  | .hbm, ⟨3, _⟩ => ⟨S16384x4096, .f32⟩
  | .hbm, ⟨4, _⟩ => ⟨S16384x1024, .f32⟩
  | .hbm, ⟨5, _⟩ => ⟨S16384x2x8x64, .f32⟩
  | .hbm, ⟨6, _⟩ => ⟨S16384x1x8x64, .f32⟩
  | .hbm, ⟨7, _⟩ => ⟨S16384x8x64, .f32⟩
  | .hbm, ⟨8, _⟩ => ⟨S16384x1x8x64, .f32⟩
  | .hbm, ⟨9, _⟩ => ⟨S16384x8x64, .f32⟩
  | .hbm, ⟨10, _⟩ => ⟨S16384x8x64, .f32⟩
  | .hbm, ⟨11, _⟩ => ⟨S_, .f32⟩
  | .hbm, ⟨12, _⟩ => ⟨S16384x8, .f32⟩
  | .hbm, ⟨13, _⟩ => ⟨S16384x8x1, .f32⟩
  | .hbm, ⟨14, _⟩ => ⟨S_, .f32⟩
  | .hbm, ⟨15, _⟩ => ⟨S16384x8x1, .f32⟩
  | .hbm, ⟨16, _⟩ => ⟨S16384x8x1, .f32⟩
  | .hbm, ⟨17, _⟩ => ⟨S_, .f32⟩
  | .hbm, ⟨18, _⟩ => ⟨S16384x8x1, .f32⟩
  | .hbm, ⟨19, _⟩ => ⟨S16384x8x1, .f32⟩
  | .hbm, ⟨20, _⟩ => ⟨S16384x8x1, .f32⟩
  | .hbm, ⟨21, _⟩ => ⟨S16384x8x64, .f32⟩
  | .hbm, ⟨22, _⟩ => ⟨S16384x8x64, .f32⟩
  | .hbm, ⟨23, _⟩ => ⟨S1x1x64, .f32⟩
  | .hbm, ⟨24, _⟩ => ⟨S16384x8x64, .f32⟩
  | .hbm, ⟨25, _⟩ => ⟨S16384x8x64, .f32⟩
  | .hbm, ⟨26, _⟩ => ⟨S16384x16x64, .f32⟩
  | .hbm, ⟨27, _⟩ => ⟨S16x16384x64, .f32⟩
  | .hbm, ⟨28, _⟩ => ⟨S16x16384x64, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Proof.Swa.Consts.lean ====
/-
  The values of the float constants the attention programs name, and when an extended real is real.
-/
module

public import Idealize.ShloMosaic.Lib.Pointwise
public import Idealize.ShloMosaic.Lib.IdealHost

@[expose] public section

noncomputable section

open Idealize.ShloMosaic

namespace Cert.Swa

/-- The pattern of minus infinity. -/
theorem bits_bot : Ideal.ofBits .f32 0xFF800000#32 = (⊥ : EReal) := by
  simp [Ideal.ofBits, Ideal.ieee, -EReal.coe_mul]

/-- The pattern of infinity. -/
theorem bits_top : Ideal.ofBits .f32 0x7F800000#32 = (⊤ : EReal) := by
  simp [Ideal.ofBits, Ideal.ieee, -EReal.coe_mul]

/-- The pattern of 1/64. -/
theorem bits_sixtyfourth : Ideal.ofBits .f32 0x3C800000#32 = ((1 / 64 : ℝ) : EReal) := by
  simp [Ideal.ofBits, Ideal.ieee, -EReal.coe_mul]
  norm_num

/-- The pattern of 64. -/
theorem bits_sixtyfour : Ideal.ofBits .f32 0x42800000#32 = ((64 : ℝ) : EReal) := by
  simp [Ideal.ofBits, Ideal.ieee, -EReal.coe_mul]
  norm_num

/-- The pattern of the epsilon is that of a positive real. -/
theorem bits_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]
  norm_num

/-- The pattern of 1/8 is that of a real. -/
theorem bits_eighth : Ideal.ofBits .f32 0x3E000000#32 = ((1 / 8 : ℝ) : EReal) := by
  simp [Ideal.ofBits, Ideal.ieee, -EReal.coe_mul]
  norm_num

end Cert.Swa

end
-- ==== Proof.Swa.Math.lean ====
/-
  The mathematics of one row of the attention, over the extended reals: the kernel's order of multiplications and its
  division after the sum against the reference's.
-/
module

public import proofs.«01_k».proof.Proof.Swa.Consts

@[expose] public section

noncomputable section

open Idealize.ShloMosaic

namespace Cert.Swa

/-- A nonnegative factor that is not infinite goes into a finite sum. -/
theorem sum_mul_right {ι : Type} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

/-- A finite sum of terms other than plus infinity is not plus infinity. -/
theorem sum_ne_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact (EReal.add_lt_top (h a (Finset.mem_insert_self a s)) (ih fun i hi => h i (Finset.mem_insert_of_mem hi))).ne

/-- A square is not negative. -/
theorem sq_nonneg' (x : EReal) : 0 ≤ x * x := by
  induction x with
  | bot => simp
  | top => simp
  | coe r => rw [← EReal.coe_mul]; exact_mod_cast mul_self_nonneg r

/-- The inverse root mean square of one query row. -/
def invRms (q : Fin 64 → EReal) : EReal :=
  Ideal.rsqrt ((∑ d, q d * q d) * Ideal.ofBits .f32 0x3C800000#32 + Ideal.ofBits .f32 0x358637BD#32)

/-- What stands under the root is positive. -/
theorem arg_pos (q : Fin 64 → EReal) :
    0 < (∑ d, q d * q d) * Ideal.ofBits .f32 0x3C800000#32 + Ideal.ofBits .f32 0x358637BD#32 := by
  obtain ⟨e, he, h⟩ := bits_eps
  rw [h, bits_sixtyfourth]
  have h0 : 0 ≤ (∑ d, q d * q d) * ((1 / 64 : ℝ) : EReal) :=
    mul_nonneg (Finset.sum_nonneg fun d _ => sq_nonneg' (q d)) (by exact_mod_cast (by norm_num : (0 : ℝ) ≤ 1 / 64))
  calc (0 : EReal) < (e : EReal) := by exact_mod_cast he
    _ = 0 + (e : EReal) := (zero_add _).symm
    _ ≤ _ := by gcongr

/-- The root's reciprocal at a positive argument is a real that is not negative. -/
theorem rsqrt_nonneg {x : EReal} (hx : 0 < x) : 0 ≤ Ideal.rsqrt x ∧ Ideal.rsqrt x ≠ ⊤ := by
  induction x with
  | bot => simp at hx
  | top => simp
  | coe r =>
    have hr : 0 < r := by exact_mod_cast hx
    rw [Ideal.rsqrt_coe, if_neg (not_lt.2 hr.le), if_neg hr.ne']
    exact ⟨by exact_mod_cast inv_nonneg.2 (Real.sqrt_nonneg r), EReal.coe_ne_top _⟩

theorem invRms_nonneg (q : Fin 64 → EReal) : 0 ≤ invRms q := (rsqrt_nonneg (arg_pos q)).1

theorem invRms_ne_top (q : Fin 64 → EReal) : invRms q ≠ ⊤ := (rsqrt_nonneg (arg_pos q)).2

/-- One score: the gained key against the query, times the query's inverse root mean square, plus the mask. -/
def score (q k g : Fin 64 → EReal) (b : EReal) : EReal := (∑ d, k d * g d * q d) * invRms q + b

/-- The running maximum of a row of scores and the sink. -/
def rowMax (s : Fin 256 → EReal) (sink : EReal) : EReal := max (Finset.univ.fold max ⊥ s) sink

/-- The softmax of a row of scores beside a sink, against one column of values. -/
def rowVal (s v : Fin 256 → EReal) (sink : EReal) : EReal :=
  (∑ k, v k * Ideal.exp (s k - rowMax s sink))
    * Ideal.div 1 ((∑ k, Ideal.exp (s k - rowMax s sink)) + Ideal.exp (sink - rowMax s sink))

/-- The normalised and scaled query against the key, as the reference multiplies it: the kernel's score without a mask. -/
theorem score_eq (q k g : Fin 64 → EReal) (c : EReal) :
    ∑ d, q d * Ideal.rsqrt (Ideal.div (∑ d, q d * q d) (Ideal.ofBits .f32 0x42800000#32) + Ideal.ofBits .f32 0x358637BD#32)
        * g d * c * k d
      = score q k (fun d => g d * c) 0 := by
  rw [bits_sixtyfour, Ideal.div_coe (by norm_num), ← bits_sixtyfourth]
  show ∑ d, q d * invRms q * g d * c * k d = _
  rw [score, add_zero, sum_mul_right _ _ (invRms_nonneg q) (invRms_ne_top q)]
  exact Finset.sum_congr rfl fun d _ => by ac_rfl

/-- The mask that is minus infinity leaves minus infinity. -/
theorem score_bot (q k g : Fin 64 → EReal) : score q k g ⊥ = ⊥ := EReal.add_bot _

/-- Real keys and gains give a score that is not plus infinity, whatever the queries. -/
theorem score_ne_top (q k g : Fin 64 → EReal) (hk : ∀ d, k d ≠ ⊤ ∧ k d ≠ ⊥) (hg : ∀ d, g d ≠ ⊤ ∧ g d ≠ ⊥) :
    score q k g 0 ≠ ⊤ := by
  rw [score, add_zero]
  by_cases hq : ∀ d, q d ≠ ⊤ ∧ q d ≠ ⊥
  · rw [sum_mul_right _ _ (invRms_nonneg q) (invRms_ne_top q)]
    refine sum_ne_top _ _ fun d _ => ?_
    have hi : invRms q ≠ ⊥ := fun h => by have := invRms_nonneg q; rw [h] at this; simp at this
    lift q d to ℝ using hq d with qd
    lift k d to ℝ using hk d with kd
    lift g d to ℝ using hg d with gd
    lift invRms q to ℝ using ⟨invRms_ne_top q, hi⟩ with i
    exact_mod_cast EReal.coe_ne_top _
  · push Not at hq
    obtain ⟨d, hd⟩ := hq
    have hsq : q d * q d = ⊤ := by
      by_cases h : q d = ⊤
      · rw [h]; simp
      · rw [hd h]; simp
    have hs : ∑ d, q d * q d = ⊤ := by
      refine top_unique ?_
      rw [← hsq]
      exact Finset.single_le_sum (f := fun d => q d * q d) (fun i _ => sq_nonneg' (q i)) (Finset.mem_univ d)
    have hz : invRms q = 0 := by
      obtain ⟨e, he, h⟩ := bits_eps
      rw [invRms, hs, h, bits_sixtyfourth, EReal.top_mul_coe_of_pos (by norm_num), EReal.top_add_coe, Ideal.rsqrt_top]
    rw [hz, mul_zero]
    simp

/-- The exponential is not negative. -/
theorem exp_nonneg (x : EReal) : 0 ≤ Ideal.exp x := by
  induction x with
  | bot => simp
  | top => simp
  | coe r => rw [Ideal.exp_coe]; exact_mod_cast (Real.exp_pos r).le

/-- The exponential is infinite only at plus infinity. -/
theorem exp_ne_top {x : EReal} (h : x ≠ ⊤) : Ideal.exp x ≠ ⊤ := by
  induction x with
  | bot => simp
  | top => exact absurd rfl h
  | coe r => rw [Ideal.exp_coe]; exact EReal.coe_ne_top _

/-- A real taken from what is not plus infinity leaves what is not plus infinity. -/
theorem sub_real_ne_top {x : EReal} (m : ℝ) (h : x ≠ ⊤) : x - (m : EReal) ≠ ⊤ := by
  induction x with
  | bot => simp
  | top => exact absurd rfl h
  | coe r => rw [← EReal.coe_sub]; exact EReal.coe_ne_top _

/-- The row's maximum beside a real sink is real. -/
theorem rowMax_real (s : Fin 256 → EReal) (sink : ℝ) (hs : ∀ k, s k ≠ ⊤) : ∃ m : ℝ, rowMax s sink = m := by
  have h1 : Finset.univ.fold max ⊥ s ≠ ⊤ := by
    have : Finset.univ.fold max ⊥ s < ⊤ := by
      rw [Finset.fold_max_lt]
      exact ⟨bot_lt_top, fun k _ => lt_top_iff_ne_top.2 (hs k)⟩
    exact this.ne
  have h2 : rowMax s sink ≠ ⊤ := (max_lt (lt_top_iff_ne_top.2 h1) (EReal.coe_lt_top sink)).ne
  have h3 : rowMax s sink ≠ ⊥ := fun h => by
    have : (sink : EReal) ≤ rowMax s sink := le_max_right _ _
    rw [h] at this
    exact EReal.coe_ne_bot sink (le_bot_iff.1 this)
  exact ⟨(rowMax s sink).toReal, (EReal.coe_toReal h2 h3).symm⟩

/-- Dividing after the sum or before it is the same where no score is plus infinity and the sink is real. -/
theorem rowVal_eq (s v : Fin 256 → EReal) (sink : ℝ) (hs : ∀ k, s k ≠ ⊤) :
    rowVal s v sink = ∑ k, Ideal.div (Ideal.exp (s k - rowMax s sink))
      ((∑ k, Ideal.exp (s k - rowMax s sink)) + Ideal.exp (sink - rowMax s sink)) * v k := by
  obtain ⟨m, hm⟩ := rowMax_real s sink hs
  rw [rowVal, hm]
  set den := (∑ k, Ideal.exp (s k - (m : EReal))) + Ideal.exp ((sink : EReal) - (m : EReal)) with hden
  have hp : 0 < den := by
    have h1 : 0 < Ideal.exp ((sink : EReal) - (m : EReal)) := by
      rw [← EReal.coe_sub, Ideal.exp_coe]; exact_mod_cast Real.exp_pos _
    calc (0 : EReal) < Ideal.exp ((sink : EReal) - (m : EReal)) := h1
      _ = 0 + Ideal.exp ((sink : EReal) - (m : EReal)) := (zero_add _).symm
      _ ≤ den := by
        rw [hden]
        gcongr
        exact Finset.sum_nonneg fun k _ => exp_nonneg _
  have ht : den ≠ ⊤ := by
    refine (EReal.add_lt_top (sum_ne_top _ _ fun k _ => exp_ne_top ?_) (exp_ne_top ?_)).ne
    · exact sub_real_ne_top m (hs k)
    · rw [← EReal.coe_sub]; exact EReal.coe_ne_top _
  have hb : den ≠ ⊥ := fun h => by rw [h] at hp; simp at hp
  obtain ⟨r, hr⟩ : ∃ r : ℝ, den = r := ⟨den.toReal, (EReal.coe_toReal ht hb).symm⟩
  have hr0 : 0 < r := by rw [hr] at hp; exact_mod_cast hp
  have hi : 0 ≤ ((1 / r : ℝ) : EReal) := by exact_mod_cast (one_div_pos.2 hr0).le
  rw [hr, Ideal.div_coe hr0.ne', one_mul, sum_mul_right _ _ hi (EReal.coe_ne_top _)]
  refine Finset.sum_congr rfl fun k _ => ?_
  rw [Ideal.div_coe hr0.ne']
  ac_rfl

/-- A key that the mask takes out has weight 0, so its value does not matter. -/
theorem rowVal_congr (s v v' : Fin 256 → EReal) (sink : EReal) (h : ∀ k, s k = ⊥ ∨ v k = v' k) :
    rowVal s v sink = rowVal s v' sink := by
  rw [rowVal, rowVal]
  congr 1
  refine Finset.sum_congr rfl fun k _ => ?_
  rcases h k with h | h
  · rw [h, EReal.bot_sub, Ideal.exp_bot, mul_zero, mul_zero]
  · rw [h]

end Cert.Swa

end
-- ==== Proof.Swa.Head.lean ====
/-
  The attention kernel's body, head by head: every one of its eight stores is ONE function of the head's blocks (`head`),
  and that function read at an element is the softmax of one row of scores against the head's values (`rowVal`).
-/
module

public import proofs.«01_k».proof.Proof.Gen.KernelIdeal.Frame
public import Idealize.ShloMosaic.Lib.Pointwise
public import Idealize.ShloMosaic.Lib.Pipeline.Value
public import Idealize.ShloMosaic.Lib.IdealHost
public import proofs.«01_k».proof.Proof.Swa.Math

@[expose] public section

set_option maxRecDepth 16384

noncomputable section

open Idealize.ShloMosaic Idealize.ShloMosaic.TcCoe Idealize.SL.Sem

namespace Cert.KernelIdeal.Swa

open Cert.KernelIdeal Cert.KernelIdeal.Gen Cert.Swa

/-- What the body stores for one head, of the head's queries, keys and values (previous and current block), the gains,
    the mask and the head's sinks. -/
def head (q : Vec Ideal S128x512 .bf16) (kp kc vp vc : Vec Ideal S1x128x64 .bf16) (g : Vec Ideal S1x64 .f32)
    (bias : Vec Ideal S1x256x1024 .f32) (sink : Vec Ideal S1x1x1024 .f32) : FVec Ideal S128x512 .bf16 :=
  k0_pay7 (k0_pay3 q) (k0_pay4 q) (k0_pay5 vp vc) (k0_pay6 kp kc g) (constant S256x1024 .f32 0x00000000#32) bias sink

/-- The last step of a head: the eight groups of columns, transposed, side by side. -/
def sideBySide (v61 : FVec Ideal S64x1024 .f32) : FVec Ideal S128x512 .bf16 :=
  k0_pay1 v61
    (transpose S128x64 [1, 0] (extractStridedSlice S64x128 ![0, 0] v61 slices_S64x1024_o0_0_S64x128) transposes_S64x128_p1_0_S128x64)
    (transpose S128x64 [1, 0] (extractStridedSlice S64x128 ![0, 128] v61 slices_S64x1024_o0_128_S64x128) transposes_S64x128_p1_0_S128x64)
    (transpose S128x64 [1, 0] (extractStridedSlice S64x128 ![0, 256] v61 slices_S64x1024_o0_256_S64x128) transposes_S64x128_p1_0_S128x64)
    (transpose S128x64 [1, 0] (extractStridedSlice S64x128 ![0, 384] v61 slices_S64x1024_o0_384_S64x128) transposes_S64x128_p1_0_S128x64)
    (transpose S128x64 [1, 0] (extractStridedSlice S64x128 ![0, 512] v61 slices_S64x1024_o0_512_S64x128) transposes_S64x128_p1_0_S128x64)
    (transpose S128x64 [1, 0] (extractStridedSlice S64x128 ![0, 640] v61 slices_S64x1024_o0_640_S64x128) transposes_S64x128_p1_0_S128x64)
    (transpose S128x64 [1, 0] (extractStridedSlice S64x128 ![0, 768] v61 slices_S64x1024_o0_768_S64x128) transposes_S64x128_p1_0_S128x64)

/-- The head's scores, masked. -/
def scores (q : FVec Ideal S1024x64 .bf16) (inv : FVec Ideal S1x1024 .f32) (kg : FVec Ideal S256x64 .bf16)
    (bias : Vec Ideal S1x256x1024 .f32) : FVec Ideal S256x1024 .f32 :=
  addf (mulf (matmul dot_S256x64_S1024x64_S256x1024_1_1_0_0_n_n none kg q (constant S256x1024 .f32 0x00000000#32))
    (broadcastTo S256x1024 inv broadcasts_S1x1024_S256x1024)) (shapeCast S256x1024 bias shapeCasts_S1x256x1024_S256x1024)

/-- The head's softmax against its values, keys along the first axis, before the groups are laid side by side. -/
def softmaxed (s : FVec Ideal S256x1024 .f32) (v : FVec Ideal S256x64 .bf16) (sink : FVec Ideal S1x1024 .f32) :
    FVec Ideal S64x1024 .f32 :=
  let mx := maximumf (shapeCast S1x1024 (multiReduction .maximumf [0] S1024 s 0xFF800000#32 reduces_S256x1024_S1024 (.inl rfl) rfl) shapeCasts_S1024_S1x1024) sink
  let p := exp (subf s (broadcastTo S256x1024 mx broadcasts_S1x1024_S256x1024))
  let den := addf (shapeCast S1x1024 (multiReduction .add [0] S1024 p 0x00000000#32 reduces_S256x1024_S1024 (.inl rfl) rfl) shapeCasts_S1024_S1x1024) (exp (subf sink mx))
  mulf (matmul dot_S256x64_S256x1024_S64x1024_0_0_1_1_n_n none v (truncf (F := Ideal) .bf16 p bitsLt_bf16_f32) (constant S64x1024 .f32 0x00000000#32))
    (broadcastTo S64x1024 (divf (broadcast S1x1024 (Scalar.ofBits .f32 0x3F800000#32)) den) broadcasts_S1x1024_S64x1024)

theorem head_eq (q : Vec Ideal S128x512 .bf16) (kp kc vp vc : Vec Ideal S1x128x64 .bf16) (g : Vec Ideal S1x64 .f32)
    (bias : Vec Ideal S1x256x1024 .f32) (sink : Vec Ideal S1x1x1024 .f32) :
    head q kp kc vp vc g bias sink
      = sideBySide (softmaxed (scores (k0_pay3 q) (k0_pay4 q) (k0_pay6 kp kc g) bias) (k0_pay5 vp vc)
          (shapeCast S1x1024 sink shapeCasts_S1x1x1024_S1x1024)) := rfl

set_option maxHeartbeats 4000000 in
/-- Element (r, c) of a head's block comes from feature c % 64 and row (c / 64) · 128 + r. -/
theorem sideBySide_apply (v : FVec Ideal S64x1024 .f32) (r : Fin 128) (c : Fin 512) :
    sideBySide v (ix2 r c) = v (ix2 ⟨c.val % 64, by omega⟩ ⟨c.val / 64 * 128 + r.val, by omega⟩) := by
  have hr := r.isLt
  have hc := c.isLt
  pointwise [sideBySide, k0_pay1]
  split_ifs <;> congr 2 <;> apply Fin.ext <;> simp only [] <;> omega

set_option maxHeartbeats 4000000 in
/-- The head's queries with its eight groups one below the other. -/
theorem pay3_apply (q : Vec Ideal S128x512 .bf16) (n : Fin 1024) (d : Fin 64) :
    k0_pay3 q (ix2 n d) = q (ix2 ⟨n.val % 128, by omega⟩ ⟨n.val / 128 * 64 + d.val, by omega⟩) := by
  have hn := n.isLt
  have hd := d.isLt
  pointwise [k0_pay3]
  split_ifs <;> congr 2 <;> apply Fin.ext <;> simp only [] <;> omega

theorem pay4_apply (q : Vec Ideal S128x512 .bf16) (n : Fin 1024) :
    k0_pay4 q (ix2 0 n) = invRms fun d => k0_pay3 q (ix2 n d) := by
  pointwise [k0_pay4, k0_pay2, invRms]

theorem pay5_apply (vp vc : Vec Ideal S1x128x64 .bf16) (k : Fin 256) (d : Fin 64) :
    k0_pay5 vp vc (ix2 k d) = if h : k.val < 128 then vp (ix3 0 ⟨k.val, h⟩ d) else vc (ix3 0 ⟨k.val - 128, by omega⟩ d) := by
  pointwise [k0_pay5]

theorem pay6_apply (kp kc : Vec Ideal S1x128x64 .bf16) (g : Vec Ideal S1x64 .f32) (k : Fin 256) (d : Fin 64) :
    k0_pay6 kp kc g (ix2 k d) = k0_pay5 kp kc (ix2 k d) * g (ix2 0 d) := by
  pointwise [k0_pay6, k0_pay5]

theorem scores_apply (q : FVec Ideal S1024x64 .bf16) (inv : FVec Ideal S1x1024 .f32) (kg : FVec Ideal S256x64 .bf16)
    (bias : Vec Ideal S1x256x1024 .f32) (k : Fin 256) (n : Fin 1024) :
    scores q inv kg bias (ix2 k n) = (∑ d : Fin 64, kg (ix2 k d) * q (ix2 n d)) * inv (ix2 0 n) + bias (ix3 0 k n) := by
  pointwise [scores]

theorem softmaxed_apply (s : FVec Ideal S256x1024 .f32) (v : FVec Ideal S256x64 .bf16) (sink : FVec Ideal S1x1024 .f32)
    (d : Fin 64) (n : Fin 1024) :
    softmaxed s v sink (ix2 d n) = rowVal (fun k => s (ix2 k n)) (fun k => v (ix2 k d)) (sink (ix2 0 n)) := by
  pointwise [softmaxed, rowVal, rowMax]
  rw [bits_bot]

end Cert.KernelIdeal.Swa

end
-- ==== Proof.Swa.HeadAt.lean ====
/-
  A head of the attention kernel at one element, and the eight stores of the body as that one function.
-/
module

public import proofs.«01_k».proof.Proof.Gen.KernelIdeal.Frame
public import Idealize.ShloMosaic.Lib.Pointwise
public import Idealize.ShloMosaic.Lib.Pipeline.Value
public import Idealize.ShloMosaic.Lib.IdealHost
public import proofs.«01_k».proof.Proof.Swa.Head

@[expose] public section

set_option maxRecDepth 16384

noncomputable section

open Idealize.ShloMosaic Idealize.ShloMosaic.TcCoe Idealize.SL.Sem

namespace Cert.KernelIdeal.Swa

open Cert.KernelIdeal Cert.KernelIdeal.Gen Cert.Swa

/-- One element of a head's block: the softmax of the scores of query row `r` in group `c / 64`, against feature `c % 64`
    of the values. -/
theorem head_apply (q : Vec Ideal S128x512 .bf16) (kp kc vp vc : Vec Ideal S1x128x64 .bf16) (g : Vec Ideal S1x64 .f32)
    (bias : Vec Ideal S1x256x1024 .f32) (sink : Vec Ideal S1x1x1024 .f32) (r : Fin 128) (c : Fin 512) (n : Fin 1024)
    (hn : n.val = c.val / 64 * 128 + r.val) :
    head q kp kc vp vc g bias sink (ix2 r c)
      = rowVal (fun k => score (fun d => q (ix2 r ⟨c.val / 64 * 64 + d.val, by omega⟩)) (fun d => k0_pay5 kp kc (ix2 k d))
            (fun d => g (ix2 0 d)) (bias (ix3 0 k n)))
          (fun k => k0_pay5 vp vc (ix2 k ⟨c.val % 64, by omega⟩)) (sink (ix3 0 0 n)) := by
  have hr := r.isLt
  have hc := c.isLt
  obtain ⟨nv, hnv⟩ := n
  simp only at hn
  subst hn
  have hq : ∀ d, k0_pay3 q (ix2 ⟨c.val / 64 * 128 + r.val, by omega⟩ d) = q (ix2 r ⟨c.val / 64 * 64 + d.val, by omega⟩) := by
    intro d
    rw [pay3_apply]
    congr 2 <;> apply Fin.ext <;> simp only [] <;> omega
  have hs : shapeCast S1x1024 sink shapeCasts_S1x1x1024_S1x1024 (ix2 0 ⟨c.val / 64 * 128 + r.val, by omega⟩)
      = sink (ix3 0 0 ⟨c.val / 64 * 128 + r.val, by omega⟩) := by
    pointwise
  rw [head_eq, sideBySide_apply, softmaxed_apply, hs]
  congr 1
  funext k
  rw [scores_apply, pay4_apply, score]
  simp only [hq, pay6_apply]

end Cert.KernelIdeal.Swa

end
-- ==== Proof.Swa.Body.lean ====
/-
  What the attention kernel's body leaves in its output block, at one element: the eight stores are one function of the
  eight input blocks.
-/
module

public import proofs.«01_k».proof.Proof.Gen.KernelIdeal.Frame
public import Idealize.ShloMosaic.Lib.Pointwise
public import Idealize.ShloMosaic.Lib.Pipeline.ValueKit
public import Idealize.ShloMosaic.Lib.IdealHost
public import proofs.«01_k».proof.Proof.Swa.HeadAt

@[expose] public section

set_option maxRecDepth 16384

noncomputable section

open Idealize.ShloMosaic Idealize.ShloMosaic.TcCoe Idealize.SL.Sem

namespace Cert.KernelIdeal.Swa

open Cert.KernelIdeal Cert.KernelIdeal.Gen Cert.Swa

/-- Key or value `k` of head `h`, feature `d`: the previous block's below 128, the current block's above. -/
def twoBlocks (a b : Vec Ideal S8x128x64 .bf16) (h : Fin 8) (k : Fin 256) (d : Fin 64) : EReal :=
  if hk : k.val < 128 then a (ix3 h ⟨k.val, hk⟩ d) else b (ix3 h ⟨k.val - 128, by omega⟩ d)

/-- Element (r, c) of the body's output block, of the eight input blocks. -/
def blockVal (x0 : Vec Ideal S128x4096 .bf16) (x1 x2 x3 x4 : Vec Ideal S8x128x64 .bf16) (x5 : Vec Ideal S8x1x1024 .f32)
    (x6 : Vec Ideal S1x256x1024 .f32) (x7 : Vec Ideal S1x64 .f32) (r : Fin 128) (c : Fin 4096) : EReal :=
  rowVal (fun k => score (fun d => x0 (ix2 r ⟨c.val / 64 * 64 + d.val, by omega⟩))
      (fun d => twoBlocks x2 x1 ⟨c.val / 512, by omega⟩ k d) (fun d => x7 (ix2 0 d))
      (x6 (ix3 0 k ⟨c.val % 512 / 64 * 128 + r.val, by omega⟩)))
    (fun k => twoBlocks x4 x3 ⟨c.val / 512, by omega⟩ k ⟨c.val % 64, by omega⟩)
    (x5 (ix3 ⟨c.val / 512, by omega⟩ 0 ⟨c.val % 512 / 64 * 128 + r.val, by omega⟩))

/-- One head's store, of what its loads hold, is the block function at the head's columns. -/
theorem head_blockVal (x0 : Vec Ideal S128x4096 .bf16) (x1 x2 x3 x4 : Vec Ideal S8x128x64 .bf16)
    (x5 : Vec Ideal S8x1x1024 .f32) (x6 : Vec Ideal S1x256x1024 .f32) (x7 : Vec Ideal S1x64 .f32)
    (q : Vec Ideal S128x512 .bf16) (kp kc vp vc : Vec Ideal S1x128x64 .bf16) (sink : Vec Ideal S1x1x1024 .f32)
    (g : Vec Ideal S1x64 .f32) (bias : Vec Ideal S1x256x1024 .f32)
    (h : Fin 8) (r : Fin 128) (c : Fin 512) (r' : Fin 128) (c' : Fin 4096) (er : r'.val = r.val) (ec : c'.val = 512 * h.val + c.val)
    (hq : ∀ (c : Fin 512) (hc : 512 * h.val + c.val < 4096), q (ix2 r c) = x0 (ix2 r ⟨512 * h.val + c.val, hc⟩))
    (hkp : ∀ k d, kp (ix3 0 k d) = x2 (ix3 h k d)) (hkc : ∀ k d, kc (ix3 0 k d) = x1 (ix3 h k d))
    (hvp : ∀ k d, vp (ix3 0 k d) = x4 (ix3 h k d)) (hvc : ∀ k d, vc (ix3 0 k d) = x3 (ix3 h k d))
    (hs : ∀ n, sink (ix3 0 0 n) = x5 (ix3 h 0 n)) (hb : ∀ k n, bias (ix3 0 k n) = x6 (ix3 0 k n))
    (hg : ∀ d, g (ix2 0 d) = x7 (ix2 0 d)) :
    head q kp kc vp vc g bias sink (ix2 r c) = blockVal x0 x1 x2 x3 x4 x5 x6 x7 r' c' := by
  have hc := c.isLt
  have hh := h.isLt
  have hr := r.isLt
  obtain rfl : r' = r := Fin.ext er
  obtain ⟨c', hc'⟩ := c'
  simp only at ec
  subst ec
  have e1 : (512 * h.val + c.val) / 512 = h.val := by omega
  have e2 : (512 * h.val + c.val) % 512 = c.val := by omega
  have e3 : (512 * h.val + c.val) % 64 = c.val % 64 := by omega
  have e4 : (512 * h.val + c.val) / 64 * 64 = 512 * h.val + c.val / 64 * 64 := by omega
  rw [head_apply q kp kc vp vc g bias sink r' c ⟨c.val / 64 * 128 + r'.val, by omega⟩ rfl, blockVal]
  simp only [e1, e2, e3, e4, hb, hg, hs]
  congr 1
  · funext k
    congr 1
    · funext d
      rw [hq _ (by simp only []; omega)]
      congr 2
      apply Fin.ext
      simp only []
      omega
    · funext d
      rw [pay5_apply, twoBlocks]
      simp only [hkp, hkc]
  · funext k
    rw [pay5_apply, twoBlocks]
    simp only [hvp, hvc]

/-- The body's output block at one element. -/
theorem out_apply (x0 : Vec Ideal S128x4096 .bf16) (x1 x2 x3 x4 : Vec Ideal S8x128x64 .bf16) (x5 : Vec Ideal S8x1x1024 .f32)
    (x6 : Vec Ideal S1x256x1024 .f32) (x7 : Vec Ideal S1x64 .f32) (r : Fin 128) (c : Fin 4096) :
    out0_8 x0 x1 x2 x3 x4 x5 x6 x7 (ix2 r c) = blockVal x0 x1 x2 x3 x4 x5 x6 x7 r c := by
  unfold_out out0_8
  canon_tiles x h
  case piece0 =>
    obtain ⟨a, b, rfl⟩ : ∃ (a : Fin 128) (b : Fin 512), x = ix2 a b := ⟨x 0, x 1, eq_ix2 x⟩
    exact head_blockVal x0 x1 x2 x3 x4 x5 x6 x7 (View.ld x0 r0_23) (View.ld x2 r0_24) (View.ld x1 r0_24)
      (View.ld x4 r0_24) (View.ld x3 r0_24) (View.ld x5 r0_25) (View.ld x7 r0_2) (View.ld x6 r0_3) 7 _ _ r c h0 h1
      (by intro c hc; pointwise [r0_23]) (by intro k d; pointwise [r0_24]) (by intro k d; pointwise [r0_24])
      (by intro k d; pointwise [r0_24]) (by intro k d; pointwise [r0_24]) (by intro n; pointwise [r0_25])
      (by intro k n; pointwise [r0_3]) (by intro d; pointwise [r0_2])
  case piece1 =>
    obtain ⟨a, b, rfl⟩ : ∃ (a : Fin 128) (b : Fin 512), x = ix2 a b := ⟨x 0, x 1, eq_ix2 x⟩
    exact head_blockVal x0 x1 x2 x3 x4 x5 x6 x7 (View.ld x0 r0_20) (View.ld x2 r0_21) (View.ld x1 r0_21)
      (View.ld x4 r0_21) (View.ld x3 r0_21) (View.ld x5 r0_22) (View.ld x7 r0_2) (View.ld x6 r0_3) 6 _ _ r c h0 h1
      (by intro c hc; pointwise [r0_20]) (by intro k d; pointwise [r0_21]) (by intro k d; pointwise [r0_21])
      (by intro k d; pointwise [r0_21]) (by intro k d; pointwise [r0_21]) (by intro n; pointwise [r0_22])
      (by intro k n; pointwise [r0_3]) (by intro d; pointwise [r0_2])
  case piece2 =>
    obtain ⟨a, b, rfl⟩ : ∃ (a : Fin 128) (b : Fin 512), x = ix2 a b := ⟨x 0, x 1, eq_ix2 x⟩
    exact head_blockVal x0 x1 x2 x3 x4 x5 x6 x7 (View.ld x0 r0_17) (View.ld x2 r0_18) (View.ld x1 r0_18)
      (View.ld x4 r0_18) (View.ld x3 r0_18) (View.ld x5 r0_19) (View.ld x7 r0_2) (View.ld x6 r0_3) 5 _ _ r c h0 h1
      (by intro c hc; pointwise [r0_17]) (by intro k d; pointwise [r0_18]) (by intro k d; pointwise [r0_18])
      (by intro k d; pointwise [r0_18]) (by intro k d; pointwise [r0_18]) (by intro n; pointwise [r0_19])
      (by intro k n; pointwise [r0_3]) (by intro d; pointwise [r0_2])
  case piece3 =>
    obtain ⟨a, b, rfl⟩ : ∃ (a : Fin 128) (b : Fin 512), x = ix2 a b := ⟨x 0, x 1, eq_ix2 x⟩
    exact head_blockVal x0 x1 x2 x3 x4 x5 x6 x7 (View.ld x0 r0_14) (View.ld x2 r0_15) (View.ld x1 r0_15)
      (View.ld x4 r0_15) (View.ld x3 r0_15) (View.ld x5 r0_16) (View.ld x7 r0_2) (View.ld x6 r0_3) 4 _ _ r c h0 h1
      (by intro c hc; pointwise [r0_14]) (by intro k d; pointwise [r0_15]) (by intro k d; pointwise [r0_15])
      (by intro k d; pointwise [r0_15]) (by intro k d; pointwise [r0_15]) (by intro n; pointwise [r0_16])
      (by intro k n; pointwise [r0_3]) (by intro d; pointwise [r0_2])
  case piece4 =>
    obtain ⟨a, b, rfl⟩ : ∃ (a : Fin 128) (b : Fin 512), x = ix2 a b := ⟨x 0, x 1, eq_ix2 x⟩
    exact head_blockVal x0 x1 x2 x3 x4 x5 x6 x7 (View.ld x0 r0_11) (View.ld x2 r0_12) (View.ld x1 r0_12)
      (View.ld x4 r0_12) (View.ld x3 r0_12) (View.ld x5 r0_13) (View.ld x7 r0_2) (View.ld x6 r0_3) 3 _ _ r c h0 h1
      (by intro c hc; pointwise [r0_11]) (by intro k d; pointwise [r0_12]) (by intro k d; pointwise [r0_12])
      (by intro k d; pointwise [r0_12]) (by intro k d; pointwise [r0_12]) (by intro n; pointwise [r0_13])
      (by intro k n; pointwise [r0_3]) (by intro d; pointwise [r0_2])
  case piece5 =>
    obtain ⟨a, b, rfl⟩ : ∃ (a : Fin 128) (b : Fin 512), x = ix2 a b := ⟨x 0, x 1, eq_ix2 x⟩
    exact head_blockVal x0 x1 x2 x3 x4 x5 x6 x7 (View.ld x0 r0_8) (View.ld x2 r0_9) (View.ld x1 r0_9)
      (View.ld x4 r0_9) (View.ld x3 r0_9) (View.ld x5 r0_10) (View.ld x7 r0_2) (View.ld x6 r0_3) 2 _ _ r c h0 h1
      (by intro c hc; pointwise [r0_8]) (by intro k d; pointwise [r0_9]) (by intro k d; pointwise [r0_9])
      (by intro k d; pointwise [r0_9]) (by intro k d; pointwise [r0_9]) (by intro n; pointwise [r0_10])
      (by intro k n; pointwise [r0_3]) (by intro d; pointwise [r0_2])
  case piece6 =>
    obtain ⟨a, b, rfl⟩ : ∃ (a : Fin 128) (b : Fin 512), x = ix2 a b := ⟨x 0, x 1, eq_ix2 x⟩
    exact head_blockVal x0 x1 x2 x3 x4 x5 x6 x7 (View.ld x0 r0_5) (View.ld x2 r0_6) (View.ld x1 r0_6)
      (View.ld x4 r0_6) (View.ld x3 r0_6) (View.ld x5 r0_7) (View.ld x7 r0_2) (View.ld x6 r0_3) 1 _ _ r c h0 h1
      (by intro c hc; pointwise [r0_5]) (by intro k d; pointwise [r0_6]) (by intro k d; pointwise [r0_6])
      (by intro k d; pointwise [r0_6]) (by intro k d; pointwise [r0_6]) (by intro n; pointwise [r0_7])
      (by intro k n; pointwise [r0_3]) (by intro d; pointwise [r0_2])
  case piece7 =>
    obtain ⟨a, b, rfl⟩ : ∃ (a : Fin 128) (b : Fin 512), x = ix2 a b := ⟨x 0, x 1, eq_ix2 x⟩
    exact head_blockVal x0 x1 x2 x3 x4 x5 x6 x7 (View.ld x0 r0_0) (View.ld x2 r0_1) (View.ld x1 r0_1)
      (View.ld x4 r0_1) (View.ld x3 r0_1) (View.ld x5 r0_4) (View.ld x7 r0_2) (View.ld x6 r0_3) 0 _ _ r c h0
      (h1.trans (by show b.val = 512 * 0 + b.val; omega))
      (by intro c hc; pointwise [r0_0]) (by intro k d; pointwise [r0_1]) (by intro k d; pointwise [r0_1])
      (by intro k d; pointwise [r0_1]) (by intro k d; pointwise [r0_1]) (by intro n; pointwise [r0_4])
      (by intro k n; pointwise [r0_3]) (by intro d; pointwise [r0_2])

end Cert.KernelIdeal.Swa

end
-- ==== Proof.Swa.Entry.lean ====
/-
  What the attention kernel's host-computed operands hold when the kernel is launched: the sink rows, the two masks and the
  scaled gains, at one element.
-/
module

public import proofs.«01_k».proof.Proof.Gen.KernelIdeal.Frame
public import Idealize.ShloMosaic.Lib.Pointwise
public import Idealize.ShloMosaic.Lib.Pipeline.ValueKit
public import Idealize.ShloMosaic.Lib.IdealHost
public import Idealize.ShloMosaic.Lib.StableHlo.ReadAt
public import Idealize.ShloMosaic.Lib.Tactic.WordOmega
public import proofs.«01_k».proof.Proof.Swa.Body

@[expose] public section

set_option maxRecDepth 16384

noncomputable section

open Idealize.ShloMosaic Idealize.ShloMosaic.TcCoe Idealize.SL.Sem

namespace Cert.KernelIdeal.Swa

open Cert.KernelIdeal Cert.KernelIdeal.Gen Cert.Swa

variable (m : (ℓ : Loc nD τ sig) → Buf (Elt Ideal) ℓ)

/-- The sink rows. -/
theorem sinks_apply (c : Dev nD) (h : Fin 8) (n : Fin 1024) :
    V m c main_v25 (ix3 h 0 n) = m ((c : Thread nD τ).loc main_arg3) (ix1 ⟨h.val * 8 + n.val / 128, by omega⟩) := by
  after_reads_at

/-- The gain of feature `d`, scaled by the reciprocal root of the head's width. -/
def gainOf (g : Vec Ideal S64 .f32) (d : Fin 64) : EReal := g (ix1 d) * Ideal.ofBits .f32 0x3E000000#32

/-- The gains, scaled. -/
theorem gains_apply (c : Dev nD) (d : Fin 64) :
    V m c main_v27 (ix2 0 d) = gainOf (m ((c : Thread nD τ).loc main_arg2)) d := by
  unfold gainOf
  after_reads_at

/-- The low seven bits of a small word are its remainder by 128. -/
theorem low_bits (n : ℕ) (hn : n < 1024) : IntOp.andi (BitVec.ofNat 32 n) 127#32 = BitVec.ofNat 32 (n % 128) := by
  refine BitVec.eq_of_toNat_eq ?_
  have h := Nat.and_two_pow_sub_one_eq_mod n 7
  norm_num at h
  simp only [IntOp.andi, BitVec.toNat_and, BitVec.toNat_ofNat]
  rw [Nat.mod_eq_of_lt (show n < 2 ^ 32 by omega), Nat.mod_eq_of_lt (show n % 128 < 2 ^ 32 by omega)]
  exact h

/-- A word's value as an integer, of a small word. -/
theorem small_toInt (k : ℕ) (hk : k < 256) : (BitVec.ofNat 32 k).toInt = k := by
  have h : (BitVec.ofNat 32 k).toNat = k := by rw [BitVec.toNat_ofNat]; omega
  rw [BitVec.toInt_eq_toNat_of_lt (by omega), h]

/-- How far key `k` of the two blocks lies behind query `r`: the words' subtraction does not wrap. -/
theorem distance (r k : ℕ) (hr : r < 128) (hk : k < 256) :
    (IntOp.subi (IntOp.addi (128#32) (BitVec.ofNat 32 r)) (BitVec.ofNat 32 k)).toInt = 128 + (r : ℤ) - k := by
  simp only [IntOp.subi, IntOp.addi, BitVec.toInt_sub, BitVec.toInt_add, small_toInt r (by omega), small_toInt k hk,
    show (128#32).toInt = 128 from rfl, Int.bmod_def]
  omega

/-- Two bits are both set exactly when their conjunction is. -/
theorem both (a b : BitVec 1) : IntOp.andi a b = 1#1 ↔ a = 1#1 ∧ b = 1#1 := by
  revert a b; decide

/-- The masks: `b = 0` is that of a sequence's first block, `b = 1` that of every other. -/
theorem masks_apply (c : Dev nD) (b : Fin 2) (k : Fin 256) (n : Fin 1024) :
    V m c main_v26 (ix3 b k n)
      = if (n.val % 128 < k.val ∧ k.val ≤ 128 + n.val % 128) ∧ (128 ≤ k.val ∨ b.val = 1) then (0 : EReal) else ⊥ := by
  after_reads_at
  simp only [id_eq]
  pointwise
  split
  · after_reads_at
    rw [low_bits _ n.isLt, Cert.Swa.bits_bot]
    unfold Scalar.select
    refine if_congr ?_ rfl rfl
    rw [show (1 : BitVec 1) = 1#1 from rfl, both, both, IntOp.cmpi_sge, IntOp.cmpi_slt, IntOp.cmpi_sge,
      distance _ _ (Nat.mod_lt _ (by decide)) k.isLt, small_toInt _ k.isLt,
      show (0#32).toInt = 0 from rfl, show (128#32).toInt = 128 from rfl]
    omega
  · after_reads_at
    rw [low_bits _ n.isLt, Cert.Swa.bits_bot]
    unfold Scalar.select
    refine if_congr ?_ rfl rfl
    rw [show (1 : BitVec 1) = 1#1 from rfl, both, IntOp.cmpi_sge, IntOp.cmpi_slt,
      distance _ _ (Nat.mod_lt _ (by decide)) k.isLt,
      show (0#32).toInt = 0 from rfl, show (128#32).toInt = 128 from rfl]
    omega

end Cert.KernelIdeal.Swa

end
-- ==== Proof.Swa.Array.lean ====
/-
  The array the attention's launch leaves, as a closed formula of the four arrays it is given.
-/
module

public import proofs.«01_k».proof.Proof.Swa.Entry
public import proofs.«01_k».proof.Proof.Swa.Body
public import Idealize.ShloMosaic.Lib.Pipeline.ValueKit

@[expose] public section

set_option maxRecDepth 16384

noncomputable section

open Idealize.ShloMosaic Idealize.ShloMosaic.TcCoe Idealize.SL.Sem

namespace Cert.KernelIdeal.Swa

open Cert.KernelIdeal Cert.KernelIdeal.Gen Cert.Swa

/-- The row of the keys' array that query row `n` meets as its `k`-th key: the block before the query's own, then its own.
    The first block of a sequence, which has none before it, meets itself twice. -/
def keyRow (n k : ℕ) : ℕ :=
  if k < 128 then (n / 128 - if n / 128 % 64 = 0 then 0 else 1) * 128 + k else n / 128 * 128 + (k - 128)

theorem keyRow_lt (n : Fin 16384) (k : Fin 256) : keyRow n.val k.val < 16384 := by
  unfold keyRow; split <;> omega

/-- Whether query row `n` attends its `k`-th key: within the 128 last rows and within its own sequence. -/
def inWindow (n k : ℕ) : Prop := (n % 128 < k ∧ k ≤ 128 + n % 128) ∧ (128 ≤ k ∨ n / 128 % 64 ≠ 0)

instance (n k : ℕ) : Decidable (inWindow n k) := by unfold inWindow; infer_instance

/-- What a key is given beside its score: nothing in the window, `⊥` outside. -/
def maskOf (n k : ℕ) : EReal := if inWindow n k then 0 else ⊥

variable (q : S16384x4096.Idx → EReal) (kv : S16x16384x64.Idx → EReal) (g s : S64.Idx → EReal)

/-- The attention's output of query row `n` at column `c`, of the four arrays. -/
def attended (n : Fin 16384) (c : Fin 4096) : EReal :=
  rowVal (fun k : Fin 256 => score (fun d : Fin 64 => q (ix2 n ⟨c.val / 64 * 64 + d.val, by omega⟩))
      (fun d => kv (ix3 ⟨c.val / 512, by omega⟩ ⟨keyRow n.val k.val, keyRow_lt n k⟩ d))
      (fun d => g (ix1 d) * Ideal.ofBits .f32 0x3E000000#32) (maskOf n.val k.val))
    (fun k => kv (ix3 ⟨8 + c.val / 512, by omega⟩ ⟨keyRow n.val k.val, keyRow_lt n k⟩ ⟨c.val % 64, by omega⟩))
    (s (ix1 ⟨c.val / 64, by omega⟩))

/-- The whole array. -/
def attention : S16384x4096.Idx → EReal := fun i => attended q kv g s (i 0) (i 1)

variable (m : (ℓ : Loc nD τ sig) → Buf (Elt Ideal) ℓ) (ρ : Dev nD → PrngReg)

/-- The arguments' formula over a memory's own arrays. -/
abbrev result (c : Dev nD) : S16384x4096.Idx → EReal :=
  attention (m ((c : Thread nD τ).loc main_arg0)) (m ((c : Thread nD τ).loc main_arg1))
    (m ((c : Thread nD τ).loc main_arg2)) (m ((c : Thread nD τ).loc main_arg3))

theorem idx0 : ∀ t, win0_0.index t = ![t.val, 0] := (by decide +kernel : ∀ t : Fin grid0.N, win0_0.index t = ![t.val, 0])
theorem idx1 : ∀ t, win0_1.index t = ![0, t.val, 0] := (by decide +kernel : ∀ t : Fin grid0.N, win0_1.index t = ![0, t.val, 0])
theorem idx2 : ∀ t, win0_2.index t = ![0, t.val - if t.val % 64 = 0 then 0 else 1, 0] :=
  (by decide +kernel : ∀ t : Fin grid0.N, win0_2.index t = ![0, t.val - if t.val % 64 = 0 then 0 else 1, 0])
theorem idx3 : ∀ t, win0_3.index t = ![1, t.val, 0] := (by decide +kernel : ∀ t : Fin grid0.N, win0_3.index t = ![1, t.val, 0])
theorem idx4 : ∀ t, win0_4.index t = ![1, t.val - if t.val % 64 = 0 then 0 else 1, 0] :=
  (by decide +kernel : ∀ t : Fin grid0.N, win0_4.index t = ![1, t.val - if t.val % 64 = 0 then 0 else 1, 0])
theorem idx5 : ∀ t, win0_5.index t = ![0, 0, 0] := (by decide +kernel : ∀ t : Fin grid0.N, win0_5.index t = ![0, 0, 0])
theorem idx6 : ∀ t, win0_6.index t = ![min (t.val % 64) 1, 0, 0] :=
  (by decide +kernel : ∀ t : Fin grid0.N, win0_6.index t = ![min (t.val % 64) 1, 0, 0])
theorem idx7 : ∀ t, win0_7.index t = ![0, 0] := (by decide +kernel : ∀ t : Fin grid0.N, win0_7.index t = ![0, 0])
theorem idx8 : ∀ t, win0_8.index t = ![t.val, 0] := (by decide +kernel : ∀ t : Fin grid0.N, win0_8.index t = ![t.val, 0])

variable (c : Dev nD) (t : Fin grid0.N)

theorem lt_points : t.val < 128 := by
  have h := t.isLt
  have e : grid0.N = 128 := by decide
  omega

/-- The block before block `t` of its sequence; its own where it is the first. -/
abbrev before : ℕ := t.val - if t.val % 64 = 0 then 0 else 1

theorem before_lt : before t < 128 := by have := lt_points t; unfold before; omega

theorem blk0 (r : Fin 128) (j : Fin 4096) : iblk m c 0 t (ix2 r j)
    = m ((c : Thread nD τ).loc main_arg0) (ix2 ⟨t.val * 128 + r.val, by have := lt_points t; omega⟩ j) := by
  blk_ext [iblk, V, idx0 t]

theorem blk1 (h : Fin 8) (r : Fin 128) (d : Fin 64) : iblk m c 1 t (ix3 h r d)
    = m ((c : Thread nD τ).loc main_arg1) (ix3 ⟨h.val, by omega⟩ ⟨t.val * 128 + r.val, by have := lt_points t; omega⟩ d) := by
  blk_ext [iblk, V, idx1 t]

theorem blk2 (h : Fin 8) (r : Fin 128) (d : Fin 64) : iblk m c 2 t (ix3 h r d)
    = m ((c : Thread nD τ).loc main_arg1) (ix3 ⟨h.val, by omega⟩ ⟨before t * 128 + r.val, by have := before_lt t; omega⟩ d) := by
  blk_ext [iblk, V, idx2 t]

theorem blk3 (h : Fin 8) (r : Fin 128) (d : Fin 64) : iblk m c 3 t (ix3 h r d)
    = m ((c : Thread nD τ).loc main_arg1) (ix3 ⟨8 + h.val, by omega⟩ ⟨t.val * 128 + r.val, by have := lt_points t; omega⟩ d) := by
  blk_ext [iblk, V, idx3 t]

theorem blk4 (h : Fin 8) (r : Fin 128) (d : Fin 64) : iblk m c 4 t (ix3 h r d)
    = m ((c : Thread nD τ).loc main_arg1) (ix3 ⟨8 + h.val, by omega⟩ ⟨before t * 128 + r.val, by have := before_lt t; omega⟩ d) := by
  blk_ext [iblk, V, idx4 t]

theorem blk5 (h : Fin 8) (n : Fin 1024) : iblk m c 5 t (ix3 h 0 n)
    = m ((c : Thread nD τ).loc main_arg3) (ix1 ⟨h.val * 8 + n.val / 128, by omega⟩) := by
  refine Eq.trans ?_ (sinks_apply m c h n)
  blk_ext [iblk, idx5 t]

theorem blk6 (k : Fin 256) (n : Fin 1024) : iblk m c 6 t (ix3 0 k n)
    = if (n.val % 128 < k.val ∧ k.val ≤ 128 + n.val % 128) ∧ (128 ≤ k.val ∨ t.val % 64 ≠ 0) then (0 : EReal) else ⊥ := by
  refine Eq.trans ?_ ((masks_apply m c ⟨min (t.val % 64) 1, by omega⟩ k n).trans ?_)
  · blk_ext [iblk, idx6 t]
  · exact if_congr (by simp only; omega) rfl rfl

theorem blk7 (d : Fin 64) : iblk m c 7 t (ix2 0 d) = gainOf (m ((c : Thread nD τ).loc main_arg2)) d := by
  refine Eq.trans ?_ (gains_apply m c d)
  blk_ext [iblk, idx7 t]

/-- The rows the block's `k`-th key names, within the two blocks. -/
theorem twoBlocks_apply (h : Fin 8) (r : Fin 128) (k : Fin 256) (d : Fin 64) (n : Fin 16384) (hn : n.val = t.val * 128 + r.val) :
    twoBlocks (iblk m c 2 t) (iblk m c 1 t) h k d
      = m ((c : Thread nD τ).loc main_arg1) (ix3 ⟨h.val, by omega⟩ ⟨keyRow n.val k.val, keyRow_lt n k⟩ d) := by
  unfold twoBlocks
  have := lt_points t
  have e : n.val / 128 = t.val := by omega
  split
  · rw [blk2]; congr 2; refine Fin.ext ?_; unfold keyRow before; simp only [e, if_pos ‹_›]
  · rw [blk1]; congr 2; refine Fin.ext ?_; unfold keyRow; simp only [e, if_neg ‹_›]

theorem twoBlocks_apply' (h : Fin 8) (r : Fin 128) (k : Fin 256) (d : Fin 64) (n : Fin 16384) (hn : n.val = t.val * 128 + r.val) :
    twoBlocks (iblk m c 4 t) (iblk m c 3 t) h k d
      = m ((c : Thread nD τ).loc main_arg1) (ix3 ⟨8 + h.val, by omega⟩ ⟨keyRow n.val k.val, keyRow_lt n k⟩ d) := by
  unfold twoBlocks
  have := lt_points t
  have e : n.val / 128 = t.val := by omega
  split
  · rw [blk4]; congr 2; refine Fin.ext ?_; unfold keyRow before; simp only [e, if_pos ‹_›]
  · rw [blk3]; congr 2; refine Fin.ext ?_; unfold keyRow; simp only [e, if_neg ‹_›]

/-- A block's value is the formula at the block's place. -/
theorem blockVal_eq (r : Fin 128) (j : Fin 4096) (n : Fin 16384) (hn : n.val = t.val * 128 + r.val) :
    blockVal (iblk m c 0 t) (iblk m c 1 t) (iblk m c 2 t) (iblk m c 3 t) (iblk m c 4 t) (iblk m c 5 t) (iblk m c 6 t)
      (iblk m c 7 t) r j
      = attended (m ((c : Thread nD τ).loc main_arg0)) (m ((c : Thread nD τ).loc main_arg1))
          (m ((c : Thread nD τ).loc main_arg2)) (m ((c : Thread nD τ).loc main_arg3)) n j := by
  have ht := lt_points t
  unfold blockVal attended
  simp only [twoBlocks_apply m c t _ r _ _ n hn, twoBlocks_apply' m c t _ r _ _ n hn]
  congr 1
  · funext k
    congr 1
    · funext d
      rw [blk0]; congr 2; exact Fin.ext hn.symm
    · funext d
      exact blk7 m c t d
    · rw [blk6]
      unfold maskOf inWindow
      exact if_congr (by simp only; omega) rfl rfl
  · rw [blk5]; congr 2; refine Fin.ext ?_; simp only; omega

/-- The launch's last array is that formula. -/
theorem final : (dats m 0 c).arrAt 8 cfg0.N = result m c := by
  refine (dats m 0 c).arrAt_eq_of_covers 8 _ (by decide +kernel) fun t hf y => ?_
  blk_simp
  rw [after0_8]
  obtain ⟨a, b, rfl⟩ : ∃ (a : Fin 128) (b : Fin 4096), y = ix2 a b := ⟨y 0, y 1, eq_ix2 y⟩
  have ht := lt_points t
  rw [out_apply, blockVal_eq m c t a b ⟨t.val * 128 + a.val, by omega⟩ rfl]
  show attention _ _ _ _ (ix2 _ _) = _
  unfold result
  blk_ext [idx8 t]

/-- The launch's run: its last array holds the formula and its arguments are as they were. -/
theorem run : θ_run defs (onTc (τ := τ) (main (F := Ideal))) ⟨m, fun _ => 0, ρ⟩ fun r => ∀ c : Dev nD,
    r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (θ_run_and (unchanged m ρ) (run_main m ρ))
  exact ⟨((h.2 c).1 8).trans (final m c), h.1 c⟩

end Cert.KernelIdeal.Swa

end
-- ==== Proof.Swa.Ref.lean ====
/-
  The reference's array read at an index: what each of its stages holds there, of the four arrays it is given.
-/
module

public import proofs.«01_k».proof.Proof.Swa.Array
public import proofs.«01_k».proof.Proof.Gen.ReferenceIdeal.Read
public import Idealize.ShloMosaic.Lib.ValueIdxRank6
public import Idealize.ShloMosaic.Lib.ValueIdxCoords
public import Idealize.ShloMosaic.Lib.KernelVsHost

@[expose] public section

set_option maxRecDepth 16384

noncomputable section

open Idealize.ShloMosaic Idealize.ShloMosaic.TcCoe Idealize.SL.Sem

namespace Cert.ReferenceIdeal.Swa

open Cert.ReferenceIdeal Cert.ReferenceIdeal.Gen Cert.ReferenceIdeal.Read Cert.Swa
open Cert.KernelIdeal.Swa (keyRow keyRow_lt inWindow maskOf attended attention both small_toInt distance)

variable (x0 : (⟨S16384x4096, .bf16⟩ : BufTy).Contents (Elt Ideal)) (x1 : (⟨S16x16384x64, .bf16⟩ : BufTy).Contents (Elt Ideal))
  (x2 x3 : (⟨S64, .f32⟩ : BufTy).Contents (Elt Ideal))

/-- The row of an array of tokens that batch `b`, block `n` and row `r` name. -/
abbrev token (b : Fin 2) (n : Fin 64) (r : Fin 128) : Fin 16384 := ⟨(b.val * 64 + n.val) * 128 + r.val, by omega⟩

/-- The column of an array of heads that key head `h`, its query head `g` and coordinate `d` name. -/
abbrev column (h g : Fin 8) (d : Fin 64) : Fin 4096 := ⟨(h.val * 8 + g.val) * 64 + d.val, by omega⟩

theorem queries_apply (b : Fin 2) (n : Fin 64) (r : Fin 128) (h g : Fin 8) (d : Fin 64) :
    val_main_v1 x0 (ix6 b n r h g d) = x0 (ix2 (token b n r) (column h g d)) := by
  unfold val_main_v1
  rw [shapeCast_apply _ _ _ (ix2 (token b n r) (column h g d)) (by
    rw [Shape.rowMajor_val_six, Shape.rowMajor_val_two]
    show ((b.val * 64 + n.val) * 128 + r.val) * 4096 + ((h.val * 8 + g.val) * 64 + d.val)
      = ((((b.val * 64 + n.val) * 128 + r.val) * 8 + h.val) * 8 + g.val) * 64 + d.val
    omega)]
  rfl

/-- The keys and the values, cut into heads, batches and blocks. -/
theorem cut_apply (o : Fin 2) (b : Fin 2) (n : Fin 64) (r : Fin 128) (h : Fin 8) (d : Fin 64) :
    val_main_v4 x1 (ix6 o b n r h d) = x1 (ix3 ⟨o.val * 8 + h.val, by omega⟩ (token b n r) d) := by
  rw [val_main_v4_apply]
  unfold val_main_v3
  rw [shapeCast_apply _ _ _ (ix3 ⟨o.val * 8 + h.val, by omega⟩ (token b n r) d) (by
    rw [Shape.rowMajor_val_six, Shape.rowMajor_val_three]
    show ((o.val * 8 + h.val) * 16384 + ((b.val * 64 + n.val) * 128 + r.val)) * 64 + d.val
      = ((((o.val * 8 + h.val) * 2 + b.val) * 64 + n.val) * 128 + r.val) * 64 + d.val
    omega)]
  rfl

theorem keys_apply (b : Fin 2) (n : Fin 64) (r : Fin 128) (h : Fin 8) (d : Fin 64) :
    val_main_v6 x1 (ix5 b n r h d) = x1 (ix3 ⟨h.val, by omega⟩ (token b n r) d) := by
  unfold val_main_v6
  rw [shapeCast_apply _ _ _ (ix6 (0 : Fin 1) b n r h d) (by
    rw [Shape.rowMajor_val_six, Shape.rowMajor_val_five]
    show (((((0 * 2 + b.val) * 64 + n.val) * 128 + r.val) * 8 + h.val) * 64 + d.val)
      = (((b.val * 64 + n.val) * 128 + r.val) * 8 + h.val) * 64 + d.val
    omega), val_main_v5_apply]
  refine (cut_apply x1 0 b n r h d).trans ?_
  congr 2; refine Fin.ext ?_; show 0 * 8 + h.val = h.val; omega

theorem values_apply (b : Fin 2) (n : Fin 64) (r : Fin 128) (h : Fin 8) (d : Fin 64) :
    val_main_v8 x1 (ix5 b n r h d) = x1 (ix3 ⟨8 + h.val, by omega⟩ (token b n r) d) := by
  unfold val_main_v8
  rw [shapeCast_apply _ _ _ (ix6 (0 : Fin 1) b n r h d) (by
    rw [Shape.rowMajor_val_six, Shape.rowMajor_val_five]
    show (((((0 * 2 + b.val) * 64 + n.val) * 128 + r.val) * 8 + h.val) * 64 + d.val)
      = (((b.val * 64 + n.val) * 128 + r.val) * 8 + h.val) * 64 + d.val
    omega), val_main_v7_apply]
  exact (cut_apply x1 1 b n r h d).trans rfl

/-- The two blocks of keys side by side; before a sequence's first block stand zeros. -/
theorem bandKeys_apply (b : Fin 2) (n : Fin 64) (k : Fin 256) (h : Fin 8) (d : Fin 64) :
    val_main_v26 x1 (ix5 b n k h d)
      = if hk : k.val < 128 then
          if hn : n.val = 0 then 0 else val_main_v6 x1 (ix5 b ⟨n.val - 1, by omega⟩ ⟨k.val, hk⟩ h d)
        else val_main_v6 x1 (ix5 b n ⟨k.val - 128, by omega⟩ h d) := by
  unfold val_main_v26 val_main_v25 val_main_v24
  generalize val_main_v6 x1 = z
  pointwise
  split
  · by_cases hn : n.val = 0
    · rw [dif_neg (by omega), dif_pos hn]
      unfold val_main_call0_v0 val_main_c
      pointwise
      exact (Ideal.scalar_sitofp_def (φ := .f32) 0#32).trans (by norm_num)
    · rw [dif_pos (by omega), dif_neg hn]
  · rfl

/-- The values, likewise. -/
theorem bandValues_apply (b : Fin 2) (n : Fin 64) (k : Fin 256) (h : Fin 8) (d : Fin 64) :
    val_main_v29 x1 (ix5 b n k h d)
      = if hk : k.val < 128 then
          if hn : n.val = 0 then 0 else val_main_v8 x1 (ix5 b ⟨n.val - 1, by omega⟩ ⟨k.val, hk⟩ h d)
        else val_main_v8 x1 (ix5 b n ⟨k.val - 128, by omega⟩ h d) := by
  unfold val_main_v29 val_main_v28 val_main_v27
  generalize val_main_v8 x1 = z
  pointwise
  split
  · by_cases hn : n.val = 0
    · rw [dif_neg (by omega), dif_pos hn]
      unfold val_main_call1_v0 val_main_c_3
      pointwise
      exact (Ideal.scalar_sitofp_def (φ := .f32) 0#32).trans (by norm_num)
    · rw [dif_pos (by omega), dif_neg hn]
  · rfl

/-- One of two bits is set exactly when their disjunction is. -/
theorem either (a b : BitVec 1) : IntOp.ori a b = 1#1 ↔ a = 1#1 ∨ b = 1#1 := by
  revert a b; decide

/-- The band of keys a row attends, as a bit. -/
theorem band_apply (n : Fin 64) (r : Fin 128) (k : Fin 256) :
    val_main_v57 (F := Ideal) (ix3 n r k) = 1#1 ↔ (r.val < k.val ∧ k.val ≤ 128 + r.val) ∧ (128 ≤ k.val ∨ n.val ≠ 0) := by
  unfold val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30
  unfold val_main_c_8 val_main_c_7 val_main_c_6 val_main_c_5 val_main_c_4
  pointwise
  rw [both, both, either, IntOp.cmpi_sge, IntOp.cmpi_slt, IntOp.cmpi_sge, IntOp.cmpi_sgt,
    distance _ _ r.isLt k.isLt, show (0#32).toInt = 0 from rfl, show (128#32).toInt = 128 from rfl, small_toInt _ k.isLt,
    small_toInt _ (by have := n.isLt; omega)]
  omega

/-- The queries, normalised, scaled by the gains and by the softmax's scale. -/
theorem normed_apply (b : Fin 2) (n : Fin 64) (r : Fin 128) (h g : Fin 8) (d : Fin 64) :
    val_main_v23 x0 x2 (ix6 b n r h g d)
      = x0 (ix2 (token b n r) (column h g d))
        * Ideal.rsqrt (Ideal.div (∑ d, x0 (ix2 (token b n r) (column h g d)) * x0 (ix2 (token b n r) (column h g d)))
            (Ideal.ofBits .f32 0x42800000#32) + Ideal.ofBits .f32 0x358637BD#32)
        * x2 (ix1 d) * Ideal.ofBits .f32 0x3E000000#32 := by
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, val_main_v10_apply]
  have e : ∀ k : Fin 64, idx_main_v10 (idx_main_v11 (idx_main_v17 (ix6 b n r h g d))) k = ix6 b n r h g k := fun k => by
    funext a; fin_cases a <;> rfl
  simp only [val_main_v9_apply, e, queries_apply]
  rw [show val_main_cst (F := Ideal) (Shape.Idx.first h_S_) = 0 from Ideal.ofBits_zero .f32, zero_add,
    show idx_main_v19 (idx_main_v20 (ix6 b n r h g d)) = ix1 d by funext a; fin_cases a; rfl]
  unfold val_main_cst_0 val_main_cst_1 val_main_cst_2
  pointwise

/-- The gains with the softmax's scale. -/
abbrev gain (d : Fin 64) : EReal := x2 (ix1 d) * Ideal.ofBits .f32 0x3E000000#32

/-- The scores, outside the window `⊥`. -/
theorem masked_apply (b : Fin 2) (n : Fin 64) (h g : Fin 8) (r : Fin 128) (k : Fin 256) :
    val_main_v63 x0 x1 x2 (ix6 b n h g r k)
      = if inWindow (token b n r).val k.val then
          score (fun d => x0 (ix2 (token b n r) (column h g d))) (fun d => val_main_v26 x1 (ix5 b n k h d)) (gain x2) 0
        else ⊥ := by
  rw [val_main_v63_apply, val_main_v61_apply, val_main_v60_apply, val_main_call2_v1_apply, val_main_v62_apply,
    val_main_call2_v2_apply, val_main_call2_v0_apply]
  unfold val_main_cst_9
  have e1 : ∀ d : Fin 64, lidx_main_v60 (idx_main_v61 (ix6 b n h g r k)) d = ix5 b n k h d := fun d => by
    funext a; fin_cases a <;> rfl
  have e2 : ∀ d : Fin 64, ridx_main_v60 (idx_main_v61 (ix6 b n h g r k)) d = ix6 b n r h g d := fun d => by
    funext a; fin_cases a <;> rfl
  have e3 : idx_main_v62 (idx_main_call2_v1 (ix6 b n h g r k)) = ix3 n r k := by funext a; fin_cases a <;> rfl
  rw [e3, ← score_eq]
  simp only [e1, e2, normed_apply]
  unfold Scalar.select
  refine if_congr ?_ ?_ bits_bot
  · rw [show (1 : BitVec 1) = 1#1 from rfl, band_apply]
    unfold inWindow
    omega
  · exact Finset.sum_congr rfl fun d _ => mul_comm _ _

/-- A key of the window is a row of the keys' array. -/
theorem bandKeys_of_inWindow (b : Fin 2) (n : Fin 64) (r : Fin 128) (k : Fin 256) (h : Fin 8) (d : Fin 64)
    (hw : inWindow (token b n r).val k.val) :
    val_main_v26 x1 (ix5 b n k h d)
      = x1 (ix3 ⟨h.val, by omega⟩ ⟨keyRow (token b n r).val k.val, keyRow_lt _ k⟩ d) := by
  rw [bandKeys_apply]
  unfold inWindow at hw
  simp only at hw
  split
  · rw [dif_neg (by omega), keys_apply]
    congr 2; refine Fin.ext ?_; unfold keyRow; simp only; rw [if_pos ‹_›, if_neg (by omega)]; omega
  · rw [keys_apply]
    congr 2; refine Fin.ext ?_; unfold keyRow; simp only; rw [if_neg ‹_›]; omega

/-- A value of the window likewise. -/
theorem bandValues_of_inWindow (b : Fin 2) (n : Fin 64) (r : Fin 128) (k : Fin 256) (h : Fin 8) (d : Fin 64)
    (hw : inWindow (token b n r).val k.val) :
    val_main_v29 x1 (ix5 b n k h d)
      = x1 (ix3 ⟨8 + h.val, by omega⟩ ⟨keyRow (token b n r).val k.val, keyRow_lt _ k⟩ d) := by
  rw [bandValues_apply]
  unfold inWindow at hw
  simp only at hw
  split
  · rw [dif_neg (by omega), values_apply]
    congr 2; refine Fin.ext ?_; unfold keyRow; simp only; rw [if_pos ‹_›, if_neg (by omega)]; omega
  · rw [values_apply]
    congr 2; refine Fin.ext ?_; unfold keyRow; simp only; rw [if_neg ‹_›]; omega

/-- The row of scores of query row `t` and head `h`, `g`. -/
abbrev rowScores (t : Fin 16384) (h g : Fin 8) (k : Fin 256) : EReal :=
  score (fun d => x0 (ix2 t (column h g d))) (fun d => x1 (ix3 ⟨h.val, by omega⟩ ⟨keyRow t.val k.val, keyRow_lt t k⟩ d))
    (gain x2) (maskOf t.val k.val)

theorem scores_apply (b : Fin 2) (n : Fin 64) (h g : Fin 8) (r : Fin 128) (k : Fin 256) :
    val_main_v63 x0 x1 x2 (ix6 b n h g r k) = rowScores x0 x1 x2 (token b n r) h g k := by
  rw [masked_apply]
  unfold rowScores maskOf
  by_cases hw : inWindow (token b n r).val k.val
  · rw [if_pos hw, if_pos hw]
    congr 1; funext d; exact bandKeys_of_inWindow x1 b n r k h d hw
  · rw [if_neg hw, if_neg hw, score_bot]

/-- The sinks, read. -/
theorem sinks_apply (b : Fin 2) (n : Fin 64) (h g : Fin 8) (r : Fin 128) :
    val_main_v66 x3 (ix6 b n h g r (0 : Fin 1)) = x3 (ix1 ⟨h.val * 8 + g.val, by omega⟩) := by
  rw [val_main_v66_apply, val_main_v59_apply, val_main_v58_apply]
  congr 1; funext a; fin_cases a; rfl

/-- The greatest of a row's scores and its sink. -/
theorem max_apply (b : Fin 2) (n : Fin 64) (h g : Fin 8) (r : Fin 128) :
    val_main_v67 x0 x1 x2 x3 (ix6 b n h g r (0 : Fin 1))
      = rowMax (rowScores x0 x1 x2 (token b n r) h g) (x3 (ix1 ⟨h.val * 8 + g.val, by omega⟩)) := by
  rw [val_main_v67_apply, val_main_v65_apply, sinks_apply]
  unfold val_main_v64 val_main_cst_10
  have hr : S2x64x8x8x128x256.Reduces [5] S2x64x8x8x128 := by decide
  unfold rowMax
  refine congrArg₂ max ?_ rfl
  refine (congrFun (hostReduce_maximumf_eq_multiReduction (φ := .f32) _ 0xFF800000#32 _ _ hr (.inl rfl) rfl) _).trans ?_
  refine (Ideal.multiReduction_maximumf_single _ _ hr _ _ _).trans ?_
  rw [show (FloatOps.ofBits (F := Ideal) .f32 4286578688#32) = ⊥ from bits_bot]
  refine Finset.fold_congr fun k _ => ?_
  show val_main_v63 x0 x1 x2 _ = _
  refine Eq.trans (congrArg _ ?_) (scores_apply x0 x1 x2 b n h g r k)
  funext a; fin_cases a <;> rfl

/-- The exponential of a score. -/
theorem exp_apply (b : Fin 2) (n : Fin 64) (h g : Fin 8) (r : Fin 128) (k : Fin 256) :
    val_main_v70 x0 x1 x2 x3 (ix6 b n h g r k)
      = Ideal.exp (rowScores x0 x1 x2 (token b n r) h g k
          - rowMax (rowScores x0 x1 x2 (token b n r) h g) (x3 (ix1 ⟨h.val * 8 + g.val, by omega⟩))) := by
  rw [val_main_v70_apply, val_main_v69_apply, val_main_v68_apply, scores_apply,
    show idx_main_v68 (ix6 b n h g r k) = ix6 b n h g r (0 : Fin 1) by funext a; fin_cases a <;> rfl, max_apply]
  rfl

/-- The softmax's denominator. -/
theorem den_apply (b : Fin 2) (n : Fin 64) (h g : Fin 8) (r : Fin 128) :
    val_main_v76 x0 x1 x2 x3 (ix6 b n h g r (0 : Fin 1))
      = (∑ k, Ideal.exp (rowScores x0 x1 x2 (token b n r) h g k
          - rowMax (rowScores x0 x1 x2 (token b n r) h g) (x3 (ix1 ⟨h.val * 8 + g.val, by omega⟩))))
        + Ideal.exp (x3 (ix1 ⟨h.val * 8 + g.val, by omega⟩)
          - rowMax (rowScores x0 x1 x2 (token b n r) h g) (x3 (ix1 ⟨h.val * 8 + g.val, by omega⟩))) := by
  have e : ∀ k : Fin 256, idx_main_v71 (idx_main_v72 (ix6 b n h g r (0 : Fin 1))) k = ix6 b n h g r k := fun k => by
    funext a; fin_cases a <;> rfl
  rw [val_main_v76_apply, val_main_v75_apply, val_main_v74_apply, max_apply, val_main_v72_apply, val_main_v71_apply]
  simp only [e, exp_apply]
  rw [show val_main_v73 x3 (ix6 b n h g r (0 : Fin 1)) = _ from sinks_apply x3 b n h g r,
    show val_main_cst_11 (F := Ideal) (Shape.Idx.first h_S_) = 0 from Ideal.ofBits_zero .f32, zero_add]
  rfl

/-- The reference's array at a token and a column, when the row's scores are never plus infinity and its sink is real. -/
theorem out_apply (b : Fin 2) (n : Fin 64) (h g : Fin 8) (r : Fin 128) (d : Fin 64) (sink : ℝ)
    (hsink : x3 (ix1 ⟨h.val * 8 + g.val, by omega⟩) = (sink : EReal))
    (hs : ∀ k, rowScores x0 x1 x2 (token b n r) h g k ≠ ⊤) :
    val_main_v82 x0 x1 x2 x3 (ix2 (token b n r) (column h g d))
      = rowVal (rowScores x0 x1 x2 (token b n r) h g)
          (fun k => x1 (ix3 ⟨8 + h.val, by omega⟩ ⟨keyRow (token b n r).val k.val, keyRow_lt _ k⟩ d)) sink := by
  rw [val_main_v82_apply]
  unfold val_main_v81
  rw [shapeCast_apply _ _ _ (ix6 b n r h g d) (by
    rw [Shape.rowMajor_val_six, Shape.rowMajor_val_two]
    show ((((b.val * 64 + n.val) * 128 + r.val) * 8 + h.val) * 8 + g.val) * 64 + d.val
      = ((b.val * 64 + n.val) * 128 + r.val) * 4096 + ((h.val * 8 + g.val) * 64 + d.val)
    omega), val_main_v80_apply, val_main_v79_apply]
  have e1 : ∀ k : Fin 256, lidx_main_v79 (idx_main_v80 (ix6 b n r h g d)) k = ix5 b n k h d := fun k => by
    funext a; fin_cases a <;> rfl
  have e2 : ∀ k : Fin 256, ridx_main_v79 (idx_main_v80 (ix6 b n r h g d)) k = ix6 b n h g r k := fun k => by
    funext a; fin_cases a <;> rfl
  have e3 : ∀ k : Fin 256, idx_main_v77 (ix6 b n h g r k) = ix6 b n h g r (0 : Fin 1) := fun k => by
    funext a; fin_cases a <;> rfl
  simp only [e1, e2, val_main_v78_apply, val_main_v77_apply, e3, exp_apply, den_apply, hsink]
  rw [rowVal_congr _ _ (fun k => val_main_v29 x1 (ix5 b n k h d)) _ (fun k => ?_), rowVal_eq _ _ sink hs]
  · exact Finset.sum_congr rfl fun k _ => mul_comm _ _
  · by_cases hw : inWindow (token b n r).val k.val
    · exact .inr (bandValues_of_inWindow x1 b n r k h d hw).symm
    · refine .inl ?_
      unfold rowScores maskOf
      rw [if_neg hw, score_bot]

/-- The reference's array is the attention's formula, when the keys, the gains and the sinks are real. -/
theorem result_eq (hk : ∀ (h : Fin 8) (t : Fin 16384) (d : Fin 64), x1 (ix3 ⟨h.val, by omega⟩ t d) ≠ ⊤ ∧ x1 (ix3 ⟨h.val, by omega⟩ t d) ≠ ⊥)
    (hg : ∀ d : Fin 64, x2 (ix1 d) ≠ ⊤ ∧ x2 (ix1 d) ≠ ⊥) (hs : ∀ h : Fin 64, x3 (ix1 h) ≠ ⊤ ∧ x3 (ix1 h) ≠ ⊥) :
    val_main_v82 x0 x1 x2 x3 = attention x0 x1 x2 x3 := by
  funext i
  obtain ⟨t, c, rfl⟩ : ∃ (t : Fin 16384) (c : Fin 4096), i = ix2 t c := ⟨i 0, i 1, eq_ix2 i⟩
  obtain ⟨b, n, r, rfl⟩ : ∃ (b : Fin 2) (n : Fin 64) (r : Fin 128), t = token b n r :=
    ⟨⟨t.val / 8192, by omega⟩, ⟨t.val / 128 % 64, by omega⟩, ⟨t.val % 128, by omega⟩, Fin.ext (by simp only; omega)⟩
  obtain ⟨h, g, d, rfl⟩ : ∃ (h g : Fin 8) (d : Fin 64), c = column h g d :=
    ⟨⟨c.val / 512, by omega⟩, ⟨c.val / 64 % 8, by omega⟩, ⟨c.val % 64, by omega⟩, Fin.ext (by simp only; omega)⟩
  have hgain : ∀ d : Fin 64, gain x2 d ≠ ⊤ ∧ gain x2 d ≠ ⊥ := fun d => by
    obtain ⟨v, hv⟩ : ∃ v : ℝ, x2 (ix1 d) = v := ⟨_, (EReal.coe_toReal (hg d).1 (hg d).2).symm⟩
    unfold gain
    rw [hv, bits_eighth, ← EReal.coe_mul]
    exact ⟨EReal.coe_ne_top _, EReal.coe_ne_bot _⟩
  have hsc : ∀ k, rowScores x0 x1 x2 (token b n r) h g k ≠ ⊤ := fun k => by
    unfold rowScores maskOf
    split
    · exact score_ne_top _ _ _ (fun d => hk h _ d) hgain
    · rw [score_bot]; exact bot_ne_top
  have hsink := (EReal.coe_toReal (hs ⟨h.val * 8 + g.val, by omega⟩).1 (hs ⟨h.val * 8 + g.val, by omega⟩).2).symm
  rw [out_apply x0 x1 x2 x3 b n h g r d _ hsink hsc, ← hsink]
  show _ = attended x0 x1 x2 x3 (token b n r) (column h g d)
  unfold attended rowScores gain column
  have e1 : ((h.val * 8 + g.val) * 64 + d.val) / 64 = h.val * 8 + g.val := by omega
  have e2 : ((h.val * 8 + g.val) * 64 + d.val) / 512 = h.val := by omega
  have e3 : ((h.val * 8 + g.val) * 64 + d.val) % 64 = d.val := by omega
  simp only [e1, e2, e3]

end Cert.ReferenceIdeal.Swa

end
-- ==== Proof.Swa.Pre.lean ====
/-
  The precondition read: every key, every gain and every sink is a real number.
-/
module

public import proofs.«01_k».proof.Pre_finite_scores
public import proofs.«01_k».proof.Proof.Swa.Consts
public import Idealize.ShloMosaic.Lib.Pointwise

@[expose] public section

noncomputable section

open Idealize.ShloMosaic Idealize.ShloMosaic.TcCoe Idealize.SL.Sem

namespace Cert.Pre_finite_scores

/-- The operations' side conditions. -/
theorem facts : Facts where
  slices_S16x16384x64_S8x16384x64_0_0_0 := by decide
  bitsLt_bf16_f32 := by decide
  bcast_S_S8x16384x64 := by decide
  bcast_S_S64 := by decide

/-- A value whose magnitude is below plus infinity is a real number. -/
theorem real_of_abs_lt (x : EReal) (h : FloatOps.cmpf (F := Ideal) (φ := .f32) .olt (FloatOps.absf (F := Ideal) (φ := .f32) x) (Ideal.ofBits .f32 0x7F800000#32) = 1#1) :
    x ≠ ⊤ ∧ x ≠ ⊥ := by
  rw [Cert.Swa.bits_top] at h
  have h' : Ideal.cmp .olt (max x (-x)) ⊤ = 1#1 := h
  have h2 : max x (-x) < ⊤ := by
    by_contra hc
    rw [show Ideal.cmp .olt (max x (-x)) ⊤ = BitVec.ofBool (decide (max x (-x) < ⊤)) from rfl, decide_eq_false hc] at h'
    exact absurd h' (by decide)
  rw [max_lt_iff] at h2
  refine ⟨h2.1.ne, fun hb => ?_⟩
  rw [hb] at h2
  exact absurd h2.2 (by simp)

variable [Facts]
variable (x0 : FVec Ideal S16384x4096 .bf16) (x1 : FVec Ideal S16x16384x64 .bf16) (x2 x3 : FVec Ideal S64 .f32)

theorem keys_real (h : (fn x0 x1 x2 x3).1 = fun _ => 1#1) (a : Fin 8) (t : Fin 16384) (d : Fin 64) :
    x1 (ix3 ⟨a.val, by omega⟩ t d) ≠ ⊤ ∧ x1 (ix3 ⟨a.val, by omega⟩ t d) ≠ ⊥ := by
  have h' := congrFun h (ix3 a t d)
  refine real_of_abs_lt _ (Eq.trans ?_ h')
  unfold fn
  pointwise

theorem gains_real (h : (fn x0 x1 x2 x3).2.1 = fun _ => 1#1) (d : Fin 64) : x2 (ix1 d) ≠ ⊤ ∧ x2 (ix1 d) ≠ ⊥ :=
  real_of_abs_lt _ (congrFun h (ix1 d))

theorem sinks_real (h : (fn x0 x1 x2 x3).2.2 = fun _ => 1#1) (d : Fin 64) : x3 (ix1 d) ≠ ⊤ ∧ x3 (ix1 d) ≠ ⊥ :=
  real_of_abs_lt _ (congrFun h (ix1 d))

end Cert.Pre_finite_scores

end
-- ==== Proof.Up.Run.lean ====
module

public import proofs.«01_k».proof.Proof.Gen.Up.Launch
public import proofs.«01_k».proof.Proof.Gen.Up.Skeleton
public import Idealize.ShloMosaic.Lib.Pipeline.Kit
public import Idealize.ShloMosaic.Lib.Pipeline.TableIdle
public import Idealize.ShloMosaic.Lib.Pipeline.FrameBody
public import Idealize.ShloMosaic.Lib.Affine
public import Idealize.ShloMosaic.Adequacy
public import Idealize.ShloMosaic.Init
public import Idealize.ShloMosaic.Lib.Writes
public import Idealize.ShloMosaic.Lib.Ring
public import Idealize.ShloMosaic.Lib.Exec
public import Idealize.ShloMosaic.Lib.Tactic
public import Idealize.ShloMosaic.PureOps.BitExact

/-! One run of the expert kernel's body along each of its three control paths: at a used tile that loads a new
expert's weights, at a used tile that keeps the weights it has, and at a tile that is not used. -/

@[expose] public section

set_option maxRecDepth 16384
set_option Elab.async false

noncomputable section

namespace Cert.Up.Hand

open Cert.Up Cert.Up.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The prefetched tables and the scratch buffers as the body is handed them. -/
abbrev tb0 : Memref sig .tc .smem S159 .i32 := Memref.whole main_arg1
abbrev tb1 : Memref sig .tc .smem S1 .i32 := Memref.whole main_arg2
abbrev sc0 : Memref sig .tc .vmem S4096x512 .bf16 := Memref.whole cc0_scratch0
abbrev sc1 : Memref sig .tc .vmem S4096x512 .bf16 := Memref.whole cc0_scratch1

/-- The number of tiles in use, as the body reads it. -/
abbrev nuW (T1 : S1.Idx → Elt Bits .i32) : BitVec 32 :=
  View.readAt (Elt Bits) tb1.view (Rect.unit (s := S1) ![0] S1.size inb_S1_S1_0).toLoadRect T1 (Shape.Idx.first (numel1_S1.symm ▸ Nat.one_pos))
/-- This tile's expert, as the body reads it. -/
abbrev teW (i : grid0.Coords) (T0 : S159.Idx → Elt Bits .i32) : BitVec 32 :=
  View.readAt (Elt Bits) tb0.view (Rect.unit (s := S159) (k0_off1 i) S1.size (k0_off1_inb i)).toLoadRect T0 (Shape.Idx.first (numel1_S1.symm ▸ Nat.one_pos))
/-- The expert of the tile before, as the body reads it. -/
abbrev teP (i : grid0.Coords) (T0 : S159.Idx → Elt Bits .i32) : BitVec 32 :=
  View.readAt (Elt Bits) tb0.view (Rect.unit (s := S159) (k0_off2 i) S1.size (k0_off2_inb i)).toLoadRect T0 (Shape.Idx.first (numel1_S1.symm ▸ Nat.one_pos))

/-- The tile is in use and its expert is new. -/
abbrev Fresh (i : grid0.Coords) (T0 : S159.Idx → Elt Bits .i32) (T1 : S1.Idx → Elt Bits .i32) : Prop :=
  Scalar.cmpi .ne (Scalar.extui (Scalar.andi (Scalar.cmpi .slt (BitVec.ofNat 32 (i 1).val) (nuW T1))
    (Scalar.ori (Scalar.cmpi .eq (BitVec.ofNat 32 (i 1).val) 0#32) (Scalar.cmpi .ne (teW i T0) (teP i T0))))) 0#32 = 1#1

/-- A staging buffer of the output, through which the body's result is stated. -/
abbrev VO : View sig .tc .vmem S256x512 .bf16 := (Memref.whole cc0_stg3_0 : Memref sig .tc .vmem S256x512 .bf16).view

section
variable (c : Dev nD) (i : grid0.Coords)
  (arg4 : Memref sig .tc .vmem S8192x128 .bf16) (harg4 : arg4.IsWhole)
  (arg5 : Memref sig .tc .vmem S1x1x4096x512 .f32) (harg5 : arg5.IsWhole)
  (arg6 : Memref sig .tc .vmem S1x1x4096x512 .f32) (harg6 : arg6.IsWhole)
  (arg7 : Memref sig .tc .vmem S256x512 .bf16) (harg7 : arg7.IsWhole)
  (T0 : S159.Idx → Elt Bits .i32) (T1 : S1.Idx → Elt Bits .i32)
  (x0 : S8192x128.Idx → Elt Bits .bf16) (x1 x2 : S1x1x4096x512.Idx → Elt Bits .f32)

set_option backward.proofsInPublic true in
set_option maxHeartbeats 8000000 in
/-- A used tile whose expert is new: what the body leaves in the output's staging buffer and in the two scratch
buffers, with the proof that it does. -/
noncomputable def runA (hc0 : Fresh i T0 T1) (h2 : k0_cond2 i (nuW T1) = 1#1) (h3 : ¬(k0_cond3 i (nuW T1) = 1#1)) :
    Σ' (out : List (View.Piece (Elt Bits) S256x512 .bf16)) (o0 : Buf (Elt Bits) ((c : Thread nD τ).loc cc0_scratch0)),
    { o1 : Buf (Elt Bits) ((c : Thread nD τ).loc cc0_scratch1) //
      ∀ (a0 : Buf (Elt Bits) ((c : Thread nD τ).loc cc0_scratch0)) (a1 : Buf (Elt Bits) ((c : Thread nD τ).loc cc0_scratch1)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tb0.view.loc (c : Thread nD τ) ↦{fullShare.right} T0)
          ∗ (tb1.view.loc (c : Thread nD τ) ↦{fullShare.right} T1)
          ∗ (∃ d, owns (c : Thread nD τ) arg7 fullShare d)
          ∗ (sc0.view.loc (c : Thread nD τ) ↦{fullShare} a0)
          ∗ (sc1.view.loc (c : Thread nD τ) ↦{fullShare} a1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tb0.view.loc (c : Thread nD τ) ↦{fullShare.right} T0)
              ∗ (tb1.view.loc (c : Thread nD τ) ↦{fullShare.right} T1)
              ∗ (∃ f, arg7.view.loc (c : Thread nD τ) ↦[arg7.view.set]{fullShare} arg7.view.writes (Elt Bits) f out)
              ∗ (sc0.view.loc (c : Thread nD τ) ↦{fullShare} o0)
              ∗ (sc1.view.loc (c : Thread nD τ) ↦{fullShare} o1)) -∗ K ⟨⟩))
          ⊢ wp frame (wpE (defs₀ (F := Bits)) Variants.none c none) Set.univ (cc0_moe_up i tb0 (Memref.isWhole_whole _) tb1 (Memref.isWhole_whole _) arg4 harg4 arg5 harg5 arg6 harg6 arg7 harg7 sc0 (Memref.isWhole_whole _) sc1 (Memref.isWhole_whole _)) K } :=
  ⟨_, _, _, fun (a0 : Buf (Elt Bits) ((c : Thread nD τ).loc cc0_scratch0)) (a1 : Buf (Elt Bits) ((c : Thread nD τ).loc cc0_scratch1)) K => by
    unfold owns
    rw [cc0_moe_up_eq_skeleton]; unfold cc0_moe_up_skel
    iintro ⟨H0, H1, H2, HT0, HT1, ⟨%d7, %f7, -, HO⟩, HS0, HS1, Hk⟩
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | (guard_target = Scalar.cmpi .ne _ _ = _; exact hc0) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    isplitl [HS0]; · iexact HS0
    iexact HS1⟩

set_option backward.proofsInPublic true in
set_option maxHeartbeats 8000000 in
/-- A used tile that keeps the weights the scratch buffers hold. -/
noncomputable def runB (a0 : Buf (Elt Bits) ((c : Thread nD τ).loc cc0_scratch0)) (a1 : Buf (Elt Bits) ((c : Thread nD τ).loc cc0_scratch1))
    (hc0 : ¬Fresh i T0 T1) (h2 : k0_cond2 i (nuW T1) = 1#1) (h3 : ¬(k0_cond3 i (nuW T1) = 1#1)) :
    { out : List (View.Piece (Elt Bits) S256x512 .bf16) //
      ∀ (K : PUnit → sProp 𝕄),
        iprop((arg4.view.loc (c : Thread nD τ) ↦[arg4.view.set]{fullShare} arg4.view.rep x0)
          ∗ (tb0.view.loc (c : Thread nD τ) ↦{fullShare.right} T0)
          ∗ (tb1.view.loc (c : Thread nD τ) ↦{fullShare.right} T1)
          ∗ (∃ d, owns (c : Thread nD τ) arg7 fullShare d)
          ∗ (sc0.view.loc (c : Thread nD τ) ↦{fullShare} a0)
          ∗ (sc1.view.loc (c : Thread nD τ) ↦{fullShare} a1)
          ∗ (iprop((arg4.view.loc (c : Thread nD τ) ↦[arg4.view.set]{fullShare} arg4.view.rep x0)
              ∗ (tb0.view.loc (c : Thread nD τ) ↦{fullShare.right} T0)
              ∗ (tb1.view.loc (c : Thread nD τ) ↦{fullShare.right} T1)
              ∗ (∃ f, arg7.view.loc (c : Thread nD τ) ↦[arg7.view.set]{fullShare} arg7.view.writes (Elt Bits) f out)
              ∗ (sc0.view.loc (c : Thread nD τ) ↦{fullShare} a0)
              ∗ (sc1.view.loc (c : Thread nD τ) ↦{fullShare} a1)) -∗ K ⟨⟩))
          ⊢ wp frame (wpE (defs₀ (F := Bits)) Variants.none c none) Set.univ (cc0_moe_up i tb0 (Memref.isWhole_whole _) tb1 (Memref.isWhole_whole _) arg4 harg4 arg5 harg5 arg6 harg6 arg7 harg7 sc0 (Memref.isWhole_whole _) sc1 (Memref.isWhole_whole _)) K } :=
  ⟨_, fun K => by
    unfold owns
    rw [cc0_moe_up_eq_skeleton]; unfold cc0_moe_up_skel
    iintro ⟨H0, HT0, HT1, ⟨%d7, %f7, -, HO⟩, HS0, HS1, Hk⟩
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | (guard_target = ¬(Scalar.cmpi _ _ _ = _); exact hc0) | (guard_target = k0_cond2 _ _ = _; exact h2) | (guard_target = ¬(k0_cond3 _ _ = _); exact h3))
    sl_step
    iapply Hk
    isplitl [H0]; · iexact H0
    isplitl [HT0]; · iexact HT0
    isplitl [HT1]; · iexact HT1
    isplitl [HO]; · iexists _; iexact HO
    isplitl [HS0]; · iexact HS0
    iexact HS1⟩

set_option backward.proofsInPublic true in
set_option maxHeartbeats 8000000 in
/-- A tile that is not used: the body only stores zeros. -/
noncomputable def runC (hc0 : ¬Fresh i T0 T1) (h2 : ¬(k0_cond2 i (nuW T1) = 1#1)) (h3 : k0_cond3 i (nuW T1) = 1#1) :
    { out : List (View.Piece (Elt Bits) S256x512 .bf16) //
      ∀ (K : PUnit → sProp 𝕄),
        iprop((tb0.view.loc (c : Thread nD τ) ↦{fullShare.right} T0)
          ∗ (tb1.view.loc (c : Thread nD τ) ↦{fullShare.right} T1)
          ∗ (∃ d, owns (c : Thread nD τ) arg7 fullShare d)
          ∗ (iprop((tb0.view.loc (c : Thread nD τ) ↦{fullShare.right} T0)
              ∗ (tb1.view.loc (c : Thread nD τ) ↦{fullShare.right} T1)
              ∗ (∃ f, arg7.view.loc (c : Thread nD τ) ↦[arg7.view.set]{fullShare} arg7.view.writes (Elt Bits) f out)) -∗ K ⟨⟩))
          ⊢ wp frame (wpE (defs₀ (F := Bits)) Variants.none c none) Set.univ (cc0_moe_up i tb0 (Memref.isWhole_whole _) tb1 (Memref.isWhole_whole _) arg4 harg4 arg5 harg5 arg6 harg6 arg7 harg7 sc0 (Memref.isWhole_whole _) sc1 (Memref.isWhole_whole _)) K } :=
  ⟨_, fun K => by
    unfold owns
    rw [cc0_moe_up_eq_skeleton]; unfold cc0_moe_up_skel
    iintro ⟨HT0, HT1, ⟨%d7, %f7, -, HO⟩, Hk⟩
    have hT0 : tb0.IsWhole := Memref.isWhole_whole _
    have hT1 : tb1.IsWhole := Memref.isWhole_whole _
    sl_exec! (disch := first | (guard_target = ¬(Scalar.cmpi _ _ _ = _); exact hc0) | (guard_target = ¬(k0_cond2 _ _ = _); exact h2) | (guard_target = k0_cond3 _ _ = _; exact h3))
    sl_step
    iapply Hk
    isplitl [HT0]; · iexact HT0
    isplitl [HT1]; · iexact HT1
    iexists _; iexact HO⟩

end

end Cert.Up.Hand

end
-- ==== Proof.Up.Frame.lean ====
module

public import proofs.«01_k».proof.Proof.Up.Run
public import Idealize.ShloMosaic.Lib.Pipeline.Frame
public import Idealize.ShloMosaic.Lib.Pipeline.Quiescent
public import Idealize.ShloMosaic.Lib.Claim
public import Idealize.ShloMosaic.Lib.WordCmp

/-! The launch of the expert kernel at any tables whose blocks lie inside the arrays and that use at least one tile:
what the scratch buffers hold before each tile, what each tile leaves in the output's block, and the run. -/

@[expose] public section

set_option maxRecDepth 16384
set_option Elab.async false

noncomputable section

namespace Cert.Up.Hand

open Cert.Up Cert.Up.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- A bit widened to a word is not zero exactly when it is set. -/
theorem bit_ne (b : BitVec 1) : Scalar.cmpi .ne (Scalar.extui b : BitVec 32) 0#32 = 1#1 ↔ b = 1#1 := by
  revert b; decide

/-- The tile is used exactly when its number is below the number of tiles in use. -/
theorem cond2_iff (i : grid0.Coords) (v : BitVec 32) :
    k0_cond2 i v = 1#1 ↔ Scalar.cmpi .slt (BitVec.ofNat 32 (i 1).val) v = 1#1 := bit_ne _

/-- A tile is unused exactly when it is not used. -/
theorem cond3_iff (i : grid0.Coords) (v : BitVec 32) : k0_cond3 i v = 1#1 ↔ ¬k0_cond2 i v = 1#1 := by
  rw [cond2_iff, show k0_cond3 i v = 1#1 ↔ Scalar.cmpi .sge (BitVec.ofNat 32 (i 1).val) v = 1#1 from bit_ne _]
  generalize BitVec.ofNat 32 (i 1).val = x
  refine (IntOp.cmpi_sge (x := x) (y := v)).trans (Iff.trans ?_ (not_congr (IntOp.cmpi_slt (x := x) (y := v))).symm)
  exact not_lt.symm

/-- A new expert is only loaded at a used tile. -/
theorem Fresh.used {i : grid0.Coords} {T0 : S159.Idx → Elt Bits .i32} {T1 : S1.Idx → Elt Bits .i32} (h : Fresh i T0 T1) :
    k0_cond2 i (nuW T1) = 1#1 := by
  refine (cond2_iff _ _).2 ?_
  have h' := (bit_ne _).1 h
  revert h'
  generalize Scalar.cmpi .slt (BitVec.ofNat 32 (i 1).val) (nuW T1) = b
  generalize Scalar.ori _ _ = d
  revert b d; decide

section
variable (c : Dev nD) (i : grid0.Coords)
  (arg4 : Memref sig .tc .vmem S8192x128 .bf16) (harg4 : arg4.IsWhole)
  (arg5 : Memref sig .tc .vmem S1x1x4096x512 .f32) (harg5 : arg5.IsWhole)
  (arg6 : Memref sig .tc .vmem S1x1x4096x512 .f32) (harg6 : arg6.IsWhole)
  (arg7 : Memref sig .tc .vmem S256x512 .bf16) (harg7 : arg7.IsWhole)
  (T0 : S159.Idx → Elt Bits .i32) (T1 : S1.Idx → Elt Bits .i32)
  (x0 : S8192x128.Idx → Elt Bits .bf16) (x1 x2 : S1x1x4096x512.Idx → Elt Bits .f32)

/-- The first path stores the whole output block. -/
theorem coverA (hc0 : Fresh i T0 T1) (h2 : k0_cond2 i (nuW T1) = 1#1) (h3 : ¬(k0_cond3 i (nuW T1) = 1#1)) (y : S256x512.Idx) :
    ∃ pc ∈ (runA c i arg4 harg4 arg5 harg5 arg6 harg6 arg7 harg7 T0 T1 x0 x1 x2 hc0 h2 h3).1, y ∈ pc.1.set :=
  View.cover_of_tiledL (runA c i arg4 harg4 arg5 harg5 arg6 harg6 arg7 harg7 T0 T1 x0 x1 x2 hc0 h2 h3).1 S256x512.size (by sl_kernel_rfl) y

/-- So does the second, -/
theorem coverB (a0 : Buf (Elt Bits) ((c : Thread nD τ).loc cc0_scratch0)) (a1 : Buf (Elt Bits) ((c : Thread nD τ).loc cc0_scratch1))
    (hc0 : ¬Fresh i T0 T1) (h2 : k0_cond2 i (nuW T1) = 1#1) (h3 : ¬(k0_cond3 i (nuW T1) = 1#1)) (y : S256x512.Idx) :
    ∃ pc ∈ (runB c i arg4 harg4 arg5 harg5 arg6 harg6 arg7 harg7 T0 T1 x0 a0 a1 hc0 h2 h3).1, y ∈ pc.1.set :=
  View.cover_of_tiledL (runB c i arg4 harg4 arg5 harg5 arg6 harg6 arg7 harg7 T0 T1 x0 a0 a1 hc0 h2 h3).1 S256x512.size (by sl_kernel_rfl) y

/-- and the third. -/
theorem coverC (hc0 : ¬Fresh i T0 T1) (h2 : ¬(k0_cond2 i (nuW T1) = 1#1)) (h3 : k0_cond3 i (nuW T1) = 1#1) (y : S256x512.Idx) :
    ∃ pc ∈ (runC c i arg4 harg4 arg5 harg5 arg6 harg6 arg7 harg7 T0 T1 hc0 h2 h3).1, y ∈ pc.1.set :=
  View.cover_of_tiledL (runC c i arg4 harg4 arg5 harg5 arg6 harg6 arg7 harg7 T0 T1 hc0 h2 h3).1 S256x512.size (by sl_kernel_rfl) y
end

variable (a : (pcfg0 (F := Bits)).Adm)

/-- The pipeline at the tables' contents. -/
abbrev cfgA : Pipeline.Cfg sig Λ₀ := cfg0 (F := Bits) a
abbrev pcs : Fin 1 → Pipeline.Cfg sig Λ₀ := Pipeline.pin (pcfgs (F := Bits)) fun _ => a
/-- The two tables. -/
abbrev T0 : S159.Idx → Elt Bits .i32 := a.1 0
abbrev T1 : S1.Idx → Elt Bits .i32 := a.1 1

variable (m : (ℓ : Loc nD τ sig) → Buf (Elt Bits) ℓ) (ρ : Dev nD → PrngReg)

abbrev crd (t : Fin (cfgA a).N) : grid0.Coords := (cfgA a).grid.coords t
abbrev ms0 (t : Fin (cfgA a).N) : Memref sig .tc .vmem S8192x128 .bf16 := spec0_0.stage ((cfgA a).slots t (0 : Fin 4))
abbrev hs0 (t : Fin (cfgA a).N) : (ms0 a t).IsWhole := hstage0_0 (((cfgA a).slots t (0 : Fin 4)).cast nbuf0_0)
abbrev ms1 (t : Fin (cfgA a).N) : Memref sig .tc .vmem S1x1x4096x512 .f32 := spec0_1.stage ((cfgA a).slots t (1 : Fin 4))
abbrev hs1 (t : Fin (cfgA a).N) : (ms1 a t).IsWhole := hstage0_1 (((cfgA a).slots t (1 : Fin 4)).cast nbuf0_1)
abbrev ms2 (t : Fin (cfgA a).N) : Memref sig .tc .vmem S1x1x4096x512 .f32 := spec0_2.stage ((cfgA a).slots t (2 : Fin 4))
abbrev hs2 (t : Fin (cfgA a).N) : (ms2 a t).IsWhole := hstage0_2 (((cfgA a).slots t (2 : Fin 4)).cast nbuf0_2)
abbrev ms3 (t : Fin (cfgA a).N) : Memref sig .tc .vmem S256x512 .bf16 := spec0_3.stage ((cfgA a).slots t (3 : Fin 4))
abbrev hs3 (t : Fin (cfgA a).N) : (ms3 a t).IsWhole := hstage0_3 (((cfgA a).slots t (3 : Fin 4)).cast nbuf0_3)

/-- Window `w`'s block at tile `t`, read off its array at launch. -/
def iblk (c : Dev nD) (w : Fin (cfgA a).W) (t : Fin (cfgA a).N) : (((cfgA a).win w).xblock (crd a t)).Idx → Elt Bits ((cfgA a).win w).elt :=
  (((cfgA a).win w).blk t).view.read (Elt Bits) ((s₀ m ρ).mem (((cfgA a).win w).arr.view.loc (c : Thread nD τ)))

/-- At a tile. -/
abbrev FreshAt (t : Fin (cfgA a).N) : Prop := Fresh (crd a t) (T0 a) (T1 a)
abbrev UsedAt (t : Fin (cfgA a).N) : Prop := k0_cond2 (crd a t) (nuW (T1 a)) = 1#1

/-- The scratch buffers' contents: gate weights and up weights. -/
abbrev Scr (c : Dev nD) : Type := Buf (Elt Bits) ((c : Thread nD τ).loc cc0_scratch0) × Buf (Elt Bits) ((c : Thread nD τ).loc cc0_scratch1)

/-- What a used tile with a new expert does. -/
abbrev atA (c : Dev nD) (t : Fin (cfgA a).N) (h : FreshAt a t) :=
  runA c (crd a t) (ms0 a t) (hs0 a t) (ms1 a t) (hs1 a t) (ms2 a t) (hs2 a t) (ms3 a t) (hs3 a t) (T0 a) (T1 a)
    (iblk a m ρ c (0 : Fin 4) t) (iblk a m ρ c (1 : Fin 4) t) (iblk a m ρ c (2 : Fin 4) t) h h.used ((cond3_iff _ _).not_left.2 h.used)
/-- What a used tile that keeps its expert does, from the scratch buffers' contents `p`. -/
abbrev atB (c : Dev nD) (t : Fin (cfgA a).N) (p : Scr c) (h : ¬FreshAt a t) (h2 : UsedAt a t) :=
  runB c (crd a t) (ms0 a t) (hs0 a t) (ms1 a t) (hs1 a t) (ms2 a t) (hs2 a t) (ms3 a t) (hs3 a t) (T0 a) (T1 a)
    (iblk a m ρ c (0 : Fin 4) t) p.1 p.2 h h2 ((cond3_iff _ _).not_left.2 h2)
/-- What an unused tile does. -/
abbrev atC (c : Dev nD) (t : Fin (cfgA a).N) (h : ¬FreshAt a t) (h2 : ¬UsedAt a t) :=
  runC c (crd a t) (ms0 a t) (hs0 a t) (ms1 a t) (hs1 a t) (ms2 a t) (hs2 a t) (ms3 a t) (hs3 a t) (T0 a) (T1 a)
    h h2 ((cond3_iff _ _).2 h2)

open Classical in
/-- What the scratch buffers hold after `n` tiles. -/
def scr (c : Dev nD) : ℕ → Scr c
  | 0 => (default, default)
  | n + 1 => if h : n < (cfgA a).N then
      (if q : FreshAt a ⟨n, h⟩ then ((atA a m ρ c ⟨n, h⟩ q).2.1, (atA a m ρ c ⟨n, h⟩ q).2.2.1) else scr c n)
    else scr c n

theorem scr_A (c : Dev nD) (t : Fin (cfgA a).N) (q : FreshAt a t) :
    scr a m ρ c (t.val + 1) = ((atA a m ρ c t q).2.1, (atA a m ρ c t q).2.2.1) := by
  rw [scr, dif_pos t.isLt, dif_pos q]

theorem scr_BC (c : Dev nD) (t : Fin (cfgA a).N) (q : ¬FreshAt a t) : scr a m ρ c (t.val + 1) = scr a m ρ c t.val := by
  rw [scr, dif_pos t.isLt, dif_neg q]

open Classical in
/-- What tile `t` leaves in the output's block. -/
def outAt (c : Dev nD) (t : Fin (cfgA a).N) : S256x512.Idx → Elt Bits .bf16 :=
  VO.read (Elt Bits) (VO.writes (Elt Bits) VO.junk
    (if q : FreshAt a t then (atA a m ρ c t q).1
     else if u : UsedAt a t then (atB a m ρ c t (scr a m ρ c t.val) q u).1
     else (atC a c t q u).1))

/-- The invariant before tile `t`: past the first tile the scratch buffers are as tracked; the body's halves of the
tables; the generator's register. -/
def Phi (c : Dev nD) (t : Fin ((cfgA a).N + 1)) : sProp 𝕄 :=
  iprop((∃ a0 a1, ⌜0 < t.val → (a0, a1) = scr a m ρ c t.val⌝ ∗ (sc0.view.loc (c : Thread nD τ) ↦{fullShare} a0) ∗ (sc1.view.loc (c : Thread nD τ) ↦{fullShare} a1))
    ∗ (tb0.view.loc (c : Thread nD τ) ↦{fullShare.right} T0 a) ∗ (tb1.view.loc (c : Thread nD τ) ↦{fullShare.right} T1 a)
    ∗ (∃ r, prngReg c r))

/-- The pipeline's proof data on core `c`. -/
def dats (_ : Fin 1) (c : Dev nD) : Dat τ (Elt Bits) Unit ℕ (UR sig nD τ) ℕ (cfgA a) c where
  A w := (s₀ m ρ).mem (((cfgA a).win w).arr.view.loc (c : Thread nD τ))
  after w t := match w with
    | ⟨0, _⟩ => iblk a m ρ c (0 : Fin 4) t
    | ⟨1, _⟩ => iblk a m ρ c (1 : Fin 4) t
    | ⟨2, _⟩ => iblk a m ρ c (2 : Fin 4) t
    | ⟨3, _⟩ => outAt a m ρ c t
  Φ t := Phi a m ρ c t
  q w := Pipeline.shareOf (cfgA a).spec w
  owed _ := 0

theorem after_0 (c : Dev nD) (t : Fin (cfgA a).N) : (dats a m ρ 0 c).after (0 : Fin 4) t = iblk a m ρ c (0 : Fin 4) t := rfl
theorem after_1 (c : Dev nD) (t : Fin (cfgA a).N) : (dats a m ρ 0 c).after (1 : Fin 4) t = iblk a m ρ c (1 : Fin 4) t := rfl
theorem after_2 (c : Dev nD) (t : Fin (cfgA a).N) : (dats a m ρ 0 c).after (2 : Fin 4) t = iblk a m ρ c (2 : Fin 4) t := rfl
theorem after_3 (c : Dev nD) (t : Fin (cfgA a).N) : (dats a m ρ 0 c).after (3 : Fin 4) t = outAt a m ρ c t := rfl

theorem before_0 (c : Dev nD) (t : Fin (cfgA a).N) (d) : (dats a m ρ 0 c).before (0 : Fin 4) t d = iblk a m ρ c (0 : Fin 4) t :=
  ((dats a m ρ 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m ρ 0 c).before (1 : Fin 4) t d = iblk a m ρ c (1 : Fin 4) t :=
  ((dats a m ρ 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats a m ρ 0 c).before (2 : Fin 4) t d = iblk a m ρ c (2 : Fin 4) t :=
  ((dats a m ρ 0 c).before_in_eq_fetched (2 : Fin 4) rfl (fun _ => rfl) (fun _ _ _ => rfl) (fun t => by rw [after_2]; unfold Dat.blockOf iblk; rfl) t d).trans
    (by unfold Dat.fetched Dat.blockOf iblk; rfl)

/-- The output's block is stored at every tile. -/
theorem idle_3 (t : Fin (cfgA a).N) : (cfgA a).idle (3 : Fin 4) ((cfgA a).grid.coords t) = false := by
  show (!(k0_cond2 _ _ == 1#1) && !(k0_cond3 _ _ == 1#1)) = false
  have h := cond3_iff (crd a t) (a.1.atD 1 ![0])
  by_cases h2 : k0_cond2 (crd a t) (a.1.atD 1 ![0]) = 1#1
  · rw [h2]; rfl
  · rw [h.2 h2]; simp

/-- The body at tile `t`, as the pipeline calls it. -/
abbrev bodyAt (t : Fin (cfgA a).N) : Prog (TpuEff nD τ sig (Elt Bits) Λ₀ .tc) PUnit :=
  cc0_moe_up (crd a t) (Memref.whole main_arg1) (Memref.isWhole_whole _) (Memref.whole main_arg2) (Memref.isWhole_whole _) (ms0 a t) (hs0 a t) (ms1 a t) (hs1 a t) (ms2 a t) (hs2 a t) (ms3 a t) (hs3 a t) (Memref.whole cc0_scratch0) (Memref.isWhole_whole _) (Memref.whole cc0_scratch1) (Memref.isWhole_whole _)

set_option maxHeartbeats 4000000 in
/-- The body's obligation at tile `t`, path by path. -/
theorem sound_body (h0 : ∀ t : Fin (cfgA a).N, t.val = 0 → FreshAt a t) (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 4) t d))
        ∗ (∃ d, owns (c : Thread nD τ) (ms1 a t) fullShare ((dats a m ρ 0 c).before (1 : Fin 4) t d))
        ∗ (∃ d, owns (c : Thread nD τ) (ms2 a t) fullShare ((dats a m ρ 0 c).before (2 : Fin 4) t d))
        ∗ (∃ d, owns (c : Thread nD τ) (ms3 a t) fullShare ((dats a m ρ 0 c).before (3 : Fin 4) t d)))
      ⊢ wp frame (wpE (defs₀ (F := Bits)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0, idle_3]
  simp only [before_0, before_1, before_2, after_0, after_1, after_2, after_3]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  simp only [Fin.val_castSucc, Fin.val_succ]
  by_cases q : FreshAt a t
  · rw [scr_A a m ρ c t q]
    unfold outAt; rw [dif_pos q]
    iintro ⟨⟨⟨%a0, %a1, -, HS0, HS1⟩, HT0, HT1, HR⟩, Ho, ⟨%d0, H0⟩, ⟨%d1, H1⟩, ⟨%d2, H2⟩, ⟨%d3, H3⟩⟩
    iapply ((atA a m ρ c t q).2.2.2 a0 a1 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    isplitl [HS0]; · iexact HS0
    isplitl [HS1]; · iexact HS1
    iintro ⟨H0, H1, H2, HT0, HT1, ⟨%e3, H3⟩, HS0, HS1⟩
    isplitl [HS0 HS1 HT0 HT1 HR]
    · isplitl [HS0 HS1]
      · iexists _; iexists _; isplitr; swap
        · isplitl [HS0]; · iexact HS0
          iexact HS1
        · ipureintro; intro _; rfl
      isplitl [HT0]; · iexact HT0
      isplitl [HT1]; · iexact HT1
      iexact HR
    isplitl [Ho]; · iexact Ho
    isplitl [H0]; · iapply owns_of_rep; iexact H0
    isplitl [H1]; · iapply owns_of_rep; iexact H1
    isplitl [H2]; · iapply owns_of_rep; iexact H2
    unfold owns; iexists _; isplitr; swap
    · iexact H3
    · ipureintro; exact View.read_writes_of_cover _ _ _ _ _ (coverA c _ _ _ _ _ _ _ _ _ _ _ _ _ _ _ _ _)
  · have ht : 0 < t.val := Nat.pos_of_ne_zero fun h => q (h0 t h)
    rw [scr_BC a m ρ c t q]
    by_cases u : UsedAt a t
    · unfold outAt; rw [dif_neg q, dif_pos u]
      iintro ⟨⟨⟨%a0, %a1, %hs, HS0, HS1⟩, HT0, HT1, HR⟩, Ho, ⟨%d0, H0⟩, ⟨%d1, H1⟩, ⟨%d2, H2⟩, ⟨%d3, H3⟩⟩
      rw [← hs ht]
      iapply ((atB a m ρ c t (a0, a1) q u).2 _)
      isplitl [H0]; · iapply rep_of_owns; iexact H0
      isplitl [HT0]; · iexact HT0
      isplitl [HT1]; · iexact HT1
      isplitl [H3]; · iexists _; iexact H3
      isplitl [HS0]; · iexact HS0
      isplitl [HS1]; · iexact HS1
      iintro ⟨H0, HT0, HT1, ⟨%e3, H3⟩, HS0, HS1⟩
      isplitl [HS0 HS1 HT0 HT1 HR]
      · isplitl [HS0 HS1]
        · iexists _; iexists _; isplitr; swap
          · isplitl [HS0]; · iexact HS0
            iexact HS1
          · ipureintro; intro _; rfl
        isplitl [HT0]; · iexact HT0
        isplitl [HT1]; · iexact HT1
        iexact HR
      isplitl [Ho]; · iexact Ho
      isplitl [H0]; · iapply owns_of_rep; iexact H0
      isplitl [H1]; · iexact H1
      isplitl [H2]; · iexact H2
      unfold owns; iexists _; isplitr; swap
      · iexact H3
      · ipureintro; exact View.read_writes_of_cover _ _ _ _ _ (coverB c _ _ _ _ _ _ _ _ _ _ _ _ _ _ _ _ _)
    · unfold outAt; rw [dif_neg q, dif_neg u]
      iintro ⟨⟨⟨%a0, %a1, %hs, HS0, HS1⟩, HT0, HT1, HR⟩, Ho, ⟨%d0, H0⟩, ⟨%d1, H1⟩, ⟨%d2, H2⟩, ⟨%d3, H3⟩⟩
      iapply ((atC a c t q u).2 _)
      isplitl [HT0]; · iexact HT0
      isplitl [HT1]; · iexact HT1
      isplitl [H3]; · iexists _; iexact H3
      iintro ⟨HT0, HT1, ⟨%e3, H3⟩⟩
      isplitl [HS0 HS1 HT0 HT1 HR]
      · isplitl [HS0 HS1]
        · iexists a0; iexists a1; isplitr; swap
          · isplitl [HS0]; · iexact HS0
            iexact HS1
          · ipureintro; intro _; exact hs ht
        isplitl [HT0]; · iexact HT0
        isplitl [HT1]; · iexact HT1
        iexact HR
      isplitl [Ho]; · iexact Ho
      isplitl [H0]; · iexact H0
      isplitl [H1]; · iexact H1
      isplitl [H2]; · iexact H2
      unfold owns; iexists _; isplitr; swap
      · iexact H3
      · ipureintro; exact View.read_writes_of_cover _ _ _ _ _ (coverC c _ _ _ _ _ _ _ _ _ _ _ _ _ _)

theorem body_obligation (h0 : ∀ t : Fin (cfgA a).N, t.val = 0 → FreshAt a t) (c : Dev nD) :
    BodyObligation (dats a m ρ 0 c) (defs₀ (F := Bits)) Variants.none () Set.univ := fun t => by
  rw [bigSep_W0]
  exact sound_body a m ρ h0 c t

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) :
    iprop(Pipeline.ΦA (U := UR sig nD τ) spec0 c ∗ Pipeline.ΦT (U := UR sig nD τ) pre0 a.1 c) ⊢ (dats a m ρ 0 c).Φ 0 := by
  unfold Pipeline.ΦA Pipeline.ΦT
  rw [prefHeld_eq, scopedRest0_eq, show (dats a m ρ 0 c).Φ 0 = Phi a m ρ c 0 from rfl]
  unfold Phi
  iintro ⟨⟨⟨⟨%f0, HS0⟩, ⟨%f1, HS1⟩⟩, HR⟩, HT0, HT1⟩
  isplitl [HS0 HS1]
  · iexists f0; iexists f1; isplitr; swap
    · isplitl [HS0]; · iexact HS0
      iexact HS1
    · ipureintro; intro h; exact absurd h (Nat.lt_irrefl 0)
  isplitl [HT0]; · iexact HT0
  isplitl [HT1]; · iexact HT1
  iexact HR

theorem phi_out (c : Dev nD) : (dats a m ρ 0 c).Φ (Fin.last (cfgA a).N) ⊢ Pipeline.ΦA (U := UR sig nD τ) spec0 c := by
  unfold Pipeline.ΦA
  rw [scopedRest0_eq, show (dats a m ρ 0 c).Φ (Fin.last (cfgA a).N) = Phi a m ρ c (Fin.last _) from rfl]
  unfold Phi
  iintro ⟨⟨%a0, %a1, -, HS0, HS1⟩, -, -, HR⟩
  isplitl [HS0 HS1]
  · isplitl [HS0]
    · iexists a0; iexact HS0
    iexists a1; iexact HS1
  iexact HR

set_option maxHeartbeats 4000000 in
/-- From a memory that holds the tables, with zero counters: the program runs to the end, every array ends at what the
pipeline computes, every other buffer unchanged, every counter at zero. -/
theorem run_main (h0 : ∀ t : Fin (cfgA a).N, t.val = 0 → FreshAt a t)
    (hp : ∀ (c : Dev nD) (k : Fin 2), m ((c : Thread nD τ).loc (pre0.ref k)) = a.1 k) :
    θ_run (defs (F := Bits)) (onTc (τ := τ) (main (F := Bits))) (s₀ m ρ)
      (fun r => Pipeline.FramePost (pcs a) (dats a m ρ) 0 (fun c b => m ((c : Thread nD τ).loc b)) r ∧ r.2.sem = fun _ => 0) :=
  Pipeline.θ_run_frameP_track_shared (pcfgs (F := Bits)) (fun _ => a) (dats a m ρ) 0 (launch₀0 (F := Bits)) defs₀ Variants.none
    m ρ main (fun c => (body_obligation a m ρ h0 c).loose) (fun _ _ _ => rfl) (fun _ _ => rfl)
    (fun c b => m ((c : Thread nD τ).loc b))
    (Pipeline.hmainP_region _ _ _ _ m main fun c => main_chain c)
    (fun _ _ => rfl) hp (phi_in a m ρ) (phi_out a m ρ) _ (fun _ h => h)

/-- The frame's clauses read off the run. -/
theorem frame_args (h0 : ∀ t : Fin (cfgA a).N, t.val = 0 → FreshAt a t)
    (hp : ∀ (c : Dev nD) (k : Fin 2), m ((c : Thread nD τ).loc (pre0.ref k)) = a.1 k) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).1 (0 : Fin 4)).trans ((dats a m ρ 0 c).arrAt_in (0 : Fin 4) rfl _),
     (h.1 c).2 main_arg1 (show main_arg1 ∈ Pipeline.restRefs sig spec0 by decide), (h.1 c).2 main_arg2 (show main_arg2 ∈ Pipeline.restRefs sig spec0 by decide),
     ((h.1 c).1 (1 : Fin 4)).trans ((dats a m ρ 0 c).arrAt_in (1 : Fin 4) rfl _)⟩, h.2⟩) (run_main a m ρ h0 hp)

end Cert.Up.Hand

end
-- ==== Proof.Up.Adm.lean ====
module

public import proofs.«01_k».proof.Proof.Up.Frame
public import proofs.«01_k».proof.Defs
public import proofs.«01_k».proof.Proof.Gen.Pre_routed_up
public import Idealize.ShloMosaic.Lib.Affine

/-! The tables the precondition admits: every expert number below 32, at least one tile in use. They keep every block
inside its array, and the first tile loads its expert. -/

@[expose] public section

set_option maxRecDepth 16384
set_option Elab.async false

noncomputable section

namespace Cert.Up.Hand

open Cert.Up Cert.Up.Gen
open Idealize.ShloMosaic Idealize.ShloMosaic.TcCoe Idealize.SL.Sem

/-- A word whose signed value lies in a range of naturals has that value unsigned. -/
theorem toNat_lt_of_toInt {x : BitVec 32} {n : ℕ} (h0 : 0 ≤ x.toInt) (h : x.toInt < n) : x.toNat < n := by
  have := BitVec.toInt_eq_toNat_cond x
  split at this <;> omega

/-- The smaller of a tile's number and the last used tile's. -/
theorem tile_le (t : ℕ) (ht : t < 159) (v : BitVec 32) (hv : 1 ≤ v.toInt) :
    (Scalar.minsi (BitVec.ofNat 32 t) (Scalar.subi v 1#32)).toNat < 159 := by
  have e : (Scalar.subi v 1#32) = v - 1#32 := rfl
  rw [e]
  show (if (BitVec.ofNat 32 t).slt (v - 1#32) then BitVec.ofNat 32 t else v - 1#32).toNat < 159
  have hv2 := BitVec.toInt_eq_toNat_cond v
  have hlt := v.isLt
  have hw : (v - 1#32).toNat = v.toNat - 1 := by
    rw [BitVec.toNat_sub_of_le]
    · rfl
    · rw [BitVec.le_def]; split at hv2 <;> simp <;> omega
  have hx : (BitVec.ofNat 32 t).toNat = t := by rw [BitVec.toNat_ofNat]; omega
  split_ifs with h
  · omega
  · rw [BitVec.slt_iff_toInt_lt, not_lt, BitVec.toInt_eq_toNat_cond, BitVec.toInt_eq_toNat_cond, hw, hx] at h
    rw [hw]
    split at hv2 <;> split at h <;> split at h <;> omega

/-- At a used tile it is the tile's own number. -/
theorem tile_used (t : ℕ) (ht : t < 159) (v : BitVec 32) (hv : (t : ℤ) < v.toInt) :
    (Scalar.minsi (BitVec.ofNat 32 t) (Scalar.subi v 1#32)).toNat = t := by
  have e : (Scalar.subi v 1#32) = v - 1#32 := rfl
  rw [e]
  show (if (BitVec.ofNat 32 t).slt (v - 1#32) then BitVec.ofNat 32 t else v - 1#32).toNat = t
  have hv2 := BitVec.toInt_eq_toNat_cond v
  have hlt := v.isLt
  have hw : (v - 1#32).toNat = v.toNat - 1 := by
    rw [BitVec.toNat_sub_of_le]
    · rfl
    · rw [BitVec.le_def]; split at hv2 <;> simp <;> omega
  have hx : (BitVec.ofNat 32 t).toNat = t := by rw [BitVec.toNat_ofNat]; omega
  split_ifs with h
  · exact hx
  · rw [BitVec.slt_iff_toInt_lt, not_lt, BitVec.toInt_eq_toNat_cond, BitVec.toInt_eq_toNat_cond, hw, hx] at h
    rw [hw]
    split at hv2 <;> split at h <;> split at h <;> omega

/-- What the precondition says of the tables' words. -/
structure Good (p : pre0.Contents (Elt Bits)) : Prop where
  te : ∀ j : S159.Idx, (show BitVec 32 from p 0 j).toNat < 32
  nu : ∀ j : S1.Idx, 1 ≤ (show BitVec 32 from p 1 j).toInt

theorem ok_of_good (p : pre0.Contents (Elt Bits)) (h : Good p) : ok0 p := by
  refine ⟨fun i => ⟨Fin.forall_fin_two.2 ⟨?_, ?_⟩, .inr (Affine.block_words_dvd (of_decide_eq_true rfl) (by decide))⟩,
    fun i => ⟨?_, .inl rfl⟩, fun i => ⟨?_, .inl rfl⟩⟩
  · have := tile_le (i 1).val (i 1).isLt _ (h.nu ((Rect.unit (s := S1) ![0] S1.size inb_S1_S1_0).emb (Shape.Idx.first (numel1_S1.symm ▸ Nat.one_pos))))
    show ((Scalar.minsi (BitVec.ofNat 32 (i 1).val) (Scalar.subi _ 1#32)).toNat + 1) * 8192 ≤ 1302528
    have h2 : ∀ n, n < 159 → (n + 1) * 8192 ≤ 1302528 := by omega
    exact h2 _ this
  · show (0 + 1) * 128 ≤ 128; omega
  · have := h.te ((Rect.unit (s := S159) ![(Scalar.indexCast (BitVec.ofNat 32 (i 1).val) : BitVec 32).toNat] S1.size (k0_off1_inb i)).emb (Shape.Idx.first (numel1_S1.symm ▸ Nat.one_pos)))
    have h2 : ∀ n, n < 32 → (n + 1) * 1 ≤ 32 := by omega
    intro x
    match x with
    | ⟨0, _⟩ => show (0 + 1) * 1 ≤ 2; omega
    | ⟨1, _⟩ => exact h2 _ this
    | ⟨2, _⟩ => show (0 + 1) * 4096 ≤ 4096; omega
    | ⟨3, _⟩ => show ((BitVec.ofNat 32 (i 0).val).toNat + 1) * 512 ≤ 1024; rw [show (i 0).val = 0 from Nat.lt_one_iff.1 (i 0).isLt]; decide
  · have := h.te ((Rect.unit (s := S159) ![(Scalar.indexCast (BitVec.ofNat 32 (i 1).val) : BitVec 32).toNat] S1.size (k0_off1_inb i)).emb (Shape.Idx.first (numel1_S1.symm ▸ Nat.one_pos)))
    have h2 : ∀ n, n < 32 → (n + 1) * 1 ≤ 32 := by omega
    intro x
    match x with
    | ⟨0, _⟩ => show (0 + 1) * 1 ≤ 2; omega
    | ⟨1, _⟩ => exact h2 _ this
    | ⟨2, _⟩ => show (0 + 1) * 4096 ≤ 4096; omega
    | ⟨3, _⟩ => show ((Scalar.addi 1#32 (BitVec.ofNat 32 (i 0).val) : BitVec 32).toNat + 1) * 512 ≤ 1024; rw [show (i 0).val = 0 from Nat.lt_one_iff.1 (i 0).isLt]; decide

/-- The tables as the memory holds them, -/
def tabs (m : (ℓ : Loc nD τ sig) → Buf (Elt Bits) ℓ) : pre0.Contents (Elt Bits) := fun k => m (((0 : Dev nD) : Thread nD τ).loc (pre0.ref k))

/-- admitted. -/
def adm (m : (ℓ : Loc nD τ sig) → Buf (Elt Bits) ℓ) (h : Good (tabs m)) : (pcfg0 (F := Bits)).Adm := ⟨tabs m, ok_of_good _ h⟩

theorem adm_held (m : (ℓ : Loc nD τ sig) → Buf (Elt Bits) ℓ) (h : Good (tabs m)) (c : Dev nD) (k : Fin 2) :
    m ((c : Thread nD τ).loc (pre0.ref k)) = (adm m h).1 k := by
  obtain rfl : c = 0 := Subsingleton.elim _ _
  rfl

theorem crd_t : ∀ t : Fin grid0.N, (grid0.coords t 1).val = t.val := by decide +kernel

/-- A tile is used exactly when its number is below the number of tiles in use. -/
theorem used_iff (a : (pcfg0 (F := Bits)).Adm) (t : Fin (cfgA a).N) : UsedAt a t ↔ (t.val : ℤ) < (nuW (T1 a)).toInt := by
  refine (cond2_iff _ _).trans ((IntOp.cmpi_slt (x := BitVec.ofNat 32 _) (y := nuW (T1 a))).trans ?_)
  rw [show ((crd a t) 1).val = t.val from crd_t t, BitVec.toInt_eq_toNat_cond, BitVec.toNat_ofNat]
  have : t.val < 159 := Nat.lt_of_lt_of_eq t.isLt N_0
  rw [Nat.mod_eq_of_lt (by omega), if_pos (by omega)]

theorem first_fresh (a : (pcfg0 (F := Bits)).Adm) (h : Good a.1) (t : Fin (cfgA a).N) (ht : t.val = 0) : FreshAt a t := by
  have hu : Scalar.cmpi .slt (BitVec.ofNat 32 ((crd a t) 1).val) (nuW (T1 a)) = 1#1 :=
    (cond2_iff _ _).1 ((used_iff a t).2 (by rw [ht]; exact lt_of_lt_of_le Int.zero_lt_one (h.nu _)))
  refine (bit_ne _).2 ?_
  rw [hu, show ((crd a t) 1).val = 0 from (crd_t t).trans ht]
  generalize Scalar.cmpi .ne (teW (crd a t) (T0 a)) (teP (crd a t) (T0 a)) = b
  revert b; decide

/-- The precondition gives it. -/
theorem good_of_pre [hp : Cert.Pre_routed_up.Facts] (m : (ℓ : Loc nD τ sig) → Buf (Elt Bits) ℓ) (h : Cert.Pre_Up m) : Good (tabs m) where
  te j := by
    have h1 := congrFun (h 0).1 j
    have h2 : IntOp.andi (IntOp.cmpi .sge (show BitVec 32 from tabs m 0 j) 0#32) (IntOp.cmpi .slt (show BitVec 32 from tabs m 0 j) 32#32) = 1#1 := h1
    have h3 : IntOp.cmpi .sge (show BitVec 32 from tabs m 0 j) 0#32 = 1#1 ∧ IntOp.cmpi .slt (show BitVec 32 from tabs m 0 j) 32#32 = 1#1 := by
      revert h2
      generalize IntOp.cmpi .sge (show BitVec 32 from tabs m 0 j) 0#32 = b
      generalize IntOp.cmpi .slt (show BitVec 32 from tabs m 0 j) 32#32 = d
      revert b d; decide
    exact toNat_lt_of_toInt (IntOp.cmpi_sge.1 h3.1) (IntOp.cmpi_slt.1 h3.2)
  nu j := by
    have h1 : IntOp.cmpi .sge (show BitVec 32 from tabs m 1 j) 1#32 = 1#1 := congrFun (h 0).2 j
    exact IntOp.cmpi_sge.1 h1

end Cert.Up.Hand

end
-- ==== Proof.UpIdeal.Run.lean ====
module

public import proofs.«01_k».proof.Proof.Gen.UpIdeal.Launch
public import proofs.«01_k».proof.Proof.Gen.UpIdeal.Skeleton
public import Idealize.ShloMosaic.Lib.Pipeline.Kit
public import Idealize.ShloMosaic.Lib.Pipeline.TableIdle
public import Idealize.ShloMosaic.Lib.Pipeline.FrameBody
public import Idealize.ShloMosaic.Lib.Affine
public import Idealize.ShloMosaic.Adequacy
public import Idealize.ShloMosaic.Init
public import Idealize.ShloMosaic.Lib.Writes
public import Idealize.ShloMosaic.Lib.Ring
public import Idealize.ShloMosaic.Lib.Exec
public import Idealize.ShloMosaic.Lib.Tactic
public import Idealize.ShloMosaic.PureOps.Ideal

/-! One run of the expert kernel's body along each of its three control paths: at a used tile that loads a new
expert's weights, at a used tile that keeps the weights it has, and at a tile that is not used. -/

@[expose] public section

set_option maxRecDepth 16384
set_option Elab.async false

noncomputable section

namespace Cert.UpIdeal.Hand

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The prefetched tables and the scratch buffers as the body is handed them. -/
abbrev tb0 : Memref sig .tc .smem S159 .i32 := Memref.whole main_arg1
abbrev tb1 : Memref sig .tc .smem S1 .i32 := Memref.whole main_arg2
abbrev sc0 : Memref sig .tc .vmem S4096x512 .bf16 := Memref.whole cc0_scratch0
abbrev sc1 : Memref sig .tc .vmem S4096x512 .bf16 := Memref.whole cc0_scratch1

/-- The number of tiles in use, as the body reads it. -/
abbrev nuW (T1 : S1.Idx → Elt Ideal .i32) : BitVec 32 :=
  View.readAt (Elt Ideal) tb1.view (Rect.unit (s := S1) ![0] S1.size inb_S1_S1_0).toLoadRect T1 (Shape.Idx.first (numel1_S1.symm ▸ Nat.one_pos))
/-- This tile's expert, as the body reads it. -/
abbrev teW (i : grid0.Coords) (T0 : S159.Idx → Elt Ideal .i32) : BitVec 32 :=
  View.readAt (Elt Ideal) tb0.view (Rect.unit (s := S159) (k0_off1 i) S1.size (k0_off1_inb i)).toLoadRect T0 (Shape.Idx.first (numel1_S1.symm ▸ Nat.one_pos))
/-- The expert of the tile before, as the body reads it. -/
abbrev teP (i : grid0.Coords) (T0 : S159.Idx → Elt Ideal .i32) : BitVec 32 :=
  View.readAt (Elt Ideal) tb0.view (Rect.unit (s := S159) (k0_off2 i) S1.size (k0_off2_inb i)).toLoadRect T0 (Shape.Idx.first (numel1_S1.symm ▸ Nat.one_pos))

/-- The tile is in use and its expert is new. -/
abbrev Fresh (i : grid0.Coords) (T0 : S159.Idx → Elt Ideal .i32) (T1 : S1.Idx → Elt Ideal .i32) : Prop :=
  Scalar.cmpi .ne (Scalar.extui (Scalar.andi (Scalar.cmpi .slt (BitVec.ofNat 32 (i 1).val) (nuW T1))
    (Scalar.ori (Scalar.cmpi .eq (BitVec.ofNat 32 (i 1).val) 0#32) (Scalar.cmpi .ne (teW i T0) (teP i T0))))) 0#32 = 1#1

/-- A staging buffer of the output, through which the body's result is stated. -/
abbrev VO : View sig .tc .vmem S256x512 .bf16 := (Memref.whole cc0_stg3_0 : Memref sig .tc .vmem S256x512 .bf16).view

section
variable (c : Dev nD) (i : grid0.Coords)
  (arg4 : Memref sig .tc .vmem S8192x128 .bf16) (harg4 : arg4.IsWhole)
  (arg5 : Memref sig .tc .vmem S1x1x4096x512 .f32) (harg5 : arg5.IsWhole)
  (arg6 : Memref sig .tc .vmem S1x1x4096x512 .f32) (harg6 : arg6.IsWhole)
  (arg7 : Memref sig .tc .vmem S256x512 .bf16) (harg7 : arg7.IsWhole)
  (T0 : S159.Idx → Elt Ideal .i32) (T1 : S1.Idx → Elt Ideal .i32)
  (x0 : S8192x128.Idx → Elt Ideal .bf16) (x1 x2 : S1x1x4096x512.Idx → Elt Ideal .f32)

set_option backward.proofsInPublic true in
set_option maxHeartbeats 8000000 in
/-- A used tile whose expert is new: what the body leaves in the output's staging buffer and in the two scratch
buffers, with the proof that it does. -/
noncomputable def runA (hc0 : Fresh i T0 T1) (h2 : k0_cond2 i (nuW T1) = 1#1) (h3 : ¬(k0_cond3 i (nuW T1) = 1#1)) :
    Σ' (out : List (View.Piece (Elt Ideal) S256x512 .bf16)) (o0 : Buf (Elt Ideal) ((c : Thread nD τ).loc cc0_scratch0)),
    { o1 : Buf (Elt Ideal) ((c : Thread nD τ).loc cc0_scratch1) //
      ∀ (a0 : Buf (Elt Ideal) ((c : Thread nD τ).loc cc0_scratch0)) (a1 : Buf (Elt Ideal) ((c : Thread nD τ).loc cc0_scratch1)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tb0.view.loc (c : Thread nD τ) ↦{fullShare.right} T0)
          ∗ (tb1.view.loc (c : Thread nD τ) ↦{fullShare.right} T1)
          ∗ (∃ d, owns (c : Thread nD τ) arg7 fullShare d)
          ∗ (sc0.view.loc (c : Thread nD τ) ↦{fullShare} a0)
          ∗ (sc1.view.loc (c : Thread nD τ) ↦{fullShare} a1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tb0.view.loc (c : Thread nD τ) ↦{fullShare.right} T0)
              ∗ (tb1.view.loc (c : Thread nD τ) ↦{fullShare.right} T1)
              ∗ (∃ f, arg7.view.loc (c : Thread nD τ) ↦[arg7.view.set]{fullShare} arg7.view.writes (Elt Ideal) f out)
              ∗ (sc0.view.loc (c : Thread nD τ) ↦{fullShare} o0)
              ∗ (sc1.view.loc (c : Thread nD τ) ↦{fullShare} o1)) -∗ K ⟨⟩))
          ⊢ wp frame (wpE (defs₀ (F := Ideal)) Variants.none c none) Set.univ (cc0_moe_up i tb0 (Memref.isWhole_whole _) tb1 (Memref.isWhole_whole _) arg4 harg4 arg5 harg5 arg6 harg6 arg7 harg7 sc0 (Memref.isWhole_whole _) sc1 (Memref.isWhole_whole _)) K } :=
  ⟨_, _, _, fun (a0 : Buf (Elt Ideal) ((c : Thread nD τ).loc cc0_scratch0)) (a1 : Buf (Elt Ideal) ((c : Thread nD τ).loc cc0_scratch1)) K => by
    unfold owns
    rw [cc0_moe_up_eq_skeleton]; unfold cc0_moe_up_skel
    iintro ⟨H0, H1, H2, HT0, HT1, ⟨%d7, %f7, -, HO⟩, HS0, HS1, Hk⟩
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | (guard_target = Scalar.cmpi .ne _ _ = _; exact hc0) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    isplitl [HS0]; · iexact HS0
    iexact HS1⟩

set_option backward.proofsInPublic true in
set_option maxHeartbeats 8000000 in
/-- A used tile that keeps the weights the scratch buffers hold. -/
noncomputable def runB (a0 : Buf (Elt Ideal) ((c : Thread nD τ).loc cc0_scratch0)) (a1 : Buf (Elt Ideal) ((c : Thread nD τ).loc cc0_scratch1))
    (hc0 : ¬Fresh i T0 T1) (h2 : k0_cond2 i (nuW T1) = 1#1) (h3 : ¬(k0_cond3 i (nuW T1) = 1#1)) :
    { out : List (View.Piece (Elt Ideal) S256x512 .bf16) //
      ∀ (K : PUnit → sProp 𝕄),
        iprop((arg4.view.loc (c : Thread nD τ) ↦[arg4.view.set]{fullShare} arg4.view.rep x0)
          ∗ (tb0.view.loc (c : Thread nD τ) ↦{fullShare.right} T0)
          ∗ (tb1.view.loc (c : Thread nD τ) ↦{fullShare.right} T1)
          ∗ (∃ d, owns (c : Thread nD τ) arg7 fullShare d)
          ∗ (sc0.view.loc (c : Thread nD τ) ↦{fullShare} a0)
          ∗ (sc1.view.loc (c : Thread nD τ) ↦{fullShare} a1)
          ∗ (iprop((arg4.view.loc (c : Thread nD τ) ↦[arg4.view.set]{fullShare} arg4.view.rep x0)
              ∗ (tb0.view.loc (c : Thread nD τ) ↦{fullShare.right} T0)
              ∗ (tb1.view.loc (c : Thread nD τ) ↦{fullShare.right} T1)
              ∗ (∃ f, arg7.view.loc (c : Thread nD τ) ↦[arg7.view.set]{fullShare} arg7.view.writes (Elt Ideal) f out)
              ∗ (sc0.view.loc (c : Thread nD τ) ↦{fullShare} a0)
              ∗ (sc1.view.loc (c : Thread nD τ) ↦{fullShare} a1)) -∗ K ⟨⟩))
          ⊢ wp frame (wpE (defs₀ (F := Ideal)) Variants.none c none) Set.univ (cc0_moe_up i tb0 (Memref.isWhole_whole _) tb1 (Memref.isWhole_whole _) arg4 harg4 arg5 harg5 arg6 harg6 arg7 harg7 sc0 (Memref.isWhole_whole _) sc1 (Memref.isWhole_whole _)) K } :=
  ⟨_, fun K => by
    unfold owns
    rw [cc0_moe_up_eq_skeleton]; unfold cc0_moe_up_skel
    iintro ⟨H0, HT0, HT1, ⟨%d7, %f7, -, HO⟩, HS0, HS1, Hk⟩
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | (guard_target = ¬(Scalar.cmpi _ _ _ = _); exact hc0) | (guard_target = k0_cond2 _ _ = _; exact h2) | (guard_target = ¬(k0_cond3 _ _ = _); exact h3))
    sl_step
    iapply Hk
    isplitl [H0]; · iexact H0
    isplitl [HT0]; · iexact HT0
    isplitl [HT1]; · iexact HT1
    isplitl [HO]; · iexists _; iexact HO
    isplitl [HS0]; · iexact HS0
    iexact HS1⟩

set_option backward.proofsInPublic true in
set_option maxHeartbeats 8000000 in
/-- A tile that is not used: the body only stores zeros. -/
noncomputable def runC (hc0 : ¬Fresh i T0 T1) (h2 : ¬(k0_cond2 i (nuW T1) = 1#1)) (h3 : k0_cond3 i (nuW T1) = 1#1) :
    { out : List (View.Piece (Elt Ideal) S256x512 .bf16) //
      ∀ (K : PUnit → sProp 𝕄),
        iprop((tb0.view.loc (c : Thread nD τ) ↦{fullShare.right} T0)
          ∗ (tb1.view.loc (c : Thread nD τ) ↦{fullShare.right} T1)
          ∗ (∃ d, owns (c : Thread nD τ) arg7 fullShare d)
          ∗ (iprop((tb0.view.loc (c : Thread nD τ) ↦{fullShare.right} T0)
              ∗ (tb1.view.loc (c : Thread nD τ) ↦{fullShare.right} T1)
              ∗ (∃ f, arg7.view.loc (c : Thread nD τ) ↦[arg7.view.set]{fullShare} arg7.view.writes (Elt Ideal) f out)) -∗ K ⟨⟩))
          ⊢ wp frame (wpE (defs₀ (F := Ideal)) Variants.none c none) Set.univ (cc0_moe_up i tb0 (Memref.isWhole_whole _) tb1 (Memref.isWhole_whole _) arg4 harg4 arg5 harg5 arg6 harg6 arg7 harg7 sc0 (Memref.isWhole_whole _) sc1 (Memref.isWhole_whole _)) K } :=
  ⟨_, fun K => by
    unfold owns
    rw [cc0_moe_up_eq_skeleton]; unfold cc0_moe_up_skel
    iintro ⟨HT0, HT1, ⟨%d7, %f7, -, HO⟩, Hk⟩
    have hT0 : tb0.IsWhole := Memref.isWhole_whole _
    have hT1 : tb1.IsWhole := Memref.isWhole_whole _
    sl_exec! (disch := first | (guard_target = ¬(Scalar.cmpi _ _ _ = _); exact hc0) | (guard_target = ¬(k0_cond2 _ _ = _); exact h2) | (guard_target = k0_cond3 _ _ = _; exact h3))
    sl_step
    iapply Hk
    isplitl [HT0]; · iexact HT0
    isplitl [HT1]; · iexact HT1
    iexists _; iexact HO⟩

end

end Cert.UpIdeal.Hand

end
-- ==== Proof.UpIdeal.Frame.lean ====
module

public import proofs.«01_k».proof.Proof.UpIdeal.Run
public import Idealize.ShloMosaic.Lib.Pipeline.Frame
public import Idealize.ShloMosaic.Lib.Pipeline.Quiescent
public import Idealize.ShloMosaic.Lib.Claim
public import Idealize.ShloMosaic.Lib.WordCmp

/-! The launch of the expert kernel at any tables whose blocks lie inside the arrays and that use at least one tile:
what the scratch buffers hold before each tile, what each tile leaves in the output's block, and the run. -/

@[expose] public section

set_option maxRecDepth 16384
set_option Elab.async false

noncomputable section

namespace Cert.UpIdeal.Hand

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- A bit widened to a word is not zero exactly when it is set. -/
theorem bit_ne (b : BitVec 1) : Scalar.cmpi .ne (Scalar.extui b : BitVec 32) 0#32 = 1#1 ↔ b = 1#1 := by
  revert b; decide

/-- The tile is used exactly when its number is below the number of tiles in use. -/
theorem cond2_iff (i : grid0.Coords) (v : BitVec 32) :
    k0_cond2 i v = 1#1 ↔ Scalar.cmpi .slt (BitVec.ofNat 32 (i 1).val) v = 1#1 := bit_ne _

/-- A tile is unused exactly when it is not used. -/
theorem cond3_iff (i : grid0.Coords) (v : BitVec 32) : k0_cond3 i v = 1#1 ↔ ¬k0_cond2 i v = 1#1 := by
  rw [cond2_iff, show k0_cond3 i v = 1#1 ↔ Scalar.cmpi .sge (BitVec.ofNat 32 (i 1).val) v = 1#1 from bit_ne _]
  generalize BitVec.ofNat 32 (i 1).val = x
  refine (IntOp.cmpi_sge (x := x) (y := v)).trans (Iff.trans ?_ (not_congr (IntOp.cmpi_slt (x := x) (y := v))).symm)
  exact not_lt.symm

/-- A new expert is only loaded at a used tile. -/
theorem Fresh.used {i : grid0.Coords} {T0 : S159.Idx → Elt Ideal .i32} {T1 : S1.Idx → Elt Ideal .i32} (h : Fresh i T0 T1) :
    k0_cond2 i (nuW T1) = 1#1 := by
  refine (cond2_iff _ _).2 ?_
  have h' := (bit_ne _).1 h
  revert h'
  generalize Scalar.cmpi .slt (BitVec.ofNat 32 (i 1).val) (nuW T1) = b
  generalize Scalar.ori _ _ = d
  revert b d; decide

section
variable (c : Dev nD) (i : grid0.Coords)
  (arg4 : Memref sig .tc .vmem S8192x128 .bf16) (harg4 : arg4.IsWhole)
  (arg5 : Memref sig .tc .vmem S1x1x4096x512 .f32) (harg5 : arg5.IsWhole)
  (arg6 : Memref sig .tc .vmem S1x1x4096x512 .f32) (harg6 : arg6.IsWhole)
  (arg7 : Memref sig .tc .vmem S256x512 .bf16) (harg7 : arg7.IsWhole)
  (T0 : S159.Idx → Elt Ideal .i32) (T1 : S1.Idx → Elt Ideal .i32)
  (x0 : S8192x128.Idx → Elt Ideal .bf16) (x1 x2 : S1x1x4096x512.Idx → Elt Ideal .f32)

/-- The first path stores the whole output block. -/
theorem coverA (hc0 : Fresh i T0 T1) (h2 : k0_cond2 i (nuW T1) = 1#1) (h3 : ¬(k0_cond3 i (nuW T1) = 1#1)) (y : S256x512.Idx) :
    ∃ pc ∈ (runA c i arg4 harg4 arg5 harg5 arg6 harg6 arg7 harg7 T0 T1 x0 x1 x2 hc0 h2 h3).1, y ∈ pc.1.set :=
  View.cover_of_tiledL (runA c i arg4 harg4 arg5 harg5 arg6 harg6 arg7 harg7 T0 T1 x0 x1 x2 hc0 h2 h3).1 S256x512.size (by sl_kernel_rfl) y

/-- So does the second, -/
theorem coverB (a0 : Buf (Elt Ideal) ((c : Thread nD τ).loc cc0_scratch0)) (a1 : Buf (Elt Ideal) ((c : Thread nD τ).loc cc0_scratch1))
    (hc0 : ¬Fresh i T0 T1) (h2 : k0_cond2 i (nuW T1) = 1#1) (h3 : ¬(k0_cond3 i (nuW T1) = 1#1)) (y : S256x512.Idx) :
    ∃ pc ∈ (runB c i arg4 harg4 arg5 harg5 arg6 harg6 arg7 harg7 T0 T1 x0 a0 a1 hc0 h2 h3).1, y ∈ pc.1.set :=
  View.cover_of_tiledL (runB c i arg4 harg4 arg5 harg5 arg6 harg6 arg7 harg7 T0 T1 x0 a0 a1 hc0 h2 h3).1 S256x512.size (by sl_kernel_rfl) y

/-- and the third. -/
theorem coverC (hc0 : ¬Fresh i T0 T1) (h2 : ¬(k0_cond2 i (nuW T1) = 1#1)) (h3 : k0_cond3 i (nuW T1) = 1#1) (y : S256x512.Idx) :
    ∃ pc ∈ (runC c i arg4 harg4 arg5 harg5 arg6 harg6 arg7 harg7 T0 T1 hc0 h2 h3).1, y ∈ pc.1.set :=
  View.cover_of_tiledL (runC c i arg4 harg4 arg5 harg5 arg6 harg6 arg7 harg7 T0 T1 hc0 h2 h3).1 S256x512.size (by sl_kernel_rfl) y
end

variable (a : (pcfg0 (F := Ideal)).Adm)

/-- The pipeline at the tables' contents. -/
abbrev cfgA : Pipeline.Cfg sig Λ₀ := cfg0 (F := Ideal) a
abbrev pcs : Fin 1 → Pipeline.Cfg sig Λ₀ := Pipeline.pin (pcfgs (F := Ideal)) fun _ => a
/-- The two tables. -/
abbrev T0 : S159.Idx → Elt Ideal .i32 := a.1 0
abbrev T1 : S1.Idx → Elt Ideal .i32 := a.1 1

variable (m : (ℓ : Loc nD τ sig) → Buf (Elt Ideal) ℓ) (ρ : Dev nD → PrngReg)

abbrev crd (t : Fin (cfgA a).N) : grid0.Coords := (cfgA a).grid.coords t
abbrev ms0 (t : Fin (cfgA a).N) : Memref sig .tc .vmem S8192x128 .bf16 := spec0_0.stage ((cfgA a).slots t (0 : Fin 4))
abbrev hs0 (t : Fin (cfgA a).N) : (ms0 a t).IsWhole := hstage0_0 (((cfgA a).slots t (0 : Fin 4)).cast nbuf0_0)
abbrev ms1 (t : Fin (cfgA a).N) : Memref sig .tc .vmem S1x1x4096x512 .f32 := spec0_1.stage ((cfgA a).slots t (1 : Fin 4))
abbrev hs1 (t : Fin (cfgA a).N) : (ms1 a t).IsWhole := hstage0_1 (((cfgA a).slots t (1 : Fin 4)).cast nbuf0_1)
abbrev ms2 (t : Fin (cfgA a).N) : Memref sig .tc .vmem S1x1x4096x512 .f32 := spec0_2.stage ((cfgA a).slots t (2 : Fin 4))
abbrev hs2 (t : Fin (cfgA a).N) : (ms2 a t).IsWhole := hstage0_2 (((cfgA a).slots t (2 : Fin 4)).cast nbuf0_2)
abbrev ms3 (t : Fin (cfgA a).N) : Memref sig .tc .vmem S256x512 .bf16 := spec0_3.stage ((cfgA a).slots t (3 : Fin 4))
abbrev hs3 (t : Fin (cfgA a).N) : (ms3 a t).IsWhole := hstage0_3 (((cfgA a).slots t (3 : Fin 4)).cast nbuf0_3)

/-- Window `w`'s block at tile `t`, read off its array at launch. -/
def iblk (c : Dev nD) (w : Fin (cfgA a).W) (t : Fin (cfgA a).N) : (((cfgA a).win w).xblock (crd a t)).Idx → Elt Ideal ((cfgA a).win w).elt :=
  (((cfgA a).win w).blk t).view.read (Elt Ideal) ((s₀ m ρ).mem (((cfgA a).win w).arr.view.loc (c : Thread nD τ)))

/-- At a tile. -/
abbrev FreshAt (t : Fin (cfgA a).N) : Prop := Fresh (crd a t) (T0 a) (T1 a)
abbrev UsedAt (t : Fin (cfgA a).N) : Prop := k0_cond2 (crd a t) (nuW (T1 a)) = 1#1

/-- The scratch buffers' contents: gate weights and up weights. -/
abbrev Scr (c : Dev nD) : Type := Buf (Elt Ideal) ((c : Thread nD τ).loc cc0_scratch0) × Buf (Elt Ideal) ((c : Thread nD τ).loc cc0_scratch1)

/-- What a used tile with a new expert does. -/
abbrev atA (c : Dev nD) (t : Fin (cfgA a).N) (h : FreshAt a t) :=
  runA c (crd a t) (ms0 a t) (hs0 a t) (ms1 a t) (hs1 a t) (ms2 a t) (hs2 a t) (ms3 a t) (hs3 a t) (T0 a) (T1 a)
    (iblk a m ρ c (0 : Fin 4) t) (iblk a m ρ c (1 : Fin 4) t) (iblk a m ρ c (2 : Fin 4) t) h h.used ((cond3_iff _ _).not_left.2 h.used)
/-- What a used tile that keeps its expert does, from the scratch buffers' contents `p`. -/
abbrev atB (c : Dev nD) (t : Fin (cfgA a).N) (p : Scr c) (h : ¬FreshAt a t) (h2 : UsedAt a t) :=
  runB c (crd a t) (ms0 a t) (hs0 a t) (ms1 a t) (hs1 a t) (ms2 a t) (hs2 a t) (ms3 a t) (hs3 a t) (T0 a) (T1 a)
    (iblk a m ρ c (0 : Fin 4) t) p.1 p.2 h h2 ((cond3_iff _ _).not_left.2 h2)
/-- What an unused tile does. -/
abbrev atC (c : Dev nD) (t : Fin (cfgA a).N) (h : ¬FreshAt a t) (h2 : ¬UsedAt a t) :=
  runC c (crd a t) (ms0 a t) (hs0 a t) (ms1 a t) (hs1 a t) (ms2 a t) (hs2 a t) (ms3 a t) (hs3 a t) (T0 a) (T1 a)
    h h2 ((cond3_iff _ _).2 h2)

open Classical in
/-- What the scratch buffers hold after `n` tiles. -/
def scr (c : Dev nD) : ℕ → Scr c
  | 0 => (default, default)
  | n + 1 => if h : n < (cfgA a).N then
      (if q : FreshAt a ⟨n, h⟩ then ((atA a m ρ c ⟨n, h⟩ q).2.1, (atA a m ρ c ⟨n, h⟩ q).2.2.1) else scr c n)
    else scr c n

theorem scr_A (c : Dev nD) (t : Fin (cfgA a).N) (q : FreshAt a t) :
    scr a m ρ c (t.val + 1) = ((atA a m ρ c t q).2.1, (atA a m ρ c t q).2.2.1) := by
  rw [scr, dif_pos t.isLt, dif_pos q]

theorem scr_BC (c : Dev nD) (t : Fin (cfgA a).N) (q : ¬FreshAt a t) : scr a m ρ c (t.val + 1) = scr a m ρ c t.val := by
  rw [scr, dif_pos t.isLt, dif_neg q]

open Classical in
/-- What tile `t` leaves in the output's block. -/
def outAt (c : Dev nD) (t : Fin (cfgA a).N) : S256x512.Idx → Elt Ideal .bf16 :=
  VO.read (Elt Ideal) (VO.writes (Elt Ideal) VO.junk
    (if q : FreshAt a t then (atA a m ρ c t q).1
     else if u : UsedAt a t then (atB a m ρ c t (scr a m ρ c t.val) q u).1
     else (atC a c t q u).1))

/-- The invariant before tile `t`: past the first tile the scratch buffers are as tracked; the body's halves of the
tables; the generator's register. -/
def Phi (c : Dev nD) (t : Fin ((cfgA a).N + 1)) : sProp 𝕄 :=
  iprop((∃ a0 a1, ⌜0 < t.val → (a0, a1) = scr a m ρ c t.val⌝ ∗ (sc0.view.loc (c : Thread nD τ) ↦{fullShare} a0) ∗ (sc1.view.loc (c : Thread nD τ) ↦{fullShare} a1))
    ∗ (tb0.view.loc (c : Thread nD τ) ↦{fullShare.right} T0 a) ∗ (tb1.view.loc (c : Thread nD τ) ↦{fullShare.right} T1 a)
    ∗ (∃ r, prngReg c r))

/-- The pipeline's proof data on core `c`. -/
def dats (_ : Fin 1) (c : Dev nD) : Dat τ (Elt Ideal) Unit ℕ (UR sig nD τ) ℕ (cfgA a) c where
  A w := (s₀ m ρ).mem (((cfgA a).win w).arr.view.loc (c : Thread nD τ))
  after w t := match w with
    | ⟨0, _⟩ => iblk a m ρ c (0 : Fin 4) t
    | ⟨1, _⟩ => iblk a m ρ c (1 : Fin 4) t
    | ⟨2, _⟩ => iblk a m ρ c (2 : Fin 4) t
    | ⟨3, _⟩ => outAt a m ρ c t
  Φ t := Phi a m ρ c t
  q w := Pipeline.shareOf (cfgA a).spec w
  owed _ := 0

theorem after_0 (c : Dev nD) (t : Fin (cfgA a).N) : (dats a m ρ 0 c).after (0 : Fin 4) t = iblk a m ρ c (0 : Fin 4) t := rfl
theorem after_1 (c : Dev nD) (t : Fin (cfgA a).N) : (dats a m ρ 0 c).after (1 : Fin 4) t = iblk a m ρ c (1 : Fin 4) t := rfl
theorem after_2 (c : Dev nD) (t : Fin (cfgA a).N) : (dats a m ρ 0 c).after (2 : Fin 4) t = iblk a m ρ c (2 : Fin 4) t := rfl
theorem after_3 (c : Dev nD) (t : Fin (cfgA a).N) : (dats a m ρ 0 c).after (3 : Fin 4) t = outAt a m ρ c t := rfl

theorem before_0 (c : Dev nD) (t : Fin (cfgA a).N) (d) : (dats a m ρ 0 c).before (0 : Fin 4) t d = iblk a m ρ c (0 : Fin 4) t :=
  ((dats a m ρ 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m ρ 0 c).before (1 : Fin 4) t d = iblk a m ρ c (1 : Fin 4) t :=
  ((dats a m ρ 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats a m ρ 0 c).before (2 : Fin 4) t d = iblk a m ρ c (2 : Fin 4) t :=
  ((dats a m ρ 0 c).before_in_eq_fetched (2 : Fin 4) rfl (fun _ => rfl) (fun _ _ _ => rfl) (fun t => by rw [after_2]; unfold Dat.blockOf iblk; rfl) t d).trans
    (by unfold Dat.fetched Dat.blockOf iblk; rfl)

/-- The output's block is stored at every tile. -/
theorem idle_3 (t : Fin (cfgA a).N) : (cfgA a).idle (3 : Fin 4) ((cfgA a).grid.coords t) = false := by
  show (!(k0_cond2 _ _ == 1#1) && !(k0_cond3 _ _ == 1#1)) = false
  have h := cond3_iff (crd a t) (a.1.atD 1 ![0])
  by_cases h2 : k0_cond2 (crd a t) (a.1.atD 1 ![0]) = 1#1
  · rw [h2]; rfl
  · rw [h.2 h2]; simp

/-- The body at tile `t`, as the pipeline calls it. -/
abbrev bodyAt (t : Fin (cfgA a).N) : Prog (TpuEff nD τ sig (Elt Ideal) Λ₀ .tc) PUnit :=
  cc0_moe_up (crd a t) (Memref.whole main_arg1) (Memref.isWhole_whole _) (Memref.whole main_arg2) (Memref.isWhole_whole _) (ms0 a t) (hs0 a t) (ms1 a t) (hs1 a t) (ms2 a t) (hs2 a t) (ms3 a t) (hs3 a t) (Memref.whole cc0_scratch0) (Memref.isWhole_whole _) (Memref.whole cc0_scratch1) (Memref.isWhole_whole _)

set_option maxHeartbeats 4000000 in
/-- The body's obligation at tile `t`, path by path. -/
theorem sound_body (h0 : ∀ t : Fin (cfgA a).N, t.val = 0 → FreshAt a t) (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 4) t d))
        ∗ (∃ d, owns (c : Thread nD τ) (ms1 a t) fullShare ((dats a m ρ 0 c).before (1 : Fin 4) t d))
        ∗ (∃ d, owns (c : Thread nD τ) (ms2 a t) fullShare ((dats a m ρ 0 c).before (2 : Fin 4) t d))
        ∗ (∃ d, owns (c : Thread nD τ) (ms3 a t) fullShare ((dats a m ρ 0 c).before (3 : Fin 4) t d)))
      ⊢ wp frame (wpE (defs₀ (F := Ideal)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0, idle_3]
  simp only [before_0, before_1, before_2, after_0, after_1, after_2, after_3]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  simp only [Fin.val_castSucc, Fin.val_succ]
  by_cases q : FreshAt a t
  · rw [scr_A a m ρ c t q]
    unfold outAt; rw [dif_pos q]
    iintro ⟨⟨⟨%a0, %a1, -, HS0, HS1⟩, HT0, HT1, HR⟩, Ho, ⟨%d0, H0⟩, ⟨%d1, H1⟩, ⟨%d2, H2⟩, ⟨%d3, H3⟩⟩
    iapply ((atA a m ρ c t q).2.2.2 a0 a1 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    isplitl [HS0]; · iexact HS0
    isplitl [HS1]; · iexact HS1
    iintro ⟨H0, H1, H2, HT0, HT1, ⟨%e3, H3⟩, HS0, HS1⟩
    isplitl [HS0 HS1 HT0 HT1 HR]
    · isplitl [HS0 HS1]
      · iexists _; iexists _; isplitr; swap
        · isplitl [HS0]; · iexact HS0
          iexact HS1
        · ipureintro; intro _; rfl
      isplitl [HT0]; · iexact HT0
      isplitl [HT1]; · iexact HT1
      iexact HR
    isplitl [Ho]; · iexact Ho
    isplitl [H0]; · iapply owns_of_rep; iexact H0
    isplitl [H1]; · iapply owns_of_rep; iexact H1
    isplitl [H2]; · iapply owns_of_rep; iexact H2
    unfold owns; iexists _; isplitr; swap
    · iexact H3
    · ipureintro; exact View.read_writes_of_cover _ _ _ _ _ (coverA c _ _ _ _ _ _ _ _ _ _ _ _ _ _ _ _ _)
  · have ht : 0 < t.val := Nat.pos_of_ne_zero fun h => q (h0 t h)
    rw [scr_BC a m ρ c t q]
    by_cases u : UsedAt a t
    · unfold outAt; rw [dif_neg q, dif_pos u]
      iintro ⟨⟨⟨%a0, %a1, %hs, HS0, HS1⟩, HT0, HT1, HR⟩, Ho, ⟨%d0, H0⟩, ⟨%d1, H1⟩, ⟨%d2, H2⟩, ⟨%d3, H3⟩⟩
      rw [← hs ht]
      iapply ((atB a m ρ c t (a0, a1) q u).2 _)
      isplitl [H0]; · iapply rep_of_owns; iexact H0
      isplitl [HT0]; · iexact HT0
      isplitl [HT1]; · iexact HT1
      isplitl [H3]; · iexists _; iexact H3
      isplitl [HS0]; · iexact HS0
      isplitl [HS1]; · iexact HS1
      iintro ⟨H0, HT0, HT1, ⟨%e3, H3⟩, HS0, HS1⟩
      isplitl [HS0 HS1 HT0 HT1 HR]
      · isplitl [HS0 HS1]
        · iexists _; iexists _; isplitr; swap
          · isplitl [HS0]; · iexact HS0
            iexact HS1
          · ipureintro; intro _; rfl
        isplitl [HT0]; · iexact HT0
        isplitl [HT1]; · iexact HT1
        iexact HR
      isplitl [Ho]; · iexact Ho
      isplitl [H0]; · iapply owns_of_rep; iexact H0
      isplitl [H1]; · iexact H1
      isplitl [H2]; · iexact H2
      unfold owns; iexists _; isplitr; swap
      · iexact H3
      · ipureintro; exact View.read_writes_of_cover _ _ _ _ _ (coverB c _ _ _ _ _ _ _ _ _ _ _ _ _ _ _ _ _)
    · unfold outAt; rw [dif_neg q, dif_neg u]
      iintro ⟨⟨⟨%a0, %a1, %hs, HS0, HS1⟩, HT0, HT1, HR⟩, Ho, ⟨%d0, H0⟩, ⟨%d1, H1⟩, ⟨%d2, H2⟩, ⟨%d3, H3⟩⟩
      iapply ((atC a c t q u).2 _)
      isplitl [HT0]; · iexact HT0
      isplitl [HT1]; · iexact HT1
      isplitl [H3]; · iexists _; iexact H3
      iintro ⟨HT0, HT1, ⟨%e3, H3⟩⟩
      isplitl [HS0 HS1 HT0 HT1 HR]
      · isplitl [HS0 HS1]
        · iexists a0; iexists a1; isplitr; swap
          · isplitl [HS0]; · iexact HS0
            iexact HS1
          · ipureintro; intro _; exact hs ht
        isplitl [HT0]; · iexact HT0
        isplitl [HT1]; · iexact HT1
        iexact HR
      isplitl [Ho]; · iexact Ho
      isplitl [H0]; · iexact H0
      isplitl [H1]; · iexact H1
      isplitl [H2]; · iexact H2
      unfold owns; iexists _; isplitr; swap
      · iexact H3
      · ipureintro; exact View.read_writes_of_cover _ _ _ _ _ (coverC c _ _ _ _ _ _ _ _ _ _ _ _ _ _)

theorem body_obligation (h0 : ∀ t : Fin (cfgA a).N, t.val = 0 → FreshAt a t) (c : Dev nD) :
    BodyObligation (dats a m ρ 0 c) (defs₀ (F := Ideal)) Variants.none () Set.univ := fun t => by
  rw [bigSep_W0]
  exact sound_body a m ρ h0 c t

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) :
    iprop(Pipeline.ΦA (U := UR sig nD τ) spec0 c ∗ Pipeline.ΦT (U := UR sig nD τ) pre0 a.1 c) ⊢ (dats a m ρ 0 c).Φ 0 := by
  unfold Pipeline.ΦA Pipeline.ΦT
  rw [prefHeld_eq, scopedRest0_eq, show (dats a m ρ 0 c).Φ 0 = Phi a m ρ c 0 from rfl]
  unfold Phi
  iintro ⟨⟨⟨⟨%f0, HS0⟩, ⟨%f1, HS1⟩⟩, HR⟩, HT0, HT1⟩
  isplitl [HS0 HS1]
  · iexists f0; iexists f1; isplitr; swap
    · isplitl [HS0]; · iexact HS0
      iexact HS1
    · ipureintro; intro h; exact absurd h (Nat.lt_irrefl 0)
  isplitl [HT0]; · iexact HT0
  isplitl [HT1]; · iexact HT1
  iexact HR

theorem phi_out (c : Dev nD) : (dats a m ρ 0 c).Φ (Fin.last (cfgA a).N) ⊢ Pipeline.ΦA (U := UR sig nD τ) spec0 c := by
  unfold Pipeline.ΦA
  rw [scopedRest0_eq, show (dats a m ρ 0 c).Φ (Fin.last (cfgA a).N) = Phi a m ρ c (Fin.last _) from rfl]
  unfold Phi
  iintro ⟨⟨%a0, %a1, -, HS0, HS1⟩, -, -, HR⟩
  isplitl [HS0 HS1]
  · isplitl [HS0]
    · iexists a0; iexact HS0
    iexists a1; iexact HS1
  iexact HR

set_option maxHeartbeats 4000000 in
/-- From a memory that holds the tables, with zero counters: the program runs to the end, every array ends at what the
pipeline computes, every other buffer unchanged, every counter at zero. -/
theorem run_main (h0 : ∀ t : Fin (cfgA a).N, t.val = 0 → FreshAt a t)
    (hp : ∀ (c : Dev nD) (k : Fin 2), m ((c : Thread nD τ).loc (pre0.ref k)) = a.1 k) :
    θ_run (defs (F := Ideal)) (onTc (τ := τ) (main (F := Ideal))) (s₀ m ρ)
      (fun r => Pipeline.FramePost (pcs a) (dats a m ρ) 0 (fun c b => m ((c : Thread nD τ).loc b)) r ∧ r.2.sem = fun _ => 0) :=
  Pipeline.θ_run_frameP_track_shared (pcfgs (F := Ideal)) (fun _ => a) (dats a m ρ) 0 (launch₀0 (F := Ideal)) defs₀ Variants.none
    m ρ main (fun c => (body_obligation a m ρ h0 c).loose) (fun _ _ _ => rfl) (fun _ _ => rfl)
    (fun c b => m ((c : Thread nD τ).loc b))
    (Pipeline.hmainP_region _ _ _ _ m main fun c => main_chain c)
    (fun _ _ => rfl) hp (phi_in a m ρ) (phi_out a m ρ) _ (fun _ h => h)

/-- The frame's clauses read off the run. -/
theorem frame_args (h0 : ∀ t : Fin (cfgA a).N, t.val = 0 → FreshAt a t)
    (hp : ∀ (c : Dev nD) (k : Fin 2), m ((c : Thread nD τ).loc (pre0.ref k)) = a.1 k) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).1 (0 : Fin 4)).trans ((dats a m ρ 0 c).arrAt_in (0 : Fin 4) rfl _),
     (h.1 c).2 main_arg1 (show main_arg1 ∈ Pipeline.restRefs sig spec0 by decide), (h.1 c).2 main_arg2 (show main_arg2 ∈ Pipeline.restRefs sig spec0 by decide),
     ((h.1 c).1 (1 : Fin 4)).trans ((dats a m ρ 0 c).arrAt_in (1 : Fin 4) rfl _)⟩, h.2⟩) (run_main a m ρ h0 hp)

end Cert.UpIdeal.Hand

end
-- ==== Proof.UpIdeal.Adm.lean ====
module

public import proofs.«01_k».proof.Proof.UpIdeal.Frame
public import proofs.«01_k».proof.Defs
public import proofs.«01_k».proof.Proof.Gen.Pre_routed_up
public import Idealize.ShloMosaic.Lib.Affine

/-! The tables the precondition admits: every expert number below 32, at least one tile in use. They keep every block
inside its array, and the first tile loads its expert. -/

@[expose] public section

set_option maxRecDepth 16384
set_option Elab.async false

noncomputable section

namespace Cert.UpIdeal.Hand

open Cert.UpIdeal Cert.UpIdeal.Gen
open Idealize.ShloMosaic Idealize.ShloMosaic.TcCoe Idealize.SL.Sem

/-- A word whose signed value lies in a range of naturals has that value unsigned. -/
theorem toNat_lt_of_toInt {x : BitVec 32} {n : ℕ} (h0 : 0 ≤ x.toInt) (h : x.toInt < n) : x.toNat < n := by
  have := BitVec.toInt_eq_toNat_cond x
  split at this <;> omega

/-- The smaller of a tile's number and the last used tile's. -/
theorem tile_le (t : ℕ) (ht : t < 159) (v : BitVec 32) (hv : 1 ≤ v.toInt) :
    (Scalar.minsi (BitVec.ofNat 32 t) (Scalar.subi v 1#32)).toNat < 159 := by
  have e : (Scalar.subi v 1#32) = v - 1#32 := rfl
  rw [e]
  show (if (BitVec.ofNat 32 t).slt (v - 1#32) then BitVec.ofNat 32 t else v - 1#32).toNat < 159
  have hv2 := BitVec.toInt_eq_toNat_cond v
  have hlt := v.isLt
  have hw : (v - 1#32).toNat = v.toNat - 1 := by
    rw [BitVec.toNat_sub_of_le]
    · rfl
    · rw [BitVec.le_def]; split at hv2 <;> simp <;> omega
  have hx : (BitVec.ofNat 32 t).toNat = t := by rw [BitVec.toNat_ofNat]; omega
  split_ifs with h
  · omega
  · rw [BitVec.slt_iff_toInt_lt, not_lt, BitVec.toInt_eq_toNat_cond, BitVec.toInt_eq_toNat_cond, hw, hx] at h
    rw [hw]
    split at hv2 <;> split at h <;> split at h <;> omega

/-- At a used tile it is the tile's own number. -/
theorem tile_used (t : ℕ) (ht : t < 159) (v : BitVec 32) (hv : (t : ℤ) < v.toInt) :
    (Scalar.minsi (BitVec.ofNat 32 t) (Scalar.subi v 1#32)).toNat = t := by
  have e : (Scalar.subi v 1#32) = v - 1#32 := rfl
  rw [e]
  show (if (BitVec.ofNat 32 t).slt (v - 1#32) then BitVec.ofNat 32 t else v - 1#32).toNat = t
  have hv2 := BitVec.toInt_eq_toNat_cond v
  have hlt := v.isLt
  have hw : (v - 1#32).toNat = v.toNat - 1 := by
    rw [BitVec.toNat_sub_of_le]
    · rfl
    · rw [BitVec.le_def]; split at hv2 <;> simp <;> omega
  have hx : (BitVec.ofNat 32 t).toNat = t := by rw [BitVec.toNat_ofNat]; omega
  split_ifs with h
  · exact hx
  · rw [BitVec.slt_iff_toInt_lt, not_lt, BitVec.toInt_eq_toNat_cond, BitVec.toInt_eq_toNat_cond, hw, hx] at h
    rw [hw]
    split at hv2 <;> split at h <;> split at h <;> omega

/-- What the precondition says of the tables' words. -/
structure Good (p : pre0.Contents (Elt Ideal)) : Prop where
  te : ∀ j : S159.Idx, (show BitVec 32 from p 0 j).toNat < 32
  nu : ∀ j : S1.Idx, 1 ≤ (show BitVec 32 from p 1 j).toInt

theorem ok_of_good (p : pre0.Contents (Elt Ideal)) (h : Good p) : ok0 p := by
  refine ⟨fun i => ⟨Fin.forall_fin_two.2 ⟨?_, ?_⟩, .inr (Affine.block_words_dvd (of_decide_eq_true rfl) (by decide))⟩,
    fun i => ⟨?_, .inl rfl⟩, fun i => ⟨?_, .inl rfl⟩⟩
  · have := tile_le (i 1).val (i 1).isLt _ (h.nu ((Rect.unit (s := S1) ![0] S1.size inb_S1_S1_0).emb (Shape.Idx.first (numel1_S1.symm ▸ Nat.one_pos))))
    show ((Scalar.minsi (BitVec.ofNat 32 (i 1).val) (Scalar.subi _ 1#32)).toNat + 1) * 8192 ≤ 1302528
    have h2 : ∀ n, n < 159 → (n + 1) * 8192 ≤ 1302528 := by omega
    exact h2 _ this
  · show (0 + 1) * 128 ≤ 128; omega
  · have := h.te ((Rect.unit (s := S159) ![(Scalar.indexCast (BitVec.ofNat 32 (i 1).val) : BitVec 32).toNat] S1.size (k0_off1_inb i)).emb (Shape.Idx.first (numel1_S1.symm ▸ Nat.one_pos)))
    have h2 : ∀ n, n < 32 → (n + 1) * 1 ≤ 32 := by omega
    intro x
    match x with
    | ⟨0, _⟩ => show (0 + 1) * 1 ≤ 2; omega
    | ⟨1, _⟩ => exact h2 _ this
    | ⟨2, _⟩ => show (0 + 1) * 4096 ≤ 4096; omega
    | ⟨3, _⟩ => show ((BitVec.ofNat 32 (i 0).val).toNat + 1) * 512 ≤ 1024; rw [show (i 0).val = 0 from Nat.lt_one_iff.1 (i 0).isLt]; decide
  · have := h.te ((Rect.unit (s := S159) ![(Scalar.indexCast (BitVec.ofNat 32 (i 1).val) : BitVec 32).toNat] S1.size (k0_off1_inb i)).emb (Shape.Idx.first (numel1_S1.symm ▸ Nat.one_pos)))
    have h2 : ∀ n, n < 32 → (n + 1) * 1 ≤ 32 := by omega
    intro x
    match x with
    | ⟨0, _⟩ => show (0 + 1) * 1 ≤ 2; omega
    | ⟨1, _⟩ => exact h2 _ this
    | ⟨2, _⟩ => show (0 + 1) * 4096 ≤ 4096; omega
    | ⟨3, _⟩ => show ((Scalar.addi 1#32 (BitVec.ofNat 32 (i 0).val) : BitVec 32).toNat + 1) * 512 ≤ 1024; rw [show (i 0).val = 0 from Nat.lt_one_iff.1 (i 0).isLt]; decide

/-- The tables as the memory holds them, -/
def tabs (m : (ℓ : Loc nD τ sig) → Buf (Elt Ideal) ℓ) : pre0.Contents (Elt Ideal) := fun k => m (((0 : Dev nD) : Thread nD τ).loc (pre0.ref k))

/-- admitted. -/
def adm (m : (ℓ : Loc nD τ sig) → Buf (Elt Ideal) ℓ) (h : Good (tabs m)) : (pcfg0 (F := Ideal)).Adm := ⟨tabs m, ok_of_good _ h⟩

theorem adm_held (m : (ℓ : Loc nD τ sig) → Buf (Elt Ideal) ℓ) (h : Good (tabs m)) (c : Dev nD) (k : Fin 2) :
    m ((c : Thread nD τ).loc (pre0.ref k)) = (adm m h).1 k := by
  obtain rfl : c = 0 := Subsingleton.elim _ _
  rfl

theorem crd_t : ∀ t : Fin grid0.N, (grid0.coords t 1).val = t.val := by decide +kernel

/-- A tile is used exactly when its number is below the number of tiles in use. -/
theorem used_iff (a : (pcfg0 (F := Ideal)).Adm) (t : Fin (cfgA a).N) : UsedAt a t ↔ (t.val : ℤ) < (nuW (T1 a)).toInt := by
  refine (cond2_iff _ _).trans ((IntOp.cmpi_slt (x := BitVec.ofNat 32 _) (y := nuW (T1 a))).trans ?_)
  rw [show ((crd a t) 1).val = t.val from crd_t t, BitVec.toInt_eq_toNat_cond, BitVec.toNat_ofNat]
  have : t.val < 159 := Nat.lt_of_lt_of_eq t.isLt N_0
  rw [Nat.mod_eq_of_lt (by omega), if_pos (by omega)]

theorem first_fresh (a : (pcfg0 (F := Ideal)).Adm) (h : Good a.1) (t : Fin (cfgA a).N) (ht : t.val = 0) : FreshAt a t := by
  have hu : Scalar.cmpi .slt (BitVec.ofNat 32 ((crd a t) 1).val) (nuW (T1 a)) = 1#1 :=
    (cond2_iff _ _).1 ((used_iff a t).2 (by rw [ht]; exact lt_of_lt_of_le Int.zero_lt_one (h.nu _)))
  refine (bit_ne _).2 ?_
  rw [hu, show ((crd a t) 1).val = 0 from (crd_t t).trans ht]
  generalize Scalar.cmpi .ne (teW (crd a t) (T0 a)) (teP (crd a t) (T0 a)) = b
  revert b; decide

/-- The precondition gives it. -/
theorem good_of_pre [hp : Cert.Pre_routed_up.Facts] (m : (ℓ : Loc nD τ sig) → Buf (Elt Ideal) ℓ) (h : Cert.Pre_UpIdeal m) : Good (tabs m) where
  te j := by
    have h1 := congrFun (h 0).1 j
    have h2 : IntOp.andi (IntOp.cmpi .sge (show BitVec 32 from tabs m 0 j) 0#32) (IntOp.cmpi .slt (show BitVec 32 from tabs m 0 j) 32#32) = 1#1 := h1
    have h3 : IntOp.cmpi .sge (show BitVec 32 from tabs m 0 j) 0#32 = 1#1 ∧ IntOp.cmpi .slt (show BitVec 32 from tabs m 0 j) 32#32 = 1#1 := by
      revert h2
      generalize IntOp.cmpi .sge (show BitVec 32 from tabs m 0 j) 0#32 = b
      generalize IntOp.cmpi .slt (show BitVec 32 from tabs m 0 j) 32#32 = d
      revert b d; decide
    exact toNat_lt_of_toInt (IntOp.cmpi_sge.1 h3.1) (IntOp.cmpi_slt.1 h3.2)
  nu j := by
    have h1 : IntOp.cmpi .sge (show BitVec 32 from tabs m 1 j) 1#32 = 1#1 := congrFun (h 0).2 j
    exact IntOp.cmpi_sge.1 h1

end Cert.UpIdeal.Hand

end
-- ==== Proof.UpIdeal.Formula.lean ====
module

public import proofs.«01_k».proof.Proof.Gen.UpIdeal
public import Idealize.ShloMosaic.Lib.Pointwise
public import Idealize.ShloMosaic.PureOps.Ideal

/-! The experts' first product as one formula of its four arguments. -/

@[expose] public section

noncomputable section

namespace Cert.UpIdeal.Hand

open Cert.UpIdeal
open Idealize.ShloMosaic

/-- The gated product: the gate through its logistic, times the other half. -/
def gated (a u : EReal) : EReal := Ideal.div a (Ideal.ofBits .f32 0x3F800000#32 + Ideal.exp (-a)) * u

/-- The expert of a tile, as a number below 32. -/
def expertOf (T : S159.Idx → BitVec 32) (t : Fin 159) : Fin 32 := ⟨min (T (ix1 t)).toNat 31, by omega⟩

/-- Row `n` of the packed rows (32 rows of 128 each) times column `f` of the first array of expert `e`'s weights. -/
def expertDot (X : S1302528x128.Idx → EReal) (W : S2x32x4096x1024.Idx → EReal) (n : Fin 40704) (e : Fin 32) (f : Fin 1024) : EReal :=
  ∑ k : Fin 4096, X (ix2 ⟨32 * n.val + k.val / 128, by omega⟩ ⟨k.val % 128, by omega⟩) * W (ix4 0 e k f)

/-- The whole array: in a tile in use the gated product of the expert's two halves, zero in the others. -/
def expertsUp (X : S1302528x128.Idx → EReal) (T : S159.Idx → BitVec 32) (N : S1.Idx → BitVec 32)
    (W : S2x32x4096x1024.Idx → EReal) : S40704x512.Idx → EReal := fun i =>
  have h0 : (i 0).val < 40704 := (i 0).isLt
  have h1 : (i 1).val < 512 := (i 1).isLt
  if (((i 0).val / 256 : ℕ) : ℤ) < (N (ix1 0)).toInt then
    gated (expertDot X W ⟨(i 0).val, h0⟩ (expertOf T ⟨(i 0).val / 256, by omega⟩) ⟨(i 1).val, by omega⟩)
      (expertDot X W ⟨(i 0).val, h0⟩ (expertOf T ⟨(i 0).val / 256, by omega⟩) ⟨512 + (i 1).val, by omega⟩)
  else 0

theorem expertsUp_apply (X : S1302528x128.Idx → EReal) (T : S159.Idx → BitVec 32) (N : S1.Idx → BitVec 32)
    (W : S2x32x4096x1024.Idx → EReal) (n : Fin 40704) (f : Fin 512) : expertsUp X T N W (ix2 n f)
      = if ((n.val / 256 : ℕ) : ℤ) < (N (ix1 0)).toInt then
          gated (expertDot X W n (expertOf T ⟨n.val / 256, by omega⟩) ⟨f.val, by omega⟩)
            (expertDot X W n (expertOf T ⟨n.val / 256, by omega⟩) ⟨512 + f.val, by omega⟩)
        else 0 := rfl

end Cert.UpIdeal.Hand

end
-- ==== Proof.UpIdeal.Body.lean ====
module

public import proofs.«01_k».proof.Proof.UpIdeal.Frame
public import proofs.«01_k».proof.Proof.UpIdeal.Formula
public import Idealize.ShloMosaic.Lib.Pointwise
public import Idealize.ShloMosaic.Lib.Pipeline.Value
public import Idealize.ShloMosaic.Lib.Pipeline.ValueKit
public import Idealize.ShloMosaic.Lib.IdealHost
public import Idealize.ShloMosaic.Lib.VecWindow

/-! What one run of the expert kernel's body leaves, at one element: the gated product of the tile's rows and the expert's
two halves of weights. -/

@[expose] public section

set_option maxRecDepth 16384

noncomputable section

namespace Cert.UpIdeal.Hand

open Cert.UpIdeal Cert.UpIdeal.Gen
open Idealize.ShloMosaic Idealize.ShloMosaic.TcCoe Idealize.SL.Sem

/-- A sum over 4096 places, sixteen slabs of 256. -/
theorem sum_slabs (F : Fin 4096 → EReal) : ∑ k, F k = ∑ s : Fin 16, ∑ k : Fin 256, F ⟨256 * s.val + k.val, by omega⟩ := by
  rw [← Fintype.sum_prod_type', ← Equiv.sum_comp (finProdFinEquiv (m := 16) (n := 256))]
  refine Finset.sum_congr rfl fun p _ => congrArg F (Fin.ext ?_)
  show p.2.val + 256 * p.1.val = 256 * p.1.val + p.2.val
  omega

/-- The two rows a loaded word's halves hold, side by side. -/
theorem lanes_apply (raw : Vec Ideal S256x2x128 .bf16) (r k : Fin 256) :
    k0_pay5 (F := Ideal) raw (ix2 r k) = raw (ix3 r ⟨k.val / 128, by omega⟩ ⟨k.val % 128, by omega⟩) := by
  unfold k0_pay5
  pointwise
  split
  · exact congrArg raw (congrArg₂ (ix3 r) (Fin.ext (show 0 = k.val / 128 by omega)) (Fin.ext (show k.val = k.val % 128 by omega)))
  · exact congrArg raw (congrArg₂ (ix3 r) (Fin.ext (show 1 = k.val / 128 by omega)) (Fin.ext (show k.val - 128 = k.val % 128 by omega)))

/-- One slab's product. -/
def slab (raw : Vec Ideal S256x2x128 .bf16) (w : FVec Ideal S256x512 .bf16) : FVec Ideal S256x512 .f32 :=
  matmul dot_S256x256_S256x512_S256x512_1_0_0_1_n_n none (k0_pay5 (F := Ideal) raw) w (constant (F := Ideal) S256x512 .f32 0x00000000#32)

theorem slab_apply (raw : Vec Ideal S256x2x128 .bf16) (w : FVec Ideal S256x512 .bf16) (r : Fin 256) (f : Fin 512) :
    slab raw w (ix2 r f) = ∑ k : Fin 256, raw (ix3 r ⟨k.val / 128, by omega⟩ ⟨k.val % 128, by omega⟩) * w (ix2 k f) := by
  unfold slab
  pointwise
  exact Finset.sum_congr rfl fun k _ => by rw [lanes_apply]

/-- A slab read out of the block of packed rows. -/
theorem raw_apply (arg4 : Memref sig .tc .vmem S8192x128 .bf16) (x0 : S8192x128.Idx → Elt Ideal .bf16) (h1 : S4096x2x128.numel = S8192x128.numel)
    (s : Fin 16) (inb : ∀ a : Fin S4096x2x128.rank, S256x2x128.size a = 0 ∨ (![s.val, 0, 0] : Fin 3 → ℕ) a + (![16, 1, 1] : Fin 3 → ℕ) a * (S256x2x128.size a - 1) < S4096x2x128.size a)
    (r : Fin 256) (h : Fin 2) (l : Fin 128) :
    View.readAt (Elt Ideal) (arg4.view.reshape S4096x2x128 h1)
      { off := ![s.val, 0, 0], size := S256x2x128.size, stride := ![16, 1, 1], inb := inb } (arg4.view.rep x0) (ix3 r h l)
      = x0 (ix2 ⟨32 * r.val + 2 * s.val + h.val, by omega⟩ l) := by
  refine (congrFun (View.read_rep arg4.view x0) _).trans (congrArg x0 (Shape.reshapeEquiv_eq_of_rowMajor h1 ?_))
  rw [Shape.rowMajor_val_two, Shape.rowMajor_val_three]
  show (32 * r.val + 2 * s.val + h.val) * 128 + l.val = ((s.val + 16 * r.val) * 2 + (0 + 1 * h.val)) * 128 + (0 + 1 * l.val)
  omega

theorem slab_at (x0 : S8192x128.Idx → EReal) (w : S4096x512.Idx → EReal) (raw : Vec Ideal S256x2x128 .bf16)
    (v : FVec Ideal S256x512 .bf16) (s : Fin 16)
    (hr : ∀ r h l, raw (ix3 r h l) = x0 (ix2 ⟨32 * r.val + 2 * s.val + h.val, by omega⟩ l))
    (hw : ∀ (k : Fin 256) (f : Fin 512), v (ix2 k f) = w (ix2 ⟨256 * s.val + k.val, by omega⟩ f)) (r : Fin 256) (f : Fin 512) :
    slab raw v (ix2 r f)
      = ∑ k : Fin 256, x0 (ix2 ⟨32 * r.val + (256 * s.val + k.val) / 128, by omega⟩ ⟨(256 * s.val + k.val) % 128, by omega⟩)
          * w (ix2 ⟨256 * s.val + k.val, by omega⟩ f) := by
  rw [slab_apply]
  refine Finset.sum_congr rfl fun k _ => ?_
  rw [hr, hw]
  refine congrArg₂ (· * ·) (congrArg x0 (congrArg₂ ix2 (Fin.ext ?_) (Fin.ext ?_))) rfl
  · show 32 * r.val + 2 * s.val + k.val / 128 = 32 * r.val + (256 * s.val + k.val) / 128
    omega
  · show k.val % 128 = (256 * s.val + k.val) % 128
    omega

/-- A tile's row against a column of weights: the row's 4096 features, as the packed rows hold them. -/
def dotRow (x0 : S8192x128.Idx → EReal) (w : S4096x512.Idx → EReal) (r : Fin 256) (f : Fin 512) : EReal :=
  ∑ k : Fin 4096, x0 (ix2 ⟨32 * r.val + k.val / 128, by omega⟩ ⟨k.val % 128, by omega⟩) * w (ix2 k f)

theorem dotRow_slabs (x0 : S8192x128.Idx → EReal) (w : S4096x512.Idx → EReal) (r : Fin 256) (f : Fin 512) :
    dotRow x0 w r f = ∑ s : Fin 16, ∑ k : Fin 256,
      x0 (ix2 ⟨32 * r.val + (256 * s.val + k.val) / 128, by omega⟩ ⟨(256 * s.val + k.val) % 128, by omega⟩)
          * w (ix2 ⟨256 * s.val + k.val, by omega⟩ f) :=
  sum_slabs _

theorem sum16 (g : Fin 16 → EReal) : ∑ s, g s
    = g 0 + g 1 + g 2 + g 3 + g 4 + g 5 + g 6 + g 7 + g 8 + g 9 + g 10 + g 11 + g 12 + g 13 + g 14 + g 15 := by
  simp only [Fin.sum_univ_castSucc, Finset.univ_eq_empty, Finset.sum_empty, zero_add]
  rfl

/-- Rows 256·s and on of a half of the weights, as the body loads them. -/
theorem rowsG (c : Dev nD) (a0 : Buf (Elt Ideal) ((c : Thread nD τ).loc cc0_scratch0)) (s : Fin 16)
    (inb : ∀ a, (![256 * s.val, 0] : Fin 2 → ℕ) a + S256x512.size a ≤ S4096x512.size a) (k : Fin 256) (f : Fin 512) :
    View.readAt (Elt Ideal) sc0.view (Rect.unit (s := S4096x512) ![256 * s.val, 0] S256x512.size inb).toLoadRect a0 (ix2 k f)
      = (show S4096x512.Idx → EReal from a0) (ix2 ⟨256 * s.val + k.val, by omega⟩ f) := by
  refine congrArg (show S4096x512.Idx → EReal from a0) (funext fun a => Fin.ext ?_)
  match a with
  | ⟨0, _⟩ => show 256 * s.val + 1 * k.val = 256 * s.val + k.val; omega
  | ⟨1, _⟩ => show 0 + 1 * f.val = f.val; omega

theorem rowsU (c : Dev nD) (a1 : Buf (Elt Ideal) ((c : Thread nD τ).loc cc0_scratch1)) (s : Fin 16)
    (inb : ∀ a, (![256 * s.val, 0] : Fin 2 → ℕ) a + S256x512.size a ≤ S4096x512.size a) (k : Fin 256) (f : Fin 512) :
    View.readAt (Elt Ideal) sc1.view (Rect.unit (s := S4096x512) ![256 * s.val, 0] S256x512.size inb).toLoadRect a1 (ix2 k f)
      = (show S4096x512.Idx → EReal from a1) (ix2 ⟨256 * s.val + k.val, by omega⟩ f) := by
  refine congrArg (show S4096x512.Idx → EReal from a1) (funext fun a => Fin.ext ?_)
  match a with
  | ⟨0, _⟩ => show 256 * s.val + 1 * k.val = 256 * s.val + k.val; omega
  | ⟨1, _⟩ => show 0 + 1 * f.val = f.val; omega

section
variable (c : Dev nD) (arg4 : Memref sig .tc .vmem S8192x128 .bf16) (harg4 : arg4.IsWhole) (x0 : S8192x128.Idx → Elt Ideal .bf16)
  (a0 : Buf (Elt Ideal) ((c : Thread nD τ).loc cc0_scratch0)) (a1 : Buf (Elt Ideal) ((c : Thread nD τ).loc cc0_scratch1))

/-- The gate's accumulator is sixteen slabs' products, -/
theorem gate_chain : runB.sl.r_24 c arg4 harg4 x0 a0 = (addf (addf (addf (addf (addf (addf (addf (addf (addf (addf (addf (addf (addf (addf (addf (slab (runB.sl.v23_raw arg4 harg4 x0)
      (View.readAt (Elt Ideal) sc0.view (Rect.unit (s := S4096x512) ![0, 0] S256x512.size inb_S4096x512_S256x512_0_0).toLoadRect a0))
    (slab (runB.sl.v38_raw arg4 harg4 x0)
      (View.readAt (Elt Ideal) sc0.view (Rect.unit (s := S4096x512) ![256, 0] S256x512.size inb_S4096x512_S256x512_256_0).toLoadRect a0)))
    (slab (runB.sl.v55_raw arg4 harg4 x0)
      (View.readAt (Elt Ideal) sc0.view (Rect.unit (s := S4096x512) ![512, 0] S256x512.size inb_S4096x512_S256x512_512_0).toLoadRect a0)))
    (slab (runB.sl.v72_raw arg4 harg4 x0)
      (View.readAt (Elt Ideal) sc0.view (Rect.unit (s := S4096x512) ![768, 0] S256x512.size inb_S4096x512_S256x512_768_0).toLoadRect a0)))
    (slab (runB.sl.v89_raw arg4 harg4 x0)
      (View.readAt (Elt Ideal) sc0.view (Rect.unit (s := S4096x512) ![1024, 0] S256x512.size inb_S4096x512_S256x512_1024_0).toLoadRect a0)))
    (slab (runB.sl.v106_raw arg4 harg4 x0)
      (View.readAt (Elt Ideal) sc0.view (Rect.unit (s := S4096x512) ![1280, 0] S256x512.size inb_S4096x512_S256x512_1280_0).toLoadRect a0)))
    (slab (runB.sl.v123_raw arg4 harg4 x0)
      (View.readAt (Elt Ideal) sc0.view (Rect.unit (s := S4096x512) ![1536, 0] S256x512.size inb_S4096x512_S256x512_1536_0).toLoadRect a0)))
    (slab (runB.sl.v140_raw arg4 harg4 x0)
      (View.readAt (Elt Ideal) sc0.view (Rect.unit (s := S4096x512) ![1792, 0] S256x512.size inb_S4096x512_S256x512_1792_0).toLoadRect a0)))
    (slab (runB.sl.v157_raw arg4 harg4 x0)
      (View.readAt (Elt Ideal) sc0.view (Rect.unit (s := S4096x512) ![2048, 0] S256x512.size inb_S4096x512_S256x512_2048_0).toLoadRect a0)))
    (slab (runB.sl.v174_raw arg4 harg4 x0)
      (View.readAt (Elt Ideal) sc0.view (Rect.unit (s := S4096x512) ![2304, 0] S256x512.size inb_S4096x512_S256x512_2304_0).toLoadRect a0)))
    (slab (runB.sl.v191_raw arg4 harg4 x0)
      (View.readAt (Elt Ideal) sc0.view (Rect.unit (s := S4096x512) ![2560, 0] S256x512.size inb_S4096x512_S256x512_2560_0).toLoadRect a0)))
    (slab (runB.sl.v208_raw arg4 harg4 x0)
      (View.readAt (Elt Ideal) sc0.view (Rect.unit (s := S4096x512) ![2816, 0] S256x512.size inb_S4096x512_S256x512_2816_0).toLoadRect a0)))
    (slab (runB.sl.v225_raw arg4 harg4 x0)
      (View.readAt (Elt Ideal) sc0.view (Rect.unit (s := S4096x512) ![3072, 0] S256x512.size inb_S4096x512_S256x512_3072_0).toLoadRect a0)))
    (slab (runB.sl.v242_raw arg4 harg4 x0)
      (View.readAt (Elt Ideal) sc0.view (Rect.unit (s := S4096x512) ![3328, 0] S256x512.size inb_S4096x512_S256x512_3328_0).toLoadRect a0)))
    (slab (runB.sl.v259_raw arg4 harg4 x0)
      (View.readAt (Elt Ideal) sc0.view (Rect.unit (s := S4096x512) ![3584, 0] S256x512.size inb_S4096x512_S256x512_3584_0).toLoadRect a0)))
    (slab (runB.sl.v276_raw arg4 harg4 x0)
      (View.readAt (Elt Ideal) sc0.view (Rect.unit (s := S4096x512) ![3840, 0] S256x512.size inb_S4096x512_S256x512_3840_0).toLoadRect a0))) := rfl

/-- and so is the other half's. -/
theorem up_chain : runB.sl.r_25 c arg4 harg4 x0 a1 = (addf (addf (addf (addf (addf (addf (addf (addf (addf (addf (addf (addf (addf (addf (addf (slab (runB.sl.v23_raw arg4 harg4 x0)
      (View.readAt (Elt Ideal) sc1.view (Rect.unit (s := S4096x512) ![0, 0] S256x512.size inb_S4096x512_S256x512_0_0).toLoadRect a1))
    (slab (runB.sl.v38_raw arg4 harg4 x0)
      (View.readAt (Elt Ideal) sc1.view (Rect.unit (s := S4096x512) ![256, 0] S256x512.size inb_S4096x512_S256x512_256_0).toLoadRect a1)))
    (slab (runB.sl.v55_raw arg4 harg4 x0)
      (View.readAt (Elt Ideal) sc1.view (Rect.unit (s := S4096x512) ![512, 0] S256x512.size inb_S4096x512_S256x512_512_0).toLoadRect a1)))
    (slab (runB.sl.v72_raw arg4 harg4 x0)
      (View.readAt (Elt Ideal) sc1.view (Rect.unit (s := S4096x512) ![768, 0] S256x512.size inb_S4096x512_S256x512_768_0).toLoadRect a1)))
    (slab (runB.sl.v89_raw arg4 harg4 x0)
      (View.readAt (Elt Ideal) sc1.view (Rect.unit (s := S4096x512) ![1024, 0] S256x512.size inb_S4096x512_S256x512_1024_0).toLoadRect a1)))
    (slab (runB.sl.v106_raw arg4 harg4 x0)
      (View.readAt (Elt Ideal) sc1.view (Rect.unit (s := S4096x512) ![1280, 0] S256x512.size inb_S4096x512_S256x512_1280_0).toLoadRect a1)))
    (slab (runB.sl.v123_raw arg4 harg4 x0)
      (View.readAt (Elt Ideal) sc1.view (Rect.unit (s := S4096x512) ![1536, 0] S256x512.size inb_S4096x512_S256x512_1536_0).toLoadRect a1)))
    (slab (runB.sl.v140_raw arg4 harg4 x0)
      (View.readAt (Elt Ideal) sc1.view (Rect.unit (s := S4096x512) ![1792, 0] S256x512.size inb_S4096x512_S256x512_1792_0).toLoadRect a1)))
    (slab (runB.sl.v157_raw arg4 harg4 x0)
      (View.readAt (Elt Ideal) sc1.view (Rect.unit (s := S4096x512) ![2048, 0] S256x512.size inb_S4096x512_S256x512_2048_0).toLoadRect a1)))
    (slab (runB.sl.v174_raw arg4 harg4 x0)
      (View.readAt (Elt Ideal) sc1.view (Rect.unit (s := S4096x512) ![2304, 0] S256x512.size inb_S4096x512_S256x512_2304_0).toLoadRect a1)))
    (slab (runB.sl.v191_raw arg4 harg4 x0)
      (View.readAt (Elt Ideal) sc1.view (Rect.unit (s := S4096x512) ![2560, 0] S256x512.size inb_S4096x512_S256x512_2560_0).toLoadRect a1)))
    (slab (runB.sl.v208_raw arg4 harg4 x0)
      (View.readAt (Elt Ideal) sc1.view (Rect.unit (s := S4096x512) ![2816, 0] S256x512.size inb_S4096x512_S256x512_2816_0).toLoadRect a1)))
    (slab (runB.sl.v225_raw arg4 harg4 x0)
      (View.readAt (Elt Ideal) sc1.view (Rect.unit (s := S4096x512) ![3072, 0] S256x512.size inb_S4096x512_S256x512_3072_0).toLoadRect a1)))
    (slab (runB.sl.v242_raw arg4 harg4 x0)
      (View.readAt (Elt Ideal) sc1.view (Rect.unit (s := S4096x512) ![3328, 0] S256x512.size inb_S4096x512_S256x512_3328_0).toLoadRect a1)))
    (slab (runB.sl.v259_raw arg4 harg4 x0)
      (View.readAt (Elt Ideal) sc1.view (Rect.unit (s := S4096x512) ![3584, 0] S256x512.size inb_S4096x512_S256x512_3584_0).toLoadRect a1)))
    (slab (runB.sl.v276_raw arg4 harg4 x0)
      (View.readAt (Elt Ideal) sc1.view (Rect.unit (s := S4096x512) ![3840, 0] S256x512.size inb_S4096x512_S256x512_3840_0).toLoadRect a1))) := rfl

theorem gate_apply (r : Fin 256) (f : Fin 512) : runB.sl.r_24 c arg4 harg4 x0 a0 (ix2 r f) = dotRow x0 a0 r f := by
  rw [gate_chain, dotRow_slabs, sum16]
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (slab_at x0 a0 _ _ 0 (raw_apply arg4 x0 _ 0 _) (rowsG c a0 0 _) r f)
    (slab_at x0 a0 _ _ 1 (raw_apply arg4 x0 _ 1 _) (rowsG c a0 1 _) r f))
    (slab_at x0 a0 _ _ 2 (raw_apply arg4 x0 _ 2 _) (rowsG c a0 2 _) r f))
    (slab_at x0 a0 _ _ 3 (raw_apply arg4 x0 _ 3 _) (rowsG c a0 3 _) r f))
    (slab_at x0 a0 _ _ 4 (raw_apply arg4 x0 _ 4 _) (rowsG c a0 4 _) r f))
    (slab_at x0 a0 _ _ 5 (raw_apply arg4 x0 _ 5 _) (rowsG c a0 5 _) r f))
    (slab_at x0 a0 _ _ 6 (raw_apply arg4 x0 _ 6 _) (rowsG c a0 6 _) r f))
    (slab_at x0 a0 _ _ 7 (raw_apply arg4 x0 _ 7 _) (rowsG c a0 7 _) r f))
    (slab_at x0 a0 _ _ 8 (raw_apply arg4 x0 _ 8 _) (rowsG c a0 8 _) r f))
    (slab_at x0 a0 _ _ 9 (raw_apply arg4 x0 _ 9 _) (rowsG c a0 9 _) r f))
    (slab_at x0 a0 _ _ 10 (raw_apply arg4 x0 _ 10 _) (rowsG c a0 10 _) r f))
    (slab_at x0 a0 _ _ 11 (raw_apply arg4 x0 _ 11 _) (rowsG c a0 11 _) r f))
    (slab_at x0 a0 _ _ 12 (raw_apply arg4 x0 _ 12 _) (rowsG c a0 12 _) r f))
    (slab_at x0 a0 _ _ 13 (raw_apply arg4 x0 _ 13 _) (rowsG c a0 13 _) r f))
    (slab_at x0 a0 _ _ 14 (raw_apply arg4 x0 _ 14 _) (rowsG c a0 14 _) r f))
    (slab_at x0 a0 _ _ 15 (raw_apply arg4 x0 _ 15 _) (rowsG c a0 15 _) r f))

theorem up_apply (r : Fin 256) (f : Fin 512) : runB.sl.r_25 c arg4 harg4 x0 a1 (ix2 r f) = dotRow x0 a1 r f := by
  rw [up_chain, dotRow_slabs, sum16]
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (slab_at x0 a1 _ _ 0 (raw_apply arg4 x0 _ 0 _) (rowsU c a1 0 _) r f)
    (slab_at x0 a1 _ _ 1 (raw_apply arg4 x0 _ 1 _) (rowsU c a1 1 _) r f))
    (slab_at x0 a1 _ _ 2 (raw_apply arg4 x0 _ 2 _) (rowsU c a1 2 _) r f))
    (slab_at x0 a1 _ _ 3 (raw_apply arg4 x0 _ 3 _) (rowsU c a1 3 _) r f))
    (slab_at x0 a1 _ _ 4 (raw_apply arg4 x0 _ 4 _) (rowsU c a1 4 _) r f))
    (slab_at x0 a1 _ _ 5 (raw_apply arg4 x0 _ 5 _) (rowsU c a1 5 _) r f))
    (slab_at x0 a1 _ _ 6 (raw_apply arg4 x0 _ 6 _) (rowsU c a1 6 _) r f))
    (slab_at x0 a1 _ _ 7 (raw_apply arg4 x0 _ 7 _) (rowsU c a1 7 _) r f))
    (slab_at x0 a1 _ _ 8 (raw_apply arg4 x0 _ 8 _) (rowsU c a1 8 _) r f))
    (slab_at x0 a1 _ _ 9 (raw_apply arg4 x0 _ 9 _) (rowsU c a1 9 _) r f))
    (slab_at x0 a1 _ _ 10 (raw_apply arg4 x0 _ 10 _) (rowsU c a1 10 _) r f))
    (slab_at x0 a1 _ _ 11 (raw_apply arg4 x0 _ 11 _) (rowsU c a1 11 _) r f))
    (slab_at x0 a1 _ _ 12 (raw_apply arg4 x0 _ 12 _) (rowsU c a1 12 _) r f))
    (slab_at x0 a1 _ _ 13 (raw_apply arg4 x0 _ 13 _) (rowsU c a1 13 _) r f))
    (slab_at x0 a1 _ _ 14 (raw_apply arg4 x0 _ 14 _) (rowsU c a1 14 _) r f))
    (slab_at x0 a1 _ _ 15 (raw_apply arg4 x0 _ 15 _) (rowsU c a1 15 _) r f))

/-- The stored block, of the tile's rows and the two halves held in the scratch buffers. -/
theorem outB_apply (r : Fin 256) (f : Fin 512) :
    VO.read (Elt Ideal) (VO.writes (Elt Ideal) VO.junk (runB.sl.HO_1 c arg4 harg4 x0 a0 a1)) (ix2 r f)
      = gated (dotRow x0 a0 r f) (dotRow x0 a1 r f) := by
  rw [← gate_apply c arg4 harg4 x0 a0, ← up_apply c arg4 harg4 x0 a1]
  unfold runB.sl.HO_1
  rw [View.read_writes_full]
  have e : runB.sl.r_26 c arg4 harg4 x0 a0 (ix2 r f)
      = Ideal.exp (Ideal.ofBits .f32 0x00000000#32 - runB.sl.r_24 c arg4 harg4 x0 a0 (ix2 r f)) := rfl
  rw [Ideal.ofBits_zero_f32, zero_sub] at e
  unfold gated
  rw [← e]
  rfl

/-- A tile that loads new weights stores what it would with the loaded halves already held. -/
theorem outA_eq (arg5 arg6 : Memref sig .tc .vmem S1x1x4096x512 .f32) (x1 x2 : S1x1x4096x512.Idx → Elt Ideal .f32) :
    runA.sl.HO_1 arg4 harg4 arg5 arg6 x0 x1 x2
      = runB.sl.HO_1 c arg4 harg4 x0
          (sc0.view.writes (Elt Ideal) sc0.view.junk (runA.sl.HS0_1 arg5 x1))
          (sc1.view.writes (Elt Ideal) sc1.view.junk (runA.sl.HS1_1 arg6 x2)) := rfl

/-- Reading the first scratch buffer whole is the buffer itself. -/
theorem read_sc0 (b : Buf (Elt Ideal) ((c : Thread nD τ).loc cc0_scratch0)) (k : Fin 4096) (f : Fin 512) :
    (show S4096x512.Idx → EReal from b) (ix2 k f) = sc0.view.read (Elt Ideal) b (ix2 k f) := rfl

/-- Reading the second scratch buffer whole is the buffer itself. -/
theorem read_sc1 (b : Buf (Elt Ideal) ((c : Thread nD τ).loc cc0_scratch1)) (k : Fin 4096) (f : Fin 512) :
    (show S4096x512.Idx → EReal from b) (ix2 k f) = sc1.view.read (Elt Ideal) b (ix2 k f) := rfl

/-- The first half of the block, without its two leading unit axes. -/
theorem pay1_apply (x : S1x1x4096x512.Idx → Elt Ideal .f32) (k : Fin 4096) (f : Fin 512) :
    k0_pay1 (F := Ideal) x (ix2 k f) = x (ix4 0 0 k f) := by
  unfold k0_pay1
  pointwise

/-- The second half of the block, without its two leading unit axes. -/
theorem pay2_apply (x : S1x1x4096x512.Idx → Elt Ideal .f32) (k : Fin 4096) (f : Fin 512) :
    k0_pay2 (F := Ideal) x (ix2 k f) = x (ix4 0 0 k f) := by
  unfold k0_pay2
  pointwise

/-- The first scratch buffer after the load holds the block of the first half. -/
theorem loadG_apply (arg5 : Memref sig .tc .vmem S1x1x4096x512 .f32) (x1 : S1x1x4096x512.Idx → Elt Ideal .f32) (k : Fin 4096) (f : Fin 512) :
    sc0.view.read (Elt Ideal) (sc0.view.writes (Elt Ideal) sc0.view.junk (runA.sl.HS0_1 arg5 x1)) (ix2 k f)
      = x1 (ix4 0 0 k f) := by
  have e : sc0.view.read (Elt Ideal) (sc0.view.writes (Elt Ideal) sc0.view.junk (runA.sl.HS0_1 arg5 x1))
      = k0_pay1 (F := Ideal) x1 := by
    unfold runA.sl.HS0_1
    refine (View.read_writes_full (s := S4096x512) sc0.view _ _ _ _).trans ?_
    exact congrArg (k0_pay1 (F := Ideal)) (View.readAt_rep_full _ _ _)
  exact (congrFun e (ix2 k f)).trans (pay1_apply x1 k f)

/-- The second scratch buffer after the load holds the block of the second half. -/
theorem loadU_apply (arg6 : Memref sig .tc .vmem S1x1x4096x512 .f32) (x2 : S1x1x4096x512.Idx → Elt Ideal .f32) (k : Fin 4096) (f : Fin 512) :
    sc1.view.read (Elt Ideal) (sc1.view.writes (Elt Ideal) sc1.view.junk (runA.sl.HS1_1 arg6 x2)) (ix2 k f)
      = x2 (ix4 0 0 k f) := by
  have e : sc1.view.read (Elt Ideal) (sc1.view.writes (Elt Ideal) sc1.view.junk (runA.sl.HS1_1 arg6 x2))
      = k0_pay2 (F := Ideal) x2 := by
    unfold runA.sl.HS1_1
    refine (View.read_writes_full (s := S4096x512) sc1.view _ _ _ _).trans ?_
    exact congrArg (k0_pay2 (F := Ideal)) (View.readAt_rep_full _ _ _)
  exact (congrFun e (ix2 k f)).trans (pay2_apply x2 k f)

/-- The block stored at a tile not in use: zeros. -/
theorem outC_apply (y : S256x512.Idx) :
    VO.read (Elt Ideal) (VO.writes (Elt Ideal) VO.junk runC.sl.HO_1) y = (0 : EReal) := by
  unfold runC.sl.HO_1
  rw [View.read_writes_full]
  exact Ideal.ofBits_zero_bf16

/-- What the three runs leave, by name. -/
theorem runA_eq (i : grid0.Coords) (arg5 : Memref sig .tc .vmem S1x1x4096x512 .f32) (harg5 : arg5.IsWhole) (arg6 : Memref sig .tc .vmem S1x1x4096x512 .f32) (harg6 : arg6.IsWhole)
    (arg7 : Memref sig .tc .vmem S256x512 .bf16) (harg7 : arg7.IsWhole) (T0 : S159.Idx → Elt Ideal .i32) (T1 : S1.Idx → Elt Ideal .i32)
    (x1 x2 : S1x1x4096x512.Idx → Elt Ideal .f32) (h : Fresh i T0 T1) (h2) (h3) :
    (runA c i arg4 harg4 arg5 harg5 arg6 harg6 arg7 harg7 T0 T1 x0 x1 x2 h h2 h3).1 = runA.sl.HO_1 arg4 harg4 arg5 arg6 x0 x1 x2
    ∧ (runA c i arg4 harg4 arg5 harg5 arg6 harg6 arg7 harg7 T0 T1 x0 x1 x2 h h2 h3).2.1
      = sc0.view.writes (Elt Ideal) sc0.view.junk (runA.sl.HS0_1 arg5 x1)
    ∧ (runA c i arg4 harg4 arg5 harg5 arg6 harg6 arg7 harg7 T0 T1 x0 x1 x2 h h2 h3).2.2.1
      = sc1.view.writes (Elt Ideal) sc1.view.junk (runA.sl.HS1_1 arg6 x2) := by
  unfold runA
  refine ⟨rfl, ?_, ?_⟩ <;> dsimp only [sc0, sc1, Memref.whole]

theorem runB_eq (i : grid0.Coords) (arg5 : Memref sig .tc .vmem S1x1x4096x512 .f32) (harg5 : arg5.IsWhole) (arg6 : Memref sig .tc .vmem S1x1x4096x512 .f32) (harg6 : arg6.IsWhole)
    (arg7 : Memref sig .tc .vmem S256x512 .bf16) (harg7 : arg7.IsWhole) (T0 : S159.Idx → Elt Ideal .i32) (T1 : S1.Idx → Elt Ideal .i32)
    (h : ¬Fresh i T0 T1) (h2) (h3) :
    (runB c i arg4 harg4 arg5 harg5 arg6 harg6 arg7 harg7 T0 T1 x0 a0 a1 h h2 h3).1 = runB.sl.HO_1 c arg4 harg4 x0 a0 a1 := by
  unfold runB
  exact rfl

theorem runC_eq (i : grid0.Coords) (arg5 : Memref sig .tc .vmem S1x1x4096x512 .f32) (harg5 : arg5.IsWhole) (arg6 : Memref sig .tc .vmem S1x1x4096x512 .f32) (harg6 : arg6.IsWhole)
    (arg7 : Memref sig .tc .vmem S256x512 .bf16) (harg7 : arg7.IsWhole) (T0 : S159.Idx → Elt Ideal .i32) (T1 : S1.Idx → Elt Ideal .i32)
    (h : ¬Fresh i T0 T1) (h2) (h3) :
    (runC c i arg4 harg4 arg5 harg5 arg6 harg6 arg7 harg7 T0 T1 h h2 h3).1 = runC.sl.HO_1 := by
  unfold runC
  exact rfl

end

end Cert.UpIdeal.Hand

end
-- ==== Proof.UpIdeal.Value.lean ====
module

public import proofs.«01_k».proof.Proof.UpIdeal.Body
public import proofs.«01_k».proof.Proof.UpIdeal.Adm

/-! The array the experts' first launch leaves, as the formula of its arguments. -/

@[expose] public section

set_option maxRecDepth 16384
set_option Elab.async false

noncomputable section

namespace Cert.UpIdeal.Hand

open Cert.UpIdeal Cert.UpIdeal.Gen
open Idealize.ShloMosaic Idealize.ShloMosaic.TcCoe Idealize.SL.Sem

theorem off1_t : ∀ t : Fin grid0.N, k0_off1 (grid0.coords t) 0 = t.val := by decide +kernel
theorem off2_t : ∀ t : Fin grid0.N, k0_off2 (grid0.coords t) 0 = t.val - 1 := by decide +kernel
theorem crd0_t : ∀ t : Fin grid0.N, (grid0.coords t 0).val = 0 := by decide +kernel

variable (a : (pcfg0 (F := Ideal)).Adm) (hg : Good a.1)

/-- A tile's number is below 159. -/
theorem tlt (t : Fin (cfgA a).N) : t.val < 159 := Nat.lt_of_lt_of_eq t.isLt N_0

/-- The tile's word of the experts' table. -/
abbrev te (n : ℕ) (h : n < 159) : BitVec 32 := T0 a (ix1 ⟨n, h⟩)

theorem nuW_eq : nuW (T1 a) = (show BitVec 32 from T1 a (ix1 0)) := by
  refine congrArg (T1 a) (funext fun x => Fin.ext ?_)
  match x with
  | ⟨0, _⟩ => rfl

theorem teW_eq (t : Fin (cfgA a).N) : teW (crd a t) (T0 a) = te a t.val (tlt a t) := by
  refine congrArg (T0 a) (funext fun x => Fin.ext ?_)
  match x with
  | ⟨0, _⟩ => show k0_off1 (grid0.coords t) 0 + 1 * 0 = t.val; rw [off1_t]; omega

theorem teP_eq (t : Fin (cfgA a).N) : teP (crd a t) (T0 a) = te a (t.val - 1) (by have := tlt a t; omega) := by
  refine congrArg (T0 a) (funext fun x => Fin.ext ?_)
  match x with
  | ⟨0, _⟩ => show k0_off2 (grid0.coords t) 0 + 1 * 0 = t.val - 1; rw [off2_t]; omega

/-- A used tile that loads nothing has the expert of the tile before. -/
theorem same_expert (t : Fin (cfgA a).N) (hq : ¬FreshAt a t) (hu : UsedAt a t) :
    te a t.val (tlt a t) = te a (t.val - 1) (by have := tlt a t; omega) := by
  rw [← teW_eq, ← teP_eq]
  by_contra hne
  refine hq ((bit_ne _).2 ?_)
  have h1 : Scalar.cmpi .ne (teW (crd a t) (T0 a)) (teP (crd a t) (T0 a)) = 1#1 := by
    exact congrArg BitVec.ofBool (bne_iff_ne.2 hne)
  rw [(cond2_iff _ _).1 hu, h1]
  generalize Scalar.cmpi .eq (BitVec.ofNat 32 ((crd a t) 1).val) 0#32 = b
  revert b; decide

include hg in
/-- The expert's number. -/
theorem expertOf_val (t : Fin 159) : (te a t.val t.isLt).toNat = (expertOf (T0 a) t).val := by
  have := hg.te (ix1 t)
  show _ = min _ 31
  exact (Nat.min_eq_left (Nat.le_of_lt_succ this)).symm

/-- The windows' block indices at a tile. -/
theorem ix_0 (t : Fin (cfgA a).N) (hu : UsedAt a t) : ((cfgA a).win 0).index t (0 : Fin 2) = t.val := by
  refine Eq.trans (congrArg (fun n => (Scalar.minsi (BitVec.ofNat 32 n) (Scalar.subi (nuW (T1 a)) 1#32)).toNat) (crd_t t)) ?_
  exact tile_used t.val (tlt a t) _ ((used_iff a t).1 hu)
theorem ix_0' (t : Fin (cfgA a).N) : ((cfgA a).win 0).index t (1 : Fin 2) = 0 := rfl
include hg in
theorem ix_1 (t : Fin (cfgA a).N) : ((cfgA a).win 1).index t (1 : Fin 4) = (expertOf (T0 a) ⟨t.val, tlt a t⟩).val := by
  refine Eq.trans ?_ (expertOf_val a hg ⟨t.val, tlt a t⟩)
  refine Eq.trans ?_ (congrArg BitVec.toNat (teW_eq a t))
  rfl
theorem ix_1' (t : Fin (cfgA a).N) : ((cfgA a).win 1).index t (3 : Fin 4) = 0 := by
  show (BitVec.ofNat 32 (grid0.coords t 0).val).toNat = 0
  rw [crd0_t]; rfl
include hg in
theorem ix_2 (t : Fin (cfgA a).N) : ((cfgA a).win 2).index t (1 : Fin 4) = (expertOf (T0 a) ⟨t.val, tlt a t⟩).val := ix_1 a hg t
theorem ix_2' (t : Fin (cfgA a).N) : ((cfgA a).win 2).index t (3 : Fin 4) = 1 := by
  show (Scalar.addi 1#32 (BitVec.ofNat 32 (grid0.coords t 0).val) : BitVec 32).toNat = 1
  rw [crd0_t]; rfl
theorem ix_3 (t : Fin (cfgA a).N) : ((cfgA a).win 3).index t (0 : Fin 2) = t.val := by
  show (BitVec.ofNat 32 (grid0.coords t 1).val).toNat = t.val
  rw [crd_t, BitVec.toNat_ofNat]; have := tlt a t; exact Nat.mod_eq_of_lt (by omega)
theorem ix_3' (t : Fin (cfgA a).N) : ((cfgA a).win 3).index t (1 : Fin 2) = 0 := by
  show (BitVec.ofNat 32 (grid0.coords t 0).val).toNat = 0
  rw [crd0_t]; rfl

variable (m : (ℓ : Loc nD τ sig) → Buf (Elt Ideal) ℓ) (ρ : Dev nD → PrngReg) (c : Dev nD)

/-- The rows' and the weights' arrays. -/
abbrev XA : S1302528x128.Idx → EReal := m ((c : Thread nD τ).loc main_arg0)
abbrev WA : S2x32x4096x1024.Idx → EReal := m ((c : Thread nD τ).loc main_arg3)

theorem blk_0 (t : Fin (cfgA a).N) (hu : UsedAt a t) (r : Fin 8192) (j : Fin 128) :
    iblk a m ρ c (0 : Fin 4) t (ix2 r j) = XA m c (ix2 ⟨t.val * 8192 + r.val, by have := tlt a t; omega⟩ j) := by
  refine congrArg (XA m c) (funext fun x => Fin.ext ?_)
  match x with
  | ⟨0, _⟩ => exact (Pipeline.Window.rect_emb_val ((cfgA a).win 0) t (ix2 r j) (0 : Fin 2) rfl).trans (congrArg (· * 8192 + r.val) (ix_0 a t hu))
  | ⟨1, _⟩ => exact (Pipeline.Window.rect_emb_val ((cfgA a).win 0) t (ix2 r j) (1 : Fin 2) rfl).trans ((congrArg (· * 128 + j.val) (ix_0' a t)).trans (show 0 * 128 + j.val = j.val by omega))

include hg in
theorem blk_1 (t : Fin (cfgA a).N) (k : Fin 4096) (f : Fin 512) :
    iblk a m ρ c (1 : Fin 4) t (ix4 0 0 k f) = WA m c (ix4 0 (expertOf (T0 a) ⟨t.val, tlt a t⟩) k ⟨f.val, by omega⟩) := by
  refine congrArg (WA m c) (funext fun x => Fin.ext ?_)
  match x with
  | ⟨0, _⟩ => exact (Pipeline.Window.rect_emb_val ((cfgA a).win 1) t (ix4 0 0 k f) (0 : Fin 4) rfl).trans rfl
  | ⟨1, _⟩ => exact (Pipeline.Window.rect_emb_val ((cfgA a).win 1) t (ix4 0 0 k f) (1 : Fin 4) rfl).trans ((congrArg (· * 1 + 0) (ix_1 a hg t)).trans (show (expertOf (T0 a) ⟨t.val, tlt a t⟩).val * 1 + 0 = (expertOf (T0 a) ⟨t.val, tlt a t⟩).val by omega))
  | ⟨2, _⟩ => exact (Pipeline.Window.rect_emb_val ((cfgA a).win 1) t (ix4 0 0 k f) (2 : Fin 4) rfl).trans (show 0 * 4096 + k.val = k.val by omega)
  | ⟨3, _⟩ => exact (Pipeline.Window.rect_emb_val ((cfgA a).win 1) t (ix4 0 0 k f) (3 : Fin 4) rfl).trans ((congrArg (· * 512 + f.val) (ix_1' a t)).trans (show 0 * 512 + f.val = f.val by omega))

include hg in
theorem blk_2 (t : Fin (cfgA a).N) (k : Fin 4096) (f : Fin 512) :
    iblk a m ρ c (2 : Fin 4) t (ix4 0 0 k f) = WA m c (ix4 0 (expertOf (T0 a) ⟨t.val, tlt a t⟩) k ⟨512 + f.val, by omega⟩) := by
  refine congrArg (WA m c) (funext fun x => Fin.ext ?_)
  match x with
  | ⟨0, _⟩ => exact (Pipeline.Window.rect_emb_val ((cfgA a).win 2) t (ix4 0 0 k f) (0 : Fin 4) rfl).trans rfl
  | ⟨1, _⟩ => exact (Pipeline.Window.rect_emb_val ((cfgA a).win 2) t (ix4 0 0 k f) (1 : Fin 4) rfl).trans ((congrArg (· * 1 + 0) (ix_2 a hg t)).trans (show (expertOf (T0 a) ⟨t.val, tlt a t⟩).val * 1 + 0 = (expertOf (T0 a) ⟨t.val, tlt a t⟩).val by omega))
  | ⟨2, _⟩ => exact (Pipeline.Window.rect_emb_val ((cfgA a).win 2) t (ix4 0 0 k f) (2 : Fin 4) rfl).trans (show 0 * 4096 + k.val = k.val by omega)
  | ⟨3, _⟩ => exact (Pipeline.Window.rect_emb_val ((cfgA a).win 2) t (ix4 0 0 k f) (3 : Fin 4) rfl).trans ((congrArg (· * 512 + f.val) (ix_2' a t)).trans (show 1 * 512 + f.val = 512 + f.val by omega))

/-- The scratch buffers hold an expert's two halves. -/
def Holds (s : Scr c) (e : Fin 32) : Prop :=
  (∀ (k : Fin 4096) (f : Fin 512), sc0.view.read (Elt Ideal) s.1 (ix2 k f) = WA m c (ix4 0 e k ⟨f.val, by omega⟩))
    ∧ ∀ (k : Fin 4096) (f : Fin 512), sc1.view.read (Elt Ideal) s.2 (ix2 k f) = WA m c (ix4 0 e k ⟨512 + f.val, by omega⟩)

/-- What the two scratch buffers hold once tile `t` has loaded. -/
abbrev loaded (t : Fin (cfgA a).N) : Scr c :=
  (sc0.view.writes (Elt Ideal) sc0.view.junk (runA.sl.HS0_1 (ms1 a t) (iblk a m ρ c (1 : Fin 4) t)),
   sc1.view.writes (Elt Ideal) sc1.view.junk (runA.sl.HS1_1 (ms2 a t) (iblk a m ρ c (2 : Fin 4) t)))

theorem loaded_fst (t : Fin (cfgA a).N) (k : Fin 4096) (f : Fin 512) :
    sc0.view.read (Elt Ideal) (loaded a m ρ c t).1 (ix2 k f) = (iblk a m ρ c (1 : Fin 4) t) (ix4 0 0 k f) := by
  unfold loaded
  dsimp only
  exact loadG_apply (ms1 a t) (iblk a m ρ c (1 : Fin 4) t) k f

theorem loaded_snd (t : Fin (cfgA a).N) (k : Fin 4096) (f : Fin 512) :
    sc1.view.read (Elt Ideal) (loaded a m ρ c t).2 (ix2 k f) = (iblk a m ρ c (2 : Fin 4) t) (ix4 0 0 k f) := by
  unfold loaded
  dsimp only
  exact loadU_apply (ms2 a t) (iblk a m ρ c (2 : Fin 4) t) k f

include hg in
/-- These are its expert's halves. -/
theorem holds_loaded (t : Fin (cfgA a).N) : Holds m c (loaded a m ρ c t) (expertOf (T0 a) ⟨t.val, tlt a t⟩) := by
  unfold Holds
  refine ⟨fun k f => ?_, fun k f => ?_⟩
  · refine (loaded_fst a m ρ c t k f).trans ?_
    exact blk_1 a hg m ρ c t k f
  · refine (loaded_snd a m ρ c t k f).trans ?_
    exact blk_2 a hg m ρ c t k f

/-- A tile that loads leaves them. -/
theorem load_eq (t : Fin (cfgA a).N) (q : FreshAt a t) : scr a m ρ c (t.val + 1) = loaded a m ρ c t :=
  have e := (runA_eq c (ms0 a t) (hs0 a t) (iblk a m ρ c (0 : Fin 4) t) (crd a t) (ms1 a t) (hs1 a t) (ms2 a t) (hs2 a t) (ms3 a t) (hs3 a t) (T0 a) (T1 a)
    (iblk a m ρ c (1 : Fin 4) t) (iblk a m ρ c (2 : Fin 4) t) q q.used ((cond3_iff _ _).not_left.2 q.used)).2
  (scr_A a m ρ c t q).trans (congrArg₂ Prod.mk e.1 e.2)

include hg in
/-- After a used tile the scratch buffers hold its expert's halves. -/
theorem holds_after (n : ℕ) : ∀ (hn : n < (cfgA a).N), UsedAt a ⟨n, hn⟩ →
    Holds m c (scr a m ρ c (n + 1)) (expertOf (T0 a) ⟨n, tlt a ⟨n, hn⟩⟩) := by
  induction n with
  | zero =>
    intro hn hu
    have q : FreshAt a ⟨0, hn⟩ := first_fresh a hg _ rfl
    rw [load_eq a m ρ c ⟨0, hn⟩ q]
    exact holds_loaded a hg m ρ c _
  | succ n ih =>
    intro hn hu
    by_cases q : FreshAt a ⟨n + 1, hn⟩
    · rw [load_eq a m ρ c ⟨n + 1, hn⟩ q]
      exact holds_loaded a hg m ρ c _
    · rw [scr_BC a m ρ c ⟨n + 1, hn⟩ q]
      have hu' : UsedAt a ⟨n, Nat.lt_of_succ_lt hn⟩ := by
        have h := (used_iff a _).1 hu
        refine (used_iff a _).2 (lt_of_le_of_lt ?_ h)
        show (n : ℤ) ≤ ((n + 1 : ℕ) : ℤ)
        omega
      have e : expertOf (T0 a) ⟨n + 1, tlt a ⟨n + 1, hn⟩⟩ = expertOf (T0 a) ⟨n, tlt a ⟨n, Nat.lt_of_succ_lt hn⟩⟩ :=
        Fin.ext (congrArg (fun v : BitVec 32 => min v.toNat 31) (same_expert a ⟨n + 1, hn⟩ q hu))
      rw [e]
      exact ih _ hu'

/-- A row of the tile's block times a held half is the formula's sum. -/
theorem dotRow_eq (t : Fin (cfgA a).N) (hu : UsedAt a t) (w : S4096x512.Idx → EReal) (e : Fin 32) (r : Fin 256) (f : Fin 512) (g : Fin 1024)
    (hw : ∀ k : Fin 4096, w (ix2 k f) = WA m c (ix4 0 e k g)) :
    dotRow (iblk a m ρ c (0 : Fin 4) t) w r f = expertDot (XA m c) (WA m c) ⟨t.val * 256 + r.val, by have := tlt a t; omega⟩ e g := by
  unfold dotRow expertDot
  refine Finset.sum_congr rfl fun k _ => congrArg₂ (· * ·) ?_ (hw k)
  refine (blk_0 a m ρ c t hu _ _).trans (congrArg (XA m c) (congrArg₂ ix2 (Fin.ext ?_) rfl))
  show t.val * 8192 + (32 * r.val + k.val / 128) = 32 * (t.val * 256 + r.val) + k.val / 128
  omega

/-- The formula over the memory's own arrays. -/
abbrev result : S40704x512.Idx → EReal := expertsUp (XA m c) (T0 a) (T1 a) (WA m c)

/-- The three cases' blocks, by name. -/
theorem outAt_A (t : Fin (cfgA a).N) (q : FreshAt a t) :
    outAt a m ρ c t = VO.read (Elt Ideal) (VO.writes (Elt Ideal) VO.junk
      (runB.sl.HO_1 c (ms0 a t) (hs0 a t) (iblk a m ρ c (0 : Fin 4) t) (loaded a m ρ c t).1 (loaded a m ρ c t).2)) := by
  have e := (runA_eq c (ms0 a t) (hs0 a t) (iblk a m ρ c (0 : Fin 4) t) (crd a t) (ms1 a t) (hs1 a t) (ms2 a t) (hs2 a t) (ms3 a t) (hs3 a t) (T0 a) (T1 a)
    (iblk a m ρ c (1 : Fin 4) t) (iblk a m ρ c (2 : Fin 4) t) q q.used ((cond3_iff _ _).not_left.2 q.used)).1
  have e2 := outA_eq c (ms0 a t) (hs0 a t) (iblk a m ρ c (0 : Fin 4) t) (ms1 a t) (ms2 a t) (iblk a m ρ c (1 : Fin 4) t) (iblk a m ρ c (2 : Fin 4) t)
  unfold outAt loaded
  rw [dif_pos q]
  dsimp only
  rw [← e2]
  exact congrArg (fun L => VO.read (Elt Ideal) (VO.writes (Elt Ideal) VO.junk L)) e

theorem outAt_B (t : Fin (cfgA a).N) (q : ¬FreshAt a t) (hu : UsedAt a t) :
    outAt a m ρ c t = VO.read (Elt Ideal) (VO.writes (Elt Ideal) VO.junk
      (runB.sl.HO_1 c (ms0 a t) (hs0 a t) (iblk a m ρ c (0 : Fin 4) t) (scr a m ρ c t.val).1 (scr a m ρ c t.val).2)) := by
  have e := runB_eq c (ms0 a t) (hs0 a t) (iblk a m ρ c (0 : Fin 4) t) (scr a m ρ c t.val).1 (scr a m ρ c t.val).2 (crd a t) (ms1 a t) (hs1 a t) (ms2 a t) (hs2 a t)
    (ms3 a t) (hs3 a t) (T0 a) (T1 a) q hu ((cond3_iff _ _).not_left.2 hu)
  unfold outAt
  rw [dif_neg q, dif_pos hu]
  exact congrArg (fun L => VO.read (Elt Ideal) (VO.writes (Elt Ideal) VO.junk L)) e

theorem outAt_C (t : Fin (cfgA a).N) (q : ¬FreshAt a t) (hu : ¬UsedAt a t) :
    outAt a m ρ c t = VO.read (Elt Ideal) (VO.writes (Elt Ideal) VO.junk runC.sl.HO_1) := by
  have e := runC_eq c (ms0 a t) (hs0 a t) (crd a t) (ms1 a t) (hs1 a t) (ms2 a t) (hs2 a t) (ms3 a t) (hs3 a t) (T0 a) (T1 a) q hu ((cond3_iff _ _).2 hu)
  unfold outAt
  rw [dif_neg q, dif_neg hu]
  exact congrArg (fun L => VO.read (Elt Ideal) (VO.writes (Elt Ideal) VO.junk L)) e

/-- A used tile's block, from scratch buffers that hold its expert's halves. -/
theorem outB_at (t : Fin (cfgA a).N) (hu : UsedAt a t) (s : Scr c) (e : Fin 32) (hs : Holds m c s e) (r : Fin 256) (f : Fin 512) :
    VO.read (Elt Ideal) (VO.writes (Elt Ideal) VO.junk (runB.sl.HO_1 c (ms0 a t) (hs0 a t) (iblk a m ρ c (0 : Fin 4) t) s.1 s.2)) (ix2 r f)
      = gated (expertDot (XA m c) (WA m c) ⟨t.val * 256 + r.val, by have := tlt a t; omega⟩ e ⟨f.val, by omega⟩)
        (expertDot (XA m c) (WA m c) ⟨t.val * 256 + r.val, by have := tlt a t; omega⟩ e ⟨512 + f.val, by omega⟩) := by
  rw [outB_apply, dotRow_eq a m ρ c t hu s.1 e r f ⟨f.val, by omega⟩ (fun k => hs.1 k f),
    dotRow_eq a m ρ c t hu s.2 e r f ⟨512 + f.val, by omega⟩ (fun k => hs.2 k f)]

include hg in
/-- What tile `t` leaves in its block. -/
theorem outAt_apply (t : Fin (cfgA a).N) (r : Fin 256) (f : Fin 512) :
    outAt a m ρ c t (ix2 r f) = result a m c (ix2 ⟨t.val * 256 + r.val, by have := tlt a t; omega⟩ f) := by
  have ht := tlt a t
  have hd : (t.val * 256 + r.val) / 256 = t.val := by omega
  unfold result
  rw [expertsUp_apply]
  by_cases hu : UsedAt a t
  · have hlt := (used_iff a t).1 hu
    rw [nuW_eq] at hlt
    rw [if_pos (by simp only [hd]; exact hlt)]
    have he : (⟨(t.val * 256 + r.val) / 256, by omega⟩ : Fin 159) = ⟨t.val, ht⟩ := Fin.ext hd
    simp only [he]
    by_cases q : FreshAt a t
    · rw [outAt_A a m ρ c t q]
      exact outB_at a m ρ c t hu _ _ (holds_loaded a hg m ρ c t) r f
    · have hh := holds_after a hg m ρ c t.val t.isLt hu
      rw [scr_BC a m ρ c t q] at hh
      rw [outAt_B a m ρ c t q hu]
      exact outB_at a m ρ c t hu _ _ hh r f
  · have hlt := (used_iff a t).not.1 hu
    rw [nuW_eq] at hlt
    rw [if_neg (by simp only [hd]; exact hlt), outAt_C a m ρ c t (fun q => hu q.used) hu]
    exact outC_apply (ix2 r f)

/-- The output's blocks tile its array, whatever the tables hold. -/
theorem flush_3 (t : Fin (cfgA a).N) : ((cfgA a).win 3).flush t = true := by
  have h : ∀ t : Fin grid0.N, Pipeline.Window.flushOf grid0 true cc0_transform_3 t = true := by decide +kernel
  exact h t

theorem cover_3 : ((cfgA a).win 3).Covers := by
  refine ⟨fun x => ?_, fun β => ?_⟩
  · match x with
    | ⟨0, _⟩ => show 0 < 256; omega
    | ⟨1, _⟩ => show 0 < 512; omega
  · have h0 : (β (0 : Fin 2)).val < 159 := Nat.lt_of_lt_of_eq (β (0 : Fin 2)).isLt (show (40704 + 256 - 1) / 256 = 159 by norm_num)
    have h1 : (β (1 : Fin 2)).val < 1 := Nat.lt_of_lt_of_eq (β (1 : Fin 2)).isLt (show (512 + 512 - 1) / 512 = 1 by norm_num)
    have hN : (β (0 : Fin 2)).val < (cfgA a).N := Nat.lt_of_lt_of_eq h0 N_0.symm
    refine ⟨⟨(β (0 : Fin 2)).val, hN⟩, flush_3 a _, fun x => ?_⟩
    match x with
    | ⟨0, _⟩ => exact ⟨ix_3 a _, .inl rfl⟩
    | ⟨1, _⟩ => exact ⟨(ix_3' a _).trans (Nat.lt_one_iff.1 h1).symm, .inl rfl⟩

include hg in
/-- The launch's last array is the formula. -/
theorem final : (dats a m ρ 0 c).arrAt (3 : Fin 4) (cfgA a).N = result a m c := by
  refine (dats a m ρ 0 c).arrAt_eq_of_covers (3 : Fin 4) _ (cover_3 a) fun t hf y => ?_
  obtain ⟨r, f, rfl⟩ : ∃ (r : Fin 256) (f : Fin 512), y = ix2 r f := ⟨y 0, y 1, eq_ix2 y⟩
  refine (outAt_apply a hg m ρ c t r f).trans (congrArg (result a m c) (funext fun x => Fin.ext ?_))
  match x with
  | ⟨0, _⟩ => exact ((Pipeline.Window.rect_emb_val ((cfgA a).win 3) t (ix2 r f) (0 : Fin 2) rfl).trans (congrArg (· * 256 + r.val) (ix_3 a t))).symm
  | ⟨1, _⟩ => exact ((Pipeline.Window.rect_emb_val ((cfgA a).win 3) t (ix2 r f) (1 : Fin 2) rfl).trans ((congrArg (· * 512 + f.val) (ix_3' a t)).trans (show 0 * 512 + f.val = f.val by omega))).symm

include hg in
/-- The launch's run: its last array holds the formula and its arguments are as they were. -/
theorem run (hp : ∀ (c : Dev nD) (k : Fin 2), m ((c : Thread nD τ).loc (pre0.ref k)) = a.1 k) :
    θ_run (defs (F := Ideal)) (onTc (τ := τ) (main (F := Ideal))) ⟨m, fun _ => 0, ρ⟩ fun r => ∀ c : Dev nD,
      r.2.mem ((c.tc : Thread nD τ).loc main_v0) = result a m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_)
    (θ_run_and (frame_args a m ρ (first_fresh a hg) hp) (run_main a m ρ (first_fresh a hg) hp))
  exact ⟨((h.2.1 c).1 (3 : Fin 4)).trans (final a hg m ρ c), h.1.1 c⟩

end Cert.UpIdeal.Hand

end
-- ==== Proof.Moe.Gather.lean ====
module

public import Idealize.ShloMosaic.Lib.IdealHost
public import Idealize.ShloMosaic.Lib.Pointwise

/-! Slabs of a stack taken by a list of slab numbers, at one element; and the logistic's two spellings. -/

@[expose] public section

set_option backward.proofsInPublic true

noncomputable section

namespace Cert.Moe

open Idealize.ShloMosaic

section
variable {α : Type} {N R C B : ℕ}

/-- The dimension numbers of taking one slab of `N` for each of `B` numbers. -/
abbrev slabDims (N R C B : ℕ) (wf : GatherDims.WF ⟨3, ![N, R, C]⟩ ⟨2, ![B, 1]⟩ ⟨3, ![B, R, C]⟩ [1, 2] [0] [] [0] [] 1 ![1, R, C]) :
    GatherDims ⟨3, ![N, R, C]⟩ ⟨2, ![B, 1]⟩ ⟨3, ![B, R, C]⟩ where
  offsetDims := [1, 2]
  collapsedSliceDims := [0]
  operandBatchingDims := []
  startIndicesBatchingDims := []
  startIndexMap := [0]
  indexVectorDim := 1
  sliceSizes := ![1, R, C]
  wf := wf

/-- One element of the slab taken: the slab's number clamped into the stack. -/
theorem slab_taken (hN : 0 < N) (wf : GatherDims.WF ⟨3, ![N, R, C]⟩ ⟨2, ![B, 1]⟩ ⟨3, ![B, R, C]⟩ [1, 2] [0] [] [0] [] 1 ![1, R, C])
    (x : (⟨3, ![N, R, C]⟩ : Shape).Idx → α) (idx : IVec ⟨2, ![B, 1]⟩ 32) (y : (⟨3, ![B, R, C]⟩ : Shape).Idx) :
    Host.gather (slabDims N R C B wf) x idx y
      = x (ix3 ⟨min (idx (ix2 (y 0) 0)).toInt.toNat (N - 1), by omega⟩ (y 1) (y 2)) := by
  unfold Host.gather
  congr 1
  funext a
  refine Fin.ext ?_
  show (slabDims N R C B wf).start y idx a + (slabDims N R C B wf).batchCoord y a + (slabDims N R C B wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    have hsi : (slabDims N R C B wf).siIdx y ⟨List.idxOf (0 : Fin 3) (slabDims N R C B wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    have hs : (slabDims N R C B wf).start y idx (0 : Fin 3) = min (idx (ix2 (y 0) 0)).toInt.toNat (N - 1) :=
      (dif_pos (show (0 : Fin 3) ∈ (slabDims N R C B wf).startIndexMap from List.mem_singleton.mpr rfl)).trans
        (congrArg (fun z => min (idx z).toInt.toNat (N - 1)) hsi)
    exact hs
  | ⟨1, _⟩ =>
    have hs : (slabDims N R C B wf).start y idx (1 : Fin 3) = 0 := dif_neg (show ¬(1 : Fin 3) ∈ [0] by decide)
    refine (congrArg (fun z => z + 0 + (slabDims N R C B wf).offCoord y (1 : Fin 3)) hs).trans ?_
    show 0 + 0 + _ = (y 1).val
    rw [Nat.zero_add]
    rfl
  | ⟨2, _⟩ =>
    have hs : (slabDims N R C B wf).start y idx (2 : Fin 3) = 0 := dif_neg (show ¬(2 : Fin 3) ∈ [0] by decide)
    refine (congrArg (fun z => z + 0 + (slabDims N R C B wf).offCoord y (2 : Fin 3)) hs).trans ?_
    show 0 + 0 + _ = (y 2).val
    rw [Nat.zero_add]
    rfl

end

/-- A word below 32 is its own signed value. -/
theorem toInt_of_lt {w : BitVec 32} (h : w.toNat < 32) : w.toInt.toNat = w.toNat := by
  rw [BitVec.toInt_eq_toNat_cond, if_pos (by omega)]
  rfl

/-- It is not negative. -/
theorem not_slt_zero {w : BitVec 32} (h : w.toNat < 32) : IntOp.cmpi .slt w 0#32 = 0#1 := by
  show BitVec.ofBool (w.slt 0#32) = 0#1
  have : w.slt 0#32 = false := by
    rw [Bool.eq_false_iff]
    intro hs
    rw [BitVec.slt_iff_toInt_lt, BitVec.toInt_eq_toNat_cond, if_pos (by omega)] at hs
    have h0 : (0#32 : BitVec 32).toInt = 0 := rfl
    omega
  rw [this]; rfl

/-- The logistic's denominator is not zero. -/
theorem one_add_exp_ne (a : EReal) : (1 : EReal) + Ideal.exp a ≠ 0 := by
  have h : (0 : EReal) ≤ Ideal.exp a := by
    induction a with
    | bot => exact le_refl _
    | top => exact le_top
    | coe r => exact EReal.coe_nonneg.2 (Real.exp_pos r).le
  exact (lt_of_lt_of_le zero_lt_one (le_add_of_nonneg_right h)).ne'

end Cert.Moe

end
-- ==== Proof.UpRef.Ref.lean ====
module

public import proofs.«01_k».proof.Proof.Gen.UpReferenceIdeal
public import proofs.«01_k».proof.Proof.Gen.UpReferenceIdeal.Read
public import proofs.«01_k».proof.Proof.UpIdeal.Formula
public import proofs.«01_k».proof.Proof.Moe.Gather

/-! The reference of the experts' first product is the formula. -/

@[expose] public section

set_option maxRecDepth 16384

noncomputable section

namespace Cert.UpReferenceIdeal.Hand

open Cert.UpReferenceIdeal Cert.UpReferenceIdeal.Gen Cert.UpReferenceIdeal.Read
open Idealize.ShloMosaic Cert.Moe Cert.UpIdeal.Hand

variable (x0 : S1302528x128.Idx → EReal) (x1 : S159.Idx → BitVec 32) (x2 : S1.Idx → BitVec 32) (x3 : S2x32x4096x1024.Idx → EReal)
  (h : ∀ j, (x1 j).toNat < 32)

include h in
/-- A row's expert. -/
theorem expert_apply (n : Fin 40704) (z : Fin 1) : val_main_v11 (F := Ideal) x1 (ix2 n z) = x1 (ix1 ⟨n.val / 256, by omega⟩) := by
  have e : val_main_v1 (F := Ideal) x1 (idx_main_v11 (ix2 n z)) = x1 (ix1 ⟨n.val / 256, by omega⟩) := by
    rw [val_main_v1_apply, val_main_v0_apply]
    exact congrArg x1 (funext fun a => match a with | ⟨0, _⟩ => rfl)
  rw [val_main_v11_apply, val_main_v10_apply, val_main_v7_apply, e, val_main_v6_apply, val_main_c_apply, not_slt_zero (h _)]
  rfl

/-- The weights' first array. -/
theorem weights_apply (e : Fin 32) (k : Fin 4096) (j : Fin 1024) : val_main_v5 (F := Ideal) x3 (ix3 e k j) = x3 (ix4 0 e k j) := by
  rw [val_main_v5_apply, val_main_v4_apply]
  refine congrArg x3 (funext fun a => Fin.ext ?_)
  match a with
  | ⟨0, _⟩ => rfl
  | ⟨1, _⟩ => show ((e.val * 4096 + k.val) * 1024 + j.val) / 4194304 % 32 = e.val; omega
  | ⟨2, _⟩ => show ((e.val * 4096 + k.val) * 1024 + j.val) / 1024 % 4096 = k.val; omega
  | ⟨3, _⟩ => show ((e.val * 4096 + k.val) * 1024 + j.val) % 1024 = j.val; omega

include h in
/-- A row's product with its expert's weights. -/
theorem dot_apply (n : Fin 40704) (j : Fin 1024) : val_main_v13 (F := Ideal) x0 x1 x3 (ix2 n j)
    = expertDot x0 x3 n (expertOf x1 ⟨n.val / 256, by omega⟩) j := by
  rw [val_main_v13_apply]
  unfold expertDot
  refine Finset.sum_congr rfl fun k _ => congrArg₂ (· * ·) ?_ ?_
  · rw [val_main_v3_apply, val_main_v2_apply]
    refine congrArg x0 (funext fun a => Fin.ext ?_)
    match a with
    | ⟨0, _⟩ => show (n.val * 4096 + k.val) / 128 = 32 * n.val + k.val / 128; omega
    | ⟨1, _⟩ => show (n.val * 4096 + k.val) % 128 = k.val % 128; omega
  · refine (slab_taken (N := 32) (R := 4096) (C := 1024) (B := 40704) (by omega) _ (val_main_v5 (F := Ideal) x3) (val_main_v11 (F := Ideal) x1) (ridx_main_v13 (ix2 n j) k)).trans ?_
    refine Eq.trans (congrArg (val_main_v5 (F := Ideal) x3) ?_) (weights_apply x3 (expertOf x1 ⟨n.val / 256, by omega⟩) k j)
    refine funext fun a => Fin.ext ?_
    match a with
    | ⟨0, _⟩ =>
      show min (val_main_v11 (F := Ideal) x1 (ix2 n 0)).toInt.toNat 31 = min (x1 (ix1 ⟨n.val / 256, by omega⟩)).toNat 31
      rw [expert_apply x1 h, toInt_of_lt (h _)]
    | ⟨1, _⟩ => rfl
    | ⟨2, _⟩ => rfl

/-- Whether a row's tile is in use. -/
theorem used_apply (n : Fin 40704) (f : Fin 512) : val_main_call1_v1 (F := Ideal) x2 (ix2 n f)
    = BitVec.ofBool (decide (((n.val / 256 : ℕ) : ℤ) < (x2 (ix1 0)).toInt)) := by
  rw [val_main_call1_v1_apply, val_main_v22_apply, val_main_v21_apply, val_main_v20_apply, val_main_v19_apply, val_main_v16_apply,
    val_main_v18_apply]
  have e : val_main_v17 (F := Ideal) x2 (idx_main_v18 (idx_main_v20 (idx_main_v21 (idx_main_v22 (idx_main_call1_v1 (ix2 n f)))))) = x2 (ix1 0) := by
    unfold val_main_v17
    exact shapeCast_apply x2 shapeCasts_S1_S_ _ (ix1 0) rfl
  rw [e]
  show BitVec.ofBool ((BitVec.ofNat 32 (n.val / 256)).slt (x2 (ix1 0))) = _
  refine congrArg BitVec.ofBool (Bool.eq_iff_iff.2 ?_)
  rw [BitVec.slt_iff_toInt_lt, decide_eq_true_iff, BitVec.toInt_eq_toNat_cond, BitVec.toNat_ofNat, Nat.mod_eq_of_lt (by omega), if_pos (by omega)]

include h in
/-- The reference, element by element. -/
theorem ref_apply (n : Fin 40704) (f : Fin 512) : val_main_v26 (F := Ideal) x0 x1 x2 x3 (ix2 n f) = expertsUp x0 x1 x2 x3 (ix2 n f) := by
  rw [expertsUp_apply, val_main_v26_apply, val_main_v25_apply, used_apply]
  have e14 : val_main_v14 (F := Ideal) x0 x1 x3 (ix2 n f) = expertDot x0 x3 n (expertOf x1 ⟨n.val / 256, by omega⟩) ⟨f.val, by omega⟩ := by
    rw [val_main_v14_apply]
    refine Eq.trans (congrArg _ ?_) (dot_apply x0 x1 x3 h n ⟨f.val, by omega⟩)
    exact funext fun a => match a with | ⟨0, _⟩ => rfl | ⟨1, _⟩ => rfl
  have e15 : val_main_v15 (F := Ideal) x0 x1 x3 (ix2 n f) = expertDot x0 x3 n (expertOf x1 ⟨n.val / 256, by omega⟩) ⟨512 + f.val, by omega⟩ := by
    rw [val_main_v15_apply]
    refine Eq.trans (congrArg _ ?_) (dot_apply x0 x1 x3 h n ⟨512 + f.val, by omega⟩)
    exact funext fun a => match a with | ⟨0, _⟩ => rfl | ⟨1, _⟩ => rfl
  by_cases hu : ((n.val / 256 : ℕ) : ℤ) < (x2 (ix1 0)).toInt
  · rw [if_pos hu, decide_eq_true hu]
    refine Eq.trans (b := val_main_v24 (F := Ideal) x0 x1 x3 (ix2 n f)) rfl ?_
    rw [val_main_v24_apply, val_main_v23_apply, val_main_call0_v5_apply, val_main_call0_v3_apply, val_main_call0_v1_apply, val_main_call0_v0_apply,
      val_main_call0_v4_apply, val_main_call0_v2_apply, val_main_call0_cst_apply, val_main_call0_cst_0_apply, e14, e15]
    generalize expertDot x0 x3 n (expertOf x1 ⟨n.val / 256, by omega⟩) ⟨f.val, by omega⟩ = p
    generalize expertDot x0 x3 n (expertOf x1 ⟨n.val / 256, by omega⟩) ⟨512 + f.val, by omega⟩ = q
    show p * Ideal.div (Ideal.ofBits .f32 0x3F800000#32) (Ideal.ofBits .f32 0x3F800000#32 + Ideal.exp (-p)) * q = gated p q
    unfold gated
    rw [Ideal.ofBits_one_f32, Ideal.mul_one_div (one_add_exp_ne _)]
  · rw [if_neg hu, decide_eq_false hu]
    refine Eq.trans (b := val_main_call1_v2 (F := Ideal) (ix2 n f)) rfl ?_
    rw [val_main_call1_v2_apply, val_main_call1_v0_apply, val_main_cst_apply]
    exact Ideal.ofBits_zero_f32

include h in
/-- The reference is the formula. -/
theorem ref_eq : val_main_v26 (F := Ideal) x0 x1 x2 x3 = expertsUp x0 x1 x2 x3 := by
  funext i
  have e : i = ix2 (i 0) (i 1) := eq_ix2 i
  rw [e]
  exact ref_apply x0 x1 x2 x3 h (i 0) (i 1)

end Cert.UpReferenceIdeal.Hand

end
-- ==== Proof.Down.Run.lean ====
module

public import proofs.«01_k».proof.Proof.Gen.Down.Launch
public import proofs.«01_k».proof.Proof.Gen.Down.Skeleton
public import Idealize.ShloMosaic.Lib.Pipeline.Kit
public import Idealize.ShloMosaic.Lib.Pipeline.TableIdle
public import Idealize.ShloMosaic.Lib.Pipeline.FrameBody
public import Idealize.ShloMosaic.Lib.Affine
public import Idealize.ShloMosaic.Adequacy
public import Idealize.ShloMosaic.Init
public import Idealize.ShloMosaic.Lib.Writes
public import Idealize.ShloMosaic.Lib.Ring
public import Idealize.ShloMosaic.Lib.Exec
public import Idealize.ShloMosaic.Lib.Tactic
public import Idealize.ShloMosaic.PureOps.BitExact

/-! One run of the second expert kernel's body along each of its three control paths: at a used tile that loads a new
expert's weights, at a used tile that keeps the weights it has, and at a tile that is not used. -/

@[expose] public section

set_option maxRecDepth 16384
set_option Elab.async false

noncomputable section

namespace Cert.Down.Hand

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The prefetched tables and the scratch buffers as the body is handed them. -/
abbrev tb0 : Memref sig .tc .smem S159 .i32 := Memref.whole main_arg1
abbrev tb1 : Memref sig .tc .smem S1 .i32 := Memref.whole main_arg2
abbrev sc0 : Memref sig .tc .vmem S512x4096 .bf16 := Memref.whole cc0_scratch0

/-- The number of tiles in use, as the body reads it. -/
abbrev nuW (T1 : S1.Idx → Elt Bits .i32) : BitVec 32 :=
  View.readAt (Elt Bits) tb1.view (Rect.unit (s := S1) ![0] S1.size inb_S1_S1_0).toLoadRect T1 (Shape.Idx.first (numel1_S1.symm ▸ Nat.one_pos))
/-- This tile's expert, as the body reads it. -/
abbrev teW (i : grid0.Coords) (T0 : S159.Idx → Elt Bits .i32) : BitVec 32 :=
  View.readAt (Elt Bits) tb0.view (Rect.unit (s := S159) (k0_off1 i) S1.size (k0_off1_inb i)).toLoadRect T0 (Shape.Idx.first (numel1_S1.symm ▸ Nat.one_pos))
/-- The expert of the tile before, as the body reads it. -/
abbrev teP (i : grid0.Coords) (T0 : S159.Idx → Elt Bits .i32) : BitVec 32 :=
  View.readAt (Elt Bits) tb0.view (Rect.unit (s := S159) (k0_off2 i) S1.size (k0_off2_inb i)).toLoadRect T0 (Shape.Idx.first (numel1_S1.symm ▸ Nat.one_pos))

/-- The tile is in use and its expert is new. -/
abbrev Fresh (i : grid0.Coords) (T0 : S159.Idx → Elt Bits .i32) (T1 : S1.Idx → Elt Bits .i32) : Prop :=
  Scalar.cmpi .ne (Scalar.extui (Scalar.andi (Scalar.cmpi .slt (BitVec.ofNat 32 (i 0).val) (nuW T1))
    (Scalar.ori (Scalar.cmpi .eq (BitVec.ofNat 32 (i 0).val) 0#32) (Scalar.cmpi .ne (teW i T0) (teP i T0))))) 0#32 = 1#1

section
variable (c : Dev nD) (i : grid0.Coords)
  (arg3 : Memref sig .tc .vmem S256x512 .bf16) (harg3 : arg3.IsWhole)
  (arg4 : Memref sig .tc .vmem S1x1x512x4096 .f32) (harg4 : arg4.IsWhole)
  (arg5 : Memref sig .tc .vmem S8192x128 .bf16) (harg5 : arg5.IsWhole)
  (T0 : S159.Idx → Elt Bits .i32) (T1 : S1.Idx → Elt Bits .i32)
  (x0 : S256x512.Idx → Elt Bits .bf16) (x1 : S1x1x512x4096.Idx → Elt Bits .f32)

set_option backward.proofsInPublic true in
set_option maxHeartbeats 8000000 in
/-- A used tile whose expert is new: what the body leaves in the output's staging buffer, through the view of its
rows as words, and in the scratch buffer, with the proof that it does. -/
noncomputable def runA (hc0 : Fresh i T0 T1) (h2 : k0_cond2 i (nuW T1) = 1#1) (h3 : ¬(k0_cond3 i (nuW T1) = 1#1)) :
    Σ' (out : List (View.Piece (Elt Bits) S4096x2x128 .bf16)),
    { o0 : Buf (Elt Bits) ((c : Thread nD τ).loc cc0_scratch0) //
      ∀ (a0 : Buf (Elt Bits) ((c : Thread nD τ).loc cc0_scratch0)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tb0.view.loc (c : Thread nD τ) ↦{fullShare.right} T0)
          ∗ (tb1.view.loc (c : Thread nD τ) ↦{fullShare.right} T1)
          ∗ (∃ d, owns (c : Thread nD τ) (arg5.reshape S4096x2x128 reshapes_S8192x128_S4096x2x128.1 reshapes_S8192x128_S4096x2x128.2 harg5.contiguous) fullShare d)
          ∗ (sc0.view.loc (c : Thread nD τ) ↦{fullShare} a0)
          ∗ (iprop((arg3.view.loc (c : Thread nD τ) ↦[arg3.view.set]{fullShare} arg3.view.rep x0)
          ∗ (arg4.view.loc (c : Thread nD τ) ↦[arg4.view.set]{fullShare} arg4.view.rep x1)
          ∗ (tb0.view.loc (c : Thread nD τ) ↦{fullShare.right} T0)
          ∗ (tb1.view.loc (c : Thread nD τ) ↦{fullShare.right} T1)
          ∗ (∃ f, (arg5.reshape S4096x2x128 reshapes_S8192x128_S4096x2x128.1 reshapes_S8192x128_S4096x2x128.2 harg5.contiguous).view.loc (c : Thread nD τ) ↦[(arg5.reshape S4096x2x128 reshapes_S8192x128_S4096x2x128.1 reshapes_S8192x128_S4096x2x128.2 harg5.contiguous).view.set]{fullShare} (arg5.reshape S4096x2x128 reshapes_S8192x128_S4096x2x128.1 reshapes_S8192x128_S4096x2x128.2 harg5.contiguous).view.writes (Elt Bits) f out)
          ∗ (sc0.view.loc (c : Thread nD τ) ↦{fullShare} o0)) -∗ K ⟨⟩))
          ⊢ wp frame (wpE (defs₀ (F := Bits)) Variants.none c none) Set.univ (cc0_moe_down i tb0 (Memref.isWhole_whole _) tb1 (Memref.isWhole_whole _) arg3 harg3 arg4 harg4 arg5 harg5 sc0 (Memref.isWhole_whole _)) K } :=
  ⟨_, _, fun (a0 : Buf (Elt Bits) ((c : Thread nD τ).loc cc0_scratch0)) K => by
    unfold owns
    rw [cc0_moe_down_eq_skeleton]; unfold cc0_moe_down_skel
    iintro ⟨H0, H1, HT0, HT1, ⟨%d5, %f5, -, HO⟩, HS0, Hk⟩
    have hS0 : sc0.IsWhole := Memref.isWhole_whole _
    have hT0 : tb0.IsWhole := Memref.isWhole_whole _
    have hT1 : tb1.IsWhole := Memref.isWhole_whole _
    sl_exec! (disch := first | (guard_target = Scalar.cmpi .ne _ _ = _; exact hc0) | (guard_target = k0_cond2 _ _ = _; exact h2) | (guard_target = ¬(k0_cond3 _ _ = _); exact h3))
    sl_step
    iapply Hk
    isplitl [H0]; · iexact H0
    isplitl [H1]; · iexact H1
    isplitl [HT0]; · iexact HT0
    isplitl [HT1]; · iexact HT1
    isplitl [HO]; · iexists _; iexact HO
    iexact HS0⟩

set_option backward.proofsInPublic true in
set_option maxHeartbeats 8000000 in
/-- A used tile that keeps the weights the scratch buffer holds. -/
noncomputable def runB (a0 : Buf (Elt Bits) ((c : Thread nD τ).loc cc0_scratch0))
    (hc0 : ¬Fresh i T0 T1) (h2 : k0_cond2 i (nuW T1) = 1#1) (h3 : ¬(k0_cond3 i (nuW T1) = 1#1)) :
    { out : List (View.Piece (Elt Bits) S4096x2x128 .bf16) //
      ∀ (K : PUnit → sProp 𝕄),
        iprop((arg3.view.loc (c : Thread nD τ) ↦[arg3.view.set]{fullShare} arg3.view.rep x0)
          ∗ (tb0.view.loc (c : Thread nD τ) ↦{fullShare.right} T0)
          ∗ (tb1.view.loc (c : Thread nD τ) ↦{fullShare.right} T1)
          ∗ (∃ d, owns (c : Thread nD τ) (arg5.reshape S4096x2x128 reshapes_S8192x128_S4096x2x128.1 reshapes_S8192x128_S4096x2x128.2 harg5.contiguous) fullShare d)
          ∗ (sc0.view.loc (c : Thread nD τ) ↦{fullShare} a0)
          ∗ (iprop((arg3.view.loc (c : Thread nD τ) ↦[arg3.view.set]{fullShare} arg3.view.rep x0)
          ∗ (tb0.view.loc (c : Thread nD τ) ↦{fullShare.right} T0)
          ∗ (tb1.view.loc (c : Thread nD τ) ↦{fullShare.right} T1)
          ∗ (∃ f, (arg5.reshape S4096x2x128 reshapes_S8192x128_S4096x2x128.1 reshapes_S8192x128_S4096x2x128.2 harg5.contiguous).view.loc (c : Thread nD τ) ↦[(arg5.reshape S4096x2x128 reshapes_S8192x128_S4096x2x128.1 reshapes_S8192x128_S4096x2x128.2 harg5.contiguous).view.set]{fullShare} (arg5.reshape S4096x2x128 reshapes_S8192x128_S4096x2x128.1 reshapes_S8192x128_S4096x2x128.2 harg5.contiguous).view.writes (Elt Bits) f out)
          ∗ (sc0.view.loc (c : Thread nD τ) ↦{fullShare} a0)) -∗ K ⟨⟩))
          ⊢ wp frame (wpE (defs₀ (F := Bits)) Variants.none c none) Set.univ (cc0_moe_down i tb0 (Memref.isWhole_whole _) tb1 (Memref.isWhole_whole _) arg3 harg3 arg4 harg4 arg5 harg5 sc0 (Memref.isWhole_whole _)) K } :=
  ⟨_, fun K => by
    unfold owns
    rw [cc0_moe_down_eq_skeleton]; unfold cc0_moe_down_skel
    iintro ⟨H0, HT0, HT1, ⟨%d5, %f5, -, HO⟩, HS0, Hk⟩
    have hS0 : sc0.IsWhole := Memref.isWhole_whole _
    have hT0 : tb0.IsWhole := Memref.isWhole_whole _
    have hT1 : tb1.IsWhole := Memref.isWhole_whole _
    sl_exec! (disch := first | (guard_target = ¬(Scalar.cmpi _ _ _ = _); exact hc0) | (guard_target = k0_cond2 _ _ = _; exact h2) | (guard_target = ¬(k0_cond3 _ _ = _); exact h3))
    sl_step
    iapply Hk
    isplitl [H0]; · iexact H0
    isplitl [HT0]; · iexact HT0
    isplitl [HT1]; · iexact HT1
    isplitl [HO]; · iexists _; iexact HO
    iexact HS0⟩

set_option backward.proofsInPublic true in
set_option maxHeartbeats 8000000 in
/-- A tile that is not used: the body only stores zeros. -/
noncomputable def runC (hc0 : ¬Fresh i T0 T1) (h2 : ¬(k0_cond2 i (nuW T1) = 1#1)) (h3 : k0_cond3 i (nuW T1) = 1#1) :
    { out : List (View.Piece (Elt Bits) S8192x128 .bf16) //
      ∀ (K : PUnit → sProp 𝕄),
        iprop((tb0.view.loc (c : Thread nD τ) ↦{fullShare.right} T0)
          ∗ (tb1.view.loc (c : Thread nD τ) ↦{fullShare.right} T1)
          ∗ (∃ d, owns (c : Thread nD τ) arg5 fullShare d)
          ∗ (iprop((tb0.view.loc (c : Thread nD τ) ↦{fullShare.right} T0)
          ∗ (tb1.view.loc (c : Thread nD τ) ↦{fullShare.right} T1)
          ∗ (∃ f, arg5.view.loc (c : Thread nD τ) ↦[arg5.view.set]{fullShare} arg5.view.writes (Elt Bits) f out)) -∗ K ⟨⟩))
          ⊢ wp frame (wpE (defs₀ (F := Bits)) Variants.none c none) Set.univ (cc0_moe_down i tb0 (Memref.isWhole_whole _) tb1 (Memref.isWhole_whole _) arg3 harg3 arg4 harg4 arg5 harg5 sc0 (Memref.isWhole_whole _)) K } :=
  ⟨_, fun K => by
    unfold owns
    rw [cc0_moe_down_eq_skeleton]; unfold cc0_moe_down_skel
    iintro ⟨HT0, HT1, ⟨%d5, %f5, -, HO⟩, Hk⟩
    have hT0 : tb0.IsWhole := Memref.isWhole_whole _
    have hT1 : tb1.IsWhole := Memref.isWhole_whole _
    sl_exec! (disch := first | (guard_target = ¬(Scalar.cmpi _ _ _ = _); exact hc0) | (guard_target = ¬(k0_cond2 _ _ = _); exact h2) | (guard_target = k0_cond3 _ _ = _; exact h3))
    sl_step
    iapply Hk
    isplitl [HT0]; · iexact HT0
    isplitl [HT1]; · iexact HT1
    iexists _; iexact HO⟩

end

end Cert.Down.Hand

end
-- ==== Proof.Down.Frame.lean ====
module

public import proofs.«01_k».proof.Proof.Down.Run
public import Idealize.ShloMosaic.Lib.Pipeline.Frame
public import Idealize.ShloMosaic.Lib.Pipeline.Quiescent
public import Idealize.ShloMosaic.Lib.Claim
public import Idealize.ShloMosaic.Lib.WordCmp

/-! The launch of the second expert kernel at any tables whose blocks lie inside the arrays and that use at least one tile:
what the scratch buffer hold before each tile, what each tile leaves in the output's block, and the run. -/

@[expose] public section

set_option maxRecDepth 16384
set_option Elab.async false

noncomputable section

namespace Cert.Down.Hand

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- A bit widened to a word is not zero exactly when it is set. -/
theorem bit_ne (b : BitVec 1) : Scalar.cmpi .ne (Scalar.extui b : BitVec 32) 0#32 = 1#1 ↔ b = 1#1 := by
  revert b; decide

/-- The tile is used exactly when its number is below the number of tiles in use. -/
theorem cond2_iff (i : grid0.Coords) (v : BitVec 32) :
    k0_cond2 i v = 1#1 ↔ Scalar.cmpi .slt (BitVec.ofNat 32 (i 0).val) v = 1#1 := bit_ne _

/-- A tile is unused exactly when it is not used. -/
theorem cond3_iff (i : grid0.Coords) (v : BitVec 32) : k0_cond3 i v = 1#1 ↔ ¬k0_cond2 i v = 1#1 := by
  rw [cond2_iff, show k0_cond3 i v = 1#1 ↔ Scalar.cmpi .sge (BitVec.ofNat 32 (i 0).val) v = 1#1 from bit_ne _]
  generalize BitVec.ofNat 32 (i 0).val = x
  refine (IntOp.cmpi_sge (x := x) (y := v)).trans (Iff.trans ?_ (not_congr (IntOp.cmpi_slt (x := x) (y := v))).symm)
  exact not_lt.symm

/-- A new expert is only loaded at a used tile. -/
theorem Fresh.used {i : grid0.Coords} {T0 : S159.Idx → Elt Bits .i32} {T1 : S1.Idx → Elt Bits .i32} (h : Fresh i T0 T1) :
    k0_cond2 i (nuW T1) = 1#1 := by
  refine (cond2_iff _ _).2 ?_
  have h' := (bit_ne _).1 h
  revert h'
  generalize Scalar.cmpi .slt (BitVec.ofNat 32 (i 0).val) (nuW T1) = b
  generalize Scalar.ori _ _ = d
  revert b d; decide

/-- The words of residue `s` modulo 16: row `16 r + s` for every `r`. -/
abbrev rowsAt (s : Fin 16) : Rect S4096x2x128 :=
  ⟨⟨![s.val, 0, 0], S256x2x128.size, ![16, 1, 1], fun a => match a with
    | ⟨0, _⟩ => Or.inr (show s.val + 16 * (256 - 1) < 4096 by have := s.isLt; omega)
    | ⟨1, _⟩ => Or.inr (show 0 + 1 * (2 - 1) < 2 by omega)
    | ⟨2, _⟩ => Or.inr (show 0 + 1 * (128 - 1) < 128 by omega)⟩, spos_16_1_1⟩

/-- All sixteen, the last first. -/
def residues : List (Rect S4096x2x128) :=
  [rowsAt 15, rowsAt 14, rowsAt 13, rowsAt 12, rowsAt 11, rowsAt 10, rowsAt 9, rowsAt 8, rowsAt 7, rowsAt 6, rowsAt 5, rowsAt 4, rowsAt 3, rowsAt 2, rowsAt 1, rowsAt 0]

theorem mem_residues (s : Fin 16) : rowsAt s ∈ residues := by
  unfold residues
  fin_cases s <;> simp

/-- A word of residue `s` is in its rectangle. -/
theorem mem_rowsAt (y : S4096x2x128.Idx) : y ∈ (rowsAt ⟨(y 0).val % 16, by omega⟩).set := by
  refine (LoadRect.mem_set _).2 fun a => ?_
  match a with
  | ⟨0, _⟩ => exact ⟨(y 0).val / 16, Nat.div_lt_of_lt_mul (y 0).isLt, show (y 0).val = (y 0).val % 16 + 16 * ((y 0).val / 16) by omega⟩
  | ⟨1, _⟩ => exact ⟨(y 1).val, (y 1).isLt, show (y 1).val = 0 + 1 * (y 1).val by omega⟩
  | ⟨2, _⟩ => exact ⟨(y 2).val, (y 2).isLt, show (y 2).val = 0 + 1 * (y 2).val by omega⟩

/-- Stores through the sixteen residues store every word. -/
theorem cover_of_residues {L : List (View.Piece (Elt Bits) S4096x2x128 .bf16)} (h : L.map (fun pc => pc.1) = residues) (y : S4096x2x128.Idx) :
    ∃ pc ∈ L, y ∈ pc.1.set := by
  have hm : rowsAt ⟨(y 0).val % 16, by omega⟩ ∈ L.map (fun pc => pc.1) := h ▸ mem_residues _
  obtain ⟨pc, hpc, e⟩ := List.mem_map.1 hm
  exact ⟨pc, hpc, e ▸ mem_rowsAt y⟩

/-- A staging buffer of the output, and the view of its rows as words. -/
abbrev VO : View sig .tc .vmem S8192x128 .bf16 := (Memref.whole cc0_stg2_0 : Memref sig .tc .vmem S8192x128 .bf16).view
abbrev VR : View sig .tc .vmem S4096x2x128 .bf16 := VO.reshape S4096x2x128 reshapes_S8192x128_S4096x2x128.1

/-- What stores through the view of words leave, as rows. -/
def outFn (L : List (View.Piece (Elt Bits) S4096x2x128 .bf16)) : S8192x128.Idx → Elt Bits .bf16 := fun j =>
  VR.read (Elt Bits) (VR.writes (Elt Bits) VR.junk L) ((Shape.reshapeEquiv reshapes_S8192x128_S4096x2x128.1).symm j)

section
variable (c : Dev nD) (i : grid0.Coords)
  (arg3 : Memref sig .tc .vmem S256x512 .bf16) (harg3 : arg3.IsWhole)
  (arg4 : Memref sig .tc .vmem S1x1x512x4096 .f32) (harg4 : arg4.IsWhole)
  (arg5 : Memref sig .tc .vmem S8192x128 .bf16) (harg5 : arg5.IsWhole)
  (T0 : S159.Idx → Elt Bits .i32) (T1 : S1.Idx → Elt Bits .i32)
  (x0 : S256x512.Idx → Elt Bits .bf16) (x1 : S1x1x512x4096.Idx → Elt Bits .f32)

include harg5 in
/-- Any staging buffer reads so after the stores. -/
theorem read_outFn (f : arg5.view.ty.Contents (Elt Bits)) {L : List (View.Piece (Elt Bits) S4096x2x128 .bf16)} (h : L.map (fun pc => pc.1) = residues) :
    arg5.view.read (Elt Bits) ((arg5.reshape S4096x2x128 reshapes_S8192x128_S4096x2x128.1 reshapes_S8192x128_S4096x2x128.2 harg5.contiguous).view.writes (Elt Bits) f L) = outFn L := by
  funext j
  have e := congrFun (View.read_writes_of_cover (arg5.reshape S4096x2x128 reshapes_S8192x128_S4096x2x128.1 reshapes_S8192x128_S4096x2x128.2 harg5.contiguous).view f VR VR.junk L (cover_of_residues h))
    ((Shape.reshapeEquiv reshapes_S8192x128_S4096x2x128.1).symm j)
  refine Eq.trans ?_ e
  show _ = arg5.view.read (Elt Bits) _ (Shape.reshapeEquiv _ ((Shape.reshapeEquiv reshapes_S8192x128_S4096x2x128.1).symm j))
  rw [Equiv.apply_symm_apply]

include harg5 in
/-- The staging buffer held as rows is held as words. -/
theorem words_of_rows : (iprop(∃ d, owns (c : Thread nD τ) arg5 fullShare d) : sProp 𝕄) ⊢ iprop(∃ d, owns (c : Thread nD τ) (arg5.reshape S4096x2x128 reshapes_S8192x128_S4096x2x128.1 reshapes_S8192x128_S4096x2x128.2 harg5.contiguous) fullShare d) := by
  have hset : (arg5.reshape S4096x2x128 reshapes_S8192x128_S4096x2x128.1 reshapes_S8192x128_S4096x2x128.2 harg5.contiguous).view.set = arg5.view.set := View.set_reshape arg5.view reshapes_S8192x128_S4096x2x128.1
  unfold owns
  rw [hset]
  iintro ⟨%d, %f, -, H⟩
  iexists ((arg5.reshape S4096x2x128 reshapes_S8192x128_S4096x2x128.1 reshapes_S8192x128_S4096x2x128.2 harg5.contiguous).view.read (Elt Bits) f); iexists f
  isplitr; swap
  · iexact H
  · ipureintro; rfl

include harg5 in
/-- And back. -/
theorem rows_of_words (f : arg5.view.ty.Contents (Elt Bits)) {L : List (View.Piece (Elt Bits) S4096x2x128 .bf16)} (h : L.map (fun pc => pc.1) = residues) :
    ((arg5.reshape S4096x2x128 reshapes_S8192x128_S4096x2x128.1 reshapes_S8192x128_S4096x2x128.2 harg5.contiguous).view.loc (c : Thread nD τ) ↦[(arg5.reshape S4096x2x128 reshapes_S8192x128_S4096x2x128.1 reshapes_S8192x128_S4096x2x128.2 harg5.contiguous).view.set]{fullShare} (arg5.reshape S4096x2x128 reshapes_S8192x128_S4096x2x128.1 reshapes_S8192x128_S4096x2x128.2 harg5.contiguous).view.writes (Elt Bits) f L : sProp 𝕄)
      ⊢ owns (c : Thread nD τ) arg5 fullShare (outFn L) := by
  have hset : (arg5.reshape S4096x2x128 reshapes_S8192x128_S4096x2x128.1 reshapes_S8192x128_S4096x2x128.2 harg5.contiguous).view.set = arg5.view.set := View.set_reshape arg5.view reshapes_S8192x128_S4096x2x128.1
  unfold owns
  rw [hset]
  iintro H
  iexists ((arg5.reshape S4096x2x128 reshapes_S8192x128_S4096x2x128.1 reshapes_S8192x128_S4096x2x128.2 harg5.contiguous).view.writes (Elt Bits) f L)
  isplitr; swap
  · iexact H
  · ipureintro; exact read_outFn arg5 harg5 f h

/-- The first path stores through all residues. -/
theorem coverA (hc0 : Fresh i T0 T1) (h2 : k0_cond2 i (nuW T1) = 1#1) (h3 : ¬(k0_cond3 i (nuW T1) = 1#1)) :
    (runA c i arg3 harg3 arg4 harg4 arg5 harg5 T0 T1 x0 x1 hc0 h2 h3).1.map (fun pc => pc.1) = residues := by
  unfold runA residues; dsimp only [List.map]; rfl

/-- So does the second, -/
theorem coverB (a0 : Buf (Elt Bits) ((c : Thread nD τ).loc cc0_scratch0))
    (hc0 : ¬Fresh i T0 T1) (h2 : k0_cond2 i (nuW T1) = 1#1) (h3 : ¬(k0_cond3 i (nuW T1) = 1#1)) :
    (runB c i arg3 harg3 arg4 harg4 arg5 harg5 T0 T1 x0 a0 hc0 h2 h3).1.map (fun pc => pc.1) = residues := by
  unfold runB residues; dsimp only [List.map]; rfl

/-- and the third stores the whole output block. -/
theorem coverC (hc0 : ¬Fresh i T0 T1) (h2 : ¬(k0_cond2 i (nuW T1) = 1#1)) (h3 : k0_cond3 i (nuW T1) = 1#1) (y : S8192x128.Idx) :
    ∃ pc ∈ (runC c i arg3 harg3 arg4 harg4 arg5 harg5 T0 T1 hc0 h2 h3).1, y ∈ pc.1.set :=
  View.cover_of_tiledL (runC c i arg3 harg3 arg4 harg4 arg5 harg5 T0 T1 hc0 h2 h3).1 S8192x128.size (by sl_kernel_rfl) y
end

variable (a : (pcfg0 (F := Bits)).Adm)

/-- The pipeline at the tables' contents. -/
abbrev cfgA : Pipeline.Cfg sig Λ₀ := cfg0 (F := Bits) a
abbrev pcs : Fin 1 → Pipeline.Cfg sig Λ₀ := Pipeline.pin (pcfgs (F := Bits)) fun _ => a
/-- The two tables. -/
abbrev T0 : S159.Idx → Elt Bits .i32 := a.1 0
abbrev T1 : S1.Idx → Elt Bits .i32 := a.1 1

variable (m : (ℓ : Loc nD τ sig) → Buf (Elt Bits) ℓ) (ρ : Dev nD → PrngReg)

abbrev crd (t : Fin (cfgA a).N) : grid0.Coords := (cfgA a).grid.coords t
abbrev ms0 (t : Fin (cfgA a).N) : Memref sig .tc .vmem S256x512 .bf16 := spec0_0.stage ((cfgA a).slots t (0 : Fin 3))
abbrev hs0 (t : Fin (cfgA a).N) : (ms0 a t).IsWhole := hstage0_0 (((cfgA a).slots t (0 : Fin 3)).cast nbuf0_0)
abbrev ms1 (t : Fin (cfgA a).N) : Memref sig .tc .vmem S1x1x512x4096 .f32 := spec0_1.stage ((cfgA a).slots t (1 : Fin 3))
abbrev hs1 (t : Fin (cfgA a).N) : (ms1 a t).IsWhole := hstage0_1 (((cfgA a).slots t (1 : Fin 3)).cast nbuf0_1)
abbrev ms2 (t : Fin (cfgA a).N) : Memref sig .tc .vmem S8192x128 .bf16 := spec0_2.stage ((cfgA a).slots t (2 : Fin 3))
abbrev hs2 (t : Fin (cfgA a).N) : (ms2 a t).IsWhole := hstage0_2 (((cfgA a).slots t (2 : Fin 3)).cast nbuf0_2)

/-- Window `w`'s block at tile `t`, read off its array at launch. -/
def iblk (c : Dev nD) (w : Fin (cfgA a).W) (t : Fin (cfgA a).N) : (((cfgA a).win w).xblock (crd a t)).Idx → Elt Bits ((cfgA a).win w).elt :=
  (((cfgA a).win w).blk t).view.read (Elt Bits) ((s₀ m ρ).mem (((cfgA a).win w).arr.view.loc (c : Thread nD τ)))

/-- At a tile. -/
abbrev FreshAt (t : Fin (cfgA a).N) : Prop := Fresh (crd a t) (T0 a) (T1 a)
abbrev UsedAt (t : Fin (cfgA a).N) : Prop := k0_cond2 (crd a t) (nuW (T1 a)) = 1#1

/-- The scratch buffer's contents: the expert's weights. -/
abbrev Scr (c : Dev nD) : Type := Buf (Elt Bits) ((c : Thread nD τ).loc cc0_scratch0)

/-- What a used tile with a new expert does. -/
abbrev atA (c : Dev nD) (t : Fin (cfgA a).N) (h : FreshAt a t) :=
  runA c (crd a t) (ms0 a t) (hs0 a t) (ms1 a t) (hs1 a t) (ms2 a t) (hs2 a t) (T0 a) (T1 a)
    (iblk a m ρ c (0 : Fin 3) t) (iblk a m ρ c (1 : Fin 3) t) h h.used ((cond3_iff _ _).not_left.2 h.used)
/-- What a used tile that keeps its expert does, from the scratch buffer' contents `p`. -/
abbrev atB (c : Dev nD) (t : Fin (cfgA a).N) (p : Scr c) (h : ¬FreshAt a t) (h2 : UsedAt a t) :=
  runB c (crd a t) (ms0 a t) (hs0 a t) (ms1 a t) (hs1 a t) (ms2 a t) (hs2 a t) (T0 a) (T1 a)
    (iblk a m ρ c (0 : Fin 3) t) p h h2 ((cond3_iff _ _).not_left.2 h2)
/-- What an unused tile does. -/
abbrev atC (c : Dev nD) (t : Fin (cfgA a).N) (h : ¬FreshAt a t) (h2 : ¬UsedAt a t) :=
  runC c (crd a t) (ms0 a t) (hs0 a t) (ms1 a t) (hs1 a t) (ms2 a t) (hs2 a t) (T0 a) (T1 a)
    h h2 ((cond3_iff _ _).2 h2)

open Classical in
/-- What the scratch buffer hold after `n` tiles. -/
def scr (c : Dev nD) : ℕ → Scr c
  | 0 => default
  | n + 1 => if h : n < (cfgA a).N then
      (if q : FreshAt a ⟨n, h⟩ then (atA a m ρ c ⟨n, h⟩ q).2.1 else scr c n)
    else scr c n

theorem scr_A (c : Dev nD) (t : Fin (cfgA a).N) (q : FreshAt a t) :
    scr a m ρ c (t.val + 1) = (atA a m ρ c t q).2.1 := by
  rw [scr, dif_pos t.isLt, dif_pos q]

theorem scr_BC (c : Dev nD) (t : Fin (cfgA a).N) (q : ¬FreshAt a t) : scr a m ρ c (t.val + 1) = scr a m ρ c t.val := by
  rw [scr, dif_pos t.isLt, dif_neg q]

open Classical in
/-- What tile `t` leaves in the output's block. -/
def outAt (c : Dev nD) (t : Fin (cfgA a).N) : S8192x128.Idx → Elt Bits .bf16 :=
  if q : FreshAt a t then outFn (atA a m ρ c t q).1
  else if u : UsedAt a t then outFn (atB a m ρ c t (scr a m ρ c t.val) q u).1
  else VO.read (Elt Bits) (VO.writes (Elt Bits) VO.junk (atC a c t q u).1)

/-- The invariant before tile `t`: past the first tile the scratch buffer are as tracked; the body's halves of the
tables; the generator's register. -/
def Phi (c : Dev nD) (t : Fin ((cfgA a).N + 1)) : sProp 𝕄 :=
  iprop((∃ a0, ⌜0 < t.val → a0 = scr a m ρ c t.val⌝ ∗ (sc0.view.loc (c : Thread nD τ) ↦{fullShare} a0))
    ∗ (tb0.view.loc (c : Thread nD τ) ↦{fullShare.right} T0 a) ∗ (tb1.view.loc (c : Thread nD τ) ↦{fullShare.right} T1 a)
    ∗ (∃ r, prngReg c r))

/-- The pipeline's proof data on core `c`. -/
def dats (_ : Fin 1) (c : Dev nD) : Dat τ (Elt Bits) Unit ℕ (UR sig nD τ) ℕ (cfgA a) c where
  A w := (s₀ m ρ).mem (((cfgA a).win w).arr.view.loc (c : Thread nD τ))
  after w t := match w with
    | ⟨0, _⟩ => iblk a m ρ c (0 : Fin 3) t
    | ⟨1, _⟩ => iblk a m ρ c (1 : Fin 3) t
    | ⟨2, _⟩ => outAt a m ρ c t
  Φ t := Phi a m ρ c t
  q w := Pipeline.shareOf (cfgA a).spec w
  owed _ := 0

theorem after_0 (c : Dev nD) (t : Fin (cfgA a).N) : (dats a m ρ 0 c).after (0 : Fin 3) t = iblk a m ρ c (0 : Fin 3) t := rfl
theorem after_1 (c : Dev nD) (t : Fin (cfgA a).N) : (dats a m ρ 0 c).after (1 : Fin 3) t = iblk a m ρ c (1 : Fin 3) t := rfl
theorem after_2 (c : Dev nD) (t : Fin (cfgA a).N) : (dats a m ρ 0 c).after (2 : Fin 3) t = outAt a m ρ c t := rfl

theorem before_0 (c : Dev nD) (t : Fin (cfgA a).N) (d) : (dats a m ρ 0 c).before (0 : Fin 3) t d = iblk a m ρ c (0 : Fin 3) t :=
  ((dats a m ρ 0 c).before_in_eq_fetched (0 : Fin 3) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m ρ 0 c).before (1 : Fin 3) t d = iblk a m ρ c (1 : Fin 3) t :=
  ((dats a m ρ 0 c).before_in_eq_fetched (1 : Fin 3) rfl (fun _ => rfl) (fun _ _ _ => rfl) (fun t => by rw [after_1]; unfold Dat.blockOf iblk; rfl) t d).trans
    (by unfold Dat.fetched Dat.blockOf iblk; rfl)

/-- The output's block is stored at every tile. -/
theorem idle_2 (t : Fin (cfgA a).N) : (cfgA a).idle (2 : Fin 3) ((cfgA a).grid.coords t) = false := by
  show (!(k0_cond2 _ _ == 1#1) && !(k0_cond3 _ _ == 1#1)) = false
  have h := cond3_iff (crd a t) (a.1.atD 1 ![0])
  by_cases h2 : k0_cond2 (crd a t) (a.1.atD 1 ![0]) = 1#1
  · rw [h2]; rfl
  · rw [h.2 h2]; simp

/-- The body at tile `t`, as the pipeline calls it. -/
abbrev bodyAt (t : Fin (cfgA a).N) : Prog (TpuEff nD τ sig (Elt Bits) Λ₀ .tc) PUnit :=
  cc0_moe_down (crd a t) (Memref.whole main_arg1) (Memref.isWhole_whole _) (Memref.whole main_arg2) (Memref.isWhole_whole _) (ms0 a t) (hs0 a t) (ms1 a t) (hs1 a t) (ms2 a t) (hs2 a t) (Memref.whole cc0_scratch0) (Memref.isWhole_whole _)

set_option maxHeartbeats 4000000 in
/-- The body's obligation at tile `t`, path by path. -/
theorem sound_body (h0 : ∀ t : Fin (cfgA a).N, t.val = 0 → FreshAt a t) (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 3) t d))
        ∗ (∃ d, owns (c : Thread nD τ) (ms1 a t) fullShare ((dats a m ρ 0 c).before (1 : Fin 3) t d))
        ∗ (∃ d, owns (c : Thread nD τ) (ms2 a t) fullShare ((dats a m ρ 0 c).before (2 : Fin 3) t d)))
      ⊢ wp frame (wpE (defs₀ (F := Bits)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0, idle_2]
  simp only [before_0, before_1, after_0, after_1, after_2]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  simp only [Fin.val_castSucc, Fin.val_succ]
  by_cases q : FreshAt a t
  · rw [scr_A a m ρ c t q]
    unfold outAt; rw [dif_pos q]
    iintro ⟨⟨⟨%a0, -, HS0⟩, HT0, HT1, HR⟩, Ho, ⟨%d0, H0⟩, ⟨%d1, H1⟩, ⟨%d2, H2⟩⟩
    iapply ((atA a m ρ c t q).2.2 a0 _)
    isplitl [H0]; · iapply rep_of_owns; iexact H0
    isplitl [H1]; · iapply rep_of_owns; iexact H1
    isplitl [HT0]; · iexact HT0
    isplitl [HT1]; · iexact HT1
    isplitl [H2]; · iapply words_of_rows _ _ (hs2 a t); iexists _; iexact H2
    isplitl [HS0]; · iexact HS0
    iintro ⟨H0, H1, HT0, HT1, ⟨%e2, H2⟩, HS0⟩
    isplitl [HS0 HT0 HT1 HR]
    · isplitl [HS0]
      · iexists _; isplitr; swap
        · iexact HS0
        · ipureintro; intro _; rfl
      isplitl [HT0]; · iexact HT0
      isplitl [HT1]; · iexact HT1
      iexact HR
    isplitl [Ho]; · iexact Ho
    isplitl [H0]; · iapply owns_of_rep; iexact H0
    isplitl [H1]; · iapply owns_of_rep; iexact H1
    iapply (rows_of_words c _ (hs2 a t) _ (coverA _ _ _ _ _ _ _ _ _ _ _ _ _ _ _)); iexact H2
  · have ht : 0 < t.val := Nat.pos_of_ne_zero fun h => q (h0 t h)
    rw [scr_BC a m ρ c t q]
    by_cases u : UsedAt a t
    · unfold outAt; rw [dif_neg q, dif_pos u]
      iintro ⟨⟨⟨%a0, %hs, HS0⟩, HT0, HT1, HR⟩, Ho, ⟨%d0, H0⟩, ⟨%d1, H1⟩, ⟨%d2, H2⟩⟩
      rw [← hs ht]
      iapply ((atB a m ρ c t a0 q u).2 _)
      isplitl [H0]; · iapply rep_of_owns; iexact H0
      isplitl [HT0]; · iexact HT0
      isplitl [HT1]; · iexact HT1
      isplitl [H2]; · iapply words_of_rows _ _ (hs2 a t); iexists _; iexact H2
      isplitl [HS0]; · iexact HS0
      iintro ⟨H0, HT0, HT1, ⟨%e2, H2⟩, HS0⟩
      isplitl [HS0 HT0 HT1 HR]
      · isplitl [HS0]
        · iexists _; isplitr; swap
          · iexact HS0
          · ipureintro; intro _; rfl
        isplitl [HT0]; · iexact HT0
        isplitl [HT1]; · iexact HT1
        iexact HR
      isplitl [Ho]; · iexact Ho
      isplitl [H0]; · iapply owns_of_rep; iexact H0
      isplitl [H1]; · iexact H1
      iapply (rows_of_words c _ (hs2 a t) _ (coverB _ _ _ _ _ _ _ _ _ _ _ _ _ _ _)); iexact H2
    · unfold outAt; rw [dif_neg q, dif_neg u]
      iintro ⟨⟨⟨%a0, %hs, HS0⟩, HT0, HT1, HR⟩, Ho, ⟨%d0, H0⟩, ⟨%d1, H1⟩, ⟨%d2, H2⟩⟩
      iapply ((atC a c t q u).2 _)
      isplitl [HT0]; · iexact HT0
      isplitl [HT1]; · iexact HT1
      isplitl [H2]; · iexists _; iexact H2
      iintro ⟨HT0, HT1, ⟨%e2, H2⟩⟩
      isplitl [HS0 HT0 HT1 HR]
      · isplitl [HS0]
        · iexists a0; isplitr; swap
          · iexact HS0
          · ipureintro; intro _; exact hs ht
        isplitl [HT0]; · iexact HT0
        isplitl [HT1]; · iexact HT1
        iexact HR
      isplitl [Ho]; · iexact Ho
      isplitl [H0]; · iexact H0
      isplitl [H1]; · iexact H1
      unfold owns; iexists _; isplitr; swap
      · iexact H2
      · ipureintro; exact View.read_writes_of_cover _ _ _ _ _ (coverC c _ _ _ _ _ _ _ _ _ _ _ _)

theorem body_obligation (h0 : ∀ t : Fin (cfgA a).N, t.val = 0 → FreshAt a t) (c : Dev nD) :
    BodyObligation (dats a m ρ 0 c) (defs₀ (F := Bits)) Variants.none () Set.univ := fun t => by
  rw [bigSep_W0]
  exact sound_body a m ρ h0 c t

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) :
    iprop(Pipeline.ΦA (U := UR sig nD τ) spec0 c ∗ Pipeline.ΦT (U := UR sig nD τ) pre0 a.1 c) ⊢ (dats a m ρ 0 c).Φ 0 := by
  unfold Pipeline.ΦA Pipeline.ΦT
  rw [prefHeld_eq, scopedRest0_eq, show (dats a m ρ 0 c).Φ 0 = Phi a m ρ c 0 from rfl]
  unfold Phi
  iintro ⟨⟨⟨%f0, HS0⟩, HR⟩, HT0, HT1⟩
  isplitl [HS0]
  · iexists f0; isplitr; swap
    · iexact HS0
    · ipureintro; intro h; exact absurd h (Nat.lt_irrefl 0)
  isplitl [HT0]; · iexact HT0
  isplitl [HT1]; · iexact HT1
  iexact HR

theorem phi_out (c : Dev nD) : (dats a m ρ 0 c).Φ (Fin.last (cfgA a).N) ⊢ Pipeline.ΦA (U := UR sig nD τ) spec0 c := by
  unfold Pipeline.ΦA
  rw [scopedRest0_eq, show (dats a m ρ 0 c).Φ (Fin.last (cfgA a).N) = Phi a m ρ c (Fin.last _) from rfl]
  unfold Phi
  iintro ⟨⟨%a0, -, HS0⟩, -, -, HR⟩
  isplitl [HS0]
  · iexists a0; iexact HS0
  iexact HR

set_option maxHeartbeats 4000000 in
/-- From a memory that holds the tables, with zero counters: the program runs to the end, every array ends at what the
pipeline computes, every other buffer unchanged, every counter at zero. -/
theorem run_main (h0 : ∀ t : Fin (cfgA a).N, t.val = 0 → FreshAt a t)
    (hp : ∀ (c : Dev nD) (k : Fin 2), m ((c : Thread nD τ).loc (pre0.ref k)) = a.1 k) :
    θ_run (defs (F := Bits)) (onTc (τ := τ) (main (F := Bits))) (s₀ m ρ)
      (fun r => Pipeline.FramePost (pcs a) (dats a m ρ) 0 (fun c b => m ((c : Thread nD τ).loc b)) r ∧ r.2.sem = fun _ => 0) :=
  Pipeline.θ_run_frameP_track_shared (pcfgs (F := Bits)) (fun _ => a) (dats a m ρ) 0 (launch0 (F := Bits)).to₀ defs₀ Variants.none
    m ρ main (fun c => (body_obligation a m ρ h0 c).loose) (fun _ _ _ => rfl) (fun _ _ => rfl)
    (fun c b => m ((c : Thread nD τ).loc b))
    (Pipeline.hmainP_region _ _ _ _ m main fun c => main_chain c)
    (fun _ _ => rfl) hp (phi_in a m ρ) (phi_out a m ρ) _ (fun _ h => h)

/-- The frame's clauses read off the run. -/
theorem frame_args (h0 : ∀ t : Fin (cfgA a).N, t.val = 0 → FreshAt a t)
    (hp : ∀ (c : Dev nD) (k : Fin 2), m ((c : Thread nD τ).loc (pre0.ref k)) = a.1 k) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).1 (0 : Fin 3)).trans ((dats a m ρ 0 c).arrAt_in (0 : Fin 3) rfl _),
     (h.1 c).2 main_arg1 (show main_arg1 ∈ Pipeline.restRefs sig spec0 by decide), (h.1 c).2 main_arg2 (show main_arg2 ∈ Pipeline.restRefs sig spec0 by decide),
     ((h.1 c).1 (1 : Fin 3)).trans ((dats a m ρ 0 c).arrAt_in (1 : Fin 3) rfl _)⟩, h.2⟩) (run_main a m ρ h0 hp)

end Cert.Down.Hand

end
-- ==== Proof.Down.Adm.lean ====
module

public import proofs.«01_k».proof.Proof.Down.Frame
public import proofs.«01_k».proof.Defs
public import proofs.«01_k».proof.Proof.Gen.Pre_routed_down
public import Idealize.ShloMosaic.Lib.Affine

/-! The tables the precondition admits: every expert number below 32, at least one tile in use. They keep every block
inside its array, and the first tile loads its expert. -/

@[expose] public section

set_option maxRecDepth 16384
set_option Elab.async false

noncomputable section

namespace Cert.Down.Hand

open Cert.Down Cert.Down.Gen
open Idealize.ShloMosaic Idealize.ShloMosaic.TcCoe Idealize.SL.Sem

/-- A word whose signed value lies in a range of naturals has that value unsigned. -/
theorem toNat_lt_of_toInt {x : BitVec 32} {n : ℕ} (h0 : 0 ≤ x.toInt) (h : x.toInt < n) : x.toNat < n := by
  have := BitVec.toInt_eq_toNat_cond x
  split at this <;> omega

/-- The smaller of a tile's number and the last used tile's. -/
theorem tile_le (t : ℕ) (ht : t < 159) (v : BitVec 32) (hv : 1 ≤ v.toInt) :
    (Scalar.minsi (BitVec.ofNat 32 t) (Scalar.subi v 1#32)).toNat < 159 := by
  have e : (Scalar.subi v 1#32) = v - 1#32 := rfl
  rw [e]
  show (if (BitVec.ofNat 32 t).slt (v - 1#32) then BitVec.ofNat 32 t else v - 1#32).toNat < 159
  have hv2 := BitVec.toInt_eq_toNat_cond v
  have hlt := v.isLt
  have hw : (v - 1#32).toNat = v.toNat - 1 := by
    rw [BitVec.toNat_sub_of_le]
    · rfl
    · rw [BitVec.le_def]; split at hv2 <;> simp <;> omega
  have hx : (BitVec.ofNat 32 t).toNat = t := by rw [BitVec.toNat_ofNat]; omega
  split_ifs with h
  · omega
  · rw [BitVec.slt_iff_toInt_lt, not_lt, BitVec.toInt_eq_toNat_cond, BitVec.toInt_eq_toNat_cond, hw, hx] at h
    rw [hw]
    split at hv2 <;> split at h <;> split at h <;> omega

/-- At a used tile it is the tile's own number. -/
theorem tile_used (t : ℕ) (ht : t < 159) (v : BitVec 32) (hv : (t : ℤ) < v.toInt) :
    (Scalar.minsi (BitVec.ofNat 32 t) (Scalar.subi v 1#32)).toNat = t := by
  have e : (Scalar.subi v 1#32) = v - 1#32 := rfl
  rw [e]
  show (if (BitVec.ofNat 32 t).slt (v - 1#32) then BitVec.ofNat 32 t else v - 1#32).toNat = t
  have hv2 := BitVec.toInt_eq_toNat_cond v
  have hlt := v.isLt
  have hw : (v - 1#32).toNat = v.toNat - 1 := by
    rw [BitVec.toNat_sub_of_le]
    · rfl
    · rw [BitVec.le_def]; split at hv2 <;> simp <;> omega
  have hx : (BitVec.ofNat 32 t).toNat = t := by rw [BitVec.toNat_ofNat]; omega
  split_ifs with h
  · exact hx
  · rw [BitVec.slt_iff_toInt_lt, not_lt, BitVec.toInt_eq_toNat_cond, BitVec.toInt_eq_toNat_cond, hw, hx] at h
    rw [hw]
    split at hv2 <;> split at h <;> split at h <;> omega

/-- What the precondition says of the tables' words. -/
structure Good (p : pre0.Contents (Elt Bits)) : Prop where
  te : ∀ j : S159.Idx, (show BitVec 32 from p 0 j).toNat < 32
  nu : ∀ j : S1.Idx, 1 ≤ (show BitVec 32 from p 1 j).toInt

theorem ok_of_good (p : pre0.Contents (Elt Bits)) (h : Good p) : ok0 p := by
  refine ⟨fun i => ⟨Fin.forall_fin_two.2 ⟨?_, ?_⟩, .inr (Affine.block_words_dvd (of_decide_eq_true rfl) (by decide))⟩,
    fun i => ⟨?_, .inl rfl⟩⟩
  · have := tile_le (i 0).val (i 0).isLt _ (h.nu ((Rect.unit (s := S1) ![0] S1.size inb_S1_S1_0).emb (Shape.Idx.first (numel1_S1.symm ▸ Nat.one_pos))))
    show ((Scalar.minsi (BitVec.ofNat 32 (i 0).val) (Scalar.subi _ 1#32)).toNat + 1) * 256 ≤ 40704
    have h2 : ∀ n, n < 159 → (n + 1) * 256 ≤ 40704 := by omega
    exact h2 _ this
  · show (0 + 1) * 512 ≤ 512; omega
  · have := h.te ((Rect.unit (s := S159) ![(Scalar.indexCast (BitVec.ofNat 32 (i 0).val) : BitVec 32).toNat] S1.size (k0_off1_inb i)).emb (Shape.Idx.first (numel1_S1.symm ▸ Nat.one_pos)))
    have h2 : ∀ n, n < 32 → (n + 1) * 1 ≤ 32 := by omega
    intro x
    match x with
    | ⟨0, _⟩ => show (0 + 1) * 1 ≤ 2; omega
    | ⟨1, _⟩ => exact h2 _ this
    | ⟨2, _⟩ => show (0 + 1) * 512 ≤ 512; omega
    | ⟨3, _⟩ => show (0 + 1) * 4096 ≤ 4096; omega

/-- The tables as the memory holds them, -/
def tabs (m : (ℓ : Loc nD τ sig) → Buf (Elt Bits) ℓ) : pre0.Contents (Elt Bits) := fun k => m (((0 : Dev nD) : Thread nD τ).loc (pre0.ref k))

/-- admitted. -/
def adm (m : (ℓ : Loc nD τ sig) → Buf (Elt Bits) ℓ) (h : Good (tabs m)) : (pcfg0 (F := Bits)).Adm := ⟨tabs m, ok_of_good _ h⟩

theorem adm_held (m : (ℓ : Loc nD τ sig) → Buf (Elt Bits) ℓ) (h : Good (tabs m)) (c : Dev nD) (k : Fin 2) :
    m ((c : Thread nD τ).loc (pre0.ref k)) = (adm m h).1 k := by
  obtain rfl : c = 0 := Subsingleton.elim _ _
  rfl

theorem crd_t : ∀ t : Fin grid0.N, (grid0.coords t 0).val = t.val := by decide +kernel

/-- A tile is used exactly when its number is below the number of tiles in use. -/
theorem used_iff (a : (pcfg0 (F := Bits)).Adm) (t : Fin (cfgA a).N) : UsedAt a t ↔ (t.val : ℤ) < (nuW (T1 a)).toInt := by
  refine (cond2_iff _ _).trans ((IntOp.cmpi_slt (x := BitVec.ofNat 32 _) (y := nuW (T1 a))).trans ?_)
  rw [show ((crd a t) 0).val = t.val from crd_t t, BitVec.toInt_eq_toNat_cond, BitVec.toNat_ofNat]
  have : t.val < 159 := Nat.lt_of_lt_of_eq t.isLt N_0
  rw [Nat.mod_eq_of_lt (by omega), if_pos (by omega)]

theorem first_fresh (a : (pcfg0 (F := Bits)).Adm) (h : Good a.1) (t : Fin (cfgA a).N) (ht : t.val = 0) : FreshAt a t := by
  have hu : Scalar.cmpi .slt (BitVec.ofNat 32 ((crd a t) 0).val) (nuW (T1 a)) = 1#1 :=
    (cond2_iff _ _).1 ((used_iff a t).2 (by rw [ht]; exact lt_of_lt_of_le Int.zero_lt_one (h.nu _)))
  refine (bit_ne _).2 ?_
  rw [hu, show ((crd a t) 0).val = 0 from (crd_t t).trans ht]
  generalize Scalar.cmpi .ne (teW (crd a t) (T0 a)) (teP (crd a t) (T0 a)) = b
  revert b; decide

/-- The precondition gives it. -/
theorem good_of_pre [hp : Cert.Pre_routed_down.Facts] (m : (ℓ : Loc nD τ sig) → Buf (Elt Bits) ℓ) (h : Cert.Pre_Down m) : Good (tabs m) where
  te j := by
    have h1 := congrFun (h 0).1 j
    have h2 : IntOp.andi (IntOp.cmpi .sge (show BitVec 32 from tabs m 0 j) 0#32) (IntOp.cmpi .slt (show BitVec 32 from tabs m 0 j) 32#32) = 1#1 := h1
    have h3 : IntOp.cmpi .sge (show BitVec 32 from tabs m 0 j) 0#32 = 1#1 ∧ IntOp.cmpi .slt (show BitVec 32 from tabs m 0 j) 32#32 = 1#1 := by
      revert h2
      generalize IntOp.cmpi .sge (show BitVec 32 from tabs m 0 j) 0#32 = b
      generalize IntOp.cmpi .slt (show BitVec 32 from tabs m 0 j) 32#32 = d
      revert b d; decide
    exact toNat_lt_of_toInt (IntOp.cmpi_sge.1 h3.1) (IntOp.cmpi_slt.1 h3.2)
  nu j := by
    have h1 : IntOp.cmpi .sge (show BitVec 32 from tabs m 1 j) 1#32 = 1#1 := congrFun (h 0).2 j
    exact IntOp.cmpi_sge.1 h1

end Cert.Down.Hand

end
-- ==== Proof.DownIdeal.Run.lean ====
module

public import proofs.«01_k».proof.Proof.Gen.DownIdeal.Launch
public import proofs.«01_k».proof.Proof.Gen.DownIdeal.Skeleton
public import Idealize.ShloMosaic.Lib.Pipeline.Kit
public import Idealize.ShloMosaic.Lib.Pipeline.TableIdle
public import Idealize.ShloMosaic.Lib.Pipeline.FrameBody
public import Idealize.ShloMosaic.Lib.Affine
public import Idealize.ShloMosaic.Adequacy
public import Idealize.ShloMosaic.Init
public import Idealize.ShloMosaic.Lib.Writes
public import Idealize.ShloMosaic.Lib.Ring
public import Idealize.ShloMosaic.Lib.Exec
public import Idealize.ShloMosaic.Lib.Tactic
public import Idealize.ShloMosaic.PureOps.Ideal

/-! One run of the second expert kernel's body along each of its three control paths: at a used tile that loads a new
expert's weights, at a used tile that keeps the weights it has, and at a tile that is not used. -/

@[expose] public section

set_option maxRecDepth 16384
set_option Elab.async false

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The prefetched tables and the scratch buffers as the body is handed them. -/
abbrev tb0 : Memref sig .tc .smem S159 .i32 := Memref.whole main_arg1
abbrev tb1 : Memref sig .tc .smem S1 .i32 := Memref.whole main_arg2
abbrev sc0 : Memref sig .tc .vmem S512x4096 .bf16 := Memref.whole cc0_scratch0

/-- The number of tiles in use, as the body reads it. -/
abbrev nuW (T1 : S1.Idx → Elt Ideal .i32) : BitVec 32 :=
  View.readAt (Elt Ideal) tb1.view (Rect.unit (s := S1) ![0] S1.size inb_S1_S1_0).toLoadRect T1 (Shape.Idx.first (numel1_S1.symm ▸ Nat.one_pos))
/-- This tile's expert, as the body reads it. -/
abbrev teW (i : grid0.Coords) (T0 : S159.Idx → Elt Ideal .i32) : BitVec 32 :=
  View.readAt (Elt Ideal) tb0.view (Rect.unit (s := S159) (k0_off1 i) S1.size (k0_off1_inb i)).toLoadRect T0 (Shape.Idx.first (numel1_S1.symm ▸ Nat.one_pos))
/-- The expert of the tile before, as the body reads it. -/
abbrev teP (i : grid0.Coords) (T0 : S159.Idx → Elt Ideal .i32) : BitVec 32 :=
  View.readAt (Elt Ideal) tb0.view (Rect.unit (s := S159) (k0_off2 i) S1.size (k0_off2_inb i)).toLoadRect T0 (Shape.Idx.first (numel1_S1.symm ▸ Nat.one_pos))

/-- The tile is in use and its expert is new. -/
abbrev Fresh (i : grid0.Coords) (T0 : S159.Idx → Elt Ideal .i32) (T1 : S1.Idx → Elt Ideal .i32) : Prop :=
  Scalar.cmpi .ne (Scalar.extui (Scalar.andi (Scalar.cmpi .slt (BitVec.ofNat 32 (i 0).val) (nuW T1))
    (Scalar.ori (Scalar.cmpi .eq (BitVec.ofNat 32 (i 0).val) 0#32) (Scalar.cmpi .ne (teW i T0) (teP i T0))))) 0#32 = 1#1

section
variable (c : Dev nD) (i : grid0.Coords)
  (arg3 : Memref sig .tc .vmem S256x512 .bf16) (harg3 : arg3.IsWhole)
  (arg4 : Memref sig .tc .vmem S1x1x512x4096 .f32) (harg4 : arg4.IsWhole)
  (arg5 : Memref sig .tc .vmem S8192x128 .bf16) (harg5 : arg5.IsWhole)
  (T0 : S159.Idx → Elt Ideal .i32) (T1 : S1.Idx → Elt Ideal .i32)
  (x0 : S256x512.Idx → Elt Ideal .bf16) (x1 : S1x1x512x4096.Idx → Elt Ideal .f32)

set_option backward.proofsInPublic true in
set_option maxHeartbeats 8000000 in
/-- A used tile whose expert is new: what the body leaves in the output's staging buffer, through the view of its
rows as words, and in the scratch buffer, with the proof that it does. -/
noncomputable def runA (hc0 : Fresh i T0 T1) (h2 : k0_cond2 i (nuW T1) = 1#1) (h3 : ¬(k0_cond3 i (nuW T1) = 1#1)) :
    Σ' (out : List (View.Piece (Elt Ideal) S4096x2x128 .bf16)),
    { o0 : Buf (Elt Ideal) ((c : Thread nD τ).loc cc0_scratch0) //
      ∀ (a0 : Buf (Elt Ideal) ((c : Thread nD τ).loc cc0_scratch0)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tb0.view.loc (c : Thread nD τ) ↦{fullShare.right} T0)
          ∗ (tb1.view.loc (c : Thread nD τ) ↦{fullShare.right} T1)
          ∗ (∃ d, owns (c : Thread nD τ) (arg5.reshape S4096x2x128 reshapes_S8192x128_S4096x2x128.1 reshapes_S8192x128_S4096x2x128.2 harg5.contiguous) fullShare d)
          ∗ (sc0.view.loc (c : Thread nD τ) ↦{fullShare} a0)
          ∗ (iprop((arg3.view.loc (c : Thread nD τ) ↦[arg3.view.set]{fullShare} arg3.view.rep x0)
          ∗ (arg4.view.loc (c : Thread nD τ) ↦[arg4.view.set]{fullShare} arg4.view.rep x1)
          ∗ (tb0.view.loc (c : Thread nD τ) ↦{fullShare.right} T0)
          ∗ (tb1.view.loc (c : Thread nD τ) ↦{fullShare.right} T1)
          ∗ (∃ f, (arg5.reshape S4096x2x128 reshapes_S8192x128_S4096x2x128.1 reshapes_S8192x128_S4096x2x128.2 harg5.contiguous).view.loc (c : Thread nD τ) ↦[(arg5.reshape S4096x2x128 reshapes_S8192x128_S4096x2x128.1 reshapes_S8192x128_S4096x2x128.2 harg5.contiguous).view.set]{fullShare} (arg5.reshape S4096x2x128 reshapes_S8192x128_S4096x2x128.1 reshapes_S8192x128_S4096x2x128.2 harg5.contiguous).view.writes (Elt Ideal) f out)
          ∗ (sc0.view.loc (c : Thread nD τ) ↦{fullShare} o0)) -∗ K ⟨⟩))
          ⊢ wp frame (wpE (defs₀ (F := Ideal)) Variants.none c none) Set.univ (cc0_moe_down i tb0 (Memref.isWhole_whole _) tb1 (Memref.isWhole_whole _) arg3 harg3 arg4 harg4 arg5 harg5 sc0 (Memref.isWhole_whole _)) K } :=
  ⟨_, _, fun (a0 : Buf (Elt Ideal) ((c : Thread nD τ).loc cc0_scratch0)) K => by
    unfold owns
    rw [cc0_moe_down_eq_skeleton]; unfold cc0_moe_down_skel
    iintro ⟨H0, H1, HT0, HT1, ⟨%d5, %f5, -, HO⟩, HS0, Hk⟩
    have hS0 : sc0.IsWhole := Memref.isWhole_whole _
    have hT0 : tb0.IsWhole := Memref.isWhole_whole _
    have hT1 : tb1.IsWhole := Memref.isWhole_whole _
    sl_exec! (disch := first | (guard_target = Scalar.cmpi .ne _ _ = _; exact hc0) | (guard_target = k0_cond2 _ _ = _; exact h2) | (guard_target = ¬(k0_cond3 _ _ = _); exact h3))
    sl_step
    iapply Hk
    isplitl [H0]; · iexact H0
    isplitl [H1]; · iexact H1
    isplitl [HT0]; · iexact HT0
    isplitl [HT1]; · iexact HT1
    isplitl [HO]; · iexists _; iexact HO
    iexact HS0⟩

set_option backward.proofsInPublic true in
set_option maxHeartbeats 8000000 in
/-- A used tile that keeps the weights the scratch buffer holds. -/
noncomputable def runB (a0 : Buf (Elt Ideal) ((c : Thread nD τ).loc cc0_scratch0))
    (hc0 : ¬Fresh i T0 T1) (h2 : k0_cond2 i (nuW T1) = 1#1) (h3 : ¬(k0_cond3 i (nuW T1) = 1#1)) :
    { out : List (View.Piece (Elt Ideal) S4096x2x128 .bf16) //
      ∀ (K : PUnit → sProp 𝕄),
        iprop((arg3.view.loc (c : Thread nD τ) ↦[arg3.view.set]{fullShare} arg3.view.rep x0)
          ∗ (tb0.view.loc (c : Thread nD τ) ↦{fullShare.right} T0)
          ∗ (tb1.view.loc (c : Thread nD τ) ↦{fullShare.right} T1)
          ∗ (∃ d, owns (c : Thread nD τ) (arg5.reshape S4096x2x128 reshapes_S8192x128_S4096x2x128.1 reshapes_S8192x128_S4096x2x128.2 harg5.contiguous) fullShare d)
          ∗ (sc0.view.loc (c : Thread nD τ) ↦{fullShare} a0)
          ∗ (iprop((arg3.view.loc (c : Thread nD τ) ↦[arg3.view.set]{fullShare} arg3.view.rep x0)
          ∗ (tb0.view.loc (c : Thread nD τ) ↦{fullShare.right} T0)
          ∗ (tb1.view.loc (c : Thread nD τ) ↦{fullShare.right} T1)
          ∗ (∃ f, (arg5.reshape S4096x2x128 reshapes_S8192x128_S4096x2x128.1 reshapes_S8192x128_S4096x2x128.2 harg5.contiguous).view.loc (c : Thread nD τ) ↦[(arg5.reshape S4096x2x128 reshapes_S8192x128_S4096x2x128.1 reshapes_S8192x128_S4096x2x128.2 harg5.contiguous).view.set]{fullShare} (arg5.reshape S4096x2x128 reshapes_S8192x128_S4096x2x128.1 reshapes_S8192x128_S4096x2x128.2 harg5.contiguous).view.writes (Elt Ideal) f out)
          ∗ (sc0.view.loc (c : Thread nD τ) ↦{fullShare} a0)) -∗ K ⟨⟩))
          ⊢ wp frame (wpE (defs₀ (F := Ideal)) Variants.none c none) Set.univ (cc0_moe_down i tb0 (Memref.isWhole_whole _) tb1 (Memref.isWhole_whole _) arg3 harg3 arg4 harg4 arg5 harg5 sc0 (Memref.isWhole_whole _)) K } :=
  ⟨_, fun K => by
    unfold owns
    rw [cc0_moe_down_eq_skeleton]; unfold cc0_moe_down_skel
    iintro ⟨H0, HT0, HT1, ⟨%d5, %f5, -, HO⟩, HS0, Hk⟩
    have hS0 : sc0.IsWhole := Memref.isWhole_whole _
    have hT0 : tb0.IsWhole := Memref.isWhole_whole _
    have hT1 : tb1.IsWhole := Memref.isWhole_whole _
    sl_exec! (disch := first | (guard_target = ¬(Scalar.cmpi _ _ _ = _); exact hc0) | (guard_target = k0_cond2 _ _ = _; exact h2) | (guard_target = ¬(k0_cond3 _ _ = _); exact h3))
    sl_step
    iapply Hk
    isplitl [H0]; · iexact H0
    isplitl [HT0]; · iexact HT0
    isplitl [HT1]; · iexact HT1
    isplitl [HO]; · iexists _; iexact HO
    iexact HS0⟩

set_option backward.proofsInPublic true in
set_option maxHeartbeats 8000000 in
/-- A tile that is not used: the body only stores zeros. -/
noncomputable def runC (hc0 : ¬Fresh i T0 T1) (h2 : ¬(k0_cond2 i (nuW T1) = 1#1)) (h3 : k0_cond3 i (nuW T1) = 1#1) :
    { out : List (View.Piece (Elt Ideal) S8192x128 .bf16) //
      ∀ (K : PUnit → sProp 𝕄),
        iprop((tb0.view.loc (c : Thread nD τ) ↦{fullShare.right} T0)
          ∗ (tb1.view.loc (c : Thread nD τ) ↦{fullShare.right} T1)
          ∗ (∃ d, owns (c : Thread nD τ) arg5 fullShare d)
          ∗ (iprop((tb0.view.loc (c : Thread nD τ) ↦{fullShare.right} T0)
          ∗ (tb1.view.loc (c : Thread nD τ) ↦{fullShare.right} T1)
          ∗ (∃ f, arg5.view.loc (c : Thread nD τ) ↦[arg5.view.set]{fullShare} arg5.view.writes (Elt Ideal) f out)) -∗ K ⟨⟩))
          ⊢ wp frame (wpE (defs₀ (F := Ideal)) Variants.none c none) Set.univ (cc0_moe_down i tb0 (Memref.isWhole_whole _) tb1 (Memref.isWhole_whole _) arg3 harg3 arg4 harg4 arg5 harg5 sc0 (Memref.isWhole_whole _)) K } :=
  ⟨_, fun K => by
    unfold owns
    rw [cc0_moe_down_eq_skeleton]; unfold cc0_moe_down_skel
    iintro ⟨HT0, HT1, ⟨%d5, %f5, -, HO⟩, Hk⟩
    have hT0 : tb0.IsWhole := Memref.isWhole_whole _
    have hT1 : tb1.IsWhole := Memref.isWhole_whole _
    sl_exec! (disch := first | (guard_target = ¬(Scalar.cmpi _ _ _ = _); exact hc0) | (guard_target = ¬(k0_cond2 _ _ = _); exact h2) | (guard_target = k0_cond3 _ _ = _; exact h3))
    sl_step
    iapply Hk
    isplitl [HT0]; · iexact HT0
    isplitl [HT1]; · iexact HT1
    iexists _; iexact HO⟩

end

end Cert.DownIdeal.Hand

end
-- ==== Proof.DownIdeal.Frame.lean ====
module

public import proofs.«01_k».proof.Proof.DownIdeal.Run
public import Idealize.ShloMosaic.Lib.Pipeline.Frame
public import Idealize.ShloMosaic.Lib.Pipeline.Quiescent
public import Idealize.ShloMosaic.Lib.Claim
public import Idealize.ShloMosaic.Lib.WordCmp

/-! The launch of the second expert kernel at any tables whose blocks lie inside the arrays and that use at least one tile:
what the scratch buffer hold before each tile, what each tile leaves in the output's block, and the run. -/

@[expose] public section

set_option maxRecDepth 16384
set_option Elab.async false

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- A bit widened to a word is not zero exactly when it is set. -/
theorem bit_ne (b : BitVec 1) : Scalar.cmpi .ne (Scalar.extui b : BitVec 32) 0#32 = 1#1 ↔ b = 1#1 := by
  revert b; decide

/-- The tile is used exactly when its number is below the number of tiles in use. -/
theorem cond2_iff (i : grid0.Coords) (v : BitVec 32) :
    k0_cond2 i v = 1#1 ↔ Scalar.cmpi .slt (BitVec.ofNat 32 (i 0).val) v = 1#1 := bit_ne _

/-- A tile is unused exactly when it is not used. -/
theorem cond3_iff (i : grid0.Coords) (v : BitVec 32) : k0_cond3 i v = 1#1 ↔ ¬k0_cond2 i v = 1#1 := by
  rw [cond2_iff, show k0_cond3 i v = 1#1 ↔ Scalar.cmpi .sge (BitVec.ofNat 32 (i 0).val) v = 1#1 from bit_ne _]
  generalize BitVec.ofNat 32 (i 0).val = x
  refine (IntOp.cmpi_sge (x := x) (y := v)).trans (Iff.trans ?_ (not_congr (IntOp.cmpi_slt (x := x) (y := v))).symm)
  exact not_lt.symm

/-- A new expert is only loaded at a used tile. -/
theorem Fresh.used {i : grid0.Coords} {T0 : S159.Idx → Elt Ideal .i32} {T1 : S1.Idx → Elt Ideal .i32} (h : Fresh i T0 T1) :
    k0_cond2 i (nuW T1) = 1#1 := by
  refine (cond2_iff _ _).2 ?_
  have h' := (bit_ne _).1 h
  revert h'
  generalize Scalar.cmpi .slt (BitVec.ofNat 32 (i 0).val) (nuW T1) = b
  generalize Scalar.ori _ _ = d
  revert b d; decide

/-- The words of residue `s` modulo 16: row `16 r + s` for every `r`. -/
abbrev rowsAt (s : Fin 16) : Rect S4096x2x128 :=
  ⟨⟨![s.val, 0, 0], S256x2x128.size, ![16, 1, 1], fun a => match a with
    | ⟨0, _⟩ => Or.inr (show s.val + 16 * (256 - 1) < 4096 by have := s.isLt; omega)
    | ⟨1, _⟩ => Or.inr (show 0 + 1 * (2 - 1) < 2 by omega)
    | ⟨2, _⟩ => Or.inr (show 0 + 1 * (128 - 1) < 128 by omega)⟩, spos_16_1_1⟩

/-- All sixteen, the last first. -/
def residues : List (Rect S4096x2x128) :=
  [rowsAt 15, rowsAt 14, rowsAt 13, rowsAt 12, rowsAt 11, rowsAt 10, rowsAt 9, rowsAt 8, rowsAt 7, rowsAt 6, rowsAt 5, rowsAt 4, rowsAt 3, rowsAt 2, rowsAt 1, rowsAt 0]

theorem mem_residues (s : Fin 16) : rowsAt s ∈ residues := by
  unfold residues
  fin_cases s <;> simp

/-- A word of residue `s` is in its rectangle. -/
theorem mem_rowsAt (y : S4096x2x128.Idx) : y ∈ (rowsAt ⟨(y 0).val % 16, by omega⟩).set := by
  refine (LoadRect.mem_set _).2 fun a => ?_
  match a with
  | ⟨0, _⟩ => exact ⟨(y 0).val / 16, Nat.div_lt_of_lt_mul (y 0).isLt, show (y 0).val = (y 0).val % 16 + 16 * ((y 0).val / 16) by omega⟩
  | ⟨1, _⟩ => exact ⟨(y 1).val, (y 1).isLt, show (y 1).val = 0 + 1 * (y 1).val by omega⟩
  | ⟨2, _⟩ => exact ⟨(y 2).val, (y 2).isLt, show (y 2).val = 0 + 1 * (y 2).val by omega⟩

/-- Stores through the sixteen residues store every word. -/
theorem cover_of_residues {L : List (View.Piece (Elt Ideal) S4096x2x128 .bf16)} (h : L.map (fun pc => pc.1) = residues) (y : S4096x2x128.Idx) :
    ∃ pc ∈ L, y ∈ pc.1.set := by
  have hm : rowsAt ⟨(y 0).val % 16, by omega⟩ ∈ L.map (fun pc => pc.1) := h ▸ mem_residues _
  obtain ⟨pc, hpc, e⟩ := List.mem_map.1 hm
  exact ⟨pc, hpc, e ▸ mem_rowsAt y⟩

/-- A staging buffer of the output, and the view of its rows as words. -/
abbrev VO : View sig .tc .vmem S8192x128 .bf16 := (Memref.whole cc0_stg2_0 : Memref sig .tc .vmem S8192x128 .bf16).view
abbrev VR : View sig .tc .vmem S4096x2x128 .bf16 := VO.reshape S4096x2x128 reshapes_S8192x128_S4096x2x128.1

/-- What stores through the view of words leave, as rows. -/
def outFn (L : List (View.Piece (Elt Ideal) S4096x2x128 .bf16)) : S8192x128.Idx → Elt Ideal .bf16 := fun j =>
  VR.read (Elt Ideal) (VR.writes (Elt Ideal) VR.junk L) ((Shape.reshapeEquiv reshapes_S8192x128_S4096x2x128.1).symm j)

section
variable (c : Dev nD) (i : grid0.Coords)
  (arg3 : Memref sig .tc .vmem S256x512 .bf16) (harg3 : arg3.IsWhole)
  (arg4 : Memref sig .tc .vmem S1x1x512x4096 .f32) (harg4 : arg4.IsWhole)
  (arg5 : Memref sig .tc .vmem S8192x128 .bf16) (harg5 : arg5.IsWhole)
  (T0 : S159.Idx → Elt Ideal .i32) (T1 : S1.Idx → Elt Ideal .i32)
  (x0 : S256x512.Idx → Elt Ideal .bf16) (x1 : S1x1x512x4096.Idx → Elt Ideal .f32)

include harg5 in
/-- Any staging buffer reads so after the stores. -/
theorem read_outFn (f : arg5.view.ty.Contents (Elt Ideal)) {L : List (View.Piece (Elt Ideal) S4096x2x128 .bf16)} (h : L.map (fun pc => pc.1) = residues) :
    arg5.view.read (Elt Ideal) ((arg5.reshape S4096x2x128 reshapes_S8192x128_S4096x2x128.1 reshapes_S8192x128_S4096x2x128.2 harg5.contiguous).view.writes (Elt Ideal) f L) = outFn L := by
  funext j
  have e := congrFun (View.read_writes_of_cover (arg5.reshape S4096x2x128 reshapes_S8192x128_S4096x2x128.1 reshapes_S8192x128_S4096x2x128.2 harg5.contiguous).view f VR VR.junk L (cover_of_residues h))
    ((Shape.reshapeEquiv reshapes_S8192x128_S4096x2x128.1).symm j)
  refine Eq.trans ?_ e
  show _ = arg5.view.read (Elt Ideal) _ (Shape.reshapeEquiv _ ((Shape.reshapeEquiv reshapes_S8192x128_S4096x2x128.1).symm j))
  rw [Equiv.apply_symm_apply]

include harg5 in
/-- The staging buffer held as rows is held as words. -/
theorem words_of_rows : (iprop(∃ d, owns (c : Thread nD τ) arg5 fullShare d) : sProp 𝕄) ⊢ iprop(∃ d, owns (c : Thread nD τ) (arg5.reshape S4096x2x128 reshapes_S8192x128_S4096x2x128.1 reshapes_S8192x128_S4096x2x128.2 harg5.contiguous) fullShare d) := by
  have hset : (arg5.reshape S4096x2x128 reshapes_S8192x128_S4096x2x128.1 reshapes_S8192x128_S4096x2x128.2 harg5.contiguous).view.set = arg5.view.set := View.set_reshape arg5.view reshapes_S8192x128_S4096x2x128.1
  unfold owns
  rw [hset]
  iintro ⟨%d, %f, -, H⟩
  iexists ((arg5.reshape S4096x2x128 reshapes_S8192x128_S4096x2x128.1 reshapes_S8192x128_S4096x2x128.2 harg5.contiguous).view.read (Elt Ideal) f); iexists f
  isplitr; swap
  · iexact H
  · ipureintro; rfl

include harg5 in
/-- And back. -/
theorem rows_of_words (f : arg5.view.ty.Contents (Elt Ideal)) {L : List (View.Piece (Elt Ideal) S4096x2x128 .bf16)} (h : L.map (fun pc => pc.1) = residues) :
    ((arg5.reshape S4096x2x128 reshapes_S8192x128_S4096x2x128.1 reshapes_S8192x128_S4096x2x128.2 harg5.contiguous).view.loc (c : Thread nD τ) ↦[(arg5.reshape S4096x2x128 reshapes_S8192x128_S4096x2x128.1 reshapes_S8192x128_S4096x2x128.2 harg5.contiguous).view.set]{fullShare} (arg5.reshape S4096x2x128 reshapes_S8192x128_S4096x2x128.1 reshapes_S8192x128_S4096x2x128.2 harg5.contiguous).view.writes (Elt Ideal) f L : sProp 𝕄)
      ⊢ owns (c : Thread nD τ) arg5 fullShare (outFn L) := by
  have hset : (arg5.reshape S4096x2x128 reshapes_S8192x128_S4096x2x128.1 reshapes_S8192x128_S4096x2x128.2 harg5.contiguous).view.set = arg5.view.set := View.set_reshape arg5.view reshapes_S8192x128_S4096x2x128.1
  unfold owns
  rw [hset]
  iintro H
  iexists ((arg5.reshape S4096x2x128 reshapes_S8192x128_S4096x2x128.1 reshapes_S8192x128_S4096x2x128.2 harg5.contiguous).view.writes (Elt Ideal) f L)
  isplitr; swap
  · iexact H
  · ipureintro; exact read_outFn arg5 harg5 f h

/-- The first path stores through all residues. -/
theorem coverA (hc0 : Fresh i T0 T1) (h2 : k0_cond2 i (nuW T1) = 1#1) (h3 : ¬(k0_cond3 i (nuW T1) = 1#1)) :
    (runA c i arg3 harg3 arg4 harg4 arg5 harg5 T0 T1 x0 x1 hc0 h2 h3).1.map (fun pc => pc.1) = residues := by
  unfold runA residues; dsimp only [List.map]; rfl

/-- So does the second, -/
theorem coverB (a0 : Buf (Elt Ideal) ((c : Thread nD τ).loc cc0_scratch0))
    (hc0 : ¬Fresh i T0 T1) (h2 : k0_cond2 i (nuW T1) = 1#1) (h3 : ¬(k0_cond3 i (nuW T1) = 1#1)) :
    (runB c i arg3 harg3 arg4 harg4 arg5 harg5 T0 T1 x0 a0 hc0 h2 h3).1.map (fun pc => pc.1) = residues := by
  unfold runB residues; dsimp only [List.map]; rfl

/-- and the third stores the whole output block. -/
theorem coverC (hc0 : ¬Fresh i T0 T1) (h2 : ¬(k0_cond2 i (nuW T1) = 1#1)) (h3 : k0_cond3 i (nuW T1) = 1#1) (y : S8192x128.Idx) :
    ∃ pc ∈ (runC c i arg3 harg3 arg4 harg4 arg5 harg5 T0 T1 hc0 h2 h3).1, y ∈ pc.1.set :=
  View.cover_of_tiledL (runC c i arg3 harg3 arg4 harg4 arg5 harg5 T0 T1 hc0 h2 h3).1 S8192x128.size (by sl_kernel_rfl) y
end

variable (a : (pcfg0 (F := Ideal)).Adm)

/-- The pipeline at the tables' contents. -/
abbrev cfgA : Pipeline.Cfg sig Λ₀ := cfg0 (F := Ideal) a
abbrev pcs : Fin 1 → Pipeline.Cfg sig Λ₀ := Pipeline.pin (pcfgs (F := Ideal)) fun _ => a
/-- The two tables. -/
abbrev T0 : S159.Idx → Elt Ideal .i32 := a.1 0
abbrev T1 : S1.Idx → Elt Ideal .i32 := a.1 1

variable (m : (ℓ : Loc nD τ sig) → Buf (Elt Ideal) ℓ) (ρ : Dev nD → PrngReg)

abbrev crd (t : Fin (cfgA a).N) : grid0.Coords := (cfgA a).grid.coords t
abbrev ms0 (t : Fin (cfgA a).N) : Memref sig .tc .vmem S256x512 .bf16 := spec0_0.stage ((cfgA a).slots t (0 : Fin 3))
abbrev hs0 (t : Fin (cfgA a).N) : (ms0 a t).IsWhole := hstage0_0 (((cfgA a).slots t (0 : Fin 3)).cast nbuf0_0)
abbrev ms1 (t : Fin (cfgA a).N) : Memref sig .tc .vmem S1x1x512x4096 .f32 := spec0_1.stage ((cfgA a).slots t (1 : Fin 3))
abbrev hs1 (t : Fin (cfgA a).N) : (ms1 a t).IsWhole := hstage0_1 (((cfgA a).slots t (1 : Fin 3)).cast nbuf0_1)
abbrev ms2 (t : Fin (cfgA a).N) : Memref sig .tc .vmem S8192x128 .bf16 := spec0_2.stage ((cfgA a).slots t (2 : Fin 3))
abbrev hs2 (t : Fin (cfgA a).N) : (ms2 a t).IsWhole := hstage0_2 (((cfgA a).slots t (2 : Fin 3)).cast nbuf0_2)

/-- Window `w`'s block at tile `t`, read off its array at launch. -/
def iblk (c : Dev nD) (w : Fin (cfgA a).W) (t : Fin (cfgA a).N) : (((cfgA a).win w).xblock (crd a t)).Idx → Elt Ideal ((cfgA a).win w).elt :=
  (((cfgA a).win w).blk t).view.read (Elt Ideal) ((s₀ m ρ).mem (((cfgA a).win w).arr.view.loc (c : Thread nD τ)))

/-- At a tile. -/
abbrev FreshAt (t : Fin (cfgA a).N) : Prop := Fresh (crd a t) (T0 a) (T1 a)
abbrev UsedAt (t : Fin (cfgA a).N) : Prop := k0_cond2 (crd a t) (nuW (T1 a)) = 1#1

/-- The scratch buffer's contents: the expert's weights. -/
abbrev Scr (c : Dev nD) : Type := Buf (Elt Ideal) ((c : Thread nD τ).loc cc0_scratch0)

/-- What a used tile with a new expert does. -/
abbrev atA (c : Dev nD) (t : Fin (cfgA a).N) (h : FreshAt a t) :=
  runA c (crd a t) (ms0 a t) (hs0 a t) (ms1 a t) (hs1 a t) (ms2 a t) (hs2 a t) (T0 a) (T1 a)
    (iblk a m ρ c (0 : Fin 3) t) (iblk a m ρ c (1 : Fin 3) t) h h.used ((cond3_iff _ _).not_left.2 h.used)
/-- What a used tile that keeps its expert does, from the scratch buffer' contents `p`. -/
abbrev atB (c : Dev nD) (t : Fin (cfgA a).N) (p : Scr c) (h : ¬FreshAt a t) (h2 : UsedAt a t) :=
  runB c (crd a t) (ms0 a t) (hs0 a t) (ms1 a t) (hs1 a t) (ms2 a t) (hs2 a t) (T0 a) (T1 a)
    (iblk a m ρ c (0 : Fin 3) t) p h h2 ((cond3_iff _ _).not_left.2 h2)
/-- What an unused tile does. -/
abbrev atC (c : Dev nD) (t : Fin (cfgA a).N) (h : ¬FreshAt a t) (h2 : ¬UsedAt a t) :=
  runC c (crd a t) (ms0 a t) (hs0 a t) (ms1 a t) (hs1 a t) (ms2 a t) (hs2 a t) (T0 a) (T1 a)
    h h2 ((cond3_iff _ _).2 h2)

open Classical in
/-- What the scratch buffer hold after `n` tiles. -/
def scr (c : Dev nD) : ℕ → Scr c
  | 0 => default
  | n + 1 => if h : n < (cfgA a).N then
      (if q : FreshAt a ⟨n, h⟩ then (atA a m ρ c ⟨n, h⟩ q).2.1 else scr c n)
    else scr c n

theorem scr_A (c : Dev nD) (t : Fin (cfgA a).N) (q : FreshAt a t) :
    scr a m ρ c (t.val + 1) = (atA a m ρ c t q).2.1 := by
  rw [scr, dif_pos t.isLt, dif_pos q]

theorem scr_BC (c : Dev nD) (t : Fin (cfgA a).N) (q : ¬FreshAt a t) : scr a m ρ c (t.val + 1) = scr a m ρ c t.val := by
  rw [scr, dif_pos t.isLt, dif_neg q]

open Classical in
/-- What tile `t` leaves in the output's block. -/
def outAt (c : Dev nD) (t : Fin (cfgA a).N) : S8192x128.Idx → Elt Ideal .bf16 :=
  if q : FreshAt a t then outFn (atA a m ρ c t q).1
  else if u : UsedAt a t then outFn (atB a m ρ c t (scr a m ρ c t.val) q u).1
  else VO.read (Elt Ideal) (VO.writes (Elt Ideal) VO.junk (atC a c t q u).1)

/-- The invariant before tile `t`: past the first tile the scratch buffer are as tracked; the body's halves of the
tables; the generator's register. -/
def Phi (c : Dev nD) (t : Fin ((cfgA a).N + 1)) : sProp 𝕄 :=
  iprop((∃ a0, ⌜0 < t.val → a0 = scr a m ρ c t.val⌝ ∗ (sc0.view.loc (c : Thread nD τ) ↦{fullShare} a0))
    ∗ (tb0.view.loc (c : Thread nD τ) ↦{fullShare.right} T0 a) ∗ (tb1.view.loc (c : Thread nD τ) ↦{fullShare.right} T1 a)
    ∗ (∃ r, prngReg c r))

/-- The pipeline's proof data on core `c`. -/
def dats (_ : Fin 1) (c : Dev nD) : Dat τ (Elt Ideal) Unit ℕ (UR sig nD τ) ℕ (cfgA a) c where
  A w := (s₀ m ρ).mem (((cfgA a).win w).arr.view.loc (c : Thread nD τ))
  after w t := match w with
    | ⟨0, _⟩ => iblk a m ρ c (0 : Fin 3) t
    | ⟨1, _⟩ => iblk a m ρ c (1 : Fin 3) t
    | ⟨2, _⟩ => outAt a m ρ c t
  Φ t := Phi a m ρ c t
  q w := Pipeline.shareOf (cfgA a).spec w
  owed _ := 0

theorem after_0 (c : Dev nD) (t : Fin (cfgA a).N) : (dats a m ρ 0 c).after (0 : Fin 3) t = iblk a m ρ c (0 : Fin 3) t := rfl
theorem after_1 (c : Dev nD) (t : Fin (cfgA a).N) : (dats a m ρ 0 c).after (1 : Fin 3) t = iblk a m ρ c (1 : Fin 3) t := rfl
theorem after_2 (c : Dev nD) (t : Fin (cfgA a).N) : (dats a m ρ 0 c).after (2 : Fin 3) t = outAt a m ρ c t := rfl

theorem before_0 (c : Dev nD) (t : Fin (cfgA a).N) (d) : (dats a m ρ 0 c).before (0 : Fin 3) t d = iblk a m ρ c (0 : Fin 3) t :=
  ((dats a m ρ 0 c).before_in_eq_fetched (0 : Fin 3) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m ρ 0 c).before (1 : Fin 3) t d = iblk a m ρ c (1 : Fin 3) t :=
  ((dats a m ρ 0 c).before_in_eq_fetched (1 : Fin 3) rfl (fun _ => rfl) (fun _ _ _ => rfl) (fun t => by rw [after_1]; unfold Dat.blockOf iblk; rfl) t d).trans
    (by unfold Dat.fetched Dat.blockOf iblk; rfl)

/-- The output's block is stored at every tile. -/
theorem idle_2 (t : Fin (cfgA a).N) : (cfgA a).idle (2 : Fin 3) ((cfgA a).grid.coords t) = false := by
  show (!(k0_cond2 _ _ == 1#1) && !(k0_cond3 _ _ == 1#1)) = false
  have h := cond3_iff (crd a t) (a.1.atD 1 ![0])
  by_cases h2 : k0_cond2 (crd a t) (a.1.atD 1 ![0]) = 1#1
  · rw [h2]; rfl
  · rw [h.2 h2]; simp

/-- The body at tile `t`, as the pipeline calls it. -/
abbrev bodyAt (t : Fin (cfgA a).N) : Prog (TpuEff nD τ sig (Elt Ideal) Λ₀ .tc) PUnit :=
  cc0_moe_down (crd a t) (Memref.whole main_arg1) (Memref.isWhole_whole _) (Memref.whole main_arg2) (Memref.isWhole_whole _) (ms0 a t) (hs0 a t) (ms1 a t) (hs1 a t) (ms2 a t) (hs2 a t) (Memref.whole cc0_scratch0) (Memref.isWhole_whole _)

set_option maxHeartbeats 4000000 in
/-- The body's obligation at tile `t`, path by path. -/
theorem sound_body (h0 : ∀ t : Fin (cfgA a).N, t.val = 0 → FreshAt a t) (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 3) t d))
        ∗ (∃ d, owns (c : Thread nD τ) (ms1 a t) fullShare ((dats a m ρ 0 c).before (1 : Fin 3) t d))
        ∗ (∃ d, owns (c : Thread nD τ) (ms2 a t) fullShare ((dats a m ρ 0 c).before (2 : Fin 3) t d)))
      ⊢ wp frame (wpE (defs₀ (F := Ideal)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0, idle_2]
  simp only [before_0, before_1, after_0, after_1, after_2]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  simp only [Fin.val_castSucc, Fin.val_succ]
  by_cases q : FreshAt a t
  · rw [scr_A a m ρ c t q]
    unfold outAt; rw [dif_pos q]
    iintro ⟨⟨⟨%a0, -, HS0⟩, HT0, HT1, HR⟩, Ho, ⟨%d0, H0⟩, ⟨%d1, H1⟩, ⟨%d2, H2⟩⟩
    iapply ((atA a m ρ c t q).2.2 a0 _)
    isplitl [H0]; · iapply rep_of_owns; iexact H0
    isplitl [H1]; · iapply rep_of_owns; iexact H1
    isplitl [HT0]; · iexact HT0
    isplitl [HT1]; · iexact HT1
    isplitl [H2]; · iapply words_of_rows _ _ (hs2 a t); iexists _; iexact H2
    isplitl [HS0]; · iexact HS0
    iintro ⟨H0, H1, HT0, HT1, ⟨%e2, H2⟩, HS0⟩
    isplitl [HS0 HT0 HT1 HR]
    · isplitl [HS0]
      · iexists _; isplitr; swap
        · iexact HS0
        · ipureintro; intro _; rfl
      isplitl [HT0]; · iexact HT0
      isplitl [HT1]; · iexact HT1
      iexact HR
    isplitl [Ho]; · iexact Ho
    isplitl [H0]; · iapply owns_of_rep; iexact H0
    isplitl [H1]; · iapply owns_of_rep; iexact H1
    iapply (rows_of_words c _ (hs2 a t) _ (coverA _ _ _ _ _ _ _ _ _ _ _ _ _ _ _)); iexact H2
  · have ht : 0 < t.val := Nat.pos_of_ne_zero fun h => q (h0 t h)
    rw [scr_BC a m ρ c t q]
    by_cases u : UsedAt a t
    · unfold outAt; rw [dif_neg q, dif_pos u]
      iintro ⟨⟨⟨%a0, %hs, HS0⟩, HT0, HT1, HR⟩, Ho, ⟨%d0, H0⟩, ⟨%d1, H1⟩, ⟨%d2, H2⟩⟩
      rw [← hs ht]
      iapply ((atB a m ρ c t a0 q u).2 _)
      isplitl [H0]; · iapply rep_of_owns; iexact H0
      isplitl [HT0]; · iexact HT0
      isplitl [HT1]; · iexact HT1
      isplitl [H2]; · iapply words_of_rows _ _ (hs2 a t); iexists _; iexact H2
      isplitl [HS0]; · iexact HS0
      iintro ⟨H0, HT0, HT1, ⟨%e2, H2⟩, HS0⟩
      isplitl [HS0 HT0 HT1 HR]
      · isplitl [HS0]
        · iexists _; isplitr; swap
          · iexact HS0
          · ipureintro; intro _; rfl
        isplitl [HT0]; · iexact HT0
        isplitl [HT1]; · iexact HT1
        iexact HR
      isplitl [Ho]; · iexact Ho
      isplitl [H0]; · iapply owns_of_rep; iexact H0
      isplitl [H1]; · iexact H1
      iapply (rows_of_words c _ (hs2 a t) _ (coverB _ _ _ _ _ _ _ _ _ _ _ _ _ _ _)); iexact H2
    · unfold outAt; rw [dif_neg q, dif_neg u]
      iintro ⟨⟨⟨%a0, %hs, HS0⟩, HT0, HT1, HR⟩, Ho, ⟨%d0, H0⟩, ⟨%d1, H1⟩, ⟨%d2, H2⟩⟩
      iapply ((atC a c t q u).2 _)
      isplitl [HT0]; · iexact HT0
      isplitl [HT1]; · iexact HT1
      isplitl [H2]; · iexists _; iexact H2
      iintro ⟨HT0, HT1, ⟨%e2, H2⟩⟩
      isplitl [HS0 HT0 HT1 HR]
      · isplitl [HS0]
        · iexists a0; isplitr; swap
          · iexact HS0
          · ipureintro; intro _; exact hs ht
        isplitl [HT0]; · iexact HT0
        isplitl [HT1]; · iexact HT1
        iexact HR
      isplitl [Ho]; · iexact Ho
      isplitl [H0]; · iexact H0
      isplitl [H1]; · iexact H1
      unfold owns; iexists _; isplitr; swap
      · iexact H2
      · ipureintro; exact View.read_writes_of_cover _ _ _ _ _ (coverC c _ _ _ _ _ _ _ _ _ _ _ _)

theorem body_obligation (h0 : ∀ t : Fin (cfgA a).N, t.val = 0 → FreshAt a t) (c : Dev nD) :
    BodyObligation (dats a m ρ 0 c) (defs₀ (F := Ideal)) Variants.none () Set.univ := fun t => by
  rw [bigSep_W0]
  exact sound_body a m ρ h0 c t

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) :
    iprop(Pipeline.ΦA (U := UR sig nD τ) spec0 c ∗ Pipeline.ΦT (U := UR sig nD τ) pre0 a.1 c) ⊢ (dats a m ρ 0 c).Φ 0 := by
  unfold Pipeline.ΦA Pipeline.ΦT
  rw [prefHeld_eq, scopedRest0_eq, show (dats a m ρ 0 c).Φ 0 = Phi a m ρ c 0 from rfl]
  unfold Phi
  iintro ⟨⟨⟨%f0, HS0⟩, HR⟩, HT0, HT1⟩
  isplitl [HS0]
  · iexists f0; isplitr; swap
    · iexact HS0
    · ipureintro; intro h; exact absurd h (Nat.lt_irrefl 0)
  isplitl [HT0]; · iexact HT0
  isplitl [HT1]; · iexact HT1
  iexact HR

theorem phi_out (c : Dev nD) : (dats a m ρ 0 c).Φ (Fin.last (cfgA a).N) ⊢ Pipeline.ΦA (U := UR sig nD τ) spec0 c := by
  unfold Pipeline.ΦA
  rw [scopedRest0_eq, show (dats a m ρ 0 c).Φ (Fin.last (cfgA a).N) = Phi a m ρ c (Fin.last _) from rfl]
  unfold Phi
  iintro ⟨⟨%a0, -, HS0⟩, -, -, HR⟩
  isplitl [HS0]
  · iexists a0; iexact HS0
  iexact HR

set_option maxHeartbeats 4000000 in
/-- From a memory that holds the tables, with zero counters: the program runs to the end, every array ends at what the
pipeline computes, every other buffer unchanged, every counter at zero. -/
theorem run_main (h0 : ∀ t : Fin (cfgA a).N, t.val = 0 → FreshAt a t)
    (hp : ∀ (c : Dev nD) (k : Fin 2), m ((c : Thread nD τ).loc (pre0.ref k)) = a.1 k) :
    θ_run (defs (F := Ideal)) (onTc (τ := τ) (main (F := Ideal))) (s₀ m ρ)
      (fun r => Pipeline.FramePost (pcs a) (dats a m ρ) 0 (fun c b => m ((c : Thread nD τ).loc b)) r ∧ r.2.sem = fun _ => 0) :=
  Pipeline.θ_run_frameP_track_shared (pcfgs (F := Ideal)) (fun _ => a) (dats a m ρ) 0 (launch0 (F := Ideal)).to₀ defs₀ Variants.none
    m ρ main (fun c => (body_obligation a m ρ h0 c).loose) (fun _ _ _ => rfl) (fun _ _ => rfl)
    (fun c b => m ((c : Thread nD τ).loc b))
    (Pipeline.hmainP_region _ _ _ _ m main fun c => main_chain c)
    (fun _ _ => rfl) hp (phi_in a m ρ) (phi_out a m ρ) _ (fun _ h => h)

/-- The frame's clauses read off the run. -/
theorem frame_args (h0 : ∀ t : Fin (cfgA a).N, t.val = 0 → FreshAt a t)
    (hp : ∀ (c : Dev nD) (k : Fin 2), m ((c : Thread nD τ).loc (pre0.ref k)) = a.1 k) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).1 (0 : Fin 3)).trans ((dats a m ρ 0 c).arrAt_in (0 : Fin 3) rfl _),
     (h.1 c).2 main_arg1 (show main_arg1 ∈ Pipeline.restRefs sig spec0 by decide), (h.1 c).2 main_arg2 (show main_arg2 ∈ Pipeline.restRefs sig spec0 by decide),
     ((h.1 c).1 (1 : Fin 3)).trans ((dats a m ρ 0 c).arrAt_in (1 : Fin 3) rfl _)⟩, h.2⟩) (run_main a m ρ h0 hp)

end Cert.DownIdeal.Hand

end
-- ==== Proof.DownIdeal.Adm.lean ====
module

public import proofs.«01_k».proof.Proof.DownIdeal.Frame
public import proofs.«01_k».proof.Defs
public import proofs.«01_k».proof.Proof.Gen.Pre_routed_down
public import Idealize.ShloMosaic.Lib.Affine

/-! The tables the precondition admits: every expert number below 32, at least one tile in use. They keep every block
inside its array, and the first tile loads its expert. -/

@[expose] public section

set_option maxRecDepth 16384
set_option Elab.async false

noncomputable section

namespace Cert.DownIdeal.Hand

open Cert.DownIdeal Cert.DownIdeal.Gen
open Idealize.ShloMosaic Idealize.ShloMosaic.TcCoe Idealize.SL.Sem

/-- A word whose signed value lies in a range of naturals has that value unsigned. -/
theorem toNat_lt_of_toInt {x : BitVec 32} {n : ℕ} (h0 : 0 ≤ x.toInt) (h : x.toInt < n) : x.toNat < n := by
  have := BitVec.toInt_eq_toNat_cond x
  split at this <;> omega

/-- The smaller of a tile's number and the last used tile's. -/
theorem tile_le (t : ℕ) (ht : t < 159) (v : BitVec 32) (hv : 1 ≤ v.toInt) :
    (Scalar.minsi (BitVec.ofNat 32 t) (Scalar.subi v 1#32)).toNat < 159 := by
  have e : (Scalar.subi v 1#32) = v - 1#32 := rfl
  rw [e]
  show (if (BitVec.ofNat 32 t).slt (v - 1#32) then BitVec.ofNat 32 t else v - 1#32).toNat < 159
  have hv2 := BitVec.toInt_eq_toNat_cond v
  have hlt := v.isLt
  have hw : (v - 1#32).toNat = v.toNat - 1 := by
    rw [BitVec.toNat_sub_of_le]
    · rfl
    · rw [BitVec.le_def]; split at hv2 <;> simp <;> omega
  have hx : (BitVec.ofNat 32 t).toNat = t := by rw [BitVec.toNat_ofNat]; omega
  split_ifs with h
  · omega
  · rw [BitVec.slt_iff_toInt_lt, not_lt, BitVec.toInt_eq_toNat_cond, BitVec.toInt_eq_toNat_cond, hw, hx] at h
    rw [hw]
    split at hv2 <;> split at h <;> split at h <;> omega

/-- At a used tile it is the tile's own number. -/
theorem tile_used (t : ℕ) (ht : t < 159) (v : BitVec 32) (hv : (t : ℤ) < v.toInt) :
    (Scalar.minsi (BitVec.ofNat 32 t) (Scalar.subi v 1#32)).toNat = t := by
  have e : (Scalar.subi v 1#32) = v - 1#32 := rfl
  rw [e]
  show (if (BitVec.ofNat 32 t).slt (v - 1#32) then BitVec.ofNat 32 t else v - 1#32).toNat = t
  have hv2 := BitVec.toInt_eq_toNat_cond v
  have hlt := v.isLt
  have hw : (v - 1#32).toNat = v.toNat - 1 := by
    rw [BitVec.toNat_sub_of_le]
    · rfl
    · rw [BitVec.le_def]; split at hv2 <;> simp <;> omega
  have hx : (BitVec.ofNat 32 t).toNat = t := by rw [BitVec.toNat_ofNat]; omega
  split_ifs with h
  · exact hx
  · rw [BitVec.slt_iff_toInt_lt, not_lt, BitVec.toInt_eq_toNat_cond, BitVec.toInt_eq_toNat_cond, hw, hx] at h
    rw [hw]
    split at hv2 <;> split at h <;> split at h <;> omega

/-- What the precondition says of the tables' words. -/
structure Good (p : pre0.Contents (Elt Ideal)) : Prop where
  te : ∀ j : S159.Idx, (show BitVec 32 from p 0 j).toNat < 32
  nu : ∀ j : S1.Idx, 1 ≤ (show BitVec 32 from p 1 j).toInt

theorem ok_of_good (p : pre0.Contents (Elt Ideal)) (h : Good p) : ok0 p := by
  refine ⟨fun i => ⟨Fin.forall_fin_two.2 ⟨?_, ?_⟩, .inr (Affine.block_words_dvd (of_decide_eq_true rfl) (by decide))⟩,
    fun i => ⟨?_, .inl rfl⟩⟩
  · have := tile_le (i 0).val (i 0).isLt _ (h.nu ((Rect.unit (s := S1) ![0] S1.size inb_S1_S1_0).emb (Shape.Idx.first (numel1_S1.symm ▸ Nat.one_pos))))
    show ((Scalar.minsi (BitVec.ofNat 32 (i 0).val) (Scalar.subi _ 1#32)).toNat + 1) * 256 ≤ 40704
    have h2 : ∀ n, n < 159 → (n + 1) * 256 ≤ 40704 := by omega
    exact h2 _ this
  · show (0 + 1) * 512 ≤ 512; omega
  · have := h.te ((Rect.unit (s := S159) ![(Scalar.indexCast (BitVec.ofNat 32 (i 0).val) : BitVec 32).toNat] S1.size (k0_off1_inb i)).emb (Shape.Idx.first (numel1_S1.symm ▸ Nat.one_pos)))
    have h2 : ∀ n, n < 32 → (n + 1) * 1 ≤ 32 := by omega
    intro x
    match x with
    | ⟨0, _⟩ => show (0 + 1) * 1 ≤ 2; omega
    | ⟨1, _⟩ => exact h2 _ this
    | ⟨2, _⟩ => show (0 + 1) * 512 ≤ 512; omega
    | ⟨3, _⟩ => show (0 + 1) * 4096 ≤ 4096; omega

/-- The tables as the memory holds them, -/
def tabs (m : (ℓ : Loc nD τ sig) → Buf (Elt Ideal) ℓ) : pre0.Contents (Elt Ideal) := fun k => m (((0 : Dev nD) : Thread nD τ).loc (pre0.ref k))

/-- admitted. -/
def adm (m : (ℓ : Loc nD τ sig) → Buf (Elt Ideal) ℓ) (h : Good (tabs m)) : (pcfg0 (F := Ideal)).Adm := ⟨tabs m, ok_of_good _ h⟩

theorem adm_held (m : (ℓ : Loc nD τ sig) → Buf (Elt Ideal) ℓ) (h : Good (tabs m)) (c : Dev nD) (k : Fin 2) :
    m ((c : Thread nD τ).loc (pre0.ref k)) = (adm m h).1 k := by
  obtain rfl : c = 0 := Subsingleton.elim _ _
  rfl

theorem crd_t : ∀ t : Fin grid0.N, (grid0.coords t 0).val = t.val := by decide +kernel

/-- A tile is used exactly when its number is below the number of tiles in use. -/
theorem used_iff (a : (pcfg0 (F := Ideal)).Adm) (t : Fin (cfgA a).N) : UsedAt a t ↔ (t.val : ℤ) < (nuW (T1 a)).toInt := by
  refine (cond2_iff _ _).trans ((IntOp.cmpi_slt (x := BitVec.ofNat 32 _) (y := nuW (T1 a))).trans ?_)
  rw [show ((crd a t) 0).val = t.val from crd_t t, BitVec.toInt_eq_toNat_cond, BitVec.toNat_ofNat]
  have : t.val < 159 := Nat.lt_of_lt_of_eq t.isLt N_0
  rw [Nat.mod_eq_of_lt (by omega), if_pos (by omega)]

theorem first_fresh (a : (pcfg0 (F := Ideal)).Adm) (h : Good a.1) (t : Fin (cfgA a).N) (ht : t.val = 0) : FreshAt a t := by
  have hu : Scalar.cmpi .slt (BitVec.ofNat 32 ((crd a t) 0).val) (nuW (T1 a)) = 1#1 :=
    (cond2_iff _ _).1 ((used_iff a t).2 (by rw [ht]; exact lt_of_lt_of_le Int.zero_lt_one (h.nu _)))
  refine (bit_ne _).2 ?_
  rw [hu, show ((crd a t) 0).val = 0 from (crd_t t).trans ht]
  generalize Scalar.cmpi .ne (teW (crd a t) (T0 a)) (teP (crd a t) (T0 a)) = b
  revert b; decide

/-- The precondition gives it. -/
theorem good_of_pre [hp : Cert.Pre_routed_down.Facts] (m : (ℓ : Loc nD τ sig) → Buf (Elt Ideal) ℓ) (h : Cert.Pre_DownIdeal m) : Good (tabs m) where
  te j := by
    have h1 := congrFun (h 0).1 j
    have h2 : IntOp.andi (IntOp.cmpi .sge (show BitVec 32 from tabs m 0 j) 0#32) (IntOp.cmpi .slt (show BitVec 32 from tabs m 0 j) 32#32) = 1#1 := h1
    have h3 : IntOp.cmpi .sge (show BitVec 32 from tabs m 0 j) 0#32 = 1#1 ∧ IntOp.cmpi .slt (show BitVec 32 from tabs m 0 j) 32#32 = 1#1 := by
      revert h2
      generalize IntOp.cmpi .sge (show BitVec 32 from tabs m 0 j) 0#32 = b
      generalize IntOp.cmpi .slt (show BitVec 32 from tabs m 0 j) 32#32 = d
      revert b d; decide
    exact toNat_lt_of_toInt (IntOp.cmpi_sge.1 h3.1) (IntOp.cmpi_slt.1 h3.2)
  nu j := by
    have h1 : IntOp.cmpi .sge (show BitVec 32 from tabs m 1 j) 1#32 = 1#1 := congrFun (h 0).2 j
    exact IntOp.cmpi_sge.1 h1

end Cert.DownIdeal.Hand

end
-- ==== Proof.DownIdeal.Formula.lean ====
module

public import proofs.«01_k».proof.Proof.Gen.DownIdeal
public import Idealize.ShloMosaic.Lib.Pointwise
public import Idealize.ShloMosaic.PureOps.Ideal

/-! The experts' second product as one formula of its four arguments. -/

@[expose] public section

noncomputable section

namespace Cert.DownIdeal.Hand

open Cert.DownIdeal
open Idealize.ShloMosaic

/-- The expert of a tile, as a number below 32. -/
def expertOf (T : S159.Idx → BitVec 32) (t : Fin 159) : Fin 32 := ⟨min (T (ix1 t)).toNat 31, by omega⟩

/-- Row `n` of the hidden rows times column `f` of expert `e`'s weights. -/
def expertDot (X : S40704x512.Idx → EReal) (W : S2x32x512x4096.Idx → EReal) (n : Fin 40704) (e : Fin 32) (f : Fin 4096) : EReal :=
  ∑ k : Fin 512, X (ix2 n k) * W (ix4 0 e k f)

/-- The whole array, 32 rows of 128 for each row of the product: in a tile in use the product of the tile's expert, zero in
the others. -/
def expertsDown (X : S40704x512.Idx → EReal) (T : S159.Idx → BitVec 32) (N : S1.Idx → BitVec 32)
    (W : S2x32x512x4096.Idx → EReal) : S1302528x128.Idx → EReal := fun i =>
  have h0 : (i 0).val < 1302528 := (i 0).isLt
  have h1 : (i 1).val < 128 := (i 1).isLt
  if (((i 0).val / 8192 : ℕ) : ℤ) < (N (ix1 0)).toInt then
    expertDot X W ⟨(i 0).val / 32, by omega⟩ (expertOf T ⟨(i 0).val / 8192, by omega⟩) ⟨128 * ((i 0).val % 32) + (i 1).val, by omega⟩
  else 0

theorem expertsDown_apply (X : S40704x512.Idx → EReal) (T : S159.Idx → BitVec 32) (N : S1.Idx → BitVec 32)
    (W : S2x32x512x4096.Idx → EReal) (n : Fin 1302528) (l : Fin 128) : expertsDown X T N W (ix2 n l)
      = if ((n.val / 8192 : ℕ) : ℤ) < (N (ix1 0)).toInt then
          expertDot X W ⟨n.val / 32, by omega⟩ (expertOf T ⟨n.val / 8192, by omega⟩) ⟨128 * (n.val % 32) + l.val, by omega⟩
        else 0 := rfl

end Cert.DownIdeal.Hand

end
-- ==== Proof.DownIdeal.Body.lean ====
module

public import proofs.«01_k».proof.Proof.DownIdeal.Frame
public import proofs.«01_k».proof.Proof.DownIdeal.Formula
public import Idealize.ShloMosaic.Lib.Pointwise
public import Idealize.ShloMosaic.Lib.Pipeline.Value
public import Idealize.ShloMosaic.Lib.Pipeline.ValueKit
public import Idealize.ShloMosaic.Lib.IdealHost
public import Idealize.ShloMosaic.Lib.VecWindow

/-! What one run of the second expert kernel's body leaves, at one element: the product of the tile's row and the expert's
column of weights. -/

@[expose] public section

set_option maxRecDepth 16384

noncomputable section

namespace Cert.DownIdeal.Hand

open Cert.DownIdeal Cert.DownIdeal.Gen
open Idealize.ShloMosaic Idealize.ShloMosaic.TcCoe Idealize.SL.Sem

/-- Two rows of 128 as one row of words: the first in the even places, the second in the odd ones. -/
def words (lo hi : FVec Ideal S256x128 .f32) : Vec Ideal S256x2x128 .bf16 :=
  interleaveRows S256x2x128 (shapeCast S256x1x128 (truncf (F := Ideal) .bf16 lo bitsLt_bf16_f32) shapeCasts_S256x128_S256x1x128)
    (shapeCast S256x1x128 (truncf (F := Ideal) .bf16 hi bitsLt_bf16_f32) shapeCasts_S256x128_S256x1x128) bitcasts_S256x2x128_w16_S256x1x128_w32

theorem words_apply (lo hi : FVec Ideal S256x128 .f32) (r : Fin 256) (b : Fin 2) (l : Fin 128) :
    words lo hi (ix3 r b l) = if b.val % 2 = 0 then lo (ix2 r l) else hi (ix2 r l) := by
  unfold words
  pointwise

/-- The words of columns `256 s` and on of a product. -/
def wordsAt (v : FVec Ideal S256x4096 .f32) (s : ℕ) (h : S256x4096.Slices ![0, 256 * s] S256x128) (h' : S256x4096.Slices ![0, 256 * s + 128] S256x128) :
    Vec Ideal S256x2x128 .bf16 :=
  words (extractStridedSlice S256x128 ![0, 256 * s] v h) (extractStridedSlice S256x128 ![0, 256 * s + 128] v h')

/-- A product as the view of words holds it: word row `16 r + s` has row `r`'s columns `256 s` and on. -/
def asWords (v : S256x4096.Idx → EReal) : S4096x2x128.Idx → EReal := fun y =>
  have h0 : (y 0).val < 4096 := (y 0).isLt
  have h1 : (y 1).val < 2 := (y 1).isLt
  have h2 : (y 2).val < 128 := (y 2).isLt
  v (ix2 ⟨(y 0).val / 16, by omega⟩ ⟨256 * ((y 0).val % 16) + 128 * (y 1).val + (y 2).val, by omega⟩)

theorem wordsAt_apply (v : FVec Ideal S256x4096 .f32) (s : Fin 16) (h) (h') (x : (rowsAt s).shape.Idx) :
    wordsAt v s.val h h' x = asWords v ((rowsAt s).emb x) := by
  obtain ⟨r, b, l, rfl⟩ : ∃ (r : Fin 256) (b : Fin 2) (l : Fin 128), x = ix3 r b l := ⟨x 0, x 1, x 2, eq_ix3 x⟩
  refine (words_apply _ _ r b l).trans ?_
  have hs := s.isLt
  have e0 : ((rowsAt s).emb (ix3 r b l) 0).val = s.val + 16 * r.val := rfl
  have e1 : ((rowsAt s).emb (ix3 r b l) 1).val = 0 + 1 * b.val := rfl
  have e2 : ((rowsAt s).emb (ix3 r b l) 2).val = 0 + 1 * l.val := rfl
  unfold asWords
  by_cases hb : b.val % 2 = 0
  · rw [if_pos hb]
    refine congrArg v (funext fun a => Fin.ext ?_)
    match a with
    | ⟨0, _⟩ => show 0 + r.val = ((rowsAt s).emb (ix3 r b l) 0).val / 16; omega
    | ⟨1, _⟩ =>
      show 256 * s.val + l.val = 256 * (((rowsAt s).emb (ix3 r b l) 0).val % 16) + 128 * ((rowsAt s).emb (ix3 r b l) 1).val + ((rowsAt s).emb (ix3 r b l) 2).val
      omega
  · rw [if_neg hb]
    refine congrArg v (funext fun a => Fin.ext ?_)
    match a with
    | ⟨0, _⟩ => show 0 + r.val = ((rowsAt s).emb (ix3 r b l) 0).val / 16; omega
    | ⟨1, _⟩ =>
      show 256 * s.val + 128 + l.val = 256 * (((rowsAt s).emb (ix3 r b l) 0).val % 16) + 128 * ((rowsAt s).emb (ix3 r b l) 1).val + ((rowsAt s).emb (ix3 r b l) 2).val
      omega

/-- The sixteen stores of a product, the last first. -/
def pieces (v : FVec Ideal S256x4096 .f32) : List (View.Piece (Elt Ideal) S4096x2x128 .bf16) :=
  [⟨rowsAt 15, wordsAt v 15 slices_S256x4096_o0_3840_S256x128 slices_S256x4096_o0_3968_S256x128⟩,
   ⟨rowsAt 14, wordsAt v 14 slices_S256x4096_o0_3584_S256x128 slices_S256x4096_o0_3712_S256x128⟩,
   ⟨rowsAt 13, wordsAt v 13 slices_S256x4096_o0_3328_S256x128 slices_S256x4096_o0_3456_S256x128⟩,
   ⟨rowsAt 12, wordsAt v 12 slices_S256x4096_o0_3072_S256x128 slices_S256x4096_o0_3200_S256x128⟩,
   ⟨rowsAt 11, wordsAt v 11 slices_S256x4096_o0_2816_S256x128 slices_S256x4096_o0_2944_S256x128⟩,
   ⟨rowsAt 10, wordsAt v 10 slices_S256x4096_o0_2560_S256x128 slices_S256x4096_o0_2688_S256x128⟩,
   ⟨rowsAt 9, wordsAt v 9 slices_S256x4096_o0_2304_S256x128 slices_S256x4096_o0_2432_S256x128⟩,
   ⟨rowsAt 8, wordsAt v 8 slices_S256x4096_o0_2048_S256x128 slices_S256x4096_o0_2176_S256x128⟩,
   ⟨rowsAt 7, wordsAt v 7 slices_S256x4096_o0_1792_S256x128 slices_S256x4096_o0_1920_S256x128⟩,
   ⟨rowsAt 6, wordsAt v 6 slices_S256x4096_o0_1536_S256x128 slices_S256x4096_o0_1664_S256x128⟩,
   ⟨rowsAt 5, wordsAt v 5 slices_S256x4096_o0_1280_S256x128 slices_S256x4096_o0_1408_S256x128⟩,
   ⟨rowsAt 4, wordsAt v 4 slices_S256x4096_o0_1024_S256x128 slices_S256x4096_o0_1152_S256x128⟩,
   ⟨rowsAt 3, wordsAt v 3 slices_S256x4096_o0_768_S256x128 slices_S256x4096_o0_896_S256x128⟩,
   ⟨rowsAt 2, wordsAt v 2 slices_S256x4096_o0_512_S256x128 slices_S256x4096_o0_640_S256x128⟩,
   ⟨rowsAt 1, wordsAt v 1 slices_S256x4096_o0_256_S256x128 slices_S256x4096_o0_384_S256x128⟩,
   ⟨rowsAt 0, wordsAt v 0 slices_S256x4096_o0_0_S256x128 slices_S256x4096_o0_128_S256x128⟩]

theorem pieces_apply (v : FVec Ideal S256x4096 .f32) : ∀ pc ∈ pieces v, ∀ x : pc.1.shape.Idx, pc.2 x = asWords v (pc.1.emb x) := by
  intro pc hpc
  unfold pieces at hpc
  simp only [List.mem_cons, List.not_mem_nil, or_false] at hpc
  rcases hpc with rfl | rfl | rfl | rfl | rfl | rfl | rfl | rfl | rfl | rfl | rfl | rfl | rfl | rfl | rfl | rfl
  · exact wordsAt_apply v 15 _ _
  · exact wordsAt_apply v 14 _ _
  · exact wordsAt_apply v 13 _ _
  · exact wordsAt_apply v 12 _ _
  · exact wordsAt_apply v 11 _ _
  · exact wordsAt_apply v 10 _ _
  · exact wordsAt_apply v 9 _ _
  · exact wordsAt_apply v 8 _ _
  · exact wordsAt_apply v 7 _ _
  · exact wordsAt_apply v 6 _ _
  · exact wordsAt_apply v 5 _ _
  · exact wordsAt_apply v 4 _ _
  · exact wordsAt_apply v 3 _ _
  · exact wordsAt_apply v 2 _ _
  · exact wordsAt_apply v 1 _ _
  · exact wordsAt_apply v 0 _ _

/-- What the sixteen stores leave, as rows of 128. -/
theorem out_pieces (v : FVec Ideal S256x4096 .f32) (n : Fin 8192) (l : Fin 128) :
    outFn (pieces v) (ix2 n l) = v (ix2 ⟨n.val / 32, by omega⟩ ⟨128 * (n.val % 32) + l.val, by omega⟩) := by
  have hs : (Shape.reshapeEquiv reshapes_S8192x128_S4096x2x128.1).symm (ix2 n l) = ix3 ⟨n.val / 2, by omega⟩ ⟨n.val % 2, by omega⟩ l := by
    rw [Equiv.symm_apply_eq]
    refine (Shape.reshapeEquiv_eq_of_rowMajor _ ?_).symm
    rw [Shape.rowMajor_val_two, Shape.rowMajor_val_three]
    show n.val * 128 + l.val = (n.val / 2 * 2 + n.val % 2) * 128 + l.val
    omega
  unfold outFn
  rw [hs]
  refine (View.read_writes_apply_of_pieces VR VR.junk (asWords v) (pieces v) (pieces_apply v) _ (cover_of_residues (by unfold pieces residues; rfl) _)).trans ?_
  unfold asWords
  refine congrArg v (congrArg₂ ix2 (Fin.ext ?_) (Fin.ext ?_))
  · show n.val / 2 / 16 = n.val / 32
    omega
  · show 256 * (n.val / 2 % 16) + 128 * (n.val % 2) + l.val = 128 * (n.val % 32) + l.val
    omega

/-- A row of the tile's block against a column of weights. -/
def dotRow (x0 : S256x512.Idx → EReal) (w : S512x4096.Idx → EReal) (r : Fin 256) (f : Fin 4096) : EReal :=
  ∑ k : Fin 512, x0 (ix2 r k) * w (ix2 k f)

theorem pay6_apply (x0 : Vec Ideal S256x512 .bf16) (w : Vec Ideal S512x4096 .bf16) (r : Fin 256) (f : Fin 4096) :
    k0_pay6 (F := Ideal) x0 w (ix2 r f) = dotRow x0 w r f := by
  unfold k0_pay6 dotRow
  pointwise

section
variable (c : Dev nD) (arg3 : Memref sig .tc .vmem S256x512 .bf16) (harg3 : arg3.IsWhole) (x0 : S256x512.Idx → Elt Ideal .bf16)
  (a0 : Buf (Elt Ideal) ((c : Thread nD τ).loc cc0_scratch0))

/-- The product a tile computes from the weights held. -/
theorem prod_apply (r : Fin 256) (f : Fin 4096) : runB.sl.r_3 c arg3 x0 a0 (ix2 r f) = dotRow x0 a0 r f := by
  unfold runB.sl.r_3
  refine (pay6_apply _ _ r f).trans ?_
  unfold dotRow
  refine Finset.sum_congr rfl fun k _ => congrArg₂ (· * ·) (congrFun (View.readAt_rep_full arg3.view x0 _) _) ?_
  refine congrArg (show S512x4096.Idx → EReal from a0) (funext fun a => Fin.ext ?_)
  match a with
  | ⟨0, _⟩ => show 0 + 1 * k.val = k.val; omega
  | ⟨1, _⟩ => show 0 + 1 * f.val = f.val; omega

/-- The stored block, of the tile's rows and the weights held in the scratch buffer. -/
theorem outB_apply (n : Fin 8192) (l : Fin 128) :
    outFn (pieces (runB.sl.r_3 c arg3 x0 a0)) (ix2 n l)
      = dotRow x0 a0 ⟨n.val / 32, by omega⟩ ⟨128 * (n.val % 32) + l.val, by omega⟩ :=
  (out_pieces _ n l).trans (prod_apply c arg3 x0 a0 _ _)

/-- A tile that loads new weights computes what it would with the weights already held. -/
theorem prodA_eq (arg4 : Memref sig .tc .vmem S1x1x512x4096 .f32) (x1 : S1x1x512x4096.Idx → Elt Ideal .f32) :
    runA.sl.r_3 arg3 arg4 x0 x1
      = runB.sl.r_3 c arg3 x0 (sc0.view.writes (Elt Ideal) sc0.view.junk (runA.sl.HS0_1 arg4 x1)) := rfl

/-- The block of weights, without its two leading unit axes. -/
theorem pay1_apply (x : S1x1x512x4096.Idx → Elt Ideal .f32) (k : Fin 512) (f : Fin 4096) :
    k0_pay1 (F := Ideal) x (ix2 k f) = x (ix4 0 0 k f) := by
  unfold k0_pay1
  pointwise

/-- The scratch buffer after the load holds the block of weights. -/
theorem load_apply (arg4 : Memref sig .tc .vmem S1x1x512x4096 .f32) (x1 : S1x1x512x4096.Idx → Elt Ideal .f32) (k : Fin 512) (f : Fin 4096) :
    sc0.view.read (Elt Ideal) (sc0.view.writes (Elt Ideal) sc0.view.junk (runA.sl.HS0_1 arg4 x1)) (ix2 k f)
      = x1 (ix4 0 0 k f) := by
  have e : sc0.view.read (Elt Ideal) (sc0.view.writes (Elt Ideal) sc0.view.junk (runA.sl.HS0_1 arg4 x1))
      = k0_pay1 (F := Ideal) x1 := by
    unfold runA.sl.HS0_1
    refine (View.read_writes_full (s := S512x4096) sc0.view _ _ _ _).trans ?_
    exact congrArg (k0_pay1 (F := Ideal)) (View.readAt_rep_full _ _ _)
  exact (congrFun e (ix2 k f)).trans (pay1_apply x1 k f)

/-- The block stored at a tile not in use: zeros. -/
theorem outC_apply (y : S8192x128.Idx) :
    VO.read (Elt Ideal) (VO.writes (Elt Ideal) VO.junk runC.sl.HO_1) y = (0 : EReal) := by
  unfold runC.sl.HO_1
  rw [View.read_writes_full]
  exact Ideal.ofBits_zero_bf16

section
variable (i : grid0.Coords) (arg4 : Memref sig .tc .vmem S1x1x512x4096 .f32) (harg4 : arg4.IsWhole)
  (arg5 : Memref sig .tc .vmem S8192x128 .bf16) (harg5 : arg5.IsWhole) (T0 : S159.Idx → Elt Ideal .i32) (T1 : S1.Idx → Elt Ideal .i32)

/-- What the three runs leave, by name. -/
theorem runA_eq (x1 : S1x1x512x4096.Idx → Elt Ideal .f32) (h : Fresh i T0 T1) (h2) (h3) :
    (runA c i arg3 harg3 arg4 harg4 arg5 harg5 T0 T1 x0 x1 h h2 h3).1 = pieces (runA.sl.r_3 arg3 arg4 x0 x1)
    ∧ (runA c i arg3 harg3 arg4 harg4 arg5 harg5 T0 T1 x0 x1 h h2 h3).2.1
      = sc0.view.writes (Elt Ideal) sc0.view.junk (runA.sl.HS0_1 arg4 x1) := by
  unfold runA pieces
  refine ⟨rfl, ?_⟩
  dsimp only [sc0, Memref.whole]

theorem runB_eq (h : ¬Fresh i T0 T1) (h2) (h3) :
    (runB c i arg3 harg3 arg4 harg4 arg5 harg5 T0 T1 x0 a0 h h2 h3).1 = pieces (runB.sl.r_3 c arg3 x0 a0) := by
  unfold runB pieces
  exact rfl

theorem runC_eq (h : ¬Fresh i T0 T1) (h2) (h3) :
    (runC c i arg3 harg3 arg4 harg4 arg5 harg5 T0 T1 h h2 h3).1 = runC.sl.HO_1 := by
  unfold runC
  exact rfl
end

end

end Cert.DownIdeal.Hand

end
-- ==== Proof.DownIdeal.Value.lean ====
module

public import proofs.«01_k».proof.Proof.DownIdeal.Body
public import proofs.«01_k».proof.Proof.DownIdeal.Adm

/-! The array the experts' second launch leaves, as the formula of its arguments. -/

@[expose] public section

set_option maxRecDepth 16384
set_option Elab.async false

noncomputable section

namespace Cert.DownIdeal.Hand

open Cert.DownIdeal Cert.DownIdeal.Gen
open Idealize.ShloMosaic Idealize.ShloMosaic.TcCoe Idealize.SL.Sem

theorem off1_t : ∀ t : Fin grid0.N, k0_off1 (grid0.coords t) 0 = t.val := by decide +kernel
theorem off2_t : ∀ t : Fin grid0.N, k0_off2 (grid0.coords t) 0 = t.val - 1 := by decide +kernel

variable (a : (pcfg0 (F := Ideal)).Adm) (hg : Good a.1)

/-- A tile's number is below 159. -/
theorem tlt (t : Fin (cfgA a).N) : t.val < 159 := Nat.lt_of_lt_of_eq t.isLt N_0

/-- The tile's word of the experts' table. -/
abbrev te (n : ℕ) (h : n < 159) : BitVec 32 := T0 a (ix1 ⟨n, h⟩)

theorem nuW_eq : nuW (T1 a) = (show BitVec 32 from T1 a (ix1 0)) := by
  refine congrArg (T1 a) (funext fun x => Fin.ext ?_)
  match x with
  | ⟨0, _⟩ => rfl

theorem teW_eq (t : Fin (cfgA a).N) : teW (crd a t) (T0 a) = te a t.val (tlt a t) := by
  refine congrArg (T0 a) (funext fun x => Fin.ext ?_)
  match x with
  | ⟨0, _⟩ => show k0_off1 (grid0.coords t) 0 + 1 * 0 = t.val; rw [off1_t]; omega

theorem teP_eq (t : Fin (cfgA a).N) : teP (crd a t) (T0 a) = te a (t.val - 1) (by have := tlt a t; omega) := by
  refine congrArg (T0 a) (funext fun x => Fin.ext ?_)
  match x with
  | ⟨0, _⟩ => show k0_off2 (grid0.coords t) 0 + 1 * 0 = t.val - 1; rw [off2_t]; omega

/-- A used tile that loads nothing has the expert of the tile before. -/
theorem same_expert (t : Fin (cfgA a).N) (hq : ¬FreshAt a t) (hu : UsedAt a t) :
    te a t.val (tlt a t) = te a (t.val - 1) (by have := tlt a t; omega) := by
  rw [← teW_eq, ← teP_eq]
  by_contra hne
  refine hq ((bit_ne _).2 ?_)
  have h1 : Scalar.cmpi .ne (teW (crd a t) (T0 a)) (teP (crd a t) (T0 a)) = 1#1 := by
    exact congrArg BitVec.ofBool (bne_iff_ne.2 hne)
  rw [(cond2_iff _ _).1 hu, h1]
  generalize Scalar.cmpi .eq (BitVec.ofNat 32 ((crd a t) 0).val) 0#32 = b
  revert b; decide

include hg in
/-- The expert's number. -/
theorem expertOf_val (t : Fin 159) : (te a t.val t.isLt).toNat = (expertOf (T0 a) t).val := by
  have := hg.te (ix1 t)
  show _ = min _ 31
  exact (Nat.min_eq_left (Nat.le_of_lt_succ this)).symm

/-- The windows' block indices at a tile. -/
theorem ix_0 (t : Fin (cfgA a).N) (hu : UsedAt a t) : ((cfgA a).win 0).index t (0 : Fin 2) = t.val := by
  refine Eq.trans (congrArg (fun n => (Scalar.minsi (BitVec.ofNat 32 n) (Scalar.subi (nuW (T1 a)) 1#32)).toNat) (crd_t t)) ?_
  exact tile_used t.val (tlt a t) _ ((used_iff a t).1 hu)
theorem ix_0' (t : Fin (cfgA a).N) : ((cfgA a).win 0).index t (1 : Fin 2) = 0 := rfl
include hg in
theorem ix_1 (t : Fin (cfgA a).N) : ((cfgA a).win 1).index t (1 : Fin 4) = (expertOf (T0 a) ⟨t.val, tlt a t⟩).val := by
  refine Eq.trans ?_ (expertOf_val a hg ⟨t.val, tlt a t⟩)
  refine Eq.trans ?_ (congrArg BitVec.toNat (teW_eq a t))
  rfl
theorem ix_2 (t : Fin (cfgA a).N) : ((cfgA a).win 2).index t (0 : Fin 2) = t.val := by
  show (BitVec.ofNat 32 (grid0.coords t 0).val).toNat = t.val
  rw [crd_t, BitVec.toNat_ofNat]; have := tlt a t; exact Nat.mod_eq_of_lt (by omega)
theorem ix_2' (t : Fin (cfgA a).N) : ((cfgA a).win 2).index t (1 : Fin 2) = 0 := rfl

variable (m : (ℓ : Loc nD τ sig) → Buf (Elt Ideal) ℓ) (ρ : Dev nD → PrngReg) (c : Dev nD)

/-- The hidden rows' and the weights' arrays. -/
abbrev XA : S40704x512.Idx → EReal := m ((c : Thread nD τ).loc main_arg0)
abbrev WA : S2x32x512x4096.Idx → EReal := m ((c : Thread nD τ).loc main_arg3)

theorem blk_0 (t : Fin (cfgA a).N) (hu : UsedAt a t) (r : Fin 256) (j : Fin 512) :
    iblk a m ρ c (0 : Fin 3) t (ix2 r j) = XA m c (ix2 ⟨t.val * 256 + r.val, by have := tlt a t; omega⟩ j) := by
  refine congrArg (XA m c) (funext fun x => Fin.ext ?_)
  match x with
  | ⟨0, _⟩ => exact (Pipeline.Window.rect_emb_val ((cfgA a).win 0) t (ix2 r j) (0 : Fin 2) rfl).trans (congrArg (· * 256 + r.val) (ix_0 a t hu))
  | ⟨1, _⟩ => exact (Pipeline.Window.rect_emb_val ((cfgA a).win 0) t (ix2 r j) (1 : Fin 2) rfl).trans ((congrArg (· * 512 + j.val) (ix_0' a t)).trans (show 0 * 512 + j.val = j.val by omega))

include hg in
theorem blk_1 (t : Fin (cfgA a).N) (k : Fin 512) (f : Fin 4096) :
    iblk a m ρ c (1 : Fin 3) t (ix4 0 0 k f) = WA m c (ix4 0 (expertOf (T0 a) ⟨t.val, tlt a t⟩) k f) := by
  refine congrArg (WA m c) (funext fun x => Fin.ext ?_)
  match x with
  | ⟨0, _⟩ => exact (Pipeline.Window.rect_emb_val ((cfgA a).win 1) t (ix4 0 0 k f) (0 : Fin 4) rfl).trans rfl
  | ⟨1, _⟩ => exact (Pipeline.Window.rect_emb_val ((cfgA a).win 1) t (ix4 0 0 k f) (1 : Fin 4) rfl).trans ((congrArg (· * 1 + 0) (ix_1 a hg t)).trans (show (expertOf (T0 a) ⟨t.val, tlt a t⟩).val * 1 + 0 = (expertOf (T0 a) ⟨t.val, tlt a t⟩).val by omega))
  | ⟨2, _⟩ => exact (Pipeline.Window.rect_emb_val ((cfgA a).win 1) t (ix4 0 0 k f) (2 : Fin 4) rfl).trans (show 0 * 512 + k.val = k.val by omega)
  | ⟨3, _⟩ => exact (Pipeline.Window.rect_emb_val ((cfgA a).win 1) t (ix4 0 0 k f) (3 : Fin 4) rfl).trans (show 0 * 4096 + f.val = f.val by omega)

/-- The scratch buffer holds an expert's weights. -/
def Holds (s : Scr c) (e : Fin 32) : Prop :=
  ∀ (k : Fin 512) (f : Fin 4096), sc0.view.read (Elt Ideal) s (ix2 k f) = WA m c (ix4 0 e k f)

/-- What the scratch buffer holds once tile `t` has loaded. -/
abbrev loaded (t : Fin (cfgA a).N) : Scr c :=
  sc0.view.writes (Elt Ideal) sc0.view.junk (runA.sl.HS0_1 (ms1 a t) (iblk a m ρ c (1 : Fin 3) t))

include hg in
/-- These are its expert's weights. -/
theorem holds_loaded (t : Fin (cfgA a).N) : Holds m c (loaded a m ρ c t) (expertOf (T0 a) ⟨t.val, tlt a t⟩) := by
  unfold Holds
  intro k f
  refine Eq.trans ?_ (blk_1 a hg m ρ c t k f)
  unfold loaded
  exact load_apply (ms1 a t) (iblk a m ρ c (1 : Fin 3) t) k f

/-- A tile that loads leaves them. -/
theorem load_eq (t : Fin (cfgA a).N) (q : FreshAt a t) : scr a m ρ c (t.val + 1) = loaded a m ρ c t :=
  have e := (runA_eq c (ms0 a t) (hs0 a t) (iblk a m ρ c (0 : Fin 3) t) (crd a t) (ms1 a t) (hs1 a t) (ms2 a t) (hs2 a t) (T0 a) (T1 a)
    (iblk a m ρ c (1 : Fin 3) t) q q.used ((cond3_iff _ _).not_left.2 q.used)).2
  (scr_A a m ρ c t q).trans e

include hg in
/-- After a used tile the scratch buffer holds its expert's weights. -/
theorem holds_after (n : ℕ) : ∀ (hn : n < (cfgA a).N), UsedAt a ⟨n, hn⟩ →
    Holds m c (scr a m ρ c (n + 1)) (expertOf (T0 a) ⟨n, tlt a ⟨n, hn⟩⟩) := by
  induction n with
  | zero =>
    intro hn hu
    have q : FreshAt a ⟨0, hn⟩ := first_fresh a hg _ rfl
    rw [load_eq a m ρ c ⟨0, hn⟩ q]
    exact holds_loaded a hg m ρ c _
  | succ n ih =>
    intro hn hu
    by_cases q : FreshAt a ⟨n + 1, hn⟩
    · rw [load_eq a m ρ c ⟨n + 1, hn⟩ q]
      exact holds_loaded a hg m ρ c _
    · rw [scr_BC a m ρ c ⟨n + 1, hn⟩ q]
      have hu' : UsedAt a ⟨n, Nat.lt_of_succ_lt hn⟩ := by
        have h := (used_iff a _).1 hu
        refine (used_iff a _).2 (lt_of_le_of_lt ?_ h)
        show (n : ℤ) ≤ ((n + 1 : ℕ) : ℤ)
        omega
      have e : expertOf (T0 a) ⟨n + 1, tlt a ⟨n + 1, hn⟩⟩ = expertOf (T0 a) ⟨n, tlt a ⟨n, Nat.lt_of_succ_lt hn⟩⟩ :=
        Fin.ext (congrArg (fun v : BitVec 32 => min v.toNat 31) (same_expert a ⟨n + 1, hn⟩ q hu))
      rw [e]
      exact ih _ hu'

/-- A row of the tile's block times the held weights is the formula's sum. -/
theorem dotRow_eq (t : Fin (cfgA a).N) (hu : UsedAt a t) (s : Scr c) (e : Fin 32) (hs : Holds m c s e) (r : Fin 256) (f : Fin 4096) :
    dotRow (iblk a m ρ c (0 : Fin 3) t) s r f = expertDot (XA m c) (WA m c) ⟨t.val * 256 + r.val, by have := tlt a t; omega⟩ e f := by
  unfold dotRow expertDot
  exact Finset.sum_congr rfl fun k _ => congrArg₂ (· * ·) (blk_0 a m ρ c t hu _ _) (hs k f)

/-- The formula over the memory's own arrays. -/
abbrev result : S1302528x128.Idx → EReal := expertsDown (XA m c) (T0 a) (T1 a) (WA m c)

/-- The three cases' blocks, by name. -/
theorem outAt_A (t : Fin (cfgA a).N) (q : FreshAt a t) :
    outAt a m ρ c t = outFn (pieces (runB.sl.r_3 c (ms0 a t) (iblk a m ρ c (0 : Fin 3) t) (loaded a m ρ c t))) := by
  have e := (runA_eq c (ms0 a t) (hs0 a t) (iblk a m ρ c (0 : Fin 3) t) (crd a t) (ms1 a t) (hs1 a t) (ms2 a t) (hs2 a t) (T0 a) (T1 a)
    (iblk a m ρ c (1 : Fin 3) t) q q.used ((cond3_iff _ _).not_left.2 q.used)).1
  have e2 := prodA_eq c (ms0 a t) (iblk a m ρ c (0 : Fin 3) t) (ms1 a t) (iblk a m ρ c (1 : Fin 3) t)
  unfold outAt loaded
  rw [dif_pos q]
  rw [← e2]
  exact congrArg outFn e

theorem outAt_B (t : Fin (cfgA a).N) (q : ¬FreshAt a t) (hu : UsedAt a t) :
    outAt a m ρ c t = outFn (pieces (runB.sl.r_3 c (ms0 a t) (iblk a m ρ c (0 : Fin 3) t) (scr a m ρ c t.val))) := by
  have e := runB_eq c (ms0 a t) (hs0 a t) (iblk a m ρ c (0 : Fin 3) t) (scr a m ρ c t.val) (crd a t) (ms1 a t) (hs1 a t) (ms2 a t) (hs2 a t)
    (T0 a) (T1 a) q hu ((cond3_iff _ _).not_left.2 hu)
  unfold outAt
  rw [dif_neg q, dif_pos hu]
  exact congrArg outFn e

theorem outAt_C (t : Fin (cfgA a).N) (q : ¬FreshAt a t) (hu : ¬UsedAt a t) :
    outAt a m ρ c t = VO.read (Elt Ideal) (VO.writes (Elt Ideal) VO.junk runC.sl.HO_1) := by
  have e := runC_eq c (ms0 a t) (hs0 a t) (crd a t) (ms1 a t) (hs1 a t) (ms2 a t) (hs2 a t) (T0 a) (T1 a) q hu ((cond3_iff _ _).2 hu)
  unfold outAt
  rw [dif_neg q, dif_neg hu]
  exact congrArg (fun L => VO.read (Elt Ideal) (VO.writes (Elt Ideal) VO.junk L)) e

/-- A used tile's block, from a scratch buffer that holds its expert's weights. -/
theorem outB_at (t : Fin (cfgA a).N) (hu : UsedAt a t) (s : Scr c) (e : Fin 32) (hs : Holds m c s e) (n : Fin 8192) (l : Fin 128) :
    outFn (pieces (runB.sl.r_3 c (ms0 a t) (iblk a m ρ c (0 : Fin 3) t) s)) (ix2 n l)
      = expertDot (XA m c) (WA m c) ⟨t.val * 256 + n.val / 32, by have := tlt a t; omega⟩ e ⟨128 * (n.val % 32) + l.val, by omega⟩ :=
  (outB_apply c (ms0 a t) (iblk a m ρ c (0 : Fin 3) t) s n l).trans (dotRow_eq a m ρ c t hu s e hs ⟨n.val / 32, by omega⟩ ⟨128 * (n.val % 32) + l.val, by omega⟩)

include hg in
/-- What tile `t` leaves in its block. -/
theorem outAt_apply (t : Fin (cfgA a).N) (n : Fin 8192) (l : Fin 128) :
    outAt a m ρ c t (ix2 n l) = result a m c (ix2 ⟨t.val * 8192 + n.val, by have := tlt a t; omega⟩ l) := by
  have ht := tlt a t
  have hd : (t.val * 8192 + n.val) / 8192 = t.val := by omega
  have hr : (t.val * 8192 + n.val) / 32 = t.val * 256 + n.val / 32 := by omega
  have hm : (t.val * 8192 + n.val) % 32 = n.val % 32 := by omega
  unfold result
  rw [expertsDown_apply]
  by_cases hu : UsedAt a t
  · have hlt := (used_iff a t).1 hu
    rw [nuW_eq] at hlt
    rw [if_pos (by simp only [hd]; exact hlt)]
    simp only [hd, hr, hm]
    by_cases q : FreshAt a t
    · rw [outAt_A a m ρ c t q]
      exact outB_at a m ρ c t hu _ _ (holds_loaded a hg m ρ c t) n l
    · have hh := holds_after a hg m ρ c t.val t.isLt hu
      rw [scr_BC a m ρ c t q] at hh
      rw [outAt_B a m ρ c t q hu]
      exact outB_at a m ρ c t hu _ _ hh n l
  · have hlt := (used_iff a t).not.1 hu
    rw [nuW_eq] at hlt
    rw [if_neg (by simp only [hd]; exact hlt), outAt_C a m ρ c t (fun q => hu q.used) hu]
    exact outC_apply (ix2 n l)

/-- The output's blocks tile its array, whatever the tables hold. -/
theorem flush_2 (t : Fin (cfgA a).N) : ((cfgA a).win 2).flush t = true := by
  have h : ∀ t : Fin grid0.N, Pipeline.Window.flushOf grid0 true cc0_transform_2 t = true := by decide +kernel
  exact h t

theorem cover_2 : ((cfgA a).win 2).Covers := by
  refine ⟨fun x => ?_, fun β => ?_⟩
  · match x with
    | ⟨0, _⟩ => show 0 < 8192; omega
    | ⟨1, _⟩ => show 0 < 128; omega
  · have h0 : (β (0 : Fin 2)).val < 159 := Nat.lt_of_lt_of_eq (β (0 : Fin 2)).isLt (show (1302528 + 8192 - 1) / 8192 = 159 by norm_num)
    have h1 : (β (1 : Fin 2)).val < 1 := Nat.lt_of_lt_of_eq (β (1 : Fin 2)).isLt (show (128 + 128 - 1) / 128 = 1 by norm_num)
    have hN : (β (0 : Fin 2)).val < (cfgA a).N := Nat.lt_of_lt_of_eq h0 N_0.symm
    refine ⟨⟨(β (0 : Fin 2)).val, hN⟩, flush_2 a _, fun x => ?_⟩
    match x with
    | ⟨0, _⟩ => exact ⟨ix_2 a _, .inl rfl⟩
    | ⟨1, _⟩ => exact ⟨(ix_2' a _).trans (Nat.lt_one_iff.1 h1).symm, .inl rfl⟩

include hg in
/-- The launch's last array is the formula. -/
theorem final : (dats a m ρ 0 c).arrAt (2 : Fin 3) (cfgA a).N = result a m c := by
  refine (dats a m ρ 0 c).arrAt_eq_of_covers (2 : Fin 3) _ (cover_2 a) fun t hf y => ?_
  obtain ⟨r, f, rfl⟩ : ∃ (r : Fin 8192) (f : Fin 128), y = ix2 r f := ⟨y 0, y 1, eq_ix2 y⟩
  refine (outAt_apply a hg m ρ c t r f).trans (congrArg (result a m c) (funext fun x => Fin.ext ?_))
  match x with
  | ⟨0, _⟩ => exact ((Pipeline.Window.rect_emb_val ((cfgA a).win 2) t (ix2 r f) (0 : Fin 2) rfl).trans (congrArg (· * 8192 + r.val) (ix_2 a t))).symm
  | ⟨1, _⟩ => exact ((Pipeline.Window.rect_emb_val ((cfgA a).win 2) t (ix2 r f) (1 : Fin 2) rfl).trans ((congrArg (· * 128 + f.val) (ix_2' a t)).trans (show 0 * 128 + f.val = f.val by omega))).symm

include hg in
/-- The launch's run: its last array holds the formula and its arguments are as they were. -/
theorem run (hp : ∀ (c : Dev nD) (k : Fin 2), m ((c : Thread nD τ).loc (pre0.ref k)) = a.1 k) :
    θ_run (defs (F := Ideal)) (onTc (τ := τ) (main (F := Ideal))) ⟨m, fun _ => 0, ρ⟩ fun r => ∀ c : Dev nD,
      r.2.mem ((c.tc : Thread nD τ).loc main_v0) = result a m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_)
    (θ_run_and (frame_args a m ρ (first_fresh a hg) hp) (run_main a m ρ (first_fresh a hg) hp))
  exact ⟨((h.2.1 c).1 (2 : Fin 3)).trans (final a hg m ρ c), h.1.1 c⟩

end Cert.DownIdeal.Hand

end
-- ==== Proof.DownRef.Ref.lean ====
module

public import proofs.«01_k».proof.Proof.Gen.DownReferenceIdeal
public import proofs.«01_k».proof.Proof.Gen.DownReferenceIdeal.Read
public import proofs.«01_k».proof.Proof.DownIdeal.Formula
public import proofs.«01_k».proof.Proof.Moe.Gather

/-! The reference of the experts' second product is the formula. -/

@[expose] public section

set_option maxRecDepth 16384

noncomputable section

namespace Cert.DownReferenceIdeal.Hand

open Cert.DownReferenceIdeal Cert.DownReferenceIdeal.Gen Cert.DownReferenceIdeal.Read
open Idealize.ShloMosaic Cert.Moe Cert.DownIdeal.Hand

variable (x0 : S40704x512.Idx → EReal) (x1 : S159.Idx → BitVec 32) (x2 : S1.Idx → BitVec 32) (x3 : S2x32x512x4096.Idx → EReal)
  (h : ∀ j, (x1 j).toNat < 32)

include h in
/-- A row's expert. -/
theorem expert_apply (n : Fin 40704) (z : Fin 1) : val_main_v10 (F := Ideal) x1 (ix2 n z) = x1 (ix1 ⟨n.val / 256, by omega⟩) := by
  have e : val_main_v1 (F := Ideal) x1 (idx_main_v10 (ix2 n z)) = x1 (ix1 ⟨n.val / 256, by omega⟩) := by
    rw [val_main_v1_apply, val_main_v0_apply]
    exact congrArg x1 (funext fun a => match a with | ⟨0, _⟩ => rfl)
  rw [val_main_v10_apply, val_main_v9_apply, val_main_v6_apply, e, val_main_v5_apply, val_main_c_apply, not_slt_zero (h _)]
  rfl

/-- The weights' first array. -/
theorem weights_apply (e : Fin 32) (k : Fin 512) (j : Fin 4096) : val_main_v4 (F := Ideal) x3 (ix3 e k j) = x3 (ix4 0 e k j) := by
  rw [val_main_v4_apply, val_main_v3_apply]
  refine congrArg x3 (funext fun a => Fin.ext ?_)
  match a with
  | ⟨0, _⟩ => rfl
  | ⟨1, _⟩ => show ((e.val * 512 + k.val) * 4096 + j.val) / 2097152 % 32 = e.val; omega
  | ⟨2, _⟩ => show ((e.val * 512 + k.val) * 4096 + j.val) / 4096 % 512 = k.val; omega
  | ⟨3, _⟩ => show ((e.val * 512 + k.val) * 4096 + j.val) % 4096 = j.val; omega

include h in
/-- A row's product with its expert's weights. -/
theorem dot_apply (n : Fin 40704) (j : Fin 4096) : val_main_v12 (F := Ideal) x0 x1 x3 (ix2 n j)
    = expertDot x0 x3 n (expertOf x1 ⟨n.val / 256, by omega⟩) j := by
  rw [val_main_v12_apply]
  unfold expertDot
  refine Finset.sum_congr rfl fun k _ => congrArg₂ (· * ·) ?_ ?_
  · rw [val_main_v2_apply]
    refine congrArg x0 (funext fun a => Fin.ext ?_)
    match a with
    | ⟨0, _⟩ => rfl
    | ⟨1, _⟩ => rfl
  · refine (slab_taken (N := 32) (R := 512) (C := 4096) (B := 40704) (by omega) _ (val_main_v4 (F := Ideal) x3) (val_main_v10 (F := Ideal) x1) (ridx_main_v12 (ix2 n j) k)).trans ?_
    refine Eq.trans (congrArg (val_main_v4 (F := Ideal) x3) ?_) (weights_apply x3 (expertOf x1 ⟨n.val / 256, by omega⟩) k j)
    refine funext fun a => Fin.ext ?_
    match a with
    | ⟨0, _⟩ =>
      show min (val_main_v10 (F := Ideal) x1 (ix2 n 0)).toInt.toNat 31 = min (x1 (ix1 ⟨n.val / 256, by omega⟩)).toNat 31
      rw [expert_apply x1 h, toInt_of_lt (h _)]
    | ⟨1, _⟩ => rfl
    | ⟨2, _⟩ => rfl

/-- Whether a row's tile is in use. -/
theorem used_apply (n : Fin 40704) (f : Fin 4096) : val_main_call0_v1 (F := Ideal) x2 (ix2 n f)
    = BitVec.ofBool (decide (((n.val / 256 : ℕ) : ℤ) < (x2 (ix1 0)).toInt)) := by
  rw [val_main_call0_v1_apply, val_main_v19_apply, val_main_v18_apply, val_main_v17_apply, val_main_v16_apply, val_main_v13_apply,
    val_main_v15_apply]
  have e : val_main_v14 (F := Ideal) x2 (idx_main_v15 (idx_main_v17 (idx_main_v18 (idx_main_v19 (idx_main_call0_v1 (ix2 n f)))))) = x2 (ix1 0) := by
    unfold val_main_v14
    exact shapeCast_apply x2 shapeCasts_S1_S_ _ (ix1 0) rfl
  rw [e]
  show BitVec.ofBool ((BitVec.ofNat 32 (n.val / 256)).slt (x2 (ix1 0))) = _
  refine congrArg BitVec.ofBool (Bool.eq_iff_iff.2 ?_)
  rw [BitVec.slt_iff_toInt_lt, decide_eq_true_iff, BitVec.toInt_eq_toNat_cond, BitVec.toNat_ofNat, Nat.mod_eq_of_lt (by omega), if_pos (by omega)]

include h in
/-- The rows before they are cut into pieces of 128. -/
theorem rows_apply (n : Fin 40704) (f : Fin 4096) : val_main_v20 (F := Ideal) x0 x1 x2 x3 (ix2 n f)
    = if ((n.val / 256 : ℕ) : ℤ) < (x2 (ix1 0)).toInt then expertDot x0 x3 n (expertOf x1 ⟨n.val / 256, by omega⟩) f else 0 := by
  rw [val_main_v20_apply, used_apply]
  by_cases hu : ((n.val / 256 : ℕ) : ℤ) < (x2 (ix1 0)).toInt
  · rw [if_pos hu, decide_eq_true hu]
    refine Eq.trans (b := val_main_v12 (F := Ideal) x0 x1 x3 (ix2 n f)) rfl ?_
    exact dot_apply x0 x1 x3 h n f
  · rw [if_neg hu, decide_eq_false hu]
    refine Eq.trans (b := val_main_call0_v2 (F := Ideal) (ix2 n f)) rfl ?_
    rw [val_main_call0_v2_apply, val_main_call0_v0_apply, val_main_cst_apply]
    exact Ideal.ofBits_zero_f32

include h in
/-- The reference, element by element. -/
theorem ref_apply (n : Fin 1302528) (l : Fin 128) : val_main_v22 (F := Ideal) x0 x1 x2 x3 (ix2 n l) = expertsDown x0 x1 x2 x3 (ix2 n l) := by
  rw [expertsDown_apply, val_main_v22_apply, val_main_v21_apply]
  have e : idx_main_v22 (ix2 n l) = ix2 ⟨n.val / 32, by omega⟩ ⟨128 * (n.val % 32) + l.val, by omega⟩ := by
    refine funext fun a => Fin.ext ?_
    match a with
    | ⟨0, _⟩ => show (n.val * 128 + l.val) / 4096 = n.val / 32; omega
    | ⟨1, _⟩ => show (n.val * 128 + l.val) % 4096 = 128 * (n.val % 32) + l.val; omega
  rw [e]
  refine (rows_apply x0 x1 x2 x3 h _ _).trans ?_
  have hd : n.val / 32 / 256 = n.val / 8192 := by omega
  simp only [hd]

include h in
/-- The reference is the formula. -/
theorem ref_eq : val_main_v22 (F := Ideal) x0 x1 x2 x3 = expertsDown x0 x1 x2 x3 := by
  funext i
  have e : i = ix2 (i 0) (i 1) := eq_ix2 i
  rw [e]
  exact ref_apply x0 x1 x2 x3 h (i 0) (i 1)

end Cert.DownReferenceIdeal.Hand

end
-- ==== Proof.ProjIdeal.Array.lean ====
/-
  The array the linear attention's input projection leaves, as a closed formula of the two arrays it is given.
-/
module

public import proofs.«01_k».proof.Proof.Gen.ProjIdeal.Frame
public import Idealize.ShloMosaic.Lib.Pointwise
public import Idealize.ShloMosaic.Lib.Pipeline.ValueKit
public import Idealize.ShloMosaic.Lib.IdealHost
public import Idealize.ShloMosaic.Lib.StableHlo.ReadAt
public import Idealize.ShloMosaic.Lib.WholeRead

@[expose] public section

set_option maxRecDepth 16384

noncomputable section

open Idealize.ShloMosaic Idealize.ShloMosaic.TcCoe Idealize.SL.Sem

namespace Cert.ProjIdeal.Val

open Cert.ProjIdeal Cert.ProjIdeal.Gen

/-- One row of the rows times one column of the weights. -/
def entry (x : S16384x4096.Idx → EReal) (w : S1x4096x12304.Idx → EReal) (n : Fin 16384) (j : Fin 12288) : EReal :=
  ∑ k : Fin 4096, x (ix2 n k) * w (ix3 0 k ⟨j.val, by omega⟩)

/-- The whole array. -/
def projected (x : S16384x4096.Idx → EReal) (w : S1x4096x12304.Idx → EReal) : S16384x12288.Idx → EReal :=
  fun i => entry x w (i 0) (i 1)

variable (m : (ℓ : Loc nD τ sig) → Buf (Elt Ideal) ℓ) (ρ : Dev nD → PrngReg)

/-- The arguments' formula over a memory's own arrays. -/
abbrev result (c : Dev nD) : S16384x12288.Idx → EReal :=
  projected (m ((c : Thread nD τ).loc main_arg0)) (m ((c : Thread nD τ).loc main_arg1))

/-- The weights the launch reads are the argument's only matrix. -/
theorem weights_apply (c : Dev nD) (k : Fin 4096) (j : Fin 12304) :
    V m c main_v1 (ix2 k j) = m ((c : Thread nD τ).loc main_arg1) (ix3 0 k j) := by
  after_reads_at

theorem idx0 : ∀ t, win0_0.index t = ![t.val / 12, 0] := (by decide +kernel : ∀ t : Fin grid0.N, win0_0.index t = ![t.val / 12, 0])
theorem idx1 : ∀ t, win0_1.index t = ![0, t.val % 12] := (by decide +kernel : ∀ t : Fin grid0.N, win0_1.index t = ![0, t.val % 12])
theorem idx2 : ∀ t, win0_2.index t = ![t.val / 12, t.val % 12] :=
  (by decide +kernel : ∀ t : Fin grid0.N, win0_2.index t = ![t.val / 12, t.val % 12])

variable (c : Dev nD) (t : Fin grid0.N)

theorem lt_points : t.val < 192 := by
  have h := t.isLt
  have e : grid0.N = 192 := by decide
  omega

/-- The rows of block `t`. -/
theorem blk0 (a : Fin 1024) (k : Fin 4096) : iblk m c 0 t (ix2 a k)
    = m ((c : Thread nD τ).loc main_arg0) (ix2 ⟨t.val / 12 * 1024 + a.val, by have := lt_points t; omega⟩ k) := by
  refine Eq.trans ?_ (congrFun (V_main_arg0 m c) _)
  blk_ext [iblk, idx0 t]

/-- The weights' columns of block `t`. -/
theorem blk1_raw (k : Fin 4096) (b : Fin 1024) (y : ((cfg0.win 1).xblock (cfg0.grid.coords t)).Idx)
    (hk : (y 0).val = k.val) (hb : (y 1).val = b.val) : iblk m c 1 t y
    = m ((c : Thread nD τ).loc main_arg1) (ix3 0 k ⟨t.val % 12 * 1024 + b.val, by omega⟩) := by
  refine Eq.trans ?_ (weights_apply m c k ⟨t.val % 12 * 1024 + b.val, by omega⟩)
  blk_ext [iblk, idx1 t]

/-- The weights' columns of block `t`, as the body finds them: no block is cut. -/
theorem blk1 (k : Fin 4096) (b : Fin 1024) : X0_1 m c t (ix2 k b)
    = m ((c : Thread nD τ).loc main_arg1) (ix3 0 k ⟨t.val % 12 * 1024 + b.val, by omega⟩) := by
  unfold X0_1 Pipeline.Window.fill
  exact (dif_pos (moved0_1 t _)).trans (blk1_raw m c t k b _ rfl rfl)

/-- A block's stored value is the product of its rows and columns. -/
theorem out_apply (i : grid0.Coords) (arg2 : Memref sig .tc .vmem S1024x4096 .bf16) (harg2 : arg2.IsWhole)
    (arg3 : Memref sig .tc .vmem S4096x1024 .bf16) (harg3 : arg3.IsWhole) (arg4 : Memref sig .tc .vmem S1024x1024 .bf16)
    (harg4 : arg4.IsWhole) (x0 : Vec Ideal S1024x4096 .bf16) (x1 : Vec Ideal S4096x1024 .bf16) (a b : Fin 1024) :
    out0_A_2 c i arg2 harg2 arg3 harg3 arg4 harg4 x0 x1 (ix2 a b) = ∑ k : Fin 4096, x0 (ix2 a k) * x1 (ix2 k b) := by
  refine Eq.trans (congrFun (View.read_writes_eq_canon _ _ _ (cover0_A_2 c i arg2 harg2 arg3 harg3 arg4 harg4 x0 x1)) _) ?_
  unfold kernelRun0_A
  dsimp only
  canon_tiles x h
  obtain ⟨a', b', rfl⟩ : ∃ (a : Fin 1024) (b : Fin 1024), x = ix2 a b := ⟨x 0, x 1, eq_ix2 x⟩
  obtain rfl : a = a' := Fin.ext h0
  obtain rfl : b = b' := Fin.ext h1
  pointwise [k0_pay1]
  refine Finset.sum_congr rfl fun k _ => congrArg₂ (· * ·) ?_ ?_
  · rw [harg2.readAt_unread]
    congr 1
    ext e; fin_cases e <;> simp [Rect.unit, LoadRect.idx]
  · rw [harg3.readAt_unread]
    congr 1
    ext e; fin_cases e <;> simp [Rect.unit, LoadRect.idx]

/-- The launch's last array is that formula. -/
theorem final : (dats m 0 c).arrAt 2 cfg0.N = result m c := by
  refine (dats m 0 c).arrAt_eq_of_covers 2 _ (by decide +kernel) fun t hf y => ?_
  blk_simp
  rw [after0_2, outsAt0]
  obtain ⟨a, b, rfl⟩ : ∃ (a : Fin 1024) (b : Fin 1024), y = ix2 a b := ⟨y 0, y 1, eq_ix2 y⟩
  have ht := lt_points t
  rw [out_apply]
  refine Eq.trans (b := entry (m ((c : Thread nD τ).loc main_arg0)) (m ((c : Thread nD τ).loc main_arg1))
    ⟨t.val / 12 * 1024 + a.val, by omega⟩ ⟨t.val % 12 * 1024 + b.val, by omega⟩) ?_ ?_
  · unfold entry
    exact Finset.sum_congr rfl fun k _ => by rw [blk0, blk1]
  · show projected _ _ (ix2 _ _) = _
    unfold result
    blk_ext [idx2 t]

/-- The launch's run: its last array holds the formula and its arguments are as they were. -/
theorem run : θ_run defs (onTc (τ := τ) (main (F := Ideal))) ⟨m, fun _ => 0, ρ⟩ fun r => ∀ c : Dev nD,
    r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (θ_run_and (unchanged m ρ) (run_main m ρ))
  exact ⟨((h.2 c).1 2).trans (final m c), h.1 c⟩

end Cert.ProjIdeal.Val

end
-- ==== Proof.ProjRef.Ref.lean ====
/-
  The array the linear attention's input projection's reference computes, as the same closed formula.
-/
module

public import proofs.«01_k».proof.Proof.Gen.ProjReferenceIdeal
public import proofs.«01_k».proof.Proof.Gen.ProjReferenceIdeal.Read
public import Idealize.ShloMosaic.Lib.Pipeline.ValueKit
public import Idealize.ShloMosaic.Lib.IdealHost

@[expose] public section

noncomputable section

open Idealize.ShloMosaic

namespace Cert.ProjRef

open Cert.ProjReferenceIdeal Cert.ProjReferenceIdeal.Read

/-- The reference's array at row `n` and column `j`. -/
theorem ref_apply (x : S16384x4096.Idx → EReal) (w : S1x4096x12304.Idx → EReal) (n : Fin 16384) (j : Fin 12288) :
    val_main_v4 (F := Ideal) x w (ix2 n j) = ∑ k : Fin 4096, x (ix2 n k) * w (ix3 0 k ⟨j.val, by omega⟩) := by
  rw [val_main_v4_apply, val_main_v3_apply]
  refine (val_main_v2_apply x w _).trans (Finset.sum_congr rfl fun k _ => ?_)
  rw [val_main_v1_apply]
  refine congrArg₂ (· * ·) (congrArg x ?_) (congrArg w ?_)
  · ext a; fin_cases a <;> rfl
  · have hk := k.isLt
    have hj := j.isLt
    ext a; fin_cases a
    · rfl
    · show (k.val * 12304 + j.val) / 12304 % 4096 = k.val; omega
    · show (k.val * 12304 + j.val) % 12304 = j.val; omega

end Cert.ProjRef

end
-- ==== Proof.QueryIdeal.Array.lean ====
/-
  The array the attention's query projection leaves, as a closed formula of the two arrays it is given.
-/
module

public import proofs.«01_k».proof.Proof.Gen.QueryIdeal.Frame
public import Idealize.ShloMosaic.Lib.Pointwise
public import Idealize.ShloMosaic.Lib.Pipeline.ValueKit
public import Idealize.ShloMosaic.Lib.IdealHost
public import Idealize.ShloMosaic.Lib.StableHlo.ReadAt

@[expose] public section

set_option maxRecDepth 16384

noncomputable section

open Idealize.ShloMosaic Idealize.ShloMosaic.TcCoe Idealize.SL.Sem

namespace Cert.QueryIdeal.Val

open Cert.QueryIdeal Cert.QueryIdeal.Gen

/-- One row of the rows times one column of the weights. -/
def entry (x : S16384x4096.Idx → EReal) (w : S1x4096x4096.Idx → EReal) (n : Fin 16384) (j : Fin 4096) : EReal :=
  ∑ k : Fin 4096, x (ix2 n k) * w (ix3 0 k j)

/-- The whole array. -/
def projected (x : S16384x4096.Idx → EReal) (w : S1x4096x4096.Idx → EReal) : S16384x4096.Idx → EReal :=
  fun i => entry x w (i 0) (i 1)

variable (m : (ℓ : Loc nD τ sig) → Buf (Elt Ideal) ℓ) (ρ : Dev nD → PrngReg)

/-- The arguments' formula over a memory's own arrays. -/
abbrev result (c : Dev nD) : S16384x4096.Idx → EReal :=
  projected (m ((c : Thread nD τ).loc main_arg0)) (m ((c : Thread nD τ).loc main_arg1))

/-- The weights the launch reads are the argument's only matrix. -/
theorem weights_apply (c : Dev nD) (k : Fin 4096) (j : Fin 4096) :
    V m c main_v1 (ix2 k j) = m ((c : Thread nD τ).loc main_arg1) (ix3 0 k j) := by
  after_reads_at

theorem idx0 : ∀ t, win0_0.index t = ![t.val / 4, 0] := (by decide +kernel : ∀ t : Fin grid0.N, win0_0.index t = ![t.val / 4, 0])
theorem idx1 : ∀ t, win0_1.index t = ![0, t.val % 4] := (by decide +kernel : ∀ t : Fin grid0.N, win0_1.index t = ![0, t.val % 4])
theorem idx2 : ∀ t, win0_2.index t = ![t.val / 4, t.val % 4] :=
  (by decide +kernel : ∀ t : Fin grid0.N, win0_2.index t = ![t.val / 4, t.val % 4])

variable (c : Dev nD) (t : Fin grid0.N)

theorem lt_points : t.val < 64 := by
  have h := t.isLt
  have e : grid0.N = 64 := by decide
  omega

/-- The rows of block `t`. -/
theorem blk0 (a : Fin 1024) (k : Fin 4096) : iblk m c 0 t (ix2 a k)
    = m ((c : Thread nD τ).loc main_arg0) (ix2 ⟨t.val / 4 * 1024 + a.val, by have := lt_points t; omega⟩ k) := by
  refine Eq.trans ?_ (congrFun (V_main_arg0 m c) _)
  blk_ext [iblk, idx0 t]

/-- The weights' columns of block `t`. -/
theorem blk1 (k : Fin 4096) (b : Fin 1024) : iblk m c 1 t (ix2 k b)
    = m ((c : Thread nD τ).loc main_arg1) (ix3 0 k ⟨t.val % 4 * 1024 + b.val, by omega⟩) := by
  refine Eq.trans ?_ (weights_apply m c k ⟨t.val % 4 * 1024 + b.val, by omega⟩)
  blk_ext [iblk, idx1 t]

/-- A block's stored value is the product of its rows and columns. -/
theorem out_apply (x0 : Vec Ideal S1024x4096 .bf16) (x1 : Vec Ideal S4096x1024 .bf16) (a b : Fin 1024) :
    out0_2 x0 x1 (ix2 a b) = ∑ k : Fin 4096, x0 (ix2 a k) * x1 (ix2 k b) := by
  unfold out0_2
  canon_tiles x h
  obtain ⟨a', b', rfl⟩ : ∃ (a : Fin 1024) (b : Fin 1024), x = ix2 a b := ⟨x 0, x 1, eq_ix2 x⟩
  obtain rfl : a = a' := Fin.ext h0
  obtain rfl : b = b' := Fin.ext h1
  pointwise [k0_pay1, r0_0, r0_1]

/-- The launch's last array is that formula. -/
theorem final : (dats m 0 c).arrAt 2 cfg0.N = result m c := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  have ht := lt_points t
  rw [out_apply]
  refine Eq.trans (b := entry (m ((c : Thread nD τ).loc main_arg0)) (m ((c : Thread nD τ).loc main_arg1))
    ⟨t.val / 4 * 1024 + a.val, by omega⟩ ⟨t.val % 4 * 1024 + b.val, by omega⟩) ?_ ?_
  · unfold entry
    exact Finset.sum_congr rfl fun k _ => by rw [blk0, blk1]
  · show projected _ _ (ix2 _ _) = _
    unfold result
    blk_ext [idx2 t]

/-- The launch's run: its last array holds the formula and its arguments are as they were. -/
theorem run : θ_run defs (onTc (τ := τ) (main (F := Ideal))) ⟨m, fun _ => 0, ρ⟩ fun r => ∀ c : Dev nD,
    r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (θ_run_and (unchanged m ρ) (run_main m ρ))
  exact ⟨((h.2 c).1 2).trans (final m c), h.1 c⟩

end Cert.QueryIdeal.Val

end
-- ==== Proof.QueryRef.Ref.lean ====
/-
  The array the query projection's reference computes, as the same closed formula.
-/
module

public import proofs.«01_k».proof.Proof.Gen.QueryReferenceIdeal
public import proofs.«01_k».proof.Proof.Gen.QueryReferenceIdeal.Read
public import Idealize.ShloMosaic.Lib.Pipeline.ValueKit
public import Idealize.ShloMosaic.Lib.IdealHost

@[expose] public section

noncomputable section

open Idealize.ShloMosaic

namespace Cert.QueryRef

open Cert.QueryReferenceIdeal Cert.QueryReferenceIdeal.Read

/-- The reference's array at row `n` and column `j`. -/
theorem ref_apply (x : S16384x4096.Idx → EReal) (w : S1x4096x4096.Idx → EReal) (n : Fin 16384) (j : Fin 4096) :
    val_main_v3 (F := Ideal) x w (ix2 n j) = ∑ k : Fin 4096, x (ix2 n k) * w (ix3 0 k j) := by
  rw [val_main_v3_apply]
  refine (val_main_v2_apply x w _).trans (Finset.sum_congr rfl fun k _ => ?_)
  rw [val_main_v1_apply]
  refine congrArg₂ (· * ·) (congrArg x ?_) (congrArg w ?_)
  · ext a; fin_cases a <;> rfl
  · have hk := k.isLt
    have hj := j.isLt
    ext a; fin_cases a
    · rfl
    · show (k.val * 4096 + j.val) / 4096 % 4096 = k.val; omega
    · show (k.val * 4096 + j.val) % 4096 = j.val; omega

end Cert.QueryRef

end
-- ==== Proof.AddedIdeal.Array.lean ====
/-
  The array an output projection with its residual leaves, as a closed formula of the three arrays it is given.
-/
module

public import proofs.«01_k».proof.Proof.Gen.AddedIdeal.Frame
public import Idealize.ShloMosaic.Lib.Pointwise
public import Idealize.ShloMosaic.Lib.Pipeline.ValueKit
public import Idealize.ShloMosaic.Lib.IdealHost
public import Idealize.ShloMosaic.Lib.StableHlo.ReadAt

@[expose] public section

set_option maxRecDepth 16384

noncomputable section

open Idealize.ShloMosaic Idealize.ShloMosaic.TcCoe Idealize.SL.Sem

namespace Cert.AddedIdeal.Val

open Cert.AddedIdeal Cert.AddedIdeal.Gen

/-- One row of the rows times one column of the weights, added to the residual. -/
def entry (x : S16384x4096.Idx → EReal) (w : S1x4096x4096.Idx → EReal) (h : S16384x4096.Idx → EReal) (n : Fin 16384) (j : Fin 4096) : EReal :=
  (∑ k : Fin 4096, x (ix2 n k) * w (ix3 0 k j)) + h (ix2 n j)

/-- The whole array. -/
def added (x : S16384x4096.Idx → EReal) (w : S1x4096x4096.Idx → EReal) (h : S16384x4096.Idx → EReal) : S16384x4096.Idx → EReal :=
  fun i => entry x w h (i 0) (i 1)

variable (m : (ℓ : Loc nD τ sig) → Buf (Elt Ideal) ℓ) (ρ : Dev nD → PrngReg)

/-- The arguments' formula over a memory's own arrays. -/
abbrev result (c : Dev nD) : S16384x4096.Idx → EReal :=
  added (m ((c : Thread nD τ).loc main_arg0)) (m ((c : Thread nD τ).loc main_arg1))
    (m ((c : Thread nD τ).loc main_arg2))

/-- The weights the launch reads are the argument's only matrix. -/
theorem weights_apply (c : Dev nD) (k : Fin 4096) (j : Fin 4096) :
    V m c main_v1 (ix2 k j) = m ((c : Thread nD τ).loc main_arg1) (ix3 0 k j) := by
  after_reads_at

theorem idx0 : ∀ t, win0_0.index t = ![t.val / 4, 0] := (by decide +kernel : ∀ t : Fin grid0.N, win0_0.index t = ![t.val / 4, 0])
theorem idx1 : ∀ t, win0_1.index t = ![0, t.val % 4] := (by decide +kernel : ∀ t : Fin grid0.N, win0_1.index t = ![0, t.val % 4])
theorem idx2 : ∀ t, win0_2.index t = ![t.val / 4, t.val % 4] :=
  (by decide +kernel : ∀ t : Fin grid0.N, win0_2.index t = ![t.val / 4, t.val % 4])
theorem idx3 : ∀ t, win0_3.index t = ![t.val / 4, t.val % 4] :=
  (by decide +kernel : ∀ t : Fin grid0.N, win0_3.index t = ![t.val / 4, t.val % 4])

variable (c : Dev nD) (t : Fin grid0.N)

theorem lt_points : t.val < 64 := by
  have h := t.isLt
  have e : grid0.N = 64 := by decide
  omega

/-- The rows of block `t`. -/
theorem blk0 (a : Fin 1024) (k : Fin 4096) : iblk m c 0 t (ix2 a k)
    = m ((c : Thread nD τ).loc main_arg0) (ix2 ⟨t.val / 4 * 1024 + a.val, by have := lt_points t; omega⟩ k) := by
  refine Eq.trans ?_ (congrFun (V_main_arg0 m c) _)
  blk_ext [iblk, idx0 t]

/-- The weights' columns of block `t`. -/
theorem blk1 (k : Fin 4096) (b : Fin 1024) : iblk m c 1 t (ix2 k b)
    = m ((c : Thread nD τ).loc main_arg1) (ix3 0 k ⟨t.val % 4 * 1024 + b.val, by omega⟩) := by
  refine Eq.trans ?_ (weights_apply m c k ⟨t.val % 4 * 1024 + b.val, by omega⟩)
  blk_ext [iblk, idx1 t]

/-- The residual of block `t`. -/
theorem blk2 (a : Fin 1024) (b : Fin 1024) : iblk m c 2 t (ix2 a b)
    = m ((c : Thread nD τ).loc main_arg2) (ix2 ⟨t.val / 4 * 1024 + a.val, by have := lt_points t; omega⟩
        ⟨t.val % 4 * 1024 + b.val, by omega⟩) := by
  refine Eq.trans ?_ (congrFun (V_main_arg2 m c) _)
  blk_ext [iblk, idx2 t]

/-- A block's stored value is the product of its rows and columns with the residual added. -/
theorem out_apply (x0 : Vec Ideal S1024x4096 .bf16) (x1 : Vec Ideal S4096x1024 .bf16)
    (x2 : Vec Ideal S1024x1024 .f32) (a b : Fin 1024) :
    out0_3 x0 x1 x2 (ix2 a b) = (∑ k : Fin 4096, x0 (ix2 a k) * x1 (ix2 k b)) + x2 (ix2 a b) := by
  unfold out0_3
  canon_tiles x h
  obtain ⟨a', b', rfl⟩ : ∃ (a : Fin 1024) (b : Fin 1024), x = ix2 a b := ⟨x 0, x 1, eq_ix2 x⟩
  obtain rfl : a = a' := Fin.ext h0
  obtain rfl : b = b' := Fin.ext h1
  pointwise [k0_pay1, r0_0, r0_1, r0_2]

/-- The launch's last array is that formula. -/
theorem final : (dats m 0 c).arrAt 3 cfg0.N = result m c := by
  refine (dats m 0 c).arrAt_eq_of_covers 3 _ (by decide +kernel) fun t hf y => ?_
  blk_simp
  rw [after0_3]
  obtain ⟨a, b, rfl⟩ : ∃ (a : Fin 1024) (b : Fin 1024), y = ix2 a b := ⟨y 0, y 1, eq_ix2 y⟩
  have ht := lt_points t
  rw [out_apply]
  refine Eq.trans (b := entry (m ((c : Thread nD τ).loc main_arg0)) (m ((c : Thread nD τ).loc main_arg1))
    (m ((c : Thread nD τ).loc main_arg2)) ⟨t.val / 4 * 1024 + a.val, by omega⟩ ⟨t.val % 4 * 1024 + b.val, by omega⟩) ?_ ?_
  · unfold entry
    exact congrArg₂ (· + ·) (Finset.sum_congr rfl fun k _ => by rw [blk0, blk1]) (blk2 m c t a b)
  · show added _ _ _ (ix2 _ _) = _
    unfold result
    blk_ext [idx3 t]

/-- The launch's run: its last array holds the formula and its arguments are as they were. -/
theorem run : θ_run defs (onTc (τ := τ) (main (F := Ideal))) ⟨m, fun _ => 0, ρ⟩ fun r => ∀ c : Dev nD,
    r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (θ_run_and (unchanged m ρ) (run_main m ρ))
  exact ⟨((h.2 c).1 3).trans (final m c), h.1 c⟩

end Cert.AddedIdeal.Val

end
-- ==== Proof.AddedRef.Ref.lean ====
/-
  The array the reference of an output projection with its residual computes, as the same closed formula.
-/
module

public import proofs.«01_k».proof.Proof.Gen.AddedReferenceIdeal
public import proofs.«01_k».proof.Proof.Gen.AddedReferenceIdeal.Read
public import Idealize.ShloMosaic.Lib.Pipeline.ValueKit
public import Idealize.ShloMosaic.Lib.IdealHost

@[expose] public section

noncomputable section

open Idealize.ShloMosaic

namespace Cert.AddedRef

open Cert.AddedReferenceIdeal Cert.AddedReferenceIdeal.Read

/-- The reference's array at row `n` and column `j`. -/
theorem ref_apply (x : S16384x4096.Idx → EReal) (w : S1x4096x4096.Idx → EReal) (h : S16384x4096.Idx → EReal) (n : Fin 16384) (j : Fin 4096) :
    val_main_v3 (F := Ideal) x w h (ix2 n j) = (∑ k : Fin 4096, x (ix2 n k) * w (ix3 0 k j)) + h (ix2 n j) := by
  rw [val_main_v3_apply]
  refine (add_comm _ _).trans (congrArg (· + h (ix2 n j)) ?_)
  refine (val_main_v2_apply x w _).trans (Finset.sum_congr rfl fun k _ => ?_)
  rw [val_main_v1_apply]
  refine congrArg₂ (· * ·) (congrArg x ?_) (congrArg w ?_)
  · ext a; fin_cases a <;> rfl
  · have hk := k.isLt
    have hj := j.isLt
    ext a; fin_cases a
    · rfl
    · show (k.val * 4096 + j.val) / 4096 % 4096 = k.val; omega
    · show (k.val * 4096 + j.val) % 4096 = j.val; omega

end Cert.AddedRef

end
-- ==== Proof.SharedIdeal.Tables.lean ====
/-
  The two literal tables of the projection to the shared keys and values: which column belongs to which head. The tables print as
  trees of short tables; many of the short ones are the same, so only a few are read entry by entry.
-/
module

public import proofs.«01_k».proof.SharedIdeal
public import Mathlib.Tactic.IntervalCases

@[expose] public section

noncomputable section

open Idealize.ShloMosaic

namespace Cert.SharedIdeal.Val

open Cert.SharedIdeal

/-- The bits of one and of zero. -/
abbrev bit (p : Prop) [Decidable p] : BitVec 16 := if p then 0x3F80#16 else 0x0000#16

/-- A row of the first table, of a column of head 0. -/
theorem node0_0 (i : ℕ) : lit0t0_0 i = bit ((i % 128) = 0) := by
  have h : ∀ j : Fin 128, lit0t0_0 j.val = bit (j.val = 0) := by decide +kernel
  refine Eq.trans ?_ (h ⟨i % 128, Nat.mod_lt _ (by decide)⟩)
  unfold lit0t0_0
  rw [Nat.mod_mod]

/-- A row of the first table, of a column of head 1. -/
theorem node0_64 (i : ℕ) : lit0t0_64 i = bit ((i % 128) = 1) := by
  have h : ∀ j : Fin 128, lit0t0_64 j.val = bit (j.val = 1) := by decide +kernel
  refine Eq.trans ?_ (h ⟨i % 128, Nat.mod_lt _ (by decide)⟩)
  unfold lit0t0_64
  rw [Nat.mod_mod]

/-- A row of the first table, of a column of head 2. -/
theorem node0_128 (i : ℕ) : lit0t0_128 i = bit ((i % 128) = 2) := by
  have h : ∀ j : Fin 128, lit0t0_128 j.val = bit (j.val = 2) := by decide +kernel
  refine Eq.trans ?_ (h ⟨i % 128, Nat.mod_lt _ (by decide)⟩)
  unfold lit0t0_128
  rw [Nat.mod_mod]

/-- A row of the first table, of a column of head 3. -/
theorem node0_192 (i : ℕ) : lit0t0_192 i = bit ((i % 128) = 3) := by
  have h : ∀ j : Fin 128, lit0t0_192 j.val = bit (j.val = 3) := by decide +kernel
  refine Eq.trans ?_ (h ⟨i % 128, Nat.mod_lt _ (by decide)⟩)
  unfold lit0t0_192
  rw [Nat.mod_mod]

/-- A row of the first table, of a column of head 4. -/
theorem node0_256 (i : ℕ) : lit0t0_256 i = bit ((i % 128) = 4) := by
  have h : ∀ j : Fin 128, lit0t0_256 j.val = bit (j.val = 4) := by decide +kernel
  refine Eq.trans ?_ (h ⟨i % 128, Nat.mod_lt _ (by decide)⟩)
  unfold lit0t0_256
  rw [Nat.mod_mod]

/-- A row of the first table, of a column of head 5. -/
theorem node0_320 (i : ℕ) : lit0t0_320 i = bit ((i % 128) = 5) := by
  have h : ∀ j : Fin 128, lit0t0_320 j.val = bit (j.val = 5) := by decide +kernel
  refine Eq.trans ?_ (h ⟨i % 128, Nat.mod_lt _ (by decide)⟩)
  unfold lit0t0_320
  rw [Nat.mod_mod]

/-- A row of the first table, of a column of head 6. -/
theorem node0_384 (i : ℕ) : lit0t0_384 i = bit ((i % 128) = 6) := by
  have h : ∀ j : Fin 128, lit0t0_384 j.val = bit (j.val = 6) := by decide +kernel
  refine Eq.trans ?_ (h ⟨i % 128, Nat.mod_lt _ (by decide)⟩)
  unfold lit0t0_384
  rw [Nat.mod_mod]

/-- A row of the first table, of a column of head 7. -/
theorem node0_448 (i : ℕ) : lit0t0_448 i = bit ((i % 128) = 7) := by
  have h : ∀ j : Fin 128, lit0t0_448 j.val = bit (j.val = 7) := by decide +kernel
  refine Eq.trans ?_ (h ⟨i % 128, Nat.mod_lt _ (by decide)⟩)
  unfold lit0t0_448
  rw [Nat.mod_mod]

/-- A stretch of the second table that a head begins. -/
theorem node1_0 (i : ℕ) : lit1t0_0 i = bit ((i % 128) < 64) := by
  have h : ∀ j : Fin 128, lit1t0_0 j.val = bit (j.val < 64) := by decide +kernel
  refine Eq.trans ?_ (h ⟨i % 128, Nat.mod_lt _ (by decide)⟩)
  unfold lit1t0_0
  rw [Nat.mod_mod]

/-- A stretch of the second table that a head ends. -/
theorem node1_4 (i : ℕ) : lit1t0_4 i = bit (64 ≤ (i % 128)) := by
  have h : ∀ j : Fin 128, lit1t0_4 j.val = bit (64 ≤ j.val) := by decide +kernel
  refine Eq.trans ?_ (h ⟨i % 128, Nat.mod_lt _ (by decide)⟩)
  unfold lit1t0_4
  rw [Nat.mod_mod]

/-- A stretch of the second table that no head meets. -/
theorem node1_511 (i : ℕ) : lit1t0_511 i = bit (False) := by
  have h : ∀ j : Fin 128, lit1t0_511 j.val = bit (False) := by decide +kernel
  refine Eq.trans ?_ (h ⟨i % 128, Nat.mod_lt _ (by decide)⟩)
  unfold lit1t0_511
  rw [Nat.mod_mod]

/-- The rows of the first table's part 0. -/
theorem level0_0 (i d : ℕ) (h : i / 128 % 128 = d) (hd : d < 128) : lit0t1_0 i = if d < 64 then lit0t0_0 i else lit0t0_64 i := by
  unfold lit0t1_0
  rw [h]
  clear h
  interval_cases d <;> rfl

/-- The rows of the first table's part 1. -/
theorem level0_1 (i d : ℕ) (h : i / 128 % 128 = d) (hd : d < 128) : lit0t1_1 i = if d < 64 then lit0t0_128 i else lit0t0_192 i := by
  unfold lit0t1_1
  rw [h]
  clear h
  interval_cases d <;> rfl

/-- The rows of the first table's part 2. -/
theorem level0_2 (i d : ℕ) (h : i / 128 % 128 = d) (hd : d < 128) : lit0t1_2 i = if d < 64 then lit0t0_256 i else lit0t0_320 i := by
  unfold lit0t1_2
  rw [h]
  clear h
  interval_cases d <;> rfl

/-- The rows of the first table's part 3. -/
theorem level0_3 (i d : ℕ) (h : i / 128 % 128 = d) (hd : d < 128) : lit0t1_3 i = if d < 64 then lit0t0_384 i else lit0t0_448 i := by
  unfold lit0t1_3
  rw [h]
  clear h
  interval_cases d <;> rfl

/-- The stretches of the second table's part 0. -/
theorem level1_0 (i d : ℕ) (h : i / 128 % 128 = d) (hd : d < 128) : lit1t1_0 i = if d < 32 ∧ d % 4 = d / 8 then (if d / 4 % 2 = 0 then lit1t0_0 i else lit1t0_4 i) else lit1t0_511 i := by
  unfold lit1t1_0
  rw [h]
  clear h
  interval_cases d <;> rfl

/-- The stretches of the second table's part 1. -/
theorem level1_1 (i d : ℕ) (h : i / 128 % 128 = d) (hd : d < 128) : lit1t1_1 i = lit1t0_511 i := by
  unfold lit1t1_1
  rw [h]
  clear h
  interval_cases d <;> rfl

/-- The stretches of the second table's part 2. -/
theorem level1_2 (i d : ℕ) (h : i / 128 % 128 = d) (hd : d < 128) : lit1t1_2 i = lit1t0_511 i := by
  unfold lit1t1_2
  rw [h]
  clear h
  interval_cases d <;> rfl

/-- The stretches of the second table's part 3. -/
theorem level1_3 (i d : ℕ) (h : i / 128 % 128 = d) (hd : d < 128) : lit1t1_3 i = lit1t0_511 i := by
  unfold lit1t1_3
  rw [h]
  clear h
  interval_cases d <;> rfl

/-- The first table's entry for column `r` and head `j`. -/
theorem table0 (r : Fin 512) (j : Fin 128) (i : Fin 65536) (hi : i.val = r.val * 128 + j.val) :
    lit0 i = bit (r.val / 64 = j.val) := by
  have hr := r.isLt
  have hj := j.isLt
  have hm : i.val % 128 = j.val := by omega
  have hd : i.val / 128 % 128 = r.val % 128 := by omega
  have hk : i.val / 16384 = r.val / 128 := by omega
  obtain ⟨i, hlt⟩ := i
  simp only at hi hm hd hk
  show lit0t i = _
  unfold lit0t
  rw [hk]
  have hc : r.val / 128 < 4 := by omega
  generalize hq : r.val / 128 = q at hc
  interval_cases q
  · refine (level0_0 i _ hd (by omega)).trans ?_
    split
    · rw [node0_0, hm]; exact if_congr (by omega) rfl rfl
    · rw [node0_64, hm]; exact if_congr (by omega) rfl rfl
  · refine (level0_1 i _ hd (by omega)).trans ?_
    split
    · rw [node0_128, hm]; exact if_congr (by omega) rfl rfl
    · rw [node0_192, hm]; exact if_congr (by omega) rfl rfl
  · refine (level0_2 i _ hd (by omega)).trans ?_
    split
    · rw [node0_256, hm]; exact if_congr (by omega) rfl rfl
    · rw [node0_320, hm]; exact if_congr (by omega) rfl rfl
  · refine (level0_3 i _ hd (by omega)).trans ?_
    split
    · rw [node0_384, hm]; exact if_congr (by omega) rfl rfl
    · rw [node0_448, hm]; exact if_congr (by omega) rfl rfl

/-- The second table's entry for head `j` and column `r`. -/
theorem table1 (j : Fin 128) (r : Fin 512) (i : Fin 65536) (hi : i.val = j.val * 512 + r.val) :
    lit1 i = bit (r.val / 64 = j.val) := by
  have hr := r.isLt
  have hj := j.isLt
  have hm : i.val % 128 = r.val % 128 := by omega
  have hd : i.val / 128 % 128 = j.val % 32 * 4 + r.val / 128 := by omega
  have hk : i.val / 16384 = j.val / 32 := by omega
  obtain ⟨i, hlt⟩ := i
  simp only at hi hm hd hk
  show lit1t i = _
  unfold lit1t
  rw [hk]
  have hc : j.val / 32 < 4 := by omega
  generalize hq : j.val / 32 = q at hc
  interval_cases q
  · have hj' : j.val % 32 = j.val := by omega
    have e1 : (j.val * 4 + r.val / 128) % 4 = r.val / 128 := by omega
    have e2 : (j.val * 4 + r.val / 128) / 8 = j.val / 2 := by omega
    have e3 : (j.val * 4 + r.val / 128) / 4 = j.val := by omega
    have e4 : j.val * 4 + r.val / 128 < 32 ↔ j.val < 8 := by omega
    rw [hj'] at hd
    refine (level1_0 i _ hd (by omega)).trans ?_
    simp only [e1, e2, e3, e4]
    split
    · split
      · rw [node1_0, hm]; exact if_congr (by omega) rfl rfl
      · rw [node1_4, hm]; exact if_congr (by omega) rfl rfl
    · rw [node1_511]; exact if_congr (by simp only [false_iff]; omega) rfl rfl
  · refine (level1_1 i _ hd (by omega)).trans ?_
    rw [node1_511]; exact if_congr (by simp only [false_iff]; omega) rfl rfl
  · refine (level1_2 i _ hd (by omega)).trans ?_
    rw [node1_511]; exact if_congr (by simp only [false_iff]; omega) rfl rfl
  · refine (level1_3 i _ hd (by omega)).trans ?_
    rw [node1_511]; exact if_congr (by simp only [false_iff]; omega) rfl rfl

end Cert.SharedIdeal.Val

end
-- ==== Proof.SharedMath.Math.lean ====
/-
  The sums over a head's columns that the projection to the shared keys and values takes by products with an indicator.
-/
module

public import proofs.«01_k».proof.Proof.Swa.Math

@[expose] public section

noncomputable section

open Idealize.ShloMosaic

namespace Cert.SharedKv

open Cert.Swa

/-- Whether column `b` belongs to head `n`. -/
def hit (b n : ℕ) : EReal := if b / 64 = n then 1 else 0

/-- A number that is neither infinite less itself is nothing. -/
theorem sub_self_real {x : EReal} (h0 : 0 ≤ x) (h1 : x ≠ ⊤) : x - x = 0 :=
  EReal.sub_self h1 (fun h => by rw [h] at h0; simp at h0)

/-- A product with the indicator adds up a head's own columns. -/
theorem group_sum (f : Fin 512 → EReal) (h : Fin 8) :
    ∑ b : Fin 512, f b * hit b.val h.val = ∑ d : Fin 64, f ⟨h.val * 64 + d.val, by omega⟩ := by
  rw [← Equiv.sum_comp (finProdFinEquiv (m := 8) (n := 64)) (fun b : Fin 512 => f b * hit b.val h.val), Fintype.sum_prod_type,
    Finset.sum_eq_single h]
  · refine Finset.sum_congr rfl fun d _ => ?_
    have e : (finProdFinEquiv (h, d)).val = h.val * 64 + d.val := by simp [finProdFinEquiv]; omega
    rw [hit, if_pos (by rw [e]; omega), mul_one]
    exact congrArg f (Fin.ext e)
  · intro g _ hg
    refine Finset.sum_eq_zero fun d _ => ?_
    have e : (finProdFinEquiv (g, d)).val = g.val * 64 + d.val := by simp [finProdFinEquiv]; omega
    have : g.val ≠ h.val := fun h' => hg (Fin.ext h')
    rw [hit, if_neg (by rw [e]; omega), mul_zero]
  · exact fun hh => absurd (Finset.mem_univ _) hh

/-- A product with the indicator's transpose gives every column its head's number. -/
theorem spread_sum (f : Fin 128 → EReal) (b : Fin 512) :
    ∑ n : Fin 128, f n * hit b.val n.val = f ⟨b.val / 64, by omega⟩ := by
  rw [Finset.sum_eq_single ⟨b.val / 64, by omega⟩]
  · rw [hit, if_pos rfl, mul_one]
  · intro n _ hn
    rw [hit, if_neg (fun h => hn (Fin.ext h.symm)), mul_zero]
  · exact fun hh => absurd (Finset.mem_univ _) hh

/-- The inverse root mean square that the kernel takes of one head column, from the products with the indicator. -/
def invAt (y : Fin 512 → EReal) (n : Fin 128) : EReal :=
  Ideal.rsqrt ((∑ b : Fin 512, y b * y b * hit b.val n.val) * Ideal.ofBits .f32 0x3C800000#32 + Ideal.ofBits .f32 0x358637BD#32)

/-- It is a number. -/
theorem invAt_real (y : Fin 512 → EReal) (n : Fin 128) : 0 ≤ invAt y n ∧ invAt y n ≠ ⊤ := by
  refine rsqrt_nonneg ?_
  obtain ⟨e, he, h⟩ := bits_eps
  rw [h, bits_sixtyfourth]
  have h0 : 0 ≤ (∑ b : Fin 512, y b * y b * hit b.val n.val) * ((1 / 64 : ℝ) : EReal) :=
    mul_nonneg (Finset.sum_nonneg fun b _ => mul_nonneg (sq_nonneg' _) (by unfold hit; split <;> simp))
      (by exact_mod_cast (by norm_num : (0 : ℝ) ≤ 1 / 64))
  exact lt_of_lt_of_le (by exact_mod_cast he : (0 : EReal) < (e : EReal)) (le_add_of_nonneg_left h0)

/-- The two halves it is split into, spread over the columns and added, are the inverse root mean square of the column's head. -/
theorem spread_split (y : Fin 512 → EReal) (b : Fin 512) :
    (∑ n : Fin 128, invAt y n * hit b.val n.val) + (∑ n : Fin 128, (invAt y n - invAt y n) * hit b.val n.val)
      = invRms fun d : Fin 64 => y ⟨b.val / 64 * 64 + d.val, by omega⟩ := by
  rw [spread_sum, Finset.sum_eq_zero fun n _ => by rw [sub_self_real (invAt_real y n).1 (invAt_real y n).2, zero_mul], add_zero]
  unfold invAt invRms
  rw [group_sum (fun b => y b * y b) ⟨b.val / 64, by omega⟩]

end Cert.SharedKv

end
-- ==== Proof.SharedIdeal.Body.lean ====
/-
  What one block of the projection to the shared keys and values stores.
-/
module

public import proofs.«01_k».proof.Proof.Gen.SharedIdeal.Frame
public import proofs.«01_k».proof.Proof.SharedMath.Math
public import Idealize.ShloMosaic.Lib.Pointwise
public import Idealize.ShloMosaic.Lib.Pipeline.ValueKit
public import Idealize.ShloMosaic.Lib.IdealHost

@[expose] public section

set_option maxRecDepth 16384

noncomputable section

open Idealize.ShloMosaic

namespace Cert.SharedIdeal.Val

open Cert.SharedIdeal Cert.SharedIdeal.Gen Cert.SharedKv Cert.Swa

/-- The normalised keys in the first half of the columns, the values in the second half. -/
def normed (y : Fin 1024 → EReal) (g : Fin 512 → EReal) (b : Fin 1024) : EReal :=
  if h : b.val < 512 then
    y b * invRms (fun d : Fin 64 => y ⟨b.val / 64 * 64 + d.val, by omega⟩) * g ⟨b.val, h⟩
  else y b

/-- The two products with the indicator are the head's inverse root mean square. -/
theorem pay3_apply (v0 : Vec Ideal S1024x4096 .bf16) (v1 : Vec Ideal S4096x1024 .bf16) (v7 : Vec Ideal S512x128 .bf16)
    (v18 : Vec Ideal S128x512 .bf16) (v23 : Vec Ideal S1x512 .f32)
    (h7 : ∀ (k : Fin 512) (n : Fin 128), v7 (ix2 k n) = hit k.val n.val)
    (h18 : ∀ (n : Fin 128) (k : Fin 512), v18 (ix2 n k) = hit k.val n.val) (a b : Fin 1024) :
    k0_pay3 v0 v1 v7 v18 v23 (ix2 a b)
      = normed (fun j => ∑ k : Fin 4096, v0 (ix2 a k) * v1 (ix2 k j)) (fun j => v23 (ix2 0 j)) b := by
  unfold k0_pay3
  pointwise
  simp only [h7, h18]
  unfold normed
  by_cases hb : b.val < 512
  · rw [dif_pos hb, dif_pos hb]
    refine congrArg (· * v23 (ix2 0 ⟨b.val, hb⟩)) (congrArg₂ (· * ·) rfl ?_)
    exact spread_split (fun k : Fin 512 => ∑ x : Fin 4096, v0 (ix2 a x) * v1 (ix2 x ⟨k.val, by omega⟩)) ⟨b.val, hb⟩
  · rw [dif_neg hb, dif_neg hb]
    refine Finset.sum_congr rfl fun k _ => congrArg (fun j => v0 (ix2 a k) * v1 (ix2 k j)) (Fin.ext ?_)
    show 512 + (b.val - 512) = b.val
    omega

/-- Head `n` of the stored block holds columns `64 n` onwards. -/
theorem heads_apply (x0 : Vec Ideal S1024x4096 .bf16) (x1 : Vec Ideal S4096x1024 .bf16) (x2 : Vec Ideal S1x512 .f32)
    (x3 : Vec Ideal S512x128 .bf16) (x4 : Vec Ideal S128x512 .bf16) (n : Fin 16) (a : Fin 1024) (d : Fin 64) :
    out0_5 x0 x1 x2 x3 x4 (ix3 n a d) = k0_pay21 x0 x1 x2 x3 x4 (ix2 a ⟨n.val * 64 + d.val, by omega⟩) := by
  unfold out0_5
  canon_tiles x h
  case piece0 =>
    obtain ⟨z, a', d', rfl⟩ : ∃ (z : Fin 1) (a : Fin 1024) (d : Fin 64), x = ix3 z a d := ⟨x 0, x 1, x 2, eq_ix3 x⟩
    obtain rfl : a = a' := Fin.ext h1
    obtain rfl : d = d' := Fin.ext h2
    have hn : n.val = 15 + z.val := h0
    generalize k0_pay21 x0 x1 x2 x3 x4 = v
    refine Eq.trans (b := v (ix2 a ⟨960 + d.val, by omega⟩)) (by pointwise [k0_pay2]) (congrArg (fun b => v (ix2 a b)) (Fin.ext ?_))
    show 960 + d.val = n.val * 64 + d.val
    omega
  case piece1 =>
    obtain ⟨z, a', d', rfl⟩ : ∃ (z : Fin 1) (a : Fin 1024) (d : Fin 64), x = ix3 z a d := ⟨x 0, x 1, x 2, eq_ix3 x⟩
    obtain rfl : a = a' := Fin.ext h1
    obtain rfl : d = d' := Fin.ext h2
    have hn : n.val = 14 + z.val := h0
    generalize k0_pay21 x0 x1 x2 x3 x4 = v
    refine Eq.trans (b := v (ix2 a ⟨896 + d.val, by omega⟩)) (by pointwise [k0_pay1, k0_pay20]) (congrArg (fun b => v (ix2 a b)) (Fin.ext ?_))
    show 896 + d.val = n.val * 64 + d.val
    omega
  case piece2 =>
    obtain ⟨z, a', d', rfl⟩ : ∃ (z : Fin 1) (a : Fin 1024) (d : Fin 64), x = ix3 z a d := ⟨x 0, x 1, x 2, eq_ix3 x⟩
    obtain rfl : a = a' := Fin.ext h1
    obtain rfl : d = d' := Fin.ext h2
    have hn : n.val = 13 + z.val := h0
    generalize k0_pay21 x0 x1 x2 x3 x4 = v
    refine Eq.trans (b := v (ix2 a ⟨832 + d.val, by omega⟩)) (by pointwise [k0_pay19]) (congrArg (fun b => v (ix2 a b)) (Fin.ext ?_))
    show 832 + d.val = n.val * 64 + d.val
    omega
  case piece3 =>
    obtain ⟨z, a', d', rfl⟩ : ∃ (z : Fin 1) (a : Fin 1024) (d : Fin 64), x = ix3 z a d := ⟨x 0, x 1, x 2, eq_ix3 x⟩
    obtain rfl : a = a' := Fin.ext h1
    obtain rfl : d = d' := Fin.ext h2
    have hn : n.val = 12 + z.val := h0
    generalize k0_pay21 x0 x1 x2 x3 x4 = v
    refine Eq.trans (b := v (ix2 a ⟨768 + d.val, by omega⟩)) (by pointwise [k0_pay18]) (congrArg (fun b => v (ix2 a b)) (Fin.ext ?_))
    show 768 + d.val = n.val * 64 + d.val
    omega
  case piece4 =>
    obtain ⟨z, a', d', rfl⟩ : ∃ (z : Fin 1) (a : Fin 1024) (d : Fin 64), x = ix3 z a d := ⟨x 0, x 1, x 2, eq_ix3 x⟩
    obtain rfl : a = a' := Fin.ext h1
    obtain rfl : d = d' := Fin.ext h2
    have hn : n.val = 11 + z.val := h0
    generalize k0_pay21 x0 x1 x2 x3 x4 = v
    refine Eq.trans (b := v (ix2 a ⟨704 + d.val, by omega⟩)) (by pointwise [k0_pay17]) (congrArg (fun b => v (ix2 a b)) (Fin.ext ?_))
    show 704 + d.val = n.val * 64 + d.val
    omega
  case piece5 =>
    obtain ⟨z, a', d', rfl⟩ : ∃ (z : Fin 1) (a : Fin 1024) (d : Fin 64), x = ix3 z a d := ⟨x 0, x 1, x 2, eq_ix3 x⟩
    obtain rfl : a = a' := Fin.ext h1
    obtain rfl : d = d' := Fin.ext h2
    have hn : n.val = 10 + z.val := h0
    generalize k0_pay21 x0 x1 x2 x3 x4 = v
    refine Eq.trans (b := v (ix2 a ⟨640 + d.val, by omega⟩)) (by pointwise [k0_pay16]) (congrArg (fun b => v (ix2 a b)) (Fin.ext ?_))
    show 640 + d.val = n.val * 64 + d.val
    omega
  case piece6 =>
    obtain ⟨z, a', d', rfl⟩ : ∃ (z : Fin 1) (a : Fin 1024) (d : Fin 64), x = ix3 z a d := ⟨x 0, x 1, x 2, eq_ix3 x⟩
    obtain rfl : a = a' := Fin.ext h1
    obtain rfl : d = d' := Fin.ext h2
    have hn : n.val = 9 + z.val := h0
    generalize k0_pay21 x0 x1 x2 x3 x4 = v
    refine Eq.trans (b := v (ix2 a ⟨576 + d.val, by omega⟩)) (by pointwise [k0_pay15]) (congrArg (fun b => v (ix2 a b)) (Fin.ext ?_))
    show 576 + d.val = n.val * 64 + d.val
    omega
  case piece7 =>
    obtain ⟨z, a', d', rfl⟩ : ∃ (z : Fin 1) (a : Fin 1024) (d : Fin 64), x = ix3 z a d := ⟨x 0, x 1, x 2, eq_ix3 x⟩
    obtain rfl : a = a' := Fin.ext h1
    obtain rfl : d = d' := Fin.ext h2
    have hn : n.val = 8 + z.val := h0
    generalize k0_pay21 x0 x1 x2 x3 x4 = v
    refine Eq.trans (b := v (ix2 a ⟨512 + d.val, by omega⟩)) (by pointwise [k0_pay14]) (congrArg (fun b => v (ix2 a b)) (Fin.ext ?_))
    show 512 + d.val = n.val * 64 + d.val
    omega
  case piece8 =>
    obtain ⟨z, a', d', rfl⟩ : ∃ (z : Fin 1) (a : Fin 1024) (d : Fin 64), x = ix3 z a d := ⟨x 0, x 1, x 2, eq_ix3 x⟩
    obtain rfl : a = a' := Fin.ext h1
    obtain rfl : d = d' := Fin.ext h2
    have hn : n.val = 7 + z.val := h0
    generalize k0_pay21 x0 x1 x2 x3 x4 = v
    refine Eq.trans (b := v (ix2 a ⟨448 + d.val, by omega⟩)) (by pointwise [k0_pay13, k0_pay12]) (congrArg (fun b => v (ix2 a b)) (Fin.ext ?_))
    show 448 + d.val = n.val * 64 + d.val
    omega
  case piece9 =>
    obtain ⟨z, a', d', rfl⟩ : ∃ (z : Fin 1) (a : Fin 1024) (d : Fin 64), x = ix3 z a d := ⟨x 0, x 1, x 2, eq_ix3 x⟩
    obtain rfl : a = a' := Fin.ext h1
    obtain rfl : d = d' := Fin.ext h2
    have hn : n.val = 6 + z.val := h0
    generalize k0_pay21 x0 x1 x2 x3 x4 = v
    refine Eq.trans (b := v (ix2 a ⟨384 + d.val, by omega⟩)) (by pointwise [k0_pay11]) (congrArg (fun b => v (ix2 a b)) (Fin.ext ?_))
    show 384 + d.val = n.val * 64 + d.val
    omega
  case piece10 =>
    obtain ⟨z, a', d', rfl⟩ : ∃ (z : Fin 1) (a : Fin 1024) (d : Fin 64), x = ix3 z a d := ⟨x 0, x 1, x 2, eq_ix3 x⟩
    obtain rfl : a = a' := Fin.ext h1
    obtain rfl : d = d' := Fin.ext h2
    have hn : n.val = 5 + z.val := h0
    generalize k0_pay21 x0 x1 x2 x3 x4 = v
    refine Eq.trans (b := v (ix2 a ⟨320 + d.val, by omega⟩)) (by pointwise [k0_pay10]) (congrArg (fun b => v (ix2 a b)) (Fin.ext ?_))
    show 320 + d.val = n.val * 64 + d.val
    omega
  case piece11 =>
    obtain ⟨z, a', d', rfl⟩ : ∃ (z : Fin 1) (a : Fin 1024) (d : Fin 64), x = ix3 z a d := ⟨x 0, x 1, x 2, eq_ix3 x⟩
    obtain rfl : a = a' := Fin.ext h1
    obtain rfl : d = d' := Fin.ext h2
    have hn : n.val = 4 + z.val := h0
    generalize k0_pay21 x0 x1 x2 x3 x4 = v
    refine Eq.trans (b := v (ix2 a ⟨256 + d.val, by omega⟩)) (by pointwise [k0_pay9]) (congrArg (fun b => v (ix2 a b)) (Fin.ext ?_))
    show 256 + d.val = n.val * 64 + d.val
    omega
  case piece12 =>
    obtain ⟨z, a', d', rfl⟩ : ∃ (z : Fin 1) (a : Fin 1024) (d : Fin 64), x = ix3 z a d := ⟨x 0, x 1, x 2, eq_ix3 x⟩
    obtain rfl : a = a' := Fin.ext h1
    obtain rfl : d = d' := Fin.ext h2
    have hn : n.val = 3 + z.val := h0
    generalize k0_pay21 x0 x1 x2 x3 x4 = v
    refine Eq.trans (b := v (ix2 a ⟨192 + d.val, by omega⟩)) (by pointwise [k0_pay8]) (congrArg (fun b => v (ix2 a b)) (Fin.ext ?_))
    show 192 + d.val = n.val * 64 + d.val
    omega
  case piece13 =>
    obtain ⟨z, a', d', rfl⟩ : ∃ (z : Fin 1) (a : Fin 1024) (d : Fin 64), x = ix3 z a d := ⟨x 0, x 1, x 2, eq_ix3 x⟩
    obtain rfl : a = a' := Fin.ext h1
    obtain rfl : d = d' := Fin.ext h2
    have hn : n.val = 2 + z.val := h0
    generalize k0_pay21 x0 x1 x2 x3 x4 = v
    refine Eq.trans (b := v (ix2 a ⟨128 + d.val, by omega⟩)) (by pointwise [k0_pay7]) (congrArg (fun b => v (ix2 a b)) (Fin.ext ?_))
    show 128 + d.val = n.val * 64 + d.val
    omega
  case piece14 =>
    obtain ⟨z, a', d', rfl⟩ : ∃ (z : Fin 1) (a : Fin 1024) (d : Fin 64), x = ix3 z a d := ⟨x 0, x 1, x 2, eq_ix3 x⟩
    obtain rfl : a = a' := Fin.ext h1
    obtain rfl : d = d' := Fin.ext h2
    have hn : n.val = 1 + z.val := h0
    unfold k0_pay6 k0_pay5 k0_pay21
    generalize k0_pay3 (View.ld x0 r0_0) (View.ld x1 r0_1) (View.ld x3 r0_2) (View.ld x4 r0_3) (View.ld x2 r0_4) = v
    refine Eq.trans (b := v (ix2 a ⟨64 + d.val, by omega⟩)) (by pointwise) (congrArg (fun b => v (ix2 a b)) (Fin.ext ?_))
    show 64 + d.val = n.val * 64 + d.val
    omega
  case piece15 =>
    obtain ⟨z, a', d', rfl⟩ : ∃ (z : Fin 1) (a : Fin 1024) (d : Fin 64), x = ix3 z a d := ⟨x 0, x 1, x 2, eq_ix3 x⟩
    obtain rfl : a = a' := Fin.ext h1
    obtain rfl : d = d' := Fin.ext h2
    have hn : n.val = z.val := h0
    unfold k0_pay4 k0_pay21
    generalize k0_pay3 (View.ld x0 r0_0) (View.ld x1 r0_1) (View.ld x3 r0_2) (View.ld x4 r0_3) (View.ld x2 r0_4) = v
    refine Eq.trans (b := v (ix2 a ⟨0 + d.val, by omega⟩)) (by pointwise) (congrArg (fun b => v (ix2 a b)) (Fin.ext ?_))
    show 0 + d.val = n.val * 64 + d.val
    omega

/-- A stored block, at head `n`, row `a` and position `d`. -/
theorem out_apply (x0 : Vec Ideal S1024x4096 .bf16) (x1 : Vec Ideal S4096x1024 .bf16) (x2 : Vec Ideal S1x512 .f32)
    (x3 : Vec Ideal S512x128 .bf16) (x4 : Vec Ideal S128x512 .bf16)
    (h3 : ∀ (k : Fin 512) (n : Fin 128), x3 (ix2 k n) = hit k.val n.val)
    (h4 : ∀ (n : Fin 128) (k : Fin 512), x4 (ix2 n k) = hit k.val n.val) (n : Fin 16) (a : Fin 1024) (d : Fin 64) :
    out0_5 x0 x1 x2 x3 x4 (ix3 n a d)
      = normed (fun j => ∑ k : Fin 4096, x0 (ix2 a k) * x1 (ix2 k j)) (fun j => x2 (ix2 0 j)) ⟨n.val * 64 + d.val, by omega⟩ := by
  rw [heads_apply]
  unfold k0_pay21
  have e0 : View.ld x0 r0_0 = x0 := by
    funext i; obtain ⟨p, q, rfl⟩ : ∃ (p : Fin 1024) (q : Fin 4096), i = ix2 p q := ⟨i 0, i 1, eq_ix2 i⟩
    pointwise [r0_0]
  have e1 : View.ld x1 r0_1 = x1 := by
    funext i; obtain ⟨p, q, rfl⟩ : ∃ (p : Fin 4096) (q : Fin 1024), i = ix2 p q := ⟨i 0, i 1, eq_ix2 i⟩
    pointwise [r0_1]
  have e2 : View.ld x2 r0_4 = x2 := by
    funext i; obtain ⟨p, q, rfl⟩ : ∃ (p : Fin 1) (q : Fin 512), i = ix2 p q := ⟨i 0, i 1, eq_ix2 i⟩
    obtain rfl : p = 0 := Fin.ext (by omega)
    pointwise [r0_4]
  have e3 : View.ld x3 r0_2 = x3 := by
    funext i; obtain ⟨p, q, rfl⟩ : ∃ (p : Fin 512) (q : Fin 128), i = ix2 p q := ⟨i 0, i 1, eq_ix2 i⟩
    pointwise [r0_2]
  have e4 : View.ld x4 r0_3 = x4 := by
    funext i; obtain ⟨p, q, rfl⟩ : ∃ (p : Fin 128) (q : Fin 512), i = ix2 p q := ⟨i 0, i 1, eq_ix2 i⟩
    pointwise [r0_3]
  rw [e0, e1, e2, e3, e4]
  exact pay3_apply x0 x1 x3 x4 x2 h3 h4 a ⟨n.val * 64 + d.val, by omega⟩

end Cert.SharedIdeal.Val

end
-- ==== Proof.SharedIdeal.Array.lean ====
/-
  The array the projection to the shared keys and values leaves, as a closed formula of the three arrays it is given.
-/
module

public import proofs.«01_k».proof.Proof.Gen.SharedIdeal.Frame
public import proofs.«01_k».proof.Proof.SharedIdeal.Tables
public import proofs.«01_k».proof.Proof.SharedIdeal.Body
public import Idealize.ShloMosaic.Lib.Pointwise
public import Idealize.ShloMosaic.Lib.Pipeline.ValueKit
public import Idealize.ShloMosaic.Lib.IdealHost
public import Idealize.ShloMosaic.Lib.StableHlo.ReadAt

@[expose] public section

set_option maxRecDepth 16384

noncomputable section

open Idealize.ShloMosaic Idealize.ShloMosaic.TcCoe Idealize.SL.Sem

namespace Cert.SharedIdeal.Val

open Cert.SharedIdeal Cert.SharedIdeal.Gen Cert.SharedKv

/-- One number of head `n`: a row times a column of the weights, normalised and scaled by the gain for a key. -/
def entry (x : S16384x4096.Idx → EReal) (w : S4096x1024.Idx → EReal) (g : S64.Idx → EReal) (n : Fin 16) (i : Fin 16384) (d : Fin 64) : EReal :=
  normed (fun j => ∑ k : Fin 4096, x (ix2 i k) * w (ix2 k j)) (fun j => g (ix1 ⟨j.val % 64, by omega⟩)) ⟨n.val * 64 + d.val, by omega⟩

/-- That number, by the half its head lies in. -/
theorem entry_apply (x : S16384x4096.Idx → EReal) (w : S4096x1024.Idx → EReal) (g : S64.Idx → EReal) (n : Fin 16) (i : Fin 16384) (d : Fin 64) :
    entry x w g n i d = if h : n.val < 8
      then (∑ k : Fin 4096, x (ix2 i k) * w (ix2 k ⟨n.val * 64 + d.val, by omega⟩))
        * (Cert.Swa.invRms fun e : Fin 64 => ∑ k : Fin 4096, x (ix2 i k) * w (ix2 k ⟨n.val * 64 + e.val, by omega⟩)) * g (ix1 d)
      else ∑ k : Fin 4096, x (ix2 i k) * w (ix2 k ⟨n.val * 64 + d.val, by omega⟩) := by
  unfold entry normed
  by_cases h : n.val < 8
  · rw [dif_pos h, dif_pos (by show n.val * 64 + d.val < 512; omega)]
    refine congrArg₂ (· * ·) (congrArg₂ (· * ·) rfl (congrArg Cert.Swa.invRms (funext fun e => ?_))) (congrArg (fun e => g (ix1 e)) (Fin.ext ?_))
    · refine Finset.sum_congr rfl fun k _ => congrArg (fun j => x (ix2 i k) * w (ix2 k j)) (Fin.ext ?_)
      show (n.val * 64 + d.val) / 64 * 64 + e.val = n.val * 64 + e.val
      omega
    · show (n.val * 64 + d.val) % 64 = d.val
      omega
  · rw [dif_neg h, dif_neg (by show ¬ n.val * 64 + d.val < 512; omega)]

/-- The whole array. -/
def shared (x : S16384x4096.Idx → EReal) (w : S4096x1024.Idx → EReal) (g : S64.Idx → EReal) : S16x16384x64.Idx → EReal :=
  fun i => entry x w g (i 0) (i 1) (i 2)

variable (m : (ℓ : Loc nD τ sig) → Buf (Elt Ideal) ℓ) (ρ : Dev nD → PrngReg)

/-- The arguments' formula over a memory's own arrays. -/
abbrev result (c : Dev nD) : S16x16384x64.Idx → EReal :=
  shared (m ((c : Thread nD τ).loc main_arg0)) (m ((c : Thread nD τ).loc main_arg1))
    (m ((c : Thread nD τ).loc main_arg2))

/-- The bits of one are one and the bits of zero are zero. -/
theorem bit_apply (b n : ℕ) : Ideal.ofBits .bf16 (bit (b / 64 = n)) = hit b n := by
  unfold bit hit
  split
  · simp [Ideal.ofBits, Ideal.ieee, -EReal.coe_mul]
    norm_num
  · simp [Ideal.ofBits, Ideal.ieee, -EReal.coe_mul]

/-- The weights the launch reads are the argument. -/
theorem weights_apply (c : Dev nD) (k : Fin 4096) (j : Fin 1024) :
    V m c main_v0 (ix2 k j) = m ((c : Thread nD τ).loc main_arg1) (ix2 k j) := by
  after_reads_at

/-- The gain the launch reads repeats the argument for every head. -/
theorem gain_apply (c : Dev nD) (j : Fin 512) :
    V m c main_v4 (ix2 0 j) = m ((c : Thread nD τ).loc main_arg2) (ix1 ⟨j.val % 64, by omega⟩) := by
  after_reads_at

/-- The first table says which head a column belongs to. -/
theorem group_apply (c : Dev nD) (k : Fin 512) (n : Fin 128) : V m c main_cst (ix2 k n) = hit k.val n.val := by
  after_reads_at
  exact (congrArg (Ideal.ofBits .bf16) (table0 k n _ (Shape.rowMajor_val_two (ix2 k n)))).trans (bit_apply k.val n.val)

/-- The second table is the first with rows and columns exchanged. -/
theorem spread_apply (c : Dev nD) (n : Fin 128) (k : Fin 512) : V m c main_cst_0 (ix2 n k) = hit k.val n.val := by
  after_reads_at
  exact (congrArg (Ideal.ofBits .bf16) (table1 n k _ (Shape.rowMajor_val_two (ix2 n k)))).trans (bit_apply k.val n.val)

theorem idx0 : ∀ t, win0_0.index t = ![t.val, 0] := (by decide +kernel : ∀ t : Fin grid0.N, win0_0.index t = ![t.val, 0])
theorem idx1 : ∀ t, win0_1.index t = ![0, 0] := (by decide +kernel : ∀ t : Fin grid0.N, win0_1.index t = ![0, 0])
theorem idx2 : ∀ t, win0_2.index t = ![0, 0] := (by decide +kernel : ∀ t : Fin grid0.N, win0_2.index t = ![0, 0])
theorem idx3 : ∀ t, win0_3.index t = ![0, 0] := (by decide +kernel : ∀ t : Fin grid0.N, win0_3.index t = ![0, 0])
theorem idx4 : ∀ t, win0_4.index t = ![0, 0] := (by decide +kernel : ∀ t : Fin grid0.N, win0_4.index t = ![0, 0])
theorem idx5 : ∀ t, win0_5.index t = ![0, t.val, 0] := (by decide +kernel : ∀ t : Fin grid0.N, win0_5.index t = ![0, t.val, 0])

variable (c : Dev nD) (t : Fin grid0.N)

theorem lt_points : t.val < 16 := by
  have h := t.isLt
  have e : grid0.N = 16 := by decide
  omega

/-- The rows of block `t`. -/
theorem blk0 (a : Fin 1024) (k : Fin 4096) : iblk m c 0 t (ix2 a k)
    = m ((c : Thread nD τ).loc main_arg0) (ix2 ⟨t.val * 1024 + a.val, by have := lt_points t; omega⟩ k) := by
  refine Eq.trans ?_ (congrFun (V_main_arg0 m c) _)
  blk_ext [iblk, idx0 t]

/-- The weights of a block. -/
theorem blk1 (k : Fin 4096) (j : Fin 1024) : iblk m c 1 t (ix2 k j) = m ((c : Thread nD τ).loc main_arg1) (ix2 k j) := by
  refine Eq.trans ?_ (weights_apply m c k j)
  blk_ext [iblk, idx1 t]

/-- The gain of a block. -/
theorem blk2 (j : Fin 512) : iblk m c 2 t (ix2 0 j) = m ((c : Thread nD τ).loc main_arg2) (ix1 ⟨j.val % 64, by omega⟩) := by
  refine Eq.trans ?_ (gain_apply m c j)
  blk_ext [iblk, idx2 t]

/-- The first table of a block. -/
theorem blk3 (k : Fin 512) (n : Fin 128) : iblk m c 3 t (ix2 k n) = hit k.val n.val := by
  refine Eq.trans ?_ (group_apply m c k n)
  blk_ext [iblk, idx3 t]

/-- The second table of a block. -/
theorem blk4 (n : Fin 128) (k : Fin 512) : iblk m c 4 t (ix2 n k) = hit k.val n.val := by
  refine Eq.trans ?_ (spread_apply m c n k)
  blk_ext [iblk, idx4 t]

/-- The launch's last array is that formula. -/
theorem final : (dats m 0 c).arrAt 5 cfg0.N = result m c := by
  refine (dats m 0 c).arrAt_eq_of_covers 5 _ (by decide +kernel) fun t hf y => ?_
  blk_simp
  rw [after0_5]
  obtain ⟨n, a, d, rfl⟩ : ∃ (n : Fin 16) (a : Fin 1024) (d : Fin 64), y = ix3 n a d := ⟨y 0, y 1, y 2, eq_ix3 y⟩
  have ht := lt_points t
  rw [out_apply _ _ _ _ _ (blk3 m c t) (blk4 m c t)]
  refine Eq.trans (b := entry (m ((c : Thread nD τ).loc main_arg0)) (m ((c : Thread nD τ).loc main_arg1))
    (m ((c : Thread nD τ).loc main_arg2)) n ⟨t.val * 1024 + a.val, by omega⟩ d) ?_ ?_
  · unfold entry
    exact congrArg₂ (fun y g => normed y g ⟨n.val * 64 + d.val, by omega⟩)
      (funext fun j => Finset.sum_congr rfl fun k _ => by rw [blk0, blk1]) (funext fun j => blk2 m c t j)
  · show shared _ _ _ (ix3 _ _ _) = _
    unfold result
    blk_ext [idx5 t]

/-- The launch's run: its last array holds the formula and its arguments are as they were. -/
theorem run : θ_run defs (onTc (τ := τ) (main (F := Ideal))) ⟨m, fun _ => 0, ρ⟩ fun r => ∀ c : Dev nD,
    r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (θ_run_and (unchanged m ρ) (run_main m ρ))
  exact ⟨((h.2 c).1 5).trans (final m c), h.1 c⟩

end Cert.SharedIdeal.Val

end
-- ==== Proof.SharedRef.Ref.lean ====
/-
  The array the reference of the projection to the shared keys and values computes, as the same closed formula.
-/
module

public import proofs.«01_k».proof.Proof.Gen.SharedReferenceIdeal
public import proofs.«01_k».proof.Proof.Gen.SharedReferenceIdeal.Read
public import proofs.«01_k».proof.Proof.SharedMath.Math
public import Idealize.ShloMosaic.Lib.Pointwise
public import Idealize.ShloMosaic.Lib.Pipeline.ValueKit
public import Idealize.ShloMosaic.Lib.IdealHost

@[expose] public section

set_option maxRecDepth 16384

noncomputable section

open Idealize.ShloMosaic

namespace Cert.SharedRef

open Cert.SharedReferenceIdeal Cert.SharedReferenceIdeal.Read Cert.Swa

variable (x : S16384x4096.Idx → EReal) (w : S4096x1024.Idx → EReal) (g : S64.Idx → EReal)

/-- One row of the activations times one column of the weights. -/
abbrev prod (i : Fin 16384) (j : Fin 1024) : EReal := ∑ k : Fin 4096, x (ix2 i k) * w (ix2 k j)

theorem prod_apply (i : Fin 16384) (j : Fin 1024) : val_main_v1 (F := Ideal) x w (ix2 i j) = prod x w i j := by
  refine (val_main_v1_apply x w _).trans (Finset.sum_congr rfl fun k _ => ?_)
  refine congrArg₂ (· * ·) (congrArg x ?_) (congrArg w ?_)
  · ext a; fin_cases a <;> rfl
  · ext a; fin_cases a <;> rfl

/-- The product's columns by half, head and position. -/
theorem split_apply (i : Fin 16384) (s : Fin 2) (n : Fin 8) (d : Fin 64) :
    val_main_v2 (F := Ideal) x w (ix4 i s n d) = prod x w i ⟨s.val * 512 + n.val * 64 + d.val, by omega⟩ := by
  rw [val_main_v2_apply]
  refine Eq.trans (congrArg (val_main_v1 (F := Ideal) x w) ?_) (prod_apply x w i _)
  have hi := i.isLt
  have hs := s.isLt
  have hn := n.isLt
  have hd := d.isLt
  ext a; fin_cases a
  · show ((((i.val * 2 + s.val) * 8 + n.val) * 64 + d.val)) / 1024 = i.val; omega
  · show ((((i.val * 2 + s.val) * 8 + n.val) * 64 + d.val)) % 1024 = s.val * 512 + n.val * 64 + d.val; omega

/-- The keys before they are normalised. -/
theorem keys_apply (i : Fin 16384) (n : Fin 8) (d : Fin 64) :
    val_main_v4 (F := Ideal) x w (ix3 i n d) = prod x w i ⟨n.val * 64 + d.val, by omega⟩ := by
  rw [val_main_v4_apply, val_main_v3_apply]
  refine Eq.trans (congrArg (val_main_v2 (F := Ideal) x w) ?_) ((split_apply x w i 0 n d).trans (congrArg (prod x w i) (Fin.ext ?_)))
  · have hi := i.isLt
    have hn := n.isLt
    have hd := d.isLt
    ext a; fin_cases a
    · show (((i.val * 8 + n.val) * 64 + d.val)) / 512 = i.val; omega
    · rfl
    · show (((i.val * 8 + n.val) * 64 + d.val)) / 64 % 8 = n.val; omega
    · show (((i.val * 8 + n.val) * 64 + d.val)) % 64 = d.val; omega
  · show 0 * 512 + n.val * 64 + d.val = n.val * 64 + d.val; omega

/-- The values. -/
theorem values_apply (i : Fin 16384) (n : Fin 8) (d : Fin 64) :
    val_main_v6 (F := Ideal) x w (ix3 i n d) = prod x w i ⟨512 + n.val * 64 + d.val, by omega⟩ := by
  rw [val_main_v6_apply, val_main_v5_apply]
  refine Eq.trans (congrArg (val_main_v2 (F := Ideal) x w) ?_) ((split_apply x w i 1 n d).trans (congrArg (prod x w i) (Fin.ext ?_)))
  · have hi := i.isLt
    have hn := n.isLt
    have hd := d.isLt
    ext a; fin_cases a
    · show (((i.val * 8 + n.val) * 64 + d.val)) / 512 = i.val; omega
    · rfl
    · show (((i.val * 8 + n.val) * 64 + d.val)) / 64 % 8 = n.val; omega
    · show (((i.val * 8 + n.val) * 64 + d.val)) % 64 = d.val; omega
  · show 1 * 512 + n.val * 64 + d.val = 512 + n.val * 64 + d.val; omega

/-- The inverse root mean square of a head of keys. -/
theorem inv_apply (i : Fin 16384) (n : Fin 8) (d : Fin 64) :
    val_main_v15 (F := Ideal) x w (ix3 i n d) = invRms fun d : Fin 64 => prod x w i ⟨n.val * 64 + d.val, by omega⟩ := by
  rw [val_main_v15_apply, val_main_v14_apply, val_main_v13_apply, val_main_v11_apply, val_main_v9_apply, val_main_v8_apply]
  have hs : (val_main_cst (F := Ideal)) (Shape.Idx.first Gen.h_S_)
      + ∑ k : Fin 64, val_main_v7 (F := Ideal) x w (idx_main_v8 (idx_main_v9 (idx_main_v15 (ix3 i n d))) k)
      = ∑ e : Fin 64, prod x w i ⟨n.val * 64 + e.val, by omega⟩ * prod x w i ⟨n.val * 64 + e.val, by omega⟩ := by
    refine Eq.trans (congrArg₂ (· + ·) Ideal.ofBits_zero_f32 (Finset.sum_congr rfl fun e _ => ?_)) (zero_add _)
    rw [val_main_v7_apply]
    have hi : idx_main_v8 (idx_main_v9 (idx_main_v15 (ix3 i n d))) e = ix3 i n e := by
      ext a; fin_cases a <;> rfl
    rw [hi, keys_apply]
    rfl
  rw [hs]
  show Ideal.rsqrt (Ideal.div (∑ e : Fin 64, prod x w i ⟨n.val * 64 + e.val, by omega⟩ * prod x w i ⟨n.val * 64 + e.val, by omega⟩)
    (Ideal.ofBits .f32 0x42800000#32) + Ideal.ofBits .f32 0x358637BD#32) = _
  rw [bits_sixtyfour, Ideal.div_coe (by norm_num), ← bits_sixtyfourth]
  rfl

/-- The normalised keys scaled by the gain. -/
theorem normed_apply (i : Fin 16384) (n : Fin 8) (d : Fin 64) :
    val_main_v19 (F := Ideal) x w g (ix3 i n d) = prod x w i ⟨n.val * 64 + d.val, by omega⟩
      * (invRms fun d : Fin 64 => prod x w i ⟨n.val * 64 + d.val, by omega⟩) * g (ix1 d) := by
  rw [val_main_v19_apply, val_main_v16_apply, keys_apply, inv_apply, val_main_v18_apply, val_main_v17_apply]
  refine congrArg₂ (· * ·) rfl (congrArg g ?_)
  ext a; fin_cases a; rfl

/-- The reference's array at head `n`, row `i` and position `d`. -/
theorem ref_apply (n : Fin 16) (i : Fin 16384) (d : Fin 64) :
    val_main_v22 (F := Ideal) x w g (ix3 n i d) = if h : n.val < 8
      then prod x w i ⟨n.val * 64 + d.val, by omega⟩
        * (invRms fun e : Fin 64 => prod x w i ⟨n.val * 64 + e.val, by omega⟩) * g (ix1 d)
      else prod x w i ⟨n.val * 64 + d.val, by omega⟩ := by
  rw [val_main_v22_apply, val_main_v21_apply]
  refine Eq.trans (b := val_main_v20 (F := Ideal) x w g (ix3 i n d)) (congrArg (val_main_v20 (F := Ideal) x w g) ?_) ?_
  · ext a; fin_cases a <;> rfl
  unfold val_main_v20
  pointwise
  by_cases h : n.val < 8
  · rw [dif_pos h, dif_pos h]
    exact normed_apply x w g i ⟨n.val, h⟩ d
  · rw [dif_neg h, dif_neg h]
    refine (values_apply x w i ⟨n.val - 8, by omega⟩ d).trans (congrArg (prod x w i) (Fin.ext ?_))
    show 512 + (n.val - 8) * 64 + d.val = n.val * 64 + d.val
    omega

end Cert.SharedRef

end
-- ==== Proof.lean ====
/- The claims' proofs: the attention's kernel, its ideal reading and the plain reference. The launch's array is a closed formula
   of its arguments (Proof/Swa/Array.lean), the reference's array is the same formula (Proof/Swa/Ref.lean).
   Then the experts' two products in the same way (Proof/UpIdeal/Value.lean, Proof/UpRef/Ref.lean,
   Proof/DownIdeal/Value.lean, Proof/DownRef/Ref.lean), and the dense products (Proof/ProjIdeal/Array.lean, Proof/ProjRef/Ref.lean
   and the like). -/
module

public import proofs.«01_k».proof.Defs
public import proofs.«01_k».proof.Proof.Gen.Kernel.Frame
public import proofs.«01_k».proof.Proof.Swa.Array
public import proofs.«01_k».proof.Proof.Swa.Ref
public import proofs.«01_k».proof.Proof.Swa.Pre
public import proofs.«01_k».proof.Proof.Up.Adm
public import proofs.«01_k».proof.Proof.UpIdeal.Adm
public import proofs.«01_k».proof.Proof.UpIdeal.Value
public import proofs.«01_k».proof.Proof.UpRef.Ref
public import proofs.«01_k».proof.Proof.Down.Adm
public import proofs.«01_k».proof.Proof.DownIdeal.Adm
public import proofs.«01_k».proof.Proof.DownIdeal.Value
public import proofs.«01_k».proof.Proof.DownRef.Ref
public import proofs.«01_k».proof.Proof.Gen.Proj.Frame
public import proofs.«01_k».proof.Proof.ProjIdeal.Array
public import proofs.«01_k».proof.Proof.ProjRef.Ref
public import proofs.«01_k».proof.Proof.Gen.Query.Frame
public import proofs.«01_k».proof.Proof.QueryIdeal.Array
public import proofs.«01_k».proof.Proof.QueryRef.Ref
public import proofs.«01_k».proof.Proof.Gen.Added.Frame
public import proofs.«01_k».proof.Proof.AddedIdeal.Array
public import proofs.«01_k».proof.Proof.AddedRef.Ref
public import proofs.«01_k».proof.Proof.Gen.Shared.Frame
public import proofs.«01_k».proof.Proof.SharedIdeal.Array
public import proofs.«01_k».proof.Proof.SharedRef.Ref
public import Idealize.ShloMosaic.Lib.Quiescent
public import Idealize.ShloMosaic.Lib.Bf16Pair

@[expose] public section

noncomputable section

namespace Cert.Proof

open Idealize.ShloMosaic Idealize.SL.Sem

instance preFacts : Cert.Pre_finite_scores.Facts := Cert.Pre_finite_scores.facts

/-- The reference's run leaves its arguments and holds no semaphore. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals the kernel's array is the reference's, where keys, gains and sinks are finite. -/
theorem algebraic : Cert.algebraic_KernelIdeal_ReferenceIdeal_pre_finite_scores := by
  intro m ρ m' ρ' hpre hargs
  refine ⟨fun c => Cert.KernelIdeal.Swa.result m c, Cert.KernelIdeal.Swa.run m ρ, ?_⟩
  refine (θ_run Cert.ReferenceIdeal.defs _ _).mono (fun _ h c => ⟨(h c).1.trans ?_, (h c).2⟩)
    (Cert.ReferenceIdeal.Value.run (F := Ideal) m' ρ')
  have hp := hpre c
  rw [Cert.ReferenceIdeal.Read.val_main_v82_eq, (hargs c).1, (hargs c).2.1, (hargs c).2.2.1, (hargs c).2.2.2]
  exact Cert.ReferenceIdeal.Swa.result_eq _ _ _ _
    (fun h t d => Cert.Pre_finite_scores.keys_real _ _ _ _ hp.1 h t d)
    (fun d => Cert.Pre_finite_scores.gains_real _ _ _ _ hp.2.1 d)
    (fun d => Cert.Pre_finite_scores.sinks_real _ _ _ _ hp.2.2 d)

/-- The experts' first product's kernel leaves its arguments and holds no semaphore. -/
theorem frame_up : Cert.quiescent_Up := fun m ρ h => Cert.Up.Hand.frame_args (Cert.Up.Hand.adm m (Cert.Up.Hand.good_of_pre m h)) m ρ
  (Cert.Up.Hand.first_fresh _ (Cert.Up.Hand.good_of_pre m h)) (Cert.Up.Hand.adm_held m _)

/-- So does its ideal reading. -/
theorem frame_up_ideal : Cert.quiescent_UpIdeal := fun m ρ h => Cert.UpIdeal.Hand.frame_args (Cert.UpIdeal.Hand.adm m (Cert.UpIdeal.Hand.good_of_pre m h)) m ρ
  (Cert.UpIdeal.Hand.first_fresh _ (Cert.UpIdeal.Hand.good_of_pre m h)) (Cert.UpIdeal.Hand.adm_held m _)

/-- So does its reference. -/
theorem frame_up_ref : Cert.quiescent_UpReferenceIdeal := fun m ρ _ =>
  (θ_run Cert.UpReferenceIdeal.defs _ _).mono (fun r h => ⟨fun c => (h c).2, Idealize.ShloMosaic.sem_eq_zero_of_no_sems (by decide) r.2⟩)
    (Cert.UpReferenceIdeal.Value.run (F := Ideal) m ρ)

/-- What the ideal reading rewrote: words read as pairs of rows. -/
theorem preserves_up : Cert.preserves_Up_UpIdeal := ⟨IdealRules.bf16_pair.statement _ _, IdealRules.bf16_pair.statement _ _⟩

/-- Over the extended reals the kernel's array is the reference's: every row through its own expert. -/
theorem algebraic_up : Cert.algebraic_UpIdeal_UpReferenceIdeal := by
  intro m ρ m' ρ' hpre hargs
  have hg := Cert.UpIdeal.Hand.good_of_pre m hpre
  refine ⟨fun c => Cert.UpIdeal.Hand.result (Cert.UpIdeal.Hand.adm m hg) m c,
    Cert.UpIdeal.Hand.run (Cert.UpIdeal.Hand.adm m hg) hg m ρ (Cert.UpIdeal.Hand.adm_held m hg), ?_⟩
  refine (θ_run Cert.UpReferenceIdeal.defs _ _).mono (fun _ h c => ⟨(h c).1.trans ?_, (h c).2⟩)
    (Cert.UpReferenceIdeal.Value.run (F := Ideal) m' ρ')
  rw [Cert.UpReferenceIdeal.Read.val_main_v26_eq, (hargs c).1, (hargs c).2.1, (hargs c).2.2.1, (hargs c).2.2.2]
  obtain rfl : c = 0 := Subsingleton.elim _ _
  exact Cert.UpReferenceIdeal.Hand.ref_eq _ _ _ _ hg.te

/-- The experts' second product's kernel leaves its arguments and holds no semaphore. -/
theorem frame_down : Cert.quiescent_Down := fun m ρ h => Cert.Down.Hand.frame_args (Cert.Down.Hand.adm m (Cert.Down.Hand.good_of_pre m h)) m ρ
  (Cert.Down.Hand.first_fresh _ (Cert.Down.Hand.good_of_pre m h)) (Cert.Down.Hand.adm_held m _)

/-- So does its ideal reading. -/
theorem frame_down_ideal : Cert.quiescent_DownIdeal := fun m ρ h => Cert.DownIdeal.Hand.frame_args (Cert.DownIdeal.Hand.adm m (Cert.DownIdeal.Hand.good_of_pre m h)) m ρ
  (Cert.DownIdeal.Hand.first_fresh _ (Cert.DownIdeal.Hand.good_of_pre m h)) (Cert.DownIdeal.Hand.adm_held m _)

/-- So does its reference. -/
theorem frame_down_ref : Cert.quiescent_DownReferenceIdeal := fun m ρ _ =>
  (θ_run Cert.DownReferenceIdeal.defs _ _).mono (fun r h => ⟨fun c => (h c).2, Idealize.ShloMosaic.sem_eq_zero_of_no_sems (by decide) r.2⟩)
    (Cert.DownReferenceIdeal.Value.run (F := Ideal) m ρ)

/-- What the ideal reading rewrote: words stored as pairs of rows, two halves packed. -/
theorem preserves_down : Cert.preserves_Down_DownIdeal := ⟨IdealRules.bf16_pair.statement _ _, IdealRules.bf16_pack.statement _⟩

/-- Over the extended reals the kernel's array is the reference's: every row through its own expert. -/
theorem algebraic_down : Cert.algebraic_DownIdeal_DownReferenceIdeal := by
  intro m ρ m' ρ' hpre hargs
  have hg := Cert.DownIdeal.Hand.good_of_pre m hpre
  refine ⟨fun c => Cert.DownIdeal.Hand.result (Cert.DownIdeal.Hand.adm m hg) m c,
    Cert.DownIdeal.Hand.run (Cert.DownIdeal.Hand.adm m hg) hg m ρ (Cert.DownIdeal.Hand.adm_held m hg), ?_⟩
  refine (θ_run Cert.DownReferenceIdeal.defs _ _).mono (fun _ h c => ⟨(h c).1.trans ?_, (h c).2⟩)
    (Cert.DownReferenceIdeal.Value.run (F := Ideal) m' ρ')
  rw [Cert.DownReferenceIdeal.Read.val_main_v22_eq, (hargs c).1, (hargs c).2.1, (hargs c).2.2.1, (hargs c).2.2.2]
  obtain rfl : c = 0 := Subsingleton.elim _ _
  exact Cert.DownReferenceIdeal.Hand.ref_eq _ _ _ _ hg.te

/-- The reference of the linear attention's input projection leaves its arguments and holds no semaphore. -/
theorem frame_proj_ref : Cert.quiescent_ProjReferenceIdeal := fun m ρ _ =>
  (θ_run Cert.ProjReferenceIdeal.defs _ _).mono (fun r h => ⟨fun c => (h c).2, Idealize.ShloMosaic.sem_eq_zero_of_no_sems (by decide) r.2⟩)
    (Cert.ProjReferenceIdeal.Value.run (F := Ideal) m ρ)

/-- Over the extended reals the linear attention's input projection's kernel and its reference compute the same array. -/
theorem algebraic_proj : Cert.algebraic_ProjIdeal_ProjReferenceIdeal := by
  intro m ρ m' ρ' _ hargs
  refine ⟨fun c => Cert.ProjIdeal.Val.result m c, Cert.ProjIdeal.Val.run m ρ, ?_⟩
  refine (θ_run Cert.ProjReferenceIdeal.defs _ _).mono (fun _ h c => ⟨(h c).1.trans ?_, (h c).2⟩)
    (Cert.ProjReferenceIdeal.Value.run (F := Ideal) m' ρ')
  rw [Cert.ProjReferenceIdeal.Read.val_main_v4_eq, (hargs c).1, (hargs c).2]
  funext i
  obtain ⟨n, j, rfl⟩ : ∃ (n : Fin 16384) (j : Fin 12288), i = ix2 n j := ⟨i 0, i 1, eq_ix2 i⟩
  exact Cert.ProjRef.ref_apply _ _ _ _

/-- The reference of the attention's query projection leaves its arguments and holds no semaphore. -/
theorem frame_query_ref : Cert.quiescent_QueryReferenceIdeal := fun m ρ _ =>
  (θ_run Cert.QueryReferenceIdeal.defs _ _).mono (fun r h => ⟨fun c => (h c).2, Idealize.ShloMosaic.sem_eq_zero_of_no_sems (by decide) r.2⟩)
    (Cert.QueryReferenceIdeal.Value.run (F := Ideal) m ρ)

/-- Over the extended reals the attention's query projection's kernel and its reference compute the same array. -/
theorem algebraic_query : Cert.algebraic_QueryIdeal_QueryReferenceIdeal := by
  intro m ρ m' ρ' _ hargs
  refine ⟨fun c => Cert.QueryIdeal.Val.result m c, Cert.QueryIdeal.Val.run m ρ, ?_⟩
  refine (θ_run Cert.QueryReferenceIdeal.defs _ _).mono (fun _ h c => ⟨(h c).1.trans ?_, (h c).2⟩)
    (Cert.QueryReferenceIdeal.Value.run (F := Ideal) m' ρ')
  rw [Cert.QueryReferenceIdeal.Read.val_main_v3_eq, (hargs c).1, (hargs c).2]
  funext i
  obtain ⟨n, j, rfl⟩ : ∃ (n : Fin 16384) (j : Fin 4096), i = ix2 n j := ⟨i 0, i 1, eq_ix2 i⟩
  exact Cert.QueryRef.ref_apply _ _ _ _

/-- The reference of the output projection with its residual leaves its arguments and holds no semaphore. -/
theorem frame_added_ref : Cert.quiescent_AddedReferenceIdeal := fun m ρ _ =>
  (θ_run Cert.AddedReferenceIdeal.defs _ _).mono (fun r h => ⟨fun c => (h c).2, Idealize.ShloMosaic.sem_eq_zero_of_no_sems (by decide) r.2⟩)
    (Cert.AddedReferenceIdeal.Value.run (F := Ideal) m ρ)

/-- Over the extended reals the output projection with its residual's kernel and its reference compute the same array. -/
theorem algebraic_added : Cert.algebraic_AddedIdeal_AddedReferenceIdeal := by
  intro m ρ m' ρ' _ hargs
  refine ⟨fun c => Cert.AddedIdeal.Val.result m c, Cert.AddedIdeal.Val.run m ρ, ?_⟩
  refine (θ_run Cert.AddedReferenceIdeal.defs _ _).mono (fun _ h c => ⟨(h c).1.trans ?_, (h c).2⟩)
    (Cert.AddedReferenceIdeal.Value.run (F := Ideal) m' ρ')
  rw [Cert.AddedReferenceIdeal.Read.val_main_v3_eq, (hargs c).1, (hargs c).2.1, (hargs c).2.2]
  funext i
  obtain ⟨n, j, rfl⟩ : ∃ (n : Fin 16384) (j : Fin 4096), i = ix2 n j := ⟨i 0, i 1, eq_ix2 i⟩
  exact Cert.AddedRef.ref_apply _ _ _ _ _

/-- The reference of the projection to the shared keys and values leaves its arguments and holds no semaphore. -/
theorem frame_shared_ref : Cert.quiescent_SharedReferenceIdeal := fun m ρ _ =>
  (θ_run Cert.SharedReferenceIdeal.defs _ _).mono (fun r h => ⟨fun c => (h c).2, Idealize.ShloMosaic.sem_eq_zero_of_no_sems (by decide) r.2⟩)
    (Cert.SharedReferenceIdeal.Value.run (F := Ideal) m ρ)

/-- Over the extended reals the kernel of the projection to the shared keys and values and its reference compute the same array. -/
theorem algebraic_shared : Cert.algebraic_SharedIdeal_SharedReferenceIdeal := by
  intro m ρ m' ρ' _ hargs
  refine ⟨fun c => Cert.SharedIdeal.Val.result m c, Cert.SharedIdeal.Val.run m ρ, ?_⟩
  refine (θ_run Cert.SharedReferenceIdeal.defs _ _).mono (fun _ h c => ⟨(h c).1.trans ?_, (h c).2⟩)
    (Cert.SharedReferenceIdeal.Value.run (F := Ideal) m' ρ')
  rw [Cert.SharedReferenceIdeal.Read.val_main_v22_eq, (hargs c).1, (hargs c).2.1, (hargs c).2.2]
  funext i
  obtain ⟨n, j, d, rfl⟩ : ∃ (n : Fin 16) (j : Fin 16384) (d : Fin 64), i = ix3 n j d := ⟨i 0, i 1, i 2, eq_ix3 i⟩
  exact (Cert.SharedRef.ref_apply _ _ _ _ _ _).trans (Cert.SharedIdeal.Val.entry_apply _ _ _ _ _ _).symm

/-- Every claim. -/
theorem claim : Cert.Claim :=
  ⟨Cert.Kernel.Gen.facts, Cert.KernelIdeal.Gen.facts, Cert.ReferenceIdeal.Gen.facts,
    Cert.Up.Gen.facts, Cert.UpIdeal.Gen.facts, Cert.UpReferenceIdeal.Gen.facts,
    Cert.Down.Gen.facts, Cert.DownIdeal.Gen.facts, Cert.DownReferenceIdeal.Gen.facts,
    Cert.Proj.Gen.facts, Cert.ProjIdeal.Gen.facts, Cert.ProjReferenceIdeal.Gen.facts,
    Cert.Query.Gen.facts, Cert.QueryIdeal.Gen.facts, Cert.QueryReferenceIdeal.Gen.facts,
    Cert.Added.Gen.facts, Cert.AddedIdeal.Gen.facts, Cert.AddedReferenceIdeal.Gen.facts,
    Cert.Shared.Gen.facts, Cert.SharedIdeal.Gen.facts, Cert.SharedReferenceIdeal.Gen.facts,
    preFacts, Cert.Pre_routed_up.Gen.facts, Cert.Pre_routed_down.Gen.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial,
    frame_up, frame_up_ideal, frame_up_ref, fun m ρ _ => frame_up_ref m ρ trivial,
    frame_down, frame_down_ideal, frame_down_ref, fun m ρ _ => frame_down_ref m ρ trivial,
    fun m ρ _ => Cert.Proj.Gen.frame m ρ, fun m ρ _ => Cert.ProjIdeal.Gen.frame m ρ, frame_proj_ref,
    fun m ρ _ => Cert.Query.Gen.frame m ρ, fun m ρ _ => Cert.QueryIdeal.Gen.frame m ρ, frame_query_ref,
    fun m ρ _ => Cert.Added.Gen.frame m ρ, fun m ρ _ => Cert.AddedIdeal.Gen.frame m ρ, frame_added_ref,
    fun m ρ _ => Cert.Shared.Gen.frame m ρ, fun m ρ _ => Cert.SharedIdeal.Gen.frame m ρ, frame_shared_ref,
    trivial, algebraic, preserves_up, algebraic_up, preserves_down, algebraic_down,
    trivial, algebraic_proj, trivial, algebraic_query, trivial, algebraic_added,
    trivial, algebraic_shared⟩

end Cert.Proof

end
